-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_below_linear [hPre_logits_below_linear : Cert.Pre_logits_below_linear.Facts] (m : (ℓ : Loc Cert.KernelIdeal.nD Cert.KernelIdeal.τ Cert.KernelIdeal.sig) → Buf (Elt Ideal) ℓ) : Prop :=
  ∀ c : Dev Cert.KernelIdeal.nD,
    (Cert.Pre_logits_below_linear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_below_linear [hPre_logits_below_linear : Cert.Pre_logits_below_linear.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_below_linear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_entries [hPre_finite_entries : Cert.Pre_finite_entries.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_entries.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_entries [hPre_finite_entries : Cert.Pre_finite_entries.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_entries.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_logits_below_linear [hKernelIdeal : Cert.KernelIdeal.Facts] [hPre_logits_below_linear : Cert.Pre_logits_below_linear.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_below_linear m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_logits_below_linear [hReferenceIdeal : Cert.ReferenceIdeal.Facts] [hPre_logits_below_linear : Cert.Pre_logits_below_linear.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_below_linear m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_entries [hKernel6Ideal : Cert.Kernel6Ideal.Facts] [hPre_finite_entries : Cert.Pre_finite_entries.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_entries m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_entries [hReference6Ideal : Cert.Reference6Ideal.Facts] [hPre_finite_entries : Cert.Pre_finite_entries.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_entries m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_logits_below_linear [hKernelIdeal : Cert.KernelIdeal.Facts] [hReferenceIdeal : Cert.ReferenceIdeal.Facts] [hPre_logits_below_linear : Cert.Pre_logits_below_linear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_below_linear m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v6) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_v18) = v2 c
          ∧ r.2.mem ((c.tc : Thread Cert.Reference3Ideal.nD Cert.Reference3Ideal.τ).loc Cert.Reference3Ideal.main_v19) = v3 c
          ∧ r.2.mem ((c.tc : Thread Cert.Reference3Ideal.nD Cert.Reference3Ideal.τ).loc Cert.Reference3Ideal.main_v20) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_v22) = v2 c
          ∧ r.2.mem ((c.tc : Thread Cert.Reference4Ideal.nD Cert.Reference4Ideal.τ).loc Cert.Reference4Ideal.main_v23) = v3 c
          ∧ r.2.mem ((c.tc : Thread Cert.Reference4Ideal.nD Cert.Reference4Ideal.τ).loc Cert.Reference4Ideal.main_v19) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v48) = v0 c
          ∧ r.2.mem ((c.tc : Thread Cert.Reference5Ideal.nD Cert.Reference5Ideal.τ).loc Cert.Reference5Ideal.main_v31) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_finite_entries [hKernel6Ideal : Cert.Kernel6Ideal.Facts] [hReference6Ideal : Cert.Reference6Ideal.Facts] [hPre_finite_entries : Cert.Pre_finite_entries.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_entries m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)) (v4 : (c : Dev Cert.Kernel6Ideal.nD) → Buf (Elt Ideal) ((c.tc : Thread Cert.Kernel6Ideal.nD Cert.Kernel6Ideal.τ).loc Cert.Kernel6Ideal.main_v4_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_v4_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v44) = v0 c
          ∧ r.2.mem ((c.tc : Thread Cert.Reference6Ideal.nD Cert.Reference6Ideal.τ).loc Cert.Reference6Ideal.main_v45) = v1 c
          ∧ r.2.mem ((c.tc : Thread Cert.Reference6Ideal.nD Cert.Reference6Ideal.τ).loc Cert.Reference6Ideal.main_v39) = v2 c
          ∧ r.2.mem ((c.tc : Thread Cert.Reference6Ideal.nD Cert.Reference6Ideal.τ).loc Cert.Reference6Ideal.main_v46) = v3 c
          ∧ r.2.mem ((c.tc : Thread Cert.Reference6Ideal.nD Cert.Reference6Ideal.τ).loc Cert.Reference6Ideal.main_v21) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_logits_below_linear : Cert.Pre_logits_below_linear.Facts) (hPre_finite_entries : Cert.Pre_finite_entries.Facts),
    quiescent_Kernel (hKernel := hKernel)
    ∧ quiescent_KernelIdeal (hKernelIdeal := hKernelIdeal)
    ∧ quiescent_KernelIdeal_pre_logits_below_linear (hKernelIdeal := hKernelIdeal) (hPre_logits_below_linear := hPre_logits_below_linear)
    ∧ quiescent_ReferenceIdeal (hReferenceIdeal := hReferenceIdeal)
    ∧ quiescent_ReferenceIdeal_pre_logits_below_linear (hReferenceIdeal := hReferenceIdeal) (hPre_logits_below_linear := hPre_logits_below_linear)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_entries (hKernel6Ideal := hKernel6Ideal) (hPre_finite_entries := hPre_finite_entries)
    ∧ quiescent_Reference6Ideal (hReference6Ideal := hReference6Ideal)
    ∧ quiescent_Reference6Ideal_pre_finite_entries (hReference6Ideal := hReference6Ideal) (hPre_finite_entries := hPre_finite_entries)
    ∧ preserves_Kernel_KernelIdeal
    ∧ algebraic_KernelIdeal_ReferenceIdeal_pre_logits_below_linear (hKernelIdeal := hKernelIdeal) (hReferenceIdeal := hReferenceIdeal) (hPre_logits_below_linear := hPre_logits_below_linear)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_entries (hKernel6Ideal := hKernel6Ideal) (hReference6Ideal := hReference6Ideal) (hPre_finite_entries := hPre_finite_entries)
-- ==== Pre_finite_entries.lean ====
abbrev S8704x1024 : Shape := ⟨2, ![8704, 1024]⟩
abbrev S1024x1024 : Shape := ⟨2, ![1024, 1024]⟩
abbrev S1x1024 : Shape := ⟨2, ![1, 1024]⟩
abbrev S_ : Shape := ⟨0, ![]⟩

class Facts : Prop where
  bcast_S_S8704x1024 : S_.BroadcastsInDim S8704x1024 (![] : Fin 0 → Fin S8704x1024.rank)
  reducesTo_S8704x1024_S_d0_1 : S8704x1024.ReducesTo [0, 1] S_
  h_S_ : 0 < S_.numel
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v14 : IVec S_ 1) (main_v16 : FVec F S1024x1024 .f32) : IVec S_ 1 :=
  let main_cst_5 : FVec F S_ .f32 := constant S_ .f32 0x7F800000#32
  let main_v17 : FVec F S1024x1024 .f32 := broadcastInDim S1024x1024 ![] bcast_S_S1024x1024 main_cst_5
  let main_v18 : IVec S1024x1024 1 := cmpf .olt main_v16 main_v17
  let main_c_6 : IVec S_ 1 := constantI S_ 1 1#1
  let main_v19 : IVec S_ 1 := (fun x v => Host.reduce IntOp.andi x v reducesTo_S1024x1024_S_d0_1 h_S_) main_v18 main_c_6
  let main_v20 : IVec S_ 1 := andi main_v14 main_v19
  let main_v21 : FVec F S1x1024 .f32 := Host.absf main_arg4
  let main_cst_7 : FVec F S_ .f32 := constant S_ .f32 0x7F800000#32
  let main_v22 : FVec F S1x1024 .f32 := broadcastInDim S1x1024 ![] bcast_S_S1x1024 main_cst_7
  let main_v23 : IVec S1x1024 1 := cmpf .olt main_v21 main_v22
  let main_c_8 : IVec S_ 1 := constantI S_ 1 1#1
  let main_v24 : IVec S_ 1 := (fun x v => Host.reduce IntOp.andi x v reducesTo_S1x1024_S_d0_1 h_S_) main_v23 main_c_8
  let main_v25 : IVec S_ 1 := andi main_v20 main_v24
  main_v25

def fn {F : FTy → Type} [FloatOps F] (main_arg0 : FVec F S8704x1024 .f32) (main_arg1 : FVec F S8704x1024 .f32) (main_arg2 : FVec F S8704x1024 .f32) (main_arg3 : FVec F S1024x1024 .bf16) (main_arg4 : FVec F S1x1024 .f32) : IVec S_ 1 :=
  let main_v0 : FVec F S8704x1024 .f32 := Host.absf main_arg0
  let main_cst : FVec F S_ .f32 := constant S_ .f32 0x7F800000#32
  let main_v1 : FVec F S8704x1024 .f32 := broadcastInDim S8704x1024 ![] bcast_S_S8704x1024 main_cst
  let main_v2 : IVec S8704x1024 1 := cmpf .olt main_v0 main_v1
  let main_c : IVec S_ 1 := constantI S_ 1 1#1
  let main_v3 : IVec S_ 1 := (fun x v => Host.reduce IntOp.andi x v reducesTo_S8704x1024_S_d0_1 h_S_) main_v2 main_c
  let main_c_0 : IVec S_ 1 := constantI S_ 1 1#1
  let main_v4 : IVec S_ 1 := andi main_c_0 main_v3
  let main_v5 : FVec F S8704x1024 .f32 := Host.absf main_arg1
  let main_cst_1 : FVec F S_ .f32 := constant S_ .f32 0x7F800000#32
  let main_v6 : FVec F S8704x1024 .f32 := broadcastInDim S8704x1024 ![] bcast_S_S8704x1024 main_cst_1
  let main_v7 : IVec S8704x1024 1 := cmpf .olt main_v5 main_v6
  let main_c_2 : IVec S_ 1 := constantI S_ 1 1#1
  let main_v8 : IVec S_ 1 := (fun x v => Host.reduce IntOp.andi x v reducesTo_S8704x1024_S_d0_1 h_S_) main_v7 main_c_2
  let main_v9 : IVec S_ 1 := andi main_v4 main_v8
  let main_v10 : FVec F S8704x1024 .f32 := Host.absf main_arg2
  let main_cst_3 : FVec F S_ .f32 := constant S_ .f32 0x7F800000#32
  let main_v11 : FVec F S8704x1024 .f32 := broadcastInDim S8704x1024 ![] bcast_S_S8704x1024 main_cst_3
  let main_v12 : IVec S8704x1024 1 := cmpf .olt main_v10 main_v11
  let main_c_4 : IVec S_ 1 := constantI S_ 1 1#1
  let main_v13 : IVec S_ 1 := (fun x v => Host.reduce IntOp.andi x v reducesTo_S8704x1024_S_d0_1 h_S_) main_v12 main_c_4
  let main_v14 : IVec S_ 1 := andi main_v9 main_v13
  let main_v15 : FVec F S1024x1024 .f32 := (extf .f32 · bitsLt_bf16_f32) main_arg3
  let main_v16 : FVec F S1024x1024 .f32 := Host.absf main_v15
  fn_part1 (F := F) main_arg4 main_v14 main_v16
-- ==== Pre_logits_below_linear.lean ====
abbrev S8704x1024 : Shape := ⟨2, ![8704, 1024]⟩
abbrev S_ : Shape := ⟨0, ![]⟩
abbrev S4352 : Shape := ⟨1, ![4352]⟩
abbrev S1x4352 : Shape := ⟨2, ![1, 4352]⟩
abbrev S4352x1 : Shape := ⟨2, ![4352, 1]⟩
abbrev S4352x4352 : Shape := ⟨2, ![4352, 4352]⟩
abbrev S2x4352x8x128 : Shape := ⟨4, ![2, 4352, 8, 128]⟩
abbrev S2x8x4352x4352 : Shape := ⟨4, ![2, 8, 4352, 4352]⟩
abbrev S1x1x4352x4352 : Shape := ⟨4, ![1, 1, 4352, 4352]⟩

class Facts : Prop where
  bitsLt_bf16_f32 : FTy.bits .bf16 < FTy.bits .f32
  bcast_S_S8704x1024 : S_.BroadcastsInDim S8704x1024 (![] : Fin 0 → Fin S8704x1024.rank)
  reducesTo_S8704x1024_S_d0_1 : S8704x1024.ReducesTo [0, 1] S_
  h_S_ : 0 < S_.numel
  bcast_S4352_S1x4352_1 : S4352.BroadcastsInDim S1x4352 (![1] : Fin 1 → Fin S1x4352.rank)
  bcast_S4352_S4352x1_0 : S4352.BroadcastsInDim S4352x1 (![0] : Fin 1 → Fin S4352x1.rank)
  bcast_S1x4352_S4352x4352_0_1 : S1x4352.BroadcastsInDim S4352x4352 (![0, 1] : Fin 2 → Fin S4352x4352.rank)
  bcast_S4352x1_S4352x4352_0_1 : S4352x1.BroadcastsInDim S4352x4352 (![0, 1] : Fin 2 → Fin S4352x4352.rank)
  bcast_S_S4352 : S_.BroadcastsInDim S4352 (![] : Fin 0 → Fin S4352.rank)
  shapeCasts_S8704x1024_S2x4352x8x128 : S8704x1024.ShapeCasts S2x4352x8x128
  bcast_S_S2x8x4352x4352 : S_.BroadcastsInDim S2x8x4352x4352 (![] : Fin 0 → Fin S2x8x4352x4352.rank)
  bcast_S4352x4352_S1x1x4352x4352_2_3 : S4352x4352.BroadcastsInDim S1x1x4352x4352 (![2, 3] : Fin 2 → Fin S1x1x4352x4352.rank)
  bcast_S1x1x4352x4352_S2x8x4352x4352_0_1_2_3 : S1x1x4352x4352.BroadcastsInDim S2x8x4352x4352 (![0, 1, 2, 3] : Fin 4 → Fin S2x8x4352x4352.rank)
  reducesTo_S2x8x4352x4352_S_d0_1_2_3 : S2x8x4352x4352.ReducesTo [0, 1, 2, 3] S_
  dot_S2x4352x8x128_S2x4352x8x128_S2x8x4352x4352_3_3_1_1_02_02_wf : DotDims.WF S2x4352x8x128 S2x4352x8x128 S2x8x4352x4352 [3] [3] [1] [1] [0, 2] [0, 2]

variable [Facts]

def dot_S2x4352x8x128_S2x4352x8x128_S2x8x4352x4352_3_3_1_1_02_02 : DotDims S2x4352x8x128 S2x4352x8x128 S2x8x4352x4352 where
  lhsContracting := [3]
  rhsContracting := [3]
  lhsNonContracting := [1]
  rhsNonContracting := [1]
  lhsBatch := [0, 2]
  rhsBatch := [0, 2]
  wf := dot_S2x4352x8x128_S2x4352x8x128_S2x8x4352x4352_3_3_1_1_02_02_wf
def fn_part2 {F : FTy → Type} [FloatOps F] (main_v23 : IVec S_ 1) (main_v34 : IVec S4352x4352 1) (main_v36 : FVec F S2x4352x8x128 .f32) (main_v37 : FVec F S8704x1024 .f32) : IVec S_ 1 :=
  let main_v38 : FVec F S2x4352x8x128 .f32 := shapeCast S2x4352x8x128 main_v37 shapeCasts_S8704x1024_S2x4352x8x128
  let main_v39 : FVec F S2x8x4352x4352 .f32 := (fun l r => Host.dotGeneral dot_S2x4352x8x128_S2x4352x8x128_S2x8x4352x4352_3_3_1_1_02_02 none l r) main_v36 main_v38
  let main_cst_8 : FVec F S_ .f32 := constant S_ .f32 0x3DB504F3#32
  let main_v40 : FVec F S2x8x4352x4352 .f32 := broadcastInDim S2x8x4352x4352 ![] bcast_S_S2x8x4352x4352 main_cst_8
  let main_v41 : FVec F S2x8x4352x4352 .f32 := mulf main_v39 main_v40
  let main_v42 : IVec S4352x4352 1 := noti main_v34
  let main_cst_9 : FVec F S_ .f32 := constant S_ .f32 0x41A00000#32
  let main_v43 : FVec F S2x8x4352x4352 .f32 := broadcastInDim S2x8x4352x4352 ![] bcast_S_S2x8x4352x4352 main_cst_9
  let main_v44 : IVec S2x8x4352x4352 1 := cmpf .ole main_v41 main_v43
  let main_v45 : IVec S1x1x4352x4352 1 := broadcastInDim S1x1x4352x4352 ![2, 3] bcast_S4352x4352_S1x1x4352x4352_2_3 main_v42
  let main_v46 : IVec S2x8x4352x4352 1 := broadcastInDim S2x8x4352x4352 ![0, 1, 2, 3] bcast_S1x1x4352x4352_S2x8x4352x4352_0_1_2_3 main_v45
  let main_v47 : IVec S2x8x4352x4352 1 := ori main_v46 main_v44
  let main_c_10 : IVec S_ 1 := constantI S_ 1 1#1
  let main_v48 : IVec S_ 1 := (fun x v => Host.reduce IntOp.andi x v reducesTo_S2x8x4352x4352_S_d0_1_2_3 h_S_) main_v47 main_c_10
  let main_v49 : IVec S_ 1 := andi main_v23 main_v48
  main_v49

def fn_part1 {F : FTy → Type} [FloatOps F] (main_arg0 : FVec F S8704x1024 .bf16) (main_arg1 : FVec F S8704x1024 .bf16) (main_arg3 : FVec F S8704x1024 .bf16) (main_v11 : IVec S_ 1) (main_v16 : IVec S_ 1) : IVec S_ 1 :=
  let main_v17 : IVec S_ 1 := andi main_v11 main_v16
  let main_v18 : FVec F S8704x1024 .f32 := (extf .f32 · bitsLt_bf16_f32) main_arg3
  let main_v19 : FVec F S8704x1024 .f32 := Host.absf main_v18
  let main_cst_5 : FVec F S_ .f32 := constant S_ .f32 0x7F800000#32
  let main_v20 : FVec F S8704x1024 .f32 := broadcastInDim S8704x1024 ![] bcast_S_S8704x1024 main_cst_5
  let main_v21 : IVec S8704x1024 1 := cmpf .olt main_v19 main_v20
  let main_c_6 : IVec S_ 1 := constantI S_ 1 1#1
  let main_v22 : IVec S_ 1 := (fun x v => Host.reduce IntOp.andi x v reducesTo_S8704x1024_S_d0_1 h_S_) main_v21 main_c_6
  let main_v23 : IVec S_ 1 := andi main_v17 main_v22
  let main_v24 : IVec S4352 32 := iotaInDim S4352 32 0
  let main_v25 : IVec S1x4352 32 := broadcastInDim S1x4352 ![1] bcast_S4352_S1x4352_1 main_v24
  let main_v26 : IVec S4352x1 32 := broadcastInDim S4352x1 ![0] bcast_S4352_S4352x1_0 main_v24
  let main_v27 : IVec S4352x4352 32 := broadcastInDim S4352x4352 ![0, 1] bcast_S1x4352_S4352x4352_0_1 main_v25
  let main_v28 : IVec S4352x4352 32 := broadcastInDim S4352x4352 ![0, 1] bcast_S4352x1_S4352x4352_0_1 main_v26
  let main_v29 : IVec S4352x4352 1 := cmpi .slt main_v27 main_v28
  let main_c_7 : IVec S_ 32 := constantI S_ 32 240#32
  let main_v30 : IVec S4352 32 := broadcastInDim S4352 ![] bcast_S_S4352 main_c_7
  let main_v31 : IVec S4352 1 := cmpi .sge main_v24 main_v30
  let main_v32 : IVec S1x4352 1 := broadcastInDim S1x4352 ![1] bcast_S4352_S1x4352_1 main_v31
  let main_v33 : IVec S4352x4352 1 := broadcastInDim S4352x4352 ![0, 1] bcast_S1x4352_S4352x4352_0_1 main_v32
  let main_v34 : IVec S4352x4352 1 := andi main_v29 main_v33
  let main_v35 : FVec F S8704x1024 .f32 := (extf .f32 · bitsLt_bf16_f32) main_arg0
  let main_v36 : FVec F S2x4352x8x128 .f32 := shapeCast S2x4352x8x128 main_v35 shapeCasts_S8704x1024_S2x4352x8x128
  let main_v37 : FVec F S8704x1024 .f32 := (extf .f32 · bitsLt_bf16_f32) main_arg1
  fn_part2 (F := F) main_v23 main_v34 main_v36 main_v37

def fn {F : FTy → Type} [FloatOps F] (main_arg0 : FVec F S8704x1024 .bf16) (main_arg1 : FVec F S8704x1024 .bf16) (main_arg2 : FVec F S8704x1024 .bf16) (main_arg3 : FVec F S8704x1024 .bf16) : IVec S_ 1 :=
  let main_v0 : FVec F S8704x1024 .f32 := (extf .f32 · bitsLt_bf16_f32) main_arg0
  let main_v1 : FVec F S8704x1024 .f32 := Host.absf main_v0
  let main_cst : FVec F S_ .f32 := constant S_ .f32 0x7F800000#32
  let main_v2 : FVec F S8704x1024 .f32 := broadcastInDim S8704x1024 ![] bcast_S_S8704x1024 main_cst
  let main_v3 : IVec S8704x1024 1 := cmpf .olt main_v1 main_v2
  let main_c : IVec S_ 1 := constantI S_ 1 1#1
  let main_v4 : IVec S_ 1 := (fun x v => Host.reduce IntOp.andi x v reducesTo_S8704x1024_S_d0_1 h_S_) main_v3 main_c
  let main_c_0 : IVec S_ 1 := constantI S_ 1 1#1
  let main_v5 : IVec S_ 1 := andi main_c_0 main_v4
  let main_v6 : FVec F S8704x1024 .f32 := (extf .f32 · bitsLt_bf16_f32) main_arg1
  let main_v7 : FVec F S8704x1024 .f32 := Host.absf main_v6
  let main_cst_1 : FVec F S_ .f32 := constant S_ .f32 0x7F800000#32
  let main_v8 : FVec F S8704x1024 .f32 := broadcastInDim S8704x1024 ![] bcast_S_S8704x1024 main_cst_1
  let main_v9 : IVec S8704x1024 1 := cmpf .olt main_v7 main_v8
  let main_c_2 : IVec S_ 1 := constantI S_ 1 1#1
  let main_v10 : IVec S_ 1 := (fun x v => Host.reduce IntOp.andi x v reducesTo_S8704x1024_S_d0_1 h_S_) main_v9 main_c_2
  let main_v11 : IVec S_ 1 := andi main_v5 main_v10
  let main_v12 : FVec F S8704x1024 .f32 := (extf .f32 · bitsLt_bf16_f32) main_arg2
  let main_v13 : FVec F S8704x1024 .f32 := Host.absf main_v12
  let main_cst_3 : FVec F S_ .f32 := constant S_ .f32 0x7F800000#32
  let main_v14 : FVec F S8704x1024 .f32 := broadcastInDim S8704x1024 ![] bcast_S_S8704x1024 main_cst_3
  let main_v15 : IVec S8704x1024 1 := cmpf .olt main_v13 main_v14
  let main_c_4 : IVec S_ 1 := constantI S_ 1 1#1
  let main_v16 : IVec S_ 1 := (fun x v => Host.reduce IntOp.andi x v reducesTo_S8704x1024_S_d0_1 h_S_) main_v15 main_c_4
  fn_part1 (F := F) main_arg0 main_arg1 main_arg3 main_v11 main_v16
-- ==== Kernel.lean ====
abbrev S8704x1024 : Shape := ⟨2, ![8704, 1024]⟩
abbrev S2x4352x8x128 : Shape := ⟨4, ![2, 4352, 8, 128]⟩
abbrev S2x8x4352x128 : Shape := ⟨4, ![2, 8, 4352, 128]⟩
abbrev S2x8x4352x4352 : Shape := ⟨4, ![2, 8, 4352, 4352]⟩
abbrev S_ : Shape := ⟨0, ![]⟩
abbrev S4352 : Shape := ⟨1, ![4352]⟩
abbrev S1x4352 : Shape := ⟨2, ![1, 4352]⟩
abbrev S4352x1 : Shape := ⟨2, ![4352, 1]⟩
abbrev S4352x4352 : Shape := ⟨2, ![4352, 4352]⟩
abbrev S2x8x4352 : Shape := ⟨3, ![2, 8, 4352]⟩
abbrev S2x8x4352x1 : Shape := ⟨4, ![2, 8, 4352, 1]⟩
abbrev S17 : Shape := ⟨1, ![17]⟩
abbrev S1x17 : Shape := ⟨2, ![1, 17]⟩
abbrev S2x17 : Shape := ⟨2, ![2, 17]⟩
abbrev S34 : Shape := ⟨1, ![34]⟩
abbrev S256x512 : Shape := ⟨2, ![256, 512]⟩
abbrev S4352x512 : Shape := ⟨2, ![4352, 512]⟩
abbrev S512x4352 : Shape := ⟨2, ![512, 4352]⟩
abbrev S256x128 : Shape := ⟨2, ![256, 128]⟩
abbrev S128x256 : Shape := ⟨2, ![128, 256]⟩
abbrev S256x1 : Shape := ⟨2, ![256, 1]⟩
abbrev S256x256 : Shape := ⟨2, ![256, 256]⟩
abbrev S1 : Shape := ⟨1, ![1]⟩

abbrev nBuf : Space → Nat
  | .hbm => 65
  | .vmem => 16
  | .smem => 1
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .bf16⟩
  | .hbm, ⟨3, _⟩ => ⟨S8704x1024, .bf16⟩
  | .hbm, ⟨4, _⟩ => ⟨S8704x1024, .f32⟩
  | .hbm, ⟨5, _⟩ => ⟨S2x4352x8x128, .f32⟩
  | .hbm, ⟨6, _⟩ => ⟨S2x8x4352x128, .f32⟩
  | .hbm, ⟨7, _⟩ => ⟨S8704x1024, .f32⟩
  | .hbm, ⟨8, _⟩ => ⟨S2x4352x8x128, .f32⟩
  | .hbm, ⟨9, _⟩ => ⟨S2x8x4352x128, .f32⟩
  | .hbm, ⟨10, _⟩ => ⟨S2x8x4352x4352, .f32⟩
  | .hbm, ⟨11, _⟩ => ⟨S_, .f32⟩
  | .hbm, ⟨12, _⟩ => ⟨S2x8x4352x4352, .f32⟩
  | .hbm, ⟨13, _⟩ => ⟨S2x8x4352x4352, .f32⟩
  | .hbm, ⟨14, _⟩ => ⟨S4352, .i32⟩
  | .hbm, ⟨15, _⟩ => ⟨S1x4352, .i32⟩
  | .hbm, ⟨16, _⟩ => ⟨S4352x1, .i32⟩
  | .hbm, ⟨17, _⟩ => ⟨S4352x4352, .i32⟩
  | .hbm, ⟨18, _⟩ => ⟨S4352x4352, .i32⟩
  | .hbm, ⟨19, _⟩ => ⟨S4352x4352, .i1⟩
  | .hbm, ⟨20, _⟩ => ⟨S_, .i32⟩
  | .hbm, ⟨21, _⟩ => ⟨S4352, .i32⟩
  | .hbm, ⟨22, _⟩ => ⟨S4352, .i1⟩
  | .hbm, ⟨23, _⟩ => ⟨S1x4352, .i1⟩
  | .hbm, ⟨24, _⟩ => ⟨S4352x4352, .i1⟩
  | .hbm, ⟨25, _⟩ => ⟨S4352x4352, .i1⟩
  | .hbm, ⟨26, _⟩ => ⟨S2x8x4352x4352, .f32⟩
  | .hbm, ⟨27, _⟩ => ⟨S_, .f32⟩
  | .hbm, ⟨28, _⟩ => ⟨S2x8x4352x4352, .f32⟩
  | .hbm, ⟨29, _⟩ => ⟨S2x8x4352x4352, .f32⟩
  | .hbm, ⟨30, _⟩ => ⟨S2x8x4352x4352, .f32⟩
  | .hbm, ⟨31, _⟩ => ⟨S2x8x4352x4352, .f32⟩
  | .hbm, ⟨32, _⟩ => ⟨S2x8x4352x4352, .i1⟩
  | .hbm, ⟨33, _⟩ => ⟨S2x8x4352x4352, .f32⟩
  | .hbm, ⟨34, _⟩ => ⟨S2x8x4352x4352, .f32⟩
  | .hbm, ⟨35, _⟩ => ⟨S2x8x4352x4352, .f32⟩
  | .hbm, ⟨36, _⟩ => ⟨S2x8x4352x4352, .f32⟩
  | .hbm, ⟨37, _⟩ => ⟨S2x8x4352x4352, .f32⟩
  | .hbm, ⟨38, _⟩ => ⟨S2x8x4352x4352, .f32⟩
  | .hbm, ⟨39, _⟩ => ⟨S2x8x4352x4352, .f32⟩
  | .hbm, ⟨40, _⟩ => ⟨S2x8x4352x4352, .f32⟩
  | .hbm, ⟨41, _⟩ => ⟨S2x8x4352x4352, .f32⟩
  | .hbm, ⟨42, _⟩ => ⟨S2x8x4352x4352, .f32⟩
  | .hbm, ⟨43, _⟩ => ⟨S_, .f32⟩
  | .hbm, ⟨44, _⟩ => ⟨S_, .f32⟩
  | .hbm, ⟨45, _⟩ => ⟨S2x8x4352x4352, .i1⟩
  | .hbm, ⟨46, _⟩ => ⟨S2x8x4352x4352, .f32⟩
  | .hbm, ⟨47, _⟩ => ⟨S2x8x4352x4352, .f32⟩
  | .hbm, ⟨48, _⟩ => ⟨S_, .f32⟩
  | .hbm, ⟨49, _⟩ => ⟨S2x8x4352, .f32⟩
  | .hbm, ⟨50, _⟩ => ⟨S2x8x4352x1, .f32⟩
  | .hbm, ⟨51, _⟩ => ⟨S2x8x4352x128, .f32⟩
  | .hbm, ⟨52, _⟩ => ⟨S2x4352x8x128, .f32⟩
  | .hbm, ⟨53, _⟩ => ⟨S8704x1024, .f32⟩
  | .hbm, ⟨54, _⟩ => ⟨S17, .i32⟩
  | .hbm, ⟨55, _⟩ => ⟨S_, .i32⟩
  | .hbm, ⟨56, _⟩ => ⟨S17, .i32⟩
  | .hbm, ⟨57, _⟩ => ⟨S17, .i32⟩
  | .hbm, ⟨58, _⟩ => ⟨S17, .f32⟩
  | .hbm, ⟨59, _⟩ => ⟨S1x17, .f32⟩
  | .hbm, ⟨60, _⟩ => ⟨S2x17, .f32⟩
  | .hbm, ⟨61, _⟩ => ⟨S34, .f32⟩
  | .hbm, ⟨62, _⟩ => ⟨S8704x1024, .bf16⟩
  | .hbm, ⟨63, _⟩ => ⟨S8704x1024, .bf16⟩
  | .hbm, ⟨64, _⟩ => ⟨S8704x1024, .bf16⟩
  | .local _ .vmem, ⟨0, _⟩ => ⟨S256x512, .bf16⟩
  | .local _ .vmem, ⟨1, _⟩ => ⟨S256x512, .bf16⟩
  | .local _ .vmem, ⟨2, _⟩ => ⟨S4352x512, .bf16⟩
  | .local _ .vmem, ⟨3, _⟩ => ⟨S4352x512, .bf16⟩
  | .local _ .vmem, ⟨4, _⟩ => ⟨S4352x512, .bf16⟩
  | .local _ .vmem, ⟨5, _⟩ => ⟨S4352x512, .bf16⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S4352x512, .bf16⟩
  | .local _ .vmem, ⟨13, _⟩ => ⟨S4352x512, .bf16⟩
  | .local _ .vmem, ⟨14, _⟩ => ⟨S512x4352, .f32⟩
  | .local _ .vmem, ⟨15, _⟩ => ⟨S512x4352, .f32⟩
  | .local _ .smem, ⟨0, _⟩ => ⟨S34, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v20 : Ref sig .tc := ⟨.hbm, 41, rfl⟩
abbrev main_v21 : Ref sig .tc := ⟨.hbm, 42, rfl⟩
abbrev main_cst_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v22 : Ref sig .tc := ⟨.hbm, 47, rfl⟩
abbrev main_cst_1 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35_0 : Ref sig .tc := ⟨.hbm, 62, rfl⟩
abbrev main_v35_1 : Ref sig .tc := ⟨.hbm, 63, rfl⟩
abbrev main_v35_2 : Ref sig .tc := ⟨.hbm, 64, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨3, ![2, 2, 17], ![false, false, false]⟩

def k0_off1 (i : grid0.Coords) : Fin 1 → Nat :=
  let arg0 : BitVec 32 := BitVec.ofNat 32 (i 0).val
  let c1_i32 : BitVec 32 := 1#32
  let v61 : BitVec 32 := Scalar.muli arg0 c1_i32
  let arg1 : BitVec 32 := BitVec.ofNat 32 (i 1).val
  let c4_i32 : BitVec 32 := 4#32
  let v62 : BitVec 32 := Scalar.muli arg1 c4_i32
  let c0_i32_37 : BitVec 32 := 0#32
  let v64 : BitVec 1 := Scalar.cmpi .sgt v62 c0_i32_37
  let v65 : BitVec 32 := Scalar.extui v64
  let c0_i32_38 : BitVec 32 := 0#32
  let v66 : BitVec 1 := Scalar.cmpi .slt v62 c0_i32_38
  let v67 : BitVec 32 := Scalar.extui v66
  let v68 : BitVec 32 := Scalar.subi v65 v67
  let c8_i32 : BitVec 32 := 8#32
  let c0_i32_39 : BitVec 32 := 0#32
  let v69 : BitVec 1 := Scalar.cmpi .sgt c8_i32 c0_i32_39
  let v70 : BitVec 32 := Scalar.extui v69
  let c0_i32_40 : BitVec 32 := 0#32
  let v71 : BitVec 1 := Scalar.cmpi .slt c8_i32 c0_i32_40
  let v72 : BitVec 32 := Scalar.extui v71
  let v73 : BitVec 32 := Scalar.subi v70 v72
  let v74 : BitVec 1 := Scalar.cmpi .ne v68 v73
  let v75 : BitVec 32 := Scalar.remsi v62 c8_i32
  let c0_i32_41 : BitVec 32 := 0#32
  let v76 : BitVec 1 := Scalar.cmpi .ne v75 c0_i32_41
  let v77 : BitVec 1 := Scalar.andi v74 v76
  let v63 : BitVec 32 := Scalar.divsi v62 c8_i32
  let c1_i32_42 : BitVec 32 := 1#32
  let v78 : BitVec 32 := Scalar.subi v63 c1_i32_42
  let v79 : BitVec 32 := Scalar.select v77 v78 v63
  let v80 : BitVec 32 := Scalar.addi v61 v79
  let c17_i32 : BitVec 32 := 17#32
  let v81 : BitVec 32 := Scalar.muli v80 c17_i32
  let arg2 : BitVec 32 := BitVec.ofNat 32 (i 2).val
  let v82 : BitVec 32 := Scalar.addi v81 arg2
  let v83 : Index := Scalar.indexCast v82
  ![v83.toNat]
@[reducible] def k0_t1_loop (i : grid0.Coords) (v86 : BitVec 32) : Scf.Loop 32 :=
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_49 : BitVec 32 := 1#32
  let v94 : BitVec 32 := Scalar.addi arg2 c1_i32_49
  let v95 : BitVec 32 := Scalar.subi v94 v88
  let c1_i32_50 : BitVec 32 := 1#32
  let v97 : BitVec 32 := Scalar.divsi v95 c1_i32_50
  let v98 : BitVec 32 := Scalar.muli v97 c1_i32_50
  let v99 : BitVec 32 := Scalar.addi v88 v98
  let c1_i32_51 : BitVec 32 := 1#32
  ⟨v88, v99, c1_i32_51⟩

def k0_mult1 (i : grid0.Coords) (v86 : BitVec 32) (k0_t1 : Fin (k0_t1_loop i v86).trips) : BitVec 32 :=
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_51 : BitVec 32 := 1#32
  let arg14 : BitVec 32 := Scf.iv v88 c1_i32_51 k0_t1
  let c256_i32 : BitVec 32 := 256#32
  let v121 : BitVec 32 := Scalar.muli arg14 c256_i32
  v121
def k0_off2 (i : grid0.Coords) (v86 : BitVec 32) (k0_t1 : Fin (k0_t1_loop i v86).trips) : Fin 2 → Nat :=
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_51 : BitVec 32 := 1#32
  let arg14 : BitVec 32 := Scf.iv v88 c1_i32_51 k0_t1
  let c256_i32 : BitVec 32 := 256#32
  let v121 : BitVec 32 := Scalar.muli arg14 c256_i32
  let v122 : BitVec 32 := v121
  let v133 : Index := Scalar.indexCast v122
  let c0_68 : Index := 0#32
  ![v133.toNat, 0]
def k0_off3 (i : grid0.Coords) (v86 : BitVec 32) (k0_t1 : Fin (k0_t1_loop i v86).trips) : Fin 2 → Nat :=
  let c0_82 : Index := 0#32
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_51 : BitVec 32 := 1#32
  let arg14 : BitVec 32 := Scf.iv v88 c1_i32_51 k0_t1
  let c256_i32 : BitVec 32 := 256#32
  let v121 : BitVec 32 := Scalar.muli arg14 c256_i32
  let v122 : BitVec 32 := v121
  let v176 : Index := Scalar.indexCast v122
  ![0, v176.toNat]
def k0_off4 (i : grid0.Coords) (v86 : BitVec 32) (k0_t1 : Fin (k0_t1_loop i v86).trips) : Fin 2 → Nat :=
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_51 : BitVec 32 := 1#32
  let arg14 : BitVec 32 := Scf.iv v88 c1_i32_51 k0_t1
  let c256_i32 : BitVec 32 := 256#32
  let v121 : BitVec 32 := Scalar.muli arg14 c256_i32
  let v122 : BitVec 32 := v121
  let v201 : Index := Scalar.indexCast v122
  let c128_89 : Index := 128#32
  ![v201.toNat, 128]
def k0_off5 (i : grid0.Coords) (v86 : BitVec 32) (k0_t1 : Fin (k0_t1_loop i v86).trips) : Fin 2 → Nat :=
  let c128_103 : Index := 128#32
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_51 : BitVec 32 := 1#32
  let arg14 : BitVec 32 := Scf.iv v88 c1_i32_51 k0_t1
  let c256_i32 : BitVec 32 := 256#32
  let v121 : BitVec 32 := Scalar.muli arg14 c256_i32
  let v122 : BitVec 32 := v121
  let v244 : Index := Scalar.indexCast v122
  ![128, v244.toNat]
def k0_off6 (i : grid0.Coords) (v86 : BitVec 32) (k0_t1 : Fin (k0_t1_loop i v86).trips) : Fin 2 → Nat :=
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_51 : BitVec 32 := 1#32
  let arg14 : BitVec 32 := Scf.iv v88 c1_i32_51 k0_t1
  let c256_i32 : BitVec 32 := 256#32
  let v121 : BitVec 32 := Scalar.muli arg14 c256_i32
  let v122 : BitVec 32 := v121
  let v269 : Index := Scalar.indexCast v122
  let c256_110 : Index := 256#32
  ![v269.toNat, 256]
def k0_off7 (i : grid0.Coords) (v86 : BitVec 32) (k0_t1 : Fin (k0_t1_loop i v86).trips) : Fin 2 → Nat :=
  let c256_124 : Index := 256#32
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_51 : BitVec 32 := 1#32
  let arg14 : BitVec 32 := Scf.iv v88 c1_i32_51 k0_t1
  let c256_i32 : BitVec 32 := 256#32
  let v121 : BitVec 32 := Scalar.muli arg14 c256_i32
  let v122 : BitVec 32 := v121
  let v312 : Index := Scalar.indexCast v122
  ![256, v312.toNat]
def k0_off8 (i : grid0.Coords) (v86 : BitVec 32) (k0_t1 : Fin (k0_t1_loop i v86).trips) : Fin 2 → Nat :=
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_51 : BitVec 32 := 1#32
  let arg14 : BitVec 32 := Scf.iv v88 c1_i32_51 k0_t1
  let c256_i32 : BitVec 32 := 256#32
  let v121 : BitVec 32 := Scalar.muli arg14 c256_i32
  let v122 : BitVec 32 := v121
  let v337 : Index := Scalar.indexCast v122
  let c384_131 : Index := 384#32
  ![v337.toNat, 384]
def k0_off9 (i : grid0.Coords) (v86 : BitVec 32) (k0_t1 : Fin (k0_t1_loop i v86).trips) : Fin 2 → Nat :=
  let c384_145 : Index := 384#32
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_51 : BitVec 32 := 1#32
  let arg14 : BitVec 32 := Scf.iv v88 c1_i32_51 k0_t1
  let c256_i32 : BitVec 32 := 256#32
  let v121 : BitVec 32 := Scalar.muli arg14 c256_i32
  let v122 : BitVec 32 := v121
  let v380 : Index := Scalar.indexCast v122
  ![384, v380.toNat]
@[reducible] def k0_t2_loop (i : grid0.Coords) (v86 : BitVec 32) : Scf.Loop 32 :=
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_49 : BitVec 32 := 1#32
  let v94 : BitVec 32 := Scalar.addi arg2 c1_i32_49
  let v95 : BitVec 32 := Scalar.subi v94 v88
  let c1_i32_50 : BitVec 32 := 1#32
  let v97 : BitVec 32 := Scalar.divsi v95 c1_i32_50
  let v98 : BitVec 32 := Scalar.muli v97 c1_i32_50
  let v99 : BitVec 32 := Scalar.addi v88 v98
  let v96 : BitVec 32 := Scalar.addi v88 v95
  let c1_i32_52 : BitVec 32 := 1#32
  ⟨v99, v96, c1_i32_52⟩
def k0_mult2 (i : grid0.Coords) (v86 : BitVec 32) (k0_t2 : Fin (k0_t2_loop i v86).trips) : BitVec 32 :=
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_49 : BitVec 32 := 1#32
  let v94 : BitVec 32 := Scalar.addi arg2 c1_i32_49
  let v95 : BitVec 32 := Scalar.subi v94 v88
  let c1_i32_50 : BitVec 32 := 1#32
  let v97 : BitVec 32 := Scalar.divsi v95 c1_i32_50
  let v98 : BitVec 32 := Scalar.muli v97 c1_i32_50
  let v99 : BitVec 32 := Scalar.addi v88 v98
  let c1_i32_52 : BitVec 32 := 1#32
  let arg14 : BitVec 32 := Scf.iv v99 c1_i32_52 k0_t2
  let c256_i32 : BitVec 32 := 256#32
  let v121 : BitVec 32 := Scalar.muli arg14 c256_i32
  v121
def k0_off10 (i : grid0.Coords) (v86 : BitVec 32) (k0_t2 : Fin (k0_t2_loop i v86).trips) : Fin 2 → Nat :=
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_49 : BitVec 32 := 1#32
  let v94 : BitVec 32 := Scalar.addi arg2 c1_i32_49
  let v95 : BitVec 32 := Scalar.subi v94 v88
  let c1_i32_50 : BitVec 32 := 1#32
  let v97 : BitVec 32 := Scalar.divsi v95 c1_i32_50
  let v98 : BitVec 32 := Scalar.muli v97 c1_i32_50
  let v99 : BitVec 32 := Scalar.addi v88 v98
  let c1_i32_52 : BitVec 32 := 1#32
  let arg14 : BitVec 32 := Scf.iv v99 c1_i32_52 k0_t2
  let c256_i32 : BitVec 32 := 256#32
  let v121 : BitVec 32 := Scalar.muli arg14 c256_i32
  let v122 : BitVec 32 := v121
  let v133 : Index := Scalar.indexCast v122
  let c0_68 : Index := 0#32
  ![v133.toNat, 0]
def k0_off11 (i : grid0.Coords) (v86 : BitVec 32) (k0_t2 : Fin (k0_t2_loop i v86).trips) : Fin 2 → Nat :=
  let c0_82 : Index := 0#32
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_49 : BitVec 32 := 1#32
  let v94 : BitVec 32 := Scalar.addi arg2 c1_i32_49
  let v95 : BitVec 32 := Scalar.subi v94 v88
  let c1_i32_50 : BitVec 32 := 1#32
  let v97 : BitVec 32 := Scalar.divsi v95 c1_i32_50
  let v98 : BitVec 32 := Scalar.muli v97 c1_i32_50
  let v99 : BitVec 32 := Scalar.addi v88 v98
  let c1_i32_52 : BitVec 32 := 1#32
  let arg14 : BitVec 32 := Scf.iv v99 c1_i32_52 k0_t2
  let c256_i32 : BitVec 32 := 256#32
  let v121 : BitVec 32 := Scalar.muli arg14 c256_i32
  let v122 : BitVec 32 := v121
  let v176 : Index := Scalar.indexCast v122
  ![0, v176.toNat]
def k0_off12 (i : grid0.Coords) (v86 : BitVec 32) (k0_t2 : Fin (k0_t2_loop i v86).trips) : Fin 2 → Nat :=
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_49 : BitVec 32 := 1#32
  let v94 : BitVec 32 := Scalar.addi arg2 c1_i32_49
  let v95 : BitVec 32 := Scalar.subi v94 v88
  let c1_i32_50 : BitVec 32 := 1#32
  let v97 : BitVec 32 := Scalar.divsi v95 c1_i32_50
  let v98 : BitVec 32 := Scalar.muli v97 c1_i32_50
  let v99 : BitVec 32 := Scalar.addi v88 v98
  let c1_i32_52 : BitVec 32 := 1#32
  let arg14 : BitVec 32 := Scf.iv v99 c1_i32_52 k0_t2
  let c256_i32 : BitVec 32 := 256#32
  let v121 : BitVec 32 := Scalar.muli arg14 c256_i32
  let v122 : BitVec 32 := v121
  let v201 : Index := Scalar.indexCast v122
  let c128_89 : Index := 128#32
  ![v201.toNat, 128]
def k0_off13 (i : grid0.Coords) (v86 : BitVec 32) (k0_t2 : Fin (k0_t2_loop i v86).trips) : Fin 2 → Nat :=
  let c128_103 : Index := 128#32
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_49 : BitVec 32 := 1#32
  let v94 : BitVec 32 := Scalar.addi arg2 c1_i32_49
  let v95 : BitVec 32 := Scalar.subi v94 v88
  let c1_i32_50 : BitVec 32 := 1#32
  let v97 : BitVec 32 := Scalar.divsi v95 c1_i32_50
  let v98 : BitVec 32 := Scalar.muli v97 c1_i32_50
  let v99 : BitVec 32 := Scalar.addi v88 v98
  let c1_i32_52 : BitVec 32 := 1#32
  let arg14 : BitVec 32 := Scf.iv v99 c1_i32_52 k0_t2
  let c256_i32 : BitVec 32 := 256#32
  let v121 : BitVec 32 := Scalar.muli arg14 c256_i32
  let v122 : BitVec 32 := v121
  let v244 : Index := Scalar.indexCast v122
  ![128, v244.toNat]
def k0_off14 (i : grid0.Coords) (v86 : BitVec 32) (k0_t2 : Fin (k0_t2_loop i v86).trips) : Fin 2 → Nat :=
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_49 : BitVec 32 := 1#32
  let v94 : BitVec 32 := Scalar.addi arg2 c1_i32_49
  let v95 : BitVec 32 := Scalar.subi v94 v88
  let c1_i32_50 : BitVec 32 := 1#32
  let v97 : BitVec 32 := Scalar.divsi v95 c1_i32_50
  let v98 : BitVec 32 := Scalar.muli v97 c1_i32_50
  let v99 : BitVec 32 := Scalar.addi v88 v98
  let c1_i32_52 : BitVec 32 := 1#32
  let arg14 : BitVec 32 := Scf.iv v99 c1_i32_52 k0_t2
  let c256_i32 : BitVec 32 := 256#32
  let v121 : BitVec 32 := Scalar.muli arg14 c256_i32
  let v122 : BitVec 32 := v121
  let v269 : Index := Scalar.indexCast v122
  let c256_110 : Index := 256#32
  ![v269.toNat, 256]
def k0_off15 (i : grid0.Coords) (v86 : BitVec 32) (k0_t2 : Fin (k0_t2_loop i v86).trips) : Fin 2 → Nat :=
  let c256_124 : Index := 256#32
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_49 : BitVec 32 := 1#32
  let v94 : BitVec 32 := Scalar.addi arg2 c1_i32_49
  let v95 : BitVec 32 := Scalar.subi v94 v88
  let c1_i32_50 : BitVec 32 := 1#32
  let v97 : BitVec 32 := Scalar.divsi v95 c1_i32_50
  let v98 : BitVec 32 := Scalar.muli v97 c1_i32_50
  let v99 : BitVec 32 := Scalar.addi v88 v98
  let c1_i32_52 : BitVec 32 := 1#32
  let arg14 : BitVec 32 := Scf.iv v99 c1_i32_52 k0_t2
  let c256_i32 : BitVec 32 := 256#32
  let v121 : BitVec 32 := Scalar.muli arg14 c256_i32
  let v122 : BitVec 32 := v121
  let v312 : Index := Scalar.indexCast v122
  ![256, v312.toNat]
def k0_off16 (i : grid0.Coords) (v86 : BitVec 32) (k0_t2 : Fin (k0_t2_loop i v86).trips) : Fin 2 → Nat :=
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_49 : BitVec 32 := 1#32
  let v94 : BitVec 32 := Scalar.addi arg2 c1_i32_49
  let v95 : BitVec 32 := Scalar.subi v94 v88
  let c1_i32_50 : BitVec 32 := 1#32
  let v97 : BitVec 32 := Scalar.divsi v95 c1_i32_50
  let v98 : BitVec 32 := Scalar.muli v97 c1_i32_50
  let v99 : BitVec 32 := Scalar.addi v88 v98
  let c1_i32_52 : BitVec 32 := 1#32
  let arg14 : BitVec 32 := Scf.iv v99 c1_i32_52 k0_t2
  let c256_i32 : BitVec 32 := 256#32
  let v121 : BitVec 32 := Scalar.muli arg14 c256_i32
  let v122 : BitVec 32 := v121
  let v337 : Index := Scalar.indexCast v122
  let c384_131 : Index := 384#32
  ![v337.toNat, 384]
def k0_off17 (i : grid0.Coords) (v86 : BitVec 32) (k0_t2 : Fin (k0_t2_loop i v86).trips) : Fin 2 → Nat :=
  let c384_145 : Index := 384#32
  let arg2 : BitVec 32 := BitVec.ofNat 32 (i 2).val
  let c1_i32_43 : BitVec 32 := 1#32
  let v85 : BitVec 32 := Scalar.addi arg2 c1_i32_43
  let v87 : BitVec 32 := Scalar.subi v85 v86
  let c0_i32_44 : BitVec 32 := 0#32
  let v88 : BitVec 32 := Scalar.maxsi v87 c0_i32_44
  let c1_i32_49 : BitVec 32 := 1#32
  let v94 : BitVec 32 := Scalar.addi arg2 c1_i32_49
  let v95 : BitVec 32 := Scalar.subi v94 v88
  let c1_i32_50 : BitVec 32 := 1#32
  let v97 : BitVec 32 := Scalar.divsi v95 c1_i32_50
  let v98 : BitVec 32 := Scalar.muli v97 c1_i32_50
  let v99 : BitVec 32 := Scalar.addi v88 v98
  let c1_i32_52 : BitVec 32 := 1#32
  let arg14 : BitVec 32 := Scf.iv v99 c1_i32_52 k0_t2
  let c256_i32 : BitVec 32 := 256#32
  let v121 : BitVec 32 := Scalar.muli arg14 c256_i32
  let v122 : BitVec 32 := v121
  let v380 : Index := Scalar.indexCast v122
  ![384, v380.toNat]

def k0_chk1 (i : grid0.Coords) (v86 : BitVec 32) : Prop :=
  ((k0_t1_loop i v86).OK) ∧
  (∀ k0_t1 : Fin (k0_t1_loop i v86).trips, 256 ∣ (k0_mult1 i v86 k0_t1).toNat) ∧
  (∀ k0_t1 : Fin (k0_t1_loop i v86).trips, ∀ a, (k0_off2 i v86 k0_t1) a + S256x128.size a ≤ S4352x512.size a) ∧
  (∀ k0_t1 : Fin (k0_t1_loop i v86).trips, ∀ a, (k0_off3 i v86 k0_t1) a + S128x256.size a ≤ S512x4352.size a) ∧
  (∀ k0_t1 : Fin (k0_t1_loop i v86).trips, ∀ a, (k0_off4 i v86 k0_t1) a + S256x128.size a ≤ S4352x512.size a) ∧
  (∀ k0_t1 : Fin (k0_t1_loop i v86).trips, ∀ a, (k0_off5 i v86 k0_t1) a + S128x256.size a ≤ S512x4352.size a) ∧
  (∀ k0_t1 : Fin (k0_t1_loop i v86).trips, ∀ a, (k0_off6 i v86 k0_t1) a + S256x128.size a ≤ S4352x512.size a) ∧
  (∀ k0_t1 : Fin (k0_t1_loop i v86).trips, ∀ a, (k0_off7 i v86 k0_t1) a + S128x256.size a ≤ S512x4352.size a) ∧
  (∀ k0_t1 : Fin (k0_t1_loop i v86).trips, ∀ a, (k0_off8 i v86 k0_t1) a + S256x128.size a ≤ S4352x512.size a) ∧
  (∀ k0_t1 : Fin (k0_t1_loop i v86).trips, ∀ a, (k0_off9 i v86 k0_t1) a + S128x256.size a ≤ S512x4352.size a) ∧
  ((k0_t2_loop i v86).OK) ∧
  (∀ k0_t2 : Fin (k0_t2_loop i v86).trips, 256 ∣ (k0_mult2 i v86 k0_t2).toNat) ∧
  (∀ k0_t2 : Fin (k0_t2_loop i v86).trips, ∀ a, (k0_off10 i v86 k0_t2) a + S256x128.size a ≤ S4352x512.size a) ∧
  (∀ k0_t2 : Fin (k0_t2_loop i v86).trips, ∀ a, (k0_off11 i v86 k0_t2) a + S128x256.size a ≤ S512x4352.size a) ∧
  (∀ k0_t2 : Fin (k0_t2_loop i v86).trips, ∀ a, (k0_off12 i v86 k0_t2) a + S256x128.size a ≤ S4352x512.size a) ∧
  (∀ k0_t2 : Fin (k0_t2_loop i v86).trips, ∀ a, (k0_off13 i v86 k0_t2) a + S128x256.size a ≤ S512x4352.size a) ∧
  (∀ k0_t2 : Fin (k0_t2_loop i v86).trips, ∀ a, (k0_off14 i v86 k0_t2) a + S256x128.size a ≤ S4352x512.size a) ∧
  (∀ k0_t2 : Fin (k0_t2_loop i v86).trips, ∀ a, (k0_off15 i v86 k0_t2) a + S128x256.size a ≤ S512x4352.size a) ∧
  (∀ k0_t2 : Fin (k0_t2_loop i v86).trips, ∀ a, (k0_off16 i v86 k0_t2) a + S256x128.size a ≤ S4352x512.size a) ∧
  (∀ k0_t2 : Fin (k0_t2_loop i v86).trips, ∀ a, (k0_off17 i v86 k0_t2) a + S128x256.size a ≤ S512x4352.size a)
theorem k0_t1_ok : ∀ (i : grid0.Coords) (v86 : BitVec 32) (k0_hw1 : k0_chk1 i v86), (k0_t1_loop i v86).OK := fun i v86 k0_hw1 => k0_hw1.1
theorem k0_mult1_dvd : ∀ (i : grid0.Coords) (v86 : BitVec 32) (k0_hw1 : k0_chk1 i v86) (k0_t1 : Fin (k0_t1_loop i v86).trips), 256 ∣ (k0_mult1 i v86 k0_t1).toNat := fun i v86 k0_hw1 k0_t1 => k0_hw1.2.1 k0_t1
theorem k0_off2_inb : ∀ (i : grid0.Coords) (v86 : BitVec 32) (k0_hw1 : k0_chk1 i v86) (k0_t1 : Fin (k0_t1_loop i v86).trips), ∀ a, (k0_off2 i v86 k0_t1) a + S256x128.size a ≤ S4352x512.size a := fun i v86 k0_hw1 k0_t1 => k0_hw1.2.2.1 k0_t1
theorem k0_off3_inb : ∀ (i : grid0.Coords) (v86 : BitVec 32) (k0_hw1 : k0_chk1 i v86) (k0_t1 : Fin (k0_t1_loop i v86).trips), ∀ a, (k0_off3 i v86 k0_t1) a + S128x256.size a ≤ S512x4352.size a := fun i v86 k0_hw1 k0_t1 => k0_hw1.2.2.2.1 k0_t1
theorem k0_off4_inb : ∀ (i : grid0.Coords) (v86 : BitVec 32) (k0_hw1 : k0_chk1 i v86) (k0_t1 : Fin (k0_t1_loop i v86).trips), ∀ a, (k0_off4 i v86 k0_t1) a + S256x128.size a ≤ S4352x512.size a := fun i v86 k0_hw1 k0_t1 => k0_hw1.2.2.2.2.1 k0_t1
theorem k0_off5_inb : ∀ (i : grid0.Coords) (v86 : BitVec 32) (k0_hw1 : k0_chk1 i v86) (k0_t1 : Fin (k0_t1_loop i v86).trips), ∀ a, (k0_off5 i v86 k0_t1) a + S128x256.size a ≤ S512x4352.size a := fun i v86 k0_hw1 k0_t1 => k0_hw1.2.2.2.2.2.1 k0_t1
theorem k0_off6_inb : ∀ (i : grid0.Coords) (v86 : BitVec 32) (k0_hw1 : k0_chk1 i v86) (k0_t1 : Fin (k0_t1_loop i v86).trips), ∀ a, (k0_off6 i v86 k0_t1) a + S256x128.size a ≤ S4352x512.size a := fun i v86 k0_hw1 k0_t1 => k0_hw1.2.2.2.2.2.2.1 k0_t1
theorem k0_off7_inb : ∀ (i : grid0.Coords) (v86 : BitVec 32) (k0_hw1 : k0_chk1 i v86) (k0_t1 : Fin (k0_t1_loop i v86).trips), ∀ a, (k0_off7 i v86 k0_t1) a + S128x256.size a ≤ S512x4352.size a := fun i v86 k0_hw1 k0_t1 => k0_hw1.2.2.2.2.2.2.2.1 k0_t1
theorem k0_off8_inb : ∀ (i : grid0.Coords) (v86 : BitVec 32) (k0_hw1 : k0_chk1 i v86) (k0_t1 : Fin (k0_t1_loop i v86).trips), ∀ a, (k0_off8 i v86 k0_t1) a + S256x128.size a ≤ S4352x512.size a := fun i v86 k0_hw1 k0_t1 => k0_hw1.2.2.2.2.2.2.2.2.1 k0_t1
theorem k0_off9_inb : ∀ (i : grid0.Coords) (v86 : BitVec 32) (k0_hw1 : k0_chk1 i v86) (k0_t1 : Fin (k0_t1_loop i v86).trips), ∀ a, (k0_off9 i v86 k0_t1) a + S128x256.size a ≤ S512x4352.size a := fun i v86 k0_hw1 k0_t1 => k0_hw1.2.2.2.2.2.2.2.2.2.1 k0_t1
theorem k0_t2_ok : ∀ (i : grid0.Coords) (v86 : BitVec 32) (k0_hw1 : k0_chk1 i v86), (k0_t2_loop i v86).OK := fun i v86 k0_hw1 => k0_hw1.2.2.2.2.2.2.2.2.2.2.1
theorem k0_mult2_dvd : ∀ (i : grid0.Coords) (v86 : BitVec 32) (k0_hw1 : k0_chk1 i v86) (k0_t2 : Fin (k0_t2_loop i v86).trips), 256 ∣ (k0_mult2 i v86 k0_t2).toNat := fun i v86 k0_hw1 k0_t2 => k0_hw1.2.2.2.2.2.2.2.2.2.2.2.1 k0_t2
theorem k0_off10_inb : ∀ (i : grid0.Coords) (v86 : BitVec 32) (k0_hw1 : k0_chk1 i v86) (k0_t2 : Fin (k0_t2_loop i v86).trips), ∀ a, (k0_off10 i v86 k0_t2) a + S256x128.size a ≤ S4352x512.size a := fun i v86 k0_hw1 k0_t2 => k0_hw1.2.2.2.2.2.2.2.2.2.2.2.2.1 k0_t2
theorem k0_off11_inb : ∀ (i : grid0.Coords) (v86 : BitVec 32) (k0_hw1 : k0_chk1 i v86) (k0_t2 : Fin (k0_t2_loop i v86).trips), ∀ a, (k0_off11 i v86 k0_t2) a + S128x256.size a ≤ S512x4352.size a := fun i v86 k0_hw1 k0_t2 => k0_hw1.2.2.2.2.2.2.2.2.2.2.2.2.2.1 k0_t2
theorem k0_off12_inb : ∀ (i : grid0.Coords) (v86 : BitVec 32) (k0_hw1 : k0_chk1 i v86) (k0_t2 : Fin (k0_t2_loop i v86).trips), ∀ a, (k0_off12 i v86 k0_t2) a + S256x128.size a ≤ S4352x512.size a := fun i v86 k0_hw1 k0_t2 => k0_hw1.2.2.2.2.2.2.2.2.2.2.2.2.2.2.1 k0_t2
theorem k0_off13_inb : ∀ (i : grid0.Coords) (v86 : BitVec 32) (k0_hw1 : k0_chk1 i v86) (k0_t2 : Fin (k0_t2_loop i v86).trips), ∀ a, (k0_off13 i v86 k0_t2) a + S128x256.size a ≤ S512x4352.size a := fun i v86 k0_hw1 k0_t2 => k0_hw1.2.2.2.2.2.2.2.2.2.2.2.2.2.2.2.1 k0_t2
theorem k0_off14_inb : ∀ (i : grid0.Coords) (v86 : BitVec 32) (k0_hw1 : k0_chk1 i v86) (k0_t2 : Fin (k0_t2_loop i v86).trips), ∀ a, (k0_off14 i v86 k0_t2) a + S256x128.size a ≤ S4352x512.size a := fun i v86 k0_hw1 k0_t2 => k0_hw1.2.2.2.2.2.2.2.2.2.2.2.2.2.2.2.2.1 k0_t2
theorem k0_off15_inb : ∀ (i : grid0.Coords) (v86 : BitVec 32) (k0_hw1 : k0_chk1 i v86) (k0_t2 : Fin (k0_t2_loop i v86).trips), ∀ a, (k0_off15 i v86 k0_t2) a + S128x256.size a ≤ S512x4352.size a := fun i v86 k0_hw1 k0_t2 => k0_hw1.2.2.2.2.2.2.2.2.2.2.2.2.2.2.2.2.2.1 k0_t2
theorem k0_off16_inb : ∀ (i : grid0.Coords) (v86 : BitVec 32) (k0_hw1 : k0_chk1 i v86) (k0_t2 : Fin (k0_t2_loop i v86).trips), ∀ a, (k0_off16 i v86 k0_t2) a + S256x128.size a ≤ S4352x512.size a := fun i v86 k0_hw1 k0_t2 => k0_hw1.2.2.2.2.2.2.2.2.2.2.2.2.2.2.2.2.2.2.1 k0_t2
theorem k0_off17_inb : ∀ (i : grid0.Coords) (v86 : BitVec 32) (k0_hw1 : k0_chk1 i v86) (k0_t2 : Fin (k0_t2_loop i v86).trips), ∀ a, (k0_off17 i v86 k0_t2) a + S128x256.size a ≤ S512x4352.size a := fun i v86 k0_hw1 k0_t2 => k0_hw1.2.2.2.2.2.2.2.2.2.2.2.2.2.2.2.2.2.2.2 k0_t2

def k0_cond2 (i : grid0.Coords) : BitVec 1 :=
  let arg2 : BitVec 32 := BitVec.ofNat 32 (i 2).val
  let c16_i32 : BitVec 32 := 16#32
  let v118 : BitVec 1 := Scalar.cmpi .eq arg2 c16_i32
  let v119 : BitVec 32 := Scalar.extui v118
  let c0_i32_65 : BitVec 32 := 0#32
  let v120 : BitVec 1 := Scalar.cmpi .ne v119 c0_i32_65
  v120

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .smem S34 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4352x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S4352x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, false]

abbrev stage0_8 : Fin 1 → Memref sig .tc .vmem S4352x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S8704x1024 : Shape := ⟨2, ![8704, 1024]⟩
abbrev S2x4352x8x128 : Shape := ⟨4, ![2, 4352, 8, 128]⟩
abbrev S4352 : Shape := ⟨1, ![4352]⟩
abbrev S1x4352 : Shape := ⟨2, ![1, 4352]⟩
abbrev S4352x1 : Shape := ⟨2, ![4352, 1]⟩
abbrev S4352x4352 : Shape := ⟨2, ![4352, 4352]⟩
abbrev S_ : Shape := ⟨0, ![]⟩
abbrev S2x8x4352x4352 : Shape := ⟨4, ![2, 8, 4352, 4352]⟩
abbrev S2x8x128x4352 : Shape := ⟨4, ![2, 8, 128, 4352]⟩
abbrev S2x8x4352x128 : Shape := ⟨4, ![2, 8, 4352, 128]⟩

abbrev nBuf : Space → Nat
  | .hbm => 135
  | .vmem => 0
  | .smem => 0
  | _ => 0

abbrev hbmTy0_0 (i : Nat) : BufTy := match i % 128 with
  | 0 => ⟨S8704x1024, .bf16⟩
  | 1 => ⟨S8704x1024, .bf16⟩
  | 2 => ⟨S8704x1024, .bf16⟩
  | 3 => ⟨S8704x1024, .bf16⟩
  | 4 => ⟨S8704x1024, .f32⟩
  | 5 => ⟨S8704x1024, .f32⟩
  | 6 => ⟨S8704x1024, .f32⟩
  | 7 => ⟨S8704x1024, .f32⟩
  | 8 => ⟨S2x4352x8x128, .f32⟩
  | 9 => ⟨S2x4352x8x128, .f32⟩
  | 10 => ⟨S2x4352x8x128, .f32⟩
  | 11 => ⟨S4352, .i32⟩
  | 12 => ⟨S1x4352, .i32⟩
  | 13 => ⟨S4352x1, .i32⟩
  | 14 => ⟨S4352x4352, .i32⟩
  | 15 => ⟨S4352x4352, .i32⟩
  | 16 => ⟨S4352x4352, .i1⟩
  | 17 => ⟨S_, .i32⟩
  | 18 => ⟨S4352, .i32⟩
  | 19 => ⟨S4352, .i1⟩
  | 20 => ⟨S1x4352, .i1⟩
  | 21 => ⟨S4352x4352, .i1⟩
  | 22 => ⟨S4352x4352, .i1⟩
  | 23 => ⟨S2x8x4352x4352, .f32⟩
  | 24 => ⟨S_, .f32⟩
  | 25 => ⟨S2x8x4352x4352, .f32⟩
  | 26 => ⟨S2x8x4352x4352, .f32⟩
  | 27 => ⟨S2x8x4352x4352, .f32⟩
  | 28 => ⟨S_, .f32⟩
  | 29 => ⟨S2x8x4352x4352, .f32⟩
  | 30 => ⟨S2x8x4352x4352, .f32⟩
  | 31 => ⟨S2x8x4352x4352, .f32⟩
  | 32 => ⟨S2x8x4352x4352, .f32⟩
  | 33 => ⟨S2x8x4352x4352, .i1⟩
  | 34 => ⟨S2x8x4352x4352, .f32⟩
  | 35 => ⟨S2x8x4352x4352, .f32⟩
  | 36 => ⟨S2x8x4352x4352, .f32⟩
  | 37 => ⟨S2x8x4352x4352, .f32⟩
  | 38 => ⟨S2x8x4352x4352, .f32⟩
  | 39 => ⟨S2x8x4352x4352, .f32⟩
  | 40 => ⟨S2x8x4352x4352, .f32⟩
  | 41 => ⟨S2x8x4352x4352, .f32⟩
  | 42 => ⟨S_, .f32⟩
  | 43 => ⟨S2x8x4352x4352, .f32⟩
  | 44 => ⟨S2x8x4352x4352, .i1⟩
  | 45 => ⟨S_, .f32⟩
  | 46 => ⟨S2x8x4352x4352, .f32⟩
  | 47 => ⟨S2x8x4352x4352, .f32⟩
  | 48 => ⟨S_, .f32⟩
  | 49 => ⟨S2x8x4352x4352, .f32⟩
  | 50 => ⟨S2x8x4352x4352, .i1⟩
  | 51 => ⟨S_, .f32⟩
  | 52 => ⟨S2x8x4352x4352, .f32⟩
  | 53 => ⟨S2x8x4352x4352, .f32⟩
  | 54 => ⟨S2x8x4352x4352, .f32⟩
  | 55 => ⟨S2x8x4352x4352, .f32⟩
  | 56 => ⟨S_, .f32⟩
  | 57 => ⟨S_, .f32⟩
  | 58 => ⟨S_, .i1⟩
  | 59 => ⟨S_, .f32⟩
  | 60 => ⟨S_, .f32⟩
  | 61 => ⟨S_, .f32⟩
  | 62 => ⟨S_, .f32⟩
  | 63 => ⟨S2x8x4352x4352, .f32⟩
  | 64 => ⟨S2x8x4352x4352, .i1⟩
  | 65 => ⟨S_, .f32⟩
  | 66 => ⟨S2x8x4352x4352, .f32⟩
  | 67 => ⟨S2x8x4352x4352, .f32⟩
  | 68 => ⟨S2x8x4352x4352, .f32⟩
  | 69 => ⟨S2x8x4352x4352, .f32⟩
  | 70 => ⟨S2x8x4352x4352, .f32⟩
  | 71 => ⟨S_, .f32⟩
  | 72 => ⟨S2x8x4352x4352, .f32⟩
  | 73 => ⟨S2x8x4352x4352, .f32⟩
  | 74 => ⟨S2x8x4352x4352, .f32⟩
  | 75 => ⟨S2x8x4352x4352, .f32⟩
  | 76 => ⟨S_, .f32⟩
  | 77 => ⟨S_, .f32⟩
  | 78 => ⟨S2x8x4352x4352, .i1⟩
  | 79 => ⟨S2x8x4352x4352, .f32⟩
  | 80 => ⟨S2x8x4352x4352, .f32⟩
  | 81 => ⟨S_, .f32⟩
  | 82 => ⟨S2x8x4352x4352, .f32⟩
  | 83 => ⟨S_, .f32⟩
  | 84 => ⟨S_, .f32⟩
  | 85 => ⟨S2x8x4352x4352, .f32⟩
  | 86 => ⟨S2x8x4352x4352, .f32⟩
  | 87 => ⟨S2x8x4352x4352, .f32⟩
  | 88 => ⟨S2x8x4352x4352, .f32⟩
  | 89 => ⟨S_, .f32⟩
  | 90 => ⟨S_, .f32⟩
  | 91 => ⟨S2x8x4352x4352, .i1⟩
  | 92 => ⟨S2x8x4352x4352, .f32⟩
  | 93 => ⟨S2x8x4352x4352, .f32⟩
  | 94 => ⟨S_, .f32⟩
  | 95 => ⟨S2x8x4352x4352, .f32⟩
  | 96 => ⟨S2x8x128x4352, .f32⟩
  | 97 => ⟨S2x4352x8x128, .f32⟩
  | 98 => ⟨S8704x1024, .f32⟩
  | 99 => ⟨S2x4352x8x128, .f32⟩
  | 100 => ⟨S2x8x128x4352, .f32⟩
  | 101 => ⟨S2x8x4352x4352, .f32⟩
  | 102 => ⟨S2x8x128x4352, .f32⟩
  | 103 => ⟨S2x4352x8x128, .f32⟩
  | 104 => ⟨S_, .f32⟩
  | 105 => ⟨S2x8x4352x4352, .f32⟩
  | 106 => ⟨S2x8x4352x4352, .f32⟩
  | 107 => ⟨S2x8x4352x4352, .f32⟩
  | 108 => ⟨S2x8x4352x4352, .f32⟩
  | 109 => ⟨S_, .f32⟩
  | 110 => ⟨S_, .f32⟩
  | 111 => ⟨S2x8x4352x4352, .f32⟩
  | 112 => ⟨S2x8x4352x4352, .f32⟩
  | 113 => ⟨S_, .f32⟩
  | 114 => ⟨S2x8x4352x4352, .f32⟩
  | 115 => ⟨S2x8x4352x4352, .f32⟩
  | 116 => ⟨S2x8x4352x4352, .f32⟩
  | 117 => ⟨S2x8x4352x4352, .f32⟩
  | 118 => ⟨S2x8x4352x4352, .f32⟩
  | 119 => ⟨S2x8x4352x4352, .f32⟩
  | 120 => ⟨S2x8x4352x4352, .f32⟩
  | 121 => ⟨S2x8x4352x4352, .f32⟩
  | 122 => ⟨S_, .f32⟩
  | 123 => ⟨S2x8x4352x4352, .f32⟩
  | 124 => ⟨S2x8x4352x4352, .f32⟩
  | 125 => ⟨S2x8x4352x128, .f32⟩
  | 126 => ⟨S2x4352x8x128, .f32⟩
  | 127 => ⟨S2x8x4352x128, .f32⟩
  | _ => ⟨S8704x1024, .bf16⟩

abbrev hbmTy0_1 (i : Nat) : BufTy := match i % 128 with
  | 0 => ⟨S2x4352x8x128, .f32⟩
  | 1 => ⟨S8704x1024, .f32⟩
  | 2 => ⟨S8704x1024, .f32⟩
  | 3 => ⟨S8704x1024, .f32⟩
  | 4 => ⟨S8704x1024, .bf16⟩
  | 5 => ⟨S8704x1024, .bf16⟩
  | 6 => ⟨S8704x1024, .bf16⟩
  | _ => ⟨S8704x1024, .bf16⟩

abbrev hbmTy (i : Nat) : BufTy := match i / 128 with
  | 0 => hbmTy0_0 i
  | 1 => hbmTy0_1 i
  | _ => ⟨S8704x1024, .bf16⟩

abbrev bufTy : (tb : Table) → Fin (tcTables nBuf tb) → BufTy
  | .hbm, ⟨i, _⟩ => hbmTy i
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1_0 : Ref sig .tc := ⟨.hbm, 41, rfl⟩
abbrev main_call0_call0_cst_0 : Ref sig .tc := ⟨.hbm, 42, rfl⟩
abbrev main_call0_call0_v13 : Ref sig .tc := ⟨.hbm, 43, rfl⟩
abbrev main_call0_call0_v14 : Ref sig .tc := ⟨.hbm, 44, rfl⟩
abbrev main_call0_call0_cst_1 : Ref sig .tc := ⟨.hbm, 45, rfl⟩
abbrev main_call0_call0_v15 : Ref sig .tc := ⟨.hbm, 46, rfl⟩
abbrev main_call0_call0_v16 : Ref sig .tc := ⟨.hbm, 47, rfl⟩
abbrev main_call0_call0_cst_2 : Ref sig .tc := ⟨.hbm, 48, rfl⟩
abbrev main_call0_call0_v17 : Ref sig .tc := ⟨.hbm, 49, rfl⟩
abbrev main_call0_call0_v18 : Ref sig .tc := ⟨.hbm, 50, rfl⟩
abbrev main_call0_call0_cst_3 : Ref sig .tc := ⟨.hbm, 51, rfl⟩
abbrev main_call0_call0_v19 : Ref sig .tc := ⟨.hbm, 52, rfl⟩
abbrev main_call0_call0_v20 : Ref sig .tc := ⟨.hbm, 53, rfl⟩
abbrev main_call0_call0_v21 : Ref sig .tc := ⟨.hbm, 54, rfl⟩
abbrev main_v21_1 : Ref sig .tc := ⟨.hbm, 55, rfl⟩
abbrev main_call0_call0_cst_4 : Ref sig .tc := ⟨.hbm, 56, rfl⟩
abbrev main_call0_call0_cst_5 : Ref sig .tc := ⟨.hbm, 57, rfl⟩
abbrev main_call0_call0_v23 : Ref sig .tc := ⟨.hbm, 58, rfl⟩
abbrev main_call0_call0_cst_6 : Ref sig .tc := ⟨.hbm, 59, rfl⟩
abbrev main_call0_call0_cst_7 : Ref sig .tc := ⟨.hbm, 60, rfl⟩
abbrev main_call0_call0_v24 : Ref sig .tc := ⟨.hbm, 61, rfl⟩
abbrev main_call0_call0_cst_8 : Ref sig .tc := ⟨.hbm, 62, rfl⟩
abbrev main_call0_call0_v25 : Ref sig .tc := ⟨.hbm, 63, rfl⟩
abbrev main_call0_call0_v26 : Ref sig .tc := ⟨.hbm, 64, rfl⟩
abbrev main_call0_call0_cst_9 : Ref sig .tc := ⟨.hbm, 65, rfl⟩
abbrev main_call0_call0_v27 : Ref sig .tc := ⟨.hbm, 66, rfl⟩
abbrev main_call0_call0_v28 : Ref sig .tc := ⟨.hbm, 67, rfl⟩
abbrev main_call0_call0_v29 : Ref sig .tc := ⟨.hbm, 68, rfl⟩
abbrev main_call0_call0_v30 : Ref sig .tc := ⟨.hbm, 69, rfl⟩
abbrev main_call0_call0_v31 : Ref sig .tc := ⟨.hbm, 70, rfl⟩
abbrev main_call0_call0_cst_10 : Ref sig .tc := ⟨.hbm, 71, rfl⟩
abbrev main_call0_call0_v32 : Ref sig .tc := ⟨.hbm, 72, rfl⟩
abbrev main_v21_2 : Ref sig .tc := ⟨.hbm, 73, rfl⟩
abbrev main_v21_0 : Ref sig .tc := ⟨.hbm, 74, rfl⟩
abbrev main_v22 : Ref sig .tc := ⟨.hbm, 75, rfl⟩
abbrev main_cst_0 : Ref sig .tc := ⟨.hbm, 76, rfl⟩
abbrev main_call1_v0 : Ref sig .tc := ⟨.hbm, 77, rfl⟩
abbrev main_v23_1 : Ref sig .tc := ⟨.hbm, 78, rfl⟩
abbrev main_call1_v2 : Ref sig .tc := ⟨.hbm, 79, rfl⟩
abbrev main_v23_0 : Ref sig .tc := ⟨.hbm, 80, rfl⟩
abbrev main_call1_cst : Ref sig .tc := ⟨.hbm, 81, rfl⟩
abbrev main_v23_2 : Ref sig .tc := ⟨.hbm, 82, rfl⟩
abbrev main_call2_cst : Ref sig .tc := ⟨.hbm, 83, rfl⟩
abbrev main_call2_v0 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_cst_1 : Ref sig .tc := ⟨.hbm, 89, rfl⟩
abbrev main_call3_v0 : Ref sig .tc := ⟨.hbm, 90, rfl⟩
abbrev main_v28_1 : Ref sig .tc := ⟨.hbm, 91, rfl⟩
abbrev main_call3_v2 : Ref sig .tc := ⟨.hbm, 92, rfl⟩
abbrev main_v28_0 : Ref sig .tc := ⟨.hbm, 93, rfl⟩
abbrev main_call3_cst : Ref sig .tc := ⟨.hbm, 94, rfl⟩
abbrev main_v28_2 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_call4_cst : Ref sig .tc := ⟨.hbm, 104, rfl⟩
abbrev main_call4_v0 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_call5_cst : Ref sig .tc := ⟨.hbm, 109, rfl⟩
abbrev main_call5_v0 : Ref sig .tc := ⟨.hbm, 110, rfl⟩
abbrev main_v40 : Ref sig .tc := ⟨.hbm, 111, rfl⟩
abbrev main_v41 : Ref sig .tc := ⟨.hbm, 112, rfl⟩
abbrev main_call6_cst : Ref sig .tc := ⟨.hbm, 113, rfl⟩
abbrev main_call6_v0 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_call7_v0 : Ref sig .tc := ⟨.hbm, 118, rfl⟩
abbrev main_call7_v1 : Ref sig .tc := ⟨.hbm, 119, rfl⟩
abbrev main_v45 : Ref sig .tc := ⟨.hbm, 120, rfl⟩
abbrev main_v46 : Ref sig .tc := ⟨.hbm, 121, rfl⟩
abbrev main_cst_2 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩

abbrev nD : Nat := 1
abbrev τ : Topo := Topo.v7x

variable {F : FTy → Type} [FloatOps F]
-- ==== Kernel2.lean ====
abbrev S8704x1024 : Shape := ⟨2, ![8704, 1024]⟩
abbrev S1024x1024 : Shape := ⟨2, ![1024, 1024]⟩
abbrev S2176x1024 : Shape := ⟨2, ![2176, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S1024x1024, .f32⟩
  | .hbm, ⟨3, _⟩ => ⟨S1024x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference2Ideal.lean ====
abbrev S8704x1024 : Shape := ⟨2, ![8704, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .f32⟩
  | .hbm, ⟨3, _⟩ => ⟨S8704x1024, .f32⟩
  | .hbm, ⟨4, _⟩ => ⟨S_, .f32⟩
  | .hbm, ⟨5, _⟩ => ⟨S1024x1024, .f32⟩
  | .hbm, ⟨6, _⟩ => ⟨S8704x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8704x1024 : Shape := ⟨2, ![8704, 1024]⟩
abbrev S1x1024 : Shape := ⟨2, ![1, 1024]⟩
abbrev S4x1024x1024 : Shape := ⟨3, ![4, 1024, 1024]⟩
abbrev S512x1024 : Shape := ⟨2, ![512, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S4x1024x1024, .bf16⟩
  | .hbm, ⟨3, _⟩ => ⟨S8704x1024, .bf16⟩
  | .hbm, ⟨4, _⟩ => ⟨S8704x1024, .f32⟩
  | .hbm, ⟨5, _⟩ => ⟨S8704x1024, .f32⟩
  | .hbm, ⟨6, _⟩ => ⟨S8704x1024, .f32⟩
  | .hbm, ⟨7, _⟩ => ⟨S8704x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8704x1024 : Shape := ⟨2, ![8704, 1024]⟩
abbrev S1x1024 : Shape := ⟨2, ![1, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S_ : Shape := ⟨0, ![]⟩
abbrev S8704 : Shape := ⟨1, ![8704]⟩
abbrev S8704x1 : Shape := ⟨2, ![8704, 1]⟩
abbrev S8704x4096 : Shape := ⟨2, ![8704, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S4x1024x1024, .bf16⟩
  | .hbm, ⟨3, _⟩ => ⟨S4x1024x1024, .f32⟩
  | .hbm, ⟨4, _⟩ => ⟨S1024x4x1024, .f32⟩
  | .hbm, ⟨5, _⟩ => ⟨S1024x4096, .f32⟩
  | .hbm, ⟨6, _⟩ => ⟨S8704x1024, .f32⟩
  | .hbm, ⟨7, _⟩ => ⟨S_, .f32⟩
  | .hbm, ⟨8, _⟩ => ⟨S8704, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S8704x1, .f32⟩
  | .hbm, ⟨17, _⟩ => ⟨S8704x1024, .f32⟩
  | .hbm, ⟨18, _⟩ => ⟨S8704x1024, .f32⟩
  | .hbm, ⟨19, _⟩ => ⟨S8704x1024, .f32⟩
  | .hbm, ⟨20, _⟩ => ⟨S8704x1024, .f32⟩
  | .hbm, ⟨21, _⟩ => ⟨S8704x1024, .bf16⟩
  | .hbm, ⟨22, _⟩ => ⟨S8704x4096, .f32⟩
  | .hbm, ⟨23, _⟩ => ⟨S8704x1024, .f32⟩
  | .hbm, ⟨24, _⟩ => ⟨S8704x1024, .f32⟩
  | .hbm, ⟨25, _⟩ => ⟨S8704x1024, .f32⟩
  | .hbm, ⟨26, _⟩ => ⟨S8704x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel4.lean ====
abbrev S8704x1024 : Shape := ⟨2, ![8704, 1024]⟩
abbrev S1x1024 : Shape := ⟨2, ![1, 1024]⟩
abbrev S4x1024x1024 : Shape := ⟨3, ![4, 1024, 1024]⟩
abbrev S512x1024 : Shape := ⟨2, ![512, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S4x1024x1024, .bf16⟩
  | .hbm, ⟨3, _⟩ => ⟨S8704x1024, .bf16⟩
  | .hbm, ⟨4, _⟩ => ⟨S8704x1024, .bf16⟩
  | .hbm, ⟨5, _⟩ => ⟨S8704x1024, .bf16⟩
  | .hbm, ⟨6, _⟩ => ⟨S8704x1024, .bf16⟩
  | .hbm, ⟨7, _⟩ => ⟨S8704x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8704x1024 : Shape := ⟨2, ![8704, 1024]⟩
abbrev S1x1024 : Shape := ⟨2, ![1, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S_ : Shape := ⟨0, ![]⟩
abbrev S8704 : Shape := ⟨1, ![8704]⟩
abbrev S8704x1 : Shape := ⟨2, ![8704, 1]⟩
abbrev S8704x4096 : Shape := ⟨2, ![8704, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1x1024, .f32⟩
  | .hbm, ⟨2, _⟩ => ⟨S4x1024x1024, .bf16⟩
  | .hbm, ⟨3, _⟩ => ⟨S4x1024x1024, .f32⟩
  | .hbm, ⟨4, _⟩ => ⟨S1024x4x1024, .f32⟩
  | .hbm, ⟨5, _⟩ => ⟨S1024x4096, .f32⟩
  | .hbm, ⟨6, _⟩ => ⟨S8704x1024, .f32⟩
  | .hbm, ⟨7, _⟩ => ⟨S_, .f32⟩
  | .hbm, ⟨8, _⟩ => ⟨S8704, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S8704x1, .f32⟩
  | .hbm, ⟨17, _⟩ => ⟨S8704x1024, .f32⟩
  | .hbm, ⟨18, _⟩ => ⟨S8704x1024, .f32⟩
  | .hbm, ⟨19, _⟩ => ⟨S8704x1024, .f32⟩
  | .hbm, ⟨20, _⟩ => ⟨S8704x1024, .f32⟩
  | .hbm, ⟨21, _⟩ => ⟨S8704x4096, .f32⟩
  | .hbm, ⟨22, _⟩ => ⟨S8704x1024, .f32⟩
  | .hbm, ⟨23, _⟩ => ⟨S8704x1024, .f32⟩
  | .hbm, ⟨24, _⟩ => ⟨S8704x1024, .f32⟩
  | .hbm, ⟨25, _⟩ => ⟨S8704x1024, .f32⟩
  | .hbm, ⟨26, _⟩ => ⟨S8704x1024, .bf16⟩
  | .hbm, ⟨27, _⟩ => ⟨S8704x1024, .bf16⟩
  | .hbm, ⟨28, _⟩ => ⟨S8704x1024, .bf16⟩
  | .hbm, ⟨29, _⟩ => ⟨S8704x1024, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel5.lean ====
abbrev S8704x1024 : Shape := ⟨2, ![8704, 1024]⟩
abbrev S4x1024x1024 : Shape := ⟨3, ![4, 1024, 1024]⟩
abbrev S1x1024 : Shape := ⟨2, ![1, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .bf16⟩
  | .hbm, ⟨3, _⟩ => ⟨S8704x1024, .bf16⟩
  | .hbm, ⟨4, _⟩ => ⟨S4x1024x1024, .bf16⟩
  | .hbm, ⟨5, _⟩ => ⟨S8704x1024, .f32⟩
  | .hbm, ⟨6, _⟩ => ⟨S1x1024, .f32⟩
  | .hbm, ⟨7, _⟩ => ⟨S8704x1024, .f32⟩
  | .hbm, ⟨8, _⟩ => ⟨S8704x1024, .f32⟩
  | .hbm, ⟨9, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S4x1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S8704x1024 : Shape := ⟨2, ![8704, 1024]⟩
abbrev S4x1024x1024 : Shape := ⟨3, ![4, 1024, 1024]⟩
abbrev S1x1024 : Shape := ⟨2, ![1, 1024]⟩
abbrev S1024x4x1024 : Shape := ⟨3, ![1024, 4, 1024]⟩
abbrev S1024x4096 : Shape := ⟨2, ![1024, 4096]⟩
abbrev S_ : Shape := ⟨0, ![]⟩
abbrev S8704 : Shape := ⟨1, ![8704]⟩
abbrev S8704x1 : Shape := ⟨2, ![8704, 1]⟩
abbrev S8704x4096 : Shape := ⟨2, ![8704, 4096]⟩
abbrev S1024 : Shape := ⟨1, ![1024]⟩

abbrev nBuf : Space → Nat
  | .hbm => 65
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .bf16⟩
  | .hbm, ⟨3, _⟩ => ⟨S8704x1024, .bf16⟩
  | .hbm, ⟨4, _⟩ => ⟨S4x1024x1024, .bf16⟩
  | .hbm, ⟨5, _⟩ => ⟨S8704x1024, .f32⟩
  | .hbm, ⟨6, _⟩ => ⟨S1x1024, .f32⟩
  | .hbm, ⟨7, _⟩ => ⟨S8704x1024, .f32⟩
  | .hbm, ⟨8, _⟩ => ⟨S8704x1024, .f32⟩
  | .hbm, ⟨9, _⟩ => ⟨S8704x1024, .f32⟩
  | .hbm, ⟨10, _⟩ => ⟨S8704x1024, .f32⟩
  | .hbm, ⟨11, _⟩ => ⟨S8704x1024, .f32⟩
  | .hbm, ⟨12, _⟩ => ⟨S4x1024x1024, .f32⟩
  | .hbm, ⟨13, _⟩ => ⟨S1024x4x1024, .f32⟩
  | .hbm, ⟨14, _⟩ => ⟨S1024x4096, .f32⟩
  | .hbm, ⟨15, _⟩ => ⟨S8704x1024, .f32⟩
  | .hbm, ⟨16, _⟩ => ⟨S_, .f32⟩
  | .hbm, ⟨17, _⟩ => ⟨S8704, .f32⟩
  | .hbm, ⟨18, _⟩ => ⟨S8704x1, .f32⟩
  | .hbm, ⟨19, _⟩ => ⟨S_, .f32⟩
  | .hbm, ⟨20, _⟩ => ⟨S8704x1, .f32⟩
  | .hbm, ⟨21, _⟩ => ⟨S8704x1, .f32⟩
  | .hbm, ⟨22, _⟩ => ⟨S_, .f32⟩
  | .hbm, ⟨23, _⟩ => ⟨S8704x1, .f32⟩
  | .hbm, ⟨24, _⟩ => ⟨S8704x1, .f32⟩
  | .hbm, ⟨25, _⟩ => ⟨S8704x1, .f32⟩
  | .hbm, ⟨26, _⟩ => ⟨S8704x1, .f32⟩
  | .hbm, ⟨27, _⟩ => ⟨S_, .f32⟩
  | .hbm, ⟨28, _⟩ => ⟨S8704x1, .f32⟩
  | .hbm, ⟨29, _⟩ => ⟨S8704x1, .f32⟩
  | .hbm, ⟨30, _⟩ => ⟨S8704x1024, .f32⟩
  | .hbm, ⟨31, _⟩ => ⟨S8704x1024, .f32⟩
  | .hbm, ⟨32, _⟩ => ⟨S8704x1024, .f32⟩
  | .hbm, ⟨33, _⟩ => ⟨S8704x1024, .f32⟩
  | .hbm, ⟨34, _⟩ => ⟨S8704x4096, .f32⟩
  | .hbm, ⟨35, _⟩ => ⟨S8704x1024, .f32⟩
  | .hbm, ⟨36, _⟩ => ⟨S8704x1024, .f32⟩
  | .hbm, ⟨37, _⟩ => ⟨S8704x1024, .f32⟩
  | .hbm, ⟨38, _⟩ => ⟨S8704x1024, .f32⟩
  | .hbm, ⟨39, _⟩ => ⟨S8704x4096, .f32⟩
  | .hbm, ⟨40, _⟩ => ⟨S8704x1024, .f32⟩
  | .hbm, ⟨41, _⟩ => ⟨S8704x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8704x1024, .f32⟩
  | .hbm, ⟨46, _⟩ => ⟨S8704x1024, .f32⟩
  | .hbm, ⟨47, _⟩ => ⟨S8704x1024, .f32⟩
  | .hbm, ⟨48, _⟩ => ⟨S_, .f32⟩
  | .hbm, ⟨49, _⟩ => ⟨S8704, .f32⟩
  | .hbm, ⟨50, _⟩ => ⟨S8704x1, .f32⟩
  | .hbm, ⟨51, _⟩ => ⟨S8704x1024, .f32⟩
  | .hbm, ⟨52, _⟩ => ⟨S8704x1024, .f32⟩
  | .hbm, ⟨53, _⟩ => ⟨S8704x1024, .f32⟩
  | .hbm, ⟨54, _⟩ => ⟨S8704x1, .f32⟩
  | .hbm, ⟨55, _⟩ => ⟨S_, .f32⟩
  | .hbm, ⟨56, _⟩ => ⟨S8704x1, .f32⟩
  | .hbm, ⟨57, _⟩ => ⟨S8704x1, .f32⟩
  | .hbm, ⟨58, _⟩ => ⟨S_, .f32⟩
  | .hbm, ⟨59, _⟩ => ⟨S8704, .f32⟩
  | .hbm, ⟨60, _⟩ => ⟨S8704x1024, .f32⟩
  | .hbm, ⟨61, _⟩ => ⟨S8704x1024, .f32⟩
  | .hbm, ⟨62, _⟩ => ⟨S8704x1024, .f32⟩
  | .hbm, ⟨63, _⟩ => ⟨S8704x1024, .f32⟩
  | .hbm, ⟨64, _⟩ => ⟨S8704x1024, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Kernel6.lean ====
abbrev S8704x1024 : Shape := ⟨2, ![8704, 1024]⟩
abbrev S1024x1024 : Shape := ⟨2, ![1024, 1024]⟩
abbrev S1x1024 : Shape := ⟨2, ![1, 1024]⟩
abbrev S_ : Shape := ⟨0, ![]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 22
  | .vmem => 17
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S8704x1024, .f32⟩
  | .hbm, ⟨3, _⟩ => ⟨S1024x1024, .bf16⟩
  | .hbm, ⟨4, _⟩ => ⟨S1x1024, .f32⟩
  | .hbm, ⟨5, _⟩ => ⟨S8704x1024, .f32⟩
  | .hbm, ⟨6, _⟩ => ⟨S8704x1024, .f32⟩
  | .hbm, ⟨7, _⟩ => ⟨S_, .f32⟩
  | .hbm, ⟨8, _⟩ => ⟨S8704x1024, .f32⟩
  | .hbm, ⟨9, _⟩ => ⟨S8704x1024, .f32⟩
  | .hbm, ⟨10, _⟩ => ⟨S_, .f32⟩
  | .hbm, ⟨11, _⟩ => ⟨S8704x1024, .f32⟩
  | .hbm, ⟨12, _⟩ => ⟨S8704x1024, .f32⟩
  | .hbm, ⟨13, _⟩ => ⟨S8704x1024, .f32⟩
  | .hbm, ⟨14, _⟩ => ⟨S8704x1024, .f32⟩
  | .hbm, ⟨15, _⟩ => ⟨S1024x1024, .f32⟩
  | .hbm, ⟨16, _⟩ => ⟨S8704x1024, .f32⟩
  | .hbm, ⟨17, _⟩ => ⟨S8704x1024, .bf16⟩
  | .hbm, ⟨18, _⟩ => ⟨S8704x1024, .bf16⟩
  | .hbm, ⟨19, _⟩ => ⟨S1024x1024, .f32⟩
  | .hbm, ⟨20, _⟩ => ⟨S1024x1024, .bf16⟩
  | .hbm, ⟨21, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .f32⟩
  | .local _ .vmem, ⟨15, _⟩ => ⟨S1024x1024, .bf16⟩
  | .local _ .vmem, ⟨16, _⟩ => ⟨S1x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev main_v4_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v77 : BitVec 1 := Scalar.cmpi .eq arg0 c16_i32
  let v78 : BitVec 32 := Scalar.extui v77
  let c0_i32_39 : BitVec 32 := 0#32
  let v79 : BitVec 1 := Scalar.cmpi .ne v78 c0_i32_39
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference6Ideal.lean ====
abbrev S8704x1024 : Shape := ⟨2, ![8704, 1024]⟩
abbrev S1024x1024 : Shape := ⟨2, ![1024, 1024]⟩
abbrev S1x1024 : Shape := ⟨2, ![1, 1024]⟩
abbrev S_ : Shape := ⟨0, ![]⟩
abbrev S8704 : Shape := ⟨1, ![8704]⟩
abbrev S8704x1 : Shape := ⟨2, ![8704, 1]⟩
abbrev S1024 : Shape := ⟨1, ![1024]⟩

abbrev nBuf : Space → Nat
  | .hbm => 75
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S8704x1024, .f32⟩
  | .hbm, ⟨3, _⟩ => ⟨S1024x1024, .bf16⟩
  | .hbm, ⟨4, _⟩ => ⟨S1x1024, .f32⟩
  | .hbm, ⟨5, _⟩ => ⟨S1024x1024, .f32⟩
  | .hbm, ⟨6, _⟩ => ⟨S8704x1024, .f32⟩
  | .hbm, ⟨7, _⟩ => ⟨S8704x1024, .f32⟩
  | .hbm, ⟨8, _⟩ => ⟨S_, .f32⟩
  | .hbm, ⟨9, _⟩ => ⟨S8704x1024, .f32⟩
  | .hbm, ⟨10, _⟩ => ⟨S8704x1024, .f32⟩
  | .hbm, ⟨11, _⟩ => ⟨S_, .f32⟩
  | .hbm, ⟨12, _⟩ => ⟨S8704x1024, .f32⟩
  | .hbm, ⟨13, _⟩ => ⟨S8704x1024, .f32⟩
  | .hbm, ⟨14, _⟩ => ⟨S_, .f32⟩
  | .hbm, ⟨15, _⟩ => ⟨S8704x1024, .f32⟩
  | .hbm, ⟨16, _⟩ => ⟨S8704x1024, .f32⟩
  | .hbm, ⟨17, _⟩ => ⟨S8704x1024, .f32⟩
  | .hbm, ⟨18, _⟩ => ⟨S8704x1024, .f32⟩
  | .hbm, ⟨19, _⟩ => ⟨S8704x1024, .f32⟩
  | .hbm, ⟨20, _⟩ => ⟨S8704x1024, .f32⟩
  | .hbm, ⟨21, _⟩ => ⟨S8704x1024, .f32⟩
  | .hbm, ⟨22, _⟩ => ⟨S_, .f32⟩
  | .hbm, ⟨23, _⟩ => ⟨S8704, .f32⟩
  | .hbm, ⟨24, _⟩ => ⟨S8704x1, .f32⟩
  | .hbm, ⟨25, _⟩ => ⟨S_, .f32⟩
  | .hbm, ⟨26, _⟩ => ⟨S8704x1, .f32⟩
  | .hbm, ⟨27, _⟩ => ⟨S8704x1, .f32⟩
  | .hbm, ⟨28, _⟩ => ⟨S_, .f32⟩
  | .hbm, ⟨29, _⟩ => ⟨S8704x1, .f32⟩
  | .hbm, ⟨30, _⟩ => ⟨S8704x1, .f32⟩
  | .hbm, ⟨31, _⟩ => ⟨S8704x1, .f32⟩
  | .hbm, ⟨32, _⟩ => ⟨S8704x1, .f32⟩
  | .hbm, ⟨33, _⟩ => ⟨S_, .f32⟩
  | .hbm, ⟨34, _⟩ => ⟨S8704x1, .f32⟩
  | .hbm, ⟨35, _⟩ => ⟨S8704x1, .f32⟩
  | .hbm, ⟨36, _⟩ => ⟨S8704x1024, .f32⟩
  | .hbm, ⟨37, _⟩ => ⟨S8704x1024, .f32⟩
  | .hbm, ⟨38, _⟩ => ⟨S8704x1024, .f32⟩
  | .hbm, ⟨39, _⟩ => ⟨S8704x1024, .f32⟩
  | .hbm, ⟨40, _⟩ => ⟨S8704x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8704x1024, .f32⟩
  | .hbm, ⟨45, _⟩ => ⟨S8704x1024, .f32⟩
  | .hbm, ⟨46, _⟩ => ⟨S8704x1024, .f32⟩
  | .hbm, ⟨47, _⟩ => ⟨S_, .f32⟩
  | .hbm, ⟨48, _⟩ => ⟨S8704, .f32⟩
  | .hbm, ⟨49, _⟩ => ⟨S8704x1, .f32⟩
  | .hbm, ⟨50, _⟩ => ⟨S8704x1024, .f32⟩
  | .hbm, ⟨51, _⟩ => ⟨S8704x1024, .f32⟩
  | .hbm, ⟨52, _⟩ => ⟨S8704x1, .f32⟩
  | .hbm, ⟨53, _⟩ => ⟨S_, .f32⟩
  | .hbm, ⟨54, _⟩ => ⟨S8704x1, .f32⟩
  | .hbm, ⟨55, _⟩ => ⟨S8704x1, .f32⟩
  | .hbm, ⟨56, _⟩ => ⟨S_, .f32⟩
  | .hbm, ⟨57, _⟩ => ⟨S8704, .f32⟩
  | .hbm, ⟨58, _⟩ => ⟨S8704x1024, .f32⟩
  | .hbm, ⟨59, _⟩ => ⟨S8704x1024, .f32⟩
  | .hbm, ⟨60, _⟩ => ⟨S8704x1024, .f32⟩
  | .hbm, ⟨61, _⟩ => ⟨S8704x1024, .f32⟩
  | .hbm, ⟨62, _⟩ => ⟨S8704x1024, .f32⟩
  | .hbm, ⟨63, _⟩ => ⟨S1024x1024, .f32⟩
  | .hbm, ⟨64, _⟩ => ⟨S1024x1024, .f32⟩
  | .hbm, ⟨65, _⟩ => ⟨S8704x1024, .f32⟩
  | .hbm, ⟨66, _⟩ => ⟨S8704x1024, .f32⟩
  | .hbm, ⟨67, _⟩ => ⟨S8704x1024, .f32⟩
  | .hbm, ⟨68, _⟩ => ⟨S8704x1024, .f32⟩
  | .hbm, ⟨69, _⟩ => ⟨S8704x1024, .f32⟩
  | .hbm, ⟨70, _⟩ => ⟨S8704x1024, .f32⟩
  | .hbm, ⟨71, _⟩ => ⟨S8704x1024, .f32⟩
  | .hbm, ⟨72, _⟩ => ⟨S8704x1024, .bf16⟩
  | .hbm, ⟨73, _⟩ => ⟨S8704x1024, .bf16⟩
  | .hbm, ⟨74, _⟩ => ⟨S1024x1024, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩

abbrev nD : Nat := 1
abbrev τ : Topo := Topo.v7x

variable {F : FTy → Type} [FloatOps F]
-- ==== Proof.KernelIdeal.Trips.lean ====
/- The words of the sweep over the key tiles: whatever the visited word is, the two counted loops have a meaning,
   the first runs over tiles of the sequence up to the query's own, the second makes no trip, and every block they
   address lies in its array. -/
module

public import proofs.«01_k».proof.Proof.Gen.KernelIdeal.Loops

@[expose] public section

set_option maxRecDepth 16384

namespace Cert.KernelIdeal.Sb

open Idealize.ShloMosaic

/-- The query tile's number plus one, as a word: where the sweep ends. -/
abbrev lastWord (i : grid0.Coords) : BitVec 32 := BitVec.ofNat 32 (i 2).val + 1#32

/-- The word the sweep begins at: the end less the visited count, or 0. -/
abbrev firstWord (i : grid0.Coords) (v : BitVec 32) : BitVec 32 := IntOp.maxsi (lastWord i - v) 0#32

theorem tile_lt (i : grid0.Coords) : (i 2).val < 17 := (i 2).isLt

theorem lastWord_toInt (i : grid0.Coords) : (lastWord i).toInt = (i 2).val + 1 := by
  have h := tile_lt i
  show (BitVec.ofNat 32 (i 2).val + 1#32).toInt = _
  generalize (i 2).val = n at h
  interval_cases n <;> rfl

theorem firstWord_nonneg (i : grid0.Coords) (v : BitVec 32) : 0 ≤ (firstWord i v).toInt := by
  unfold firstWord IntOp.maxsi
  split
  · rename_i h
    have h' := BitVec.slt_iff_toInt_lt.mp h
    have h0 : (0#32 : BitVec 32).toInt = 0 := rfl
    omega
  · decide

theorem divsi_one (x : BitVec 32) : Scalar.divsi x 1#32 = x := by
  have h : ¬ IntOp.SDivCorner x 1#32 := by
    unfold IntOp.SDivCorner
    rintro (h | ⟨-, h⟩) <;> exact absurd h (by decide)
  show (if IntOp.SDivCorner x 1#32 then _ else x.sdiv 1#32) = x
  rw [if_neg h, BitVec.sdiv_one]

/-- The first loop, in closed form. -/
theorem loop1_eq (i : grid0.Coords) (v : BitVec 32) : k0_t1_loop i v = ⟨firstWord i v, lastWord i, 1#32⟩ := by
  show (⟨firstWord i v, firstWord i v + Scalar.divsi (lastWord i - firstWord i v) 1#32 * 1#32, 1#32⟩ : Scf.Loop 32) = _
  rw [divsi_one, BitVec.mul_one, BitVec.add_comm, BitVec.sub_add_cancel]

/-- The second loop, in closed form. -/
theorem loop2_eq (i : grid0.Coords) (v : BitVec 32) : k0_t2_loop i v = ⟨lastWord i, lastWord i, 1#32⟩ := by
  show (⟨firstWord i v + Scalar.divsi (lastWord i - firstWord i v) 1#32 * 1#32, firstWord i v + (lastWord i - firstWord i v), 1#32⟩ : Scf.Loop 32) = _
  rw [divsi_one, BitVec.mul_one, BitVec.add_comm, BitVec.sub_add_cancel]

/-- Both loops have a meaning. -/
theorem loop1_ok (i : grid0.Coords) (v : BitVec 32) : (k0_t1_loop i v).OK := by
  rw [loop1_eq]
  have h0 := firstWord_nonneg i v
  have h1 := lastWord_toInt i
  have h2 := tile_lt i
  have h3 := BitVec.toInt_lt (x := firstWord i v)
  have e : (1#32 : BitVec 32).toInt = 1 := rfl
  refine ⟨(by decide : (0 : ℤ) < (1#32 : BitVec 32).toInt), ?_⟩
  show (firstWord i v).toInt + Scf.trips _ _ _ * _ < _
  unfold Scf.trips
  rw [e]
  rw [Int.ediv_one, mul_one, h1]
  generalize (firstWord i v).toInt = b at h0 h3 ⊢
  norm_num at h3 ⊢
  omega

theorem trips2_eq (i : grid0.Coords) (v : BitVec 32) : (k0_t2_loop i v).trips = 0 := by
  rw [loop2_eq]
  show Scf.trips _ _ _ = 0
  unfold Scf.trips
  have e : (1#32 : BitVec 32).toInt = 1 := rfl
  rw [e]; simp

theorem no_trip2 (i : grid0.Coords) (v : BitVec 32) (k : Fin (k0_t2_loop i v).trips) : False := by
  have h := k.isLt
  have e := trips2_eq i v
  omega

theorem loop2_ok (i : grid0.Coords) (v : BitVec 32) : (k0_t2_loop i v).OK := by
  have h := trips2_eq i v
  have e := loop2_eq i v
  have h1 := lastWord_toInt i
  have h2 := tile_lt i
  have e2 : (k0_t2_loop i v).lb = lastWord i := congrArg Scf.Loop.lb e
  have e3 : (k0_t2_loop i v).st = 1#32 := congrArg Scf.Loop.st e
  refine ⟨by rw [e3]; decide, ?_⟩
  have h' : Scf.trips (k0_t2_loop i v).lb (k0_t2_loop i v).ub (k0_t2_loop i v).st = 0 := h
  rw [h', e2, h1]
  norm_num
  omega

/-- The key tile of a trip, as a word. -/
abbrev tileWord (i : grid0.Coords) (v : BitVec 32) (k : ℕ) : BitVec 32 := Scf.iv (firstWord i v) 1#32 k

/-- The key tile of a trip is one of the sequence up to the query's. -/
theorem tileWord_le (i : grid0.Coords) (v : BitVec 32) (k : Fin (k0_t1_loop i v).trips) :
    (tileWord i v k).toNat ≤ (i 2).val := by
  have hok := loop1_ok i v
  obtain ⟨k, hk⟩ := k
  have e := loop1_eq i v
  generalize k0_t1_loop i v = l at hok hk e
  subst e
  have h0 := firstWord_nonneg i v
  have h1 := lastWord_toInt i
  have hlt := Scf.iv_lt_ub hok hk
  have hge := Scf.toInt_iv hok (Nat.le_of_lt hk)
  have e1 : (1#32 : BitVec 32).toInt = 1 := rfl
  show (tileWord i v k).toNat ≤ _
  have hlt' : (tileWord i v k).toInt < (i 2).val + 1 := h1 ▸ hlt
  have hge' : (tileWord i v k).toInt = (firstWord i v).toInt + k * 1 := hge
  have hn : (tileWord i v k).toInt = (tileWord i v k).toNat := by
    rw [BitVec.toInt_eq_toNat_bmod]
    have := BitVec.toInt_eq_toNat_cond (tileWord i v k)
    have hb := (tileWord i v k).isLt
    rw [← BitVec.toInt_eq_toNat_bmod, this]
    split
    · rfl
    · rename_i hh
      rw [if_neg hh] at this
      omega
  omega

/-- The first row of a trip's key tile: 256 times its number. -/
theorem rowWord_toNat (i : grid0.Coords) (v : BitVec 32) (k : Fin (k0_t1_loop i v).trips) :
    (Scalar.muli (tileWord i v k) 256#32).toNat = (tileWord i v k).toNat * 256 := by
  have h := tileWord_le i v k
  have h2 := tile_lt i
  show (tileWord i v k * 256#32).toNat = _
  rw [BitVec.toNat_mul]
  show ((tileWord i v k).toNat * 256) % 2 ^ 32 = _
  apply Nat.mod_eq_of_lt
  omega

theorem rowWord_le (i : grid0.Coords) (v : BitVec 32) (k : Fin (k0_t1_loop i v).trips) :
    (Scalar.muli (tileWord i v k) 256#32).toNat + 256 ≤ 4352 := by
  have h := tileWord_le i v k
  have h2 := tile_lt i
  rw [rowWord_toNat]; omega

/-- The side condition the body assumes of the visited word: it holds of every word. -/
theorem chk1_all (i : grid0.Coords) (v : BitVec 32) : k0_chk1 i v := by
  refine ⟨loop1_ok i v, fun k => ⟨(tileWord i v k).toNat, ?_⟩, fun k a => ?_, fun k a => ?_, fun k a => ?_, fun k a => ?_,
    fun k a => ?_, fun k a => ?_, fun k a => ?_, fun k a => ?_, loop2_ok i v,
    fun k => (no_trip2 i v k).elim, fun k => (no_trip2 i v k).elim, fun k => (no_trip2 i v k).elim, fun k => (no_trip2 i v k).elim, fun k => (no_trip2 i v k).elim, fun k => (no_trip2 i v k).elim, fun k => (no_trip2 i v k).elim, fun k => (no_trip2 i v k).elim, fun k => (no_trip2 i v k).elim⟩
  · show (Scalar.muli (tileWord i v k) 256#32).toNat = _
    rw [rowWord_toNat, mul_comm]
  all_goals
    have h := rowWord_le i v k
    fin_cases a
    · first
        | exact h
        | exact Nat.le_of_ble_eq_true rfl
    · first
        | exact h
        | exact Nat.le_of_ble_eq_true rfl

end Cert.KernelIdeal.Sb
end
-- ==== Proof.KernelIdeal.Runs.lean ====
/- What the three cases of a grid point share: which case a point is in, where the outputs are idle, and the
   memrefs the body is called with. -/
module

public import proofs.«01_k».proof.Proof.KernelIdeal.Trips
public import proofs.«01_k».proof.Proof.Gen.KernelIdeal.Frame

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The query tile is the first of its sequence and head group. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 17 = 0 :=
  (fun t => by
    have ht : t.val < 68 := Nat.lt_of_lt_of_eq t.isLt N_0
    have e0 : (grid0.coords t 0).val = t.val / 34 % 2 := Pipeline.Grid.coords_val t 0 (by decide) rfl
    have e1 : (grid0.coords t 1).val = t.val / 17 % 2 := Pipeline.Grid.coords_val t 1 (by decide) rfl
    have e2 : (grid0.coords t 2).val = t.val / 1 % 17 := Pipeline.Grid.coords_val t 2 (by decide) rfl
    simp only [cond0_0, e0, e1, e2]
    word_cmp
   : ∀ t : Fin grid0.N, cond0_0 (grid0.coords t) ↔ t.val % 17 = 0)

/-- The query tile is the last. -/
abbrev cond0_1 (i : grid0.Coords) : Prop := k0_cond2 i = 1#1
theorem hcond0_1 : ∀ t : Fin cfg0.N, cond0_1 (grid0.coords t) ↔ t.val % 17 = 16 :=
  (fun t => by
    have ht : t.val < 68 := Nat.lt_of_lt_of_eq t.isLt N_0
    have e0 : (grid0.coords t 0).val = t.val / 34 % 2 := Pipeline.Grid.coords_val t 0 (by decide) rfl
    have e1 : (grid0.coords t 1).val = t.val / 17 % 2 := Pipeline.Grid.coords_val t 1 (by decide) rfl
    have e2 : (grid0.coords t 2).val = t.val / 1 % 17 := Pipeline.Grid.coords_val t 2 (by decide) rfl
    simp only [cond0_1, k0_cond2, e0, e1, e2]
    word_cmp
   : ∀ t : Fin grid0.N, cond0_1 (grid0.coords t) ↔ t.val % 17 = 16)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
theorem liveAt0_8_C : ∀ t : Fin cfg0.N, ¬cond0_0 (grid0.coords t) → cond0_1 (grid0.coords t) → cfg0.idle 8 (grid0.coords t) = false := by decide +kernel

abbrev VO0_6 : View sig .tc .vmem S256x512 .bf16 := (Memref.whole cc0_stg6_0 : Memref sig .tc .vmem S256x512 .bf16).view
abbrev VO0_7 : View sig .tc .vmem S4352x512 .bf16 := (Memref.whole cc0_stg7_0 : Memref sig .tc .vmem S4352x512 .bf16).view
abbrev VO0_8 : View sig .tc .vmem S4352x512 .bf16 := (Memref.whole cc0_stg8_0 : Memref sig .tc .vmem S4352x512 .bf16).view
abbrev ms0_0 (t : Fin cfg0.N) : Memref sig .tc .smem S34 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4352x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4352x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4352x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4352x512 .bf16 := win0_8.stage (cfg0.slots t 8)
abbrev hs0_8 (t : Fin cfg0.N) : (ms0_8 t).IsWhole := hstage0_8 ((cfg0.slots t 8).cast nbuf0_8)
abbrev scM0_0 : Memref sig .tc .vmem S512x4352 .f32 := Memref.whole cc0_scratch0
abbrev scM0_1 : Memref sig .tc .vmem S512x4352 .f32 := Memref.whole cc0_scratch1
abbrev VS0_0 : View sig .tc .vmem S512x4352 .f32 := scM0_0.view
abbrev VS0_1 : View sig .tc .vmem S512x4352 .f32 := scM0_1.view

/-- The invariant between points: the two accumulators and the random register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Sb

end
-- ==== Proof.KernelIdeal.RunA.lean ====
/- The run of the body at the first query tile: the accumulators are set to zero. -/
module

public import proofs.«01_k».proof.Proof.KernelIdeal.Runs

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The run of the body at the first query tile: the accumulators are set to zero.
    The pieces each buffer ends with are the witness. -/
noncomputable def kernelRun0_A (c : Dev nD) (i : grid0.Coords) (arg3 : Memref sig .tc .smem S34 .f32) (harg3 : arg3.IsWhole) (arg4 : Memref sig .tc .vmem S256x512 .bf16) (harg4 : arg4.IsWhole) (arg5 : Memref sig .tc .vmem S4352x512 .bf16) (harg5 : arg5.IsWhole) (arg6 : Memref sig .tc .vmem S4352x512 .bf16) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4352x512 .bf16) (harg10 : arg10.IsWhole) (arg11 : Memref sig .tc .vmem S4352x512 .bf16) (harg11 : arg11.IsWhole) (arg12 : Memref sig .tc .vmem S512x4352 .f32) (harg12 : arg12.IsWhole) (arg13 : Memref sig .tc .vmem S512x4352 .f32) (harg13 : arg13.IsWhole) (hc0 : cond0_0 i) (hc1 : ¬cond0_1 i)
    (x0 : Vec F S34 .f32) (x1 : Vec F S256x512 .bf16) (x2 : Vec F S4352x512 .bf16) (x3 : Vec F S4352x512 .bf16) (x4 : Vec F S256x512 .f32) (x5 : Vec F S256x512 .bf16) :
    Σ' (L6 : List (View.Piece (Elt F) S256x512 .bf16)), Σ' (L7 : List (View.Piece (Elt F) S4352x512 .bf16)), Σ' (L8 : List (View.Piece (Elt F) S4352x512 .bf16)), Σ' (LS0 : List (View.Piece (Elt F) S512x4352 .f32)), { LS1 : List (View.Piece (Elt F) S512x4352 .f32) //
      ∀ (xi7 : Vec F S4352x512 .bf16) (xi8 : Vec F S4352x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xi7 ∗ owns (c : Thread nD τ) arg11 fullShare xi8 ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xi7 ∗ owns (c : Thread nD τ) arg11 fullShare xi8 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0_sb_bwd i arg3 harg3 arg4 harg4 arg5 harg5 arg6 harg6 arg7 harg7 arg8 harg8 arg9 harg9 arg10 harg10 arg11 harg11 arg12 harg12 arg13 harg13) K } := by
  refine ⟨?_, [], [], ?_, ?_, fun xi7 xi8 E K => ?run⟩
  case run =>
    simp only [cc0_sb_bwd_eq_skeleton]; unfold cc0_sb_bwd_skel
    simp only [k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf7; obtain rfl := harg11.eq_unread hf8
    sl_exec (disch := first | sl_exact hc0 | sl_exact hc1 | exact chk1_all _ _)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]
    · iexists _; isplitr; · ipureintro; exact harg10.read_unread _
      iexact H7
    isplitl [H8]
    · iexists _; isplitr; · ipureintro; exact harg11.read_unread _
      iexact H8
    isplitl [HS0]; · iexists _; iexact HS0
    iexists _; iexact HS1

end Cert.KernelIdeal.Sb

end
-- ==== Proof.KernelIdeal.RunB.lean ====
/- The run of the body at a query tile between. -/
module

public import proofs.«01_k».proof.Proof.KernelIdeal.RunA

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The run of the body at a query tile between.
    The pieces each buffer ends with are the witness. -/
noncomputable def kernelRun0_B (c : Dev nD) (i : grid0.Coords) (arg3 : Memref sig .tc .smem S34 .f32) (harg3 : arg3.IsWhole) (arg4 : Memref sig .tc .vmem S256x512 .bf16) (harg4 : arg4.IsWhole) (arg5 : Memref sig .tc .vmem S4352x512 .bf16) (harg5 : arg5.IsWhole) (arg6 : Memref sig .tc .vmem S4352x512 .bf16) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4352x512 .bf16) (harg10 : arg10.IsWhole) (arg11 : Memref sig .tc .vmem S4352x512 .bf16) (harg11 : arg11.IsWhole) (arg12 : Memref sig .tc .vmem S512x4352 .f32) (harg12 : arg12.IsWhole) (arg13 : Memref sig .tc .vmem S512x4352 .f32) (harg13 : arg13.IsWhole) (hc0 : ¬cond0_0 i) (hc1 : ¬cond0_1 i)
    (x0 : Vec F S34 .f32) (x1 : Vec F S256x512 .bf16) (x2 : Vec F S4352x512 .bf16) (x3 : Vec F S4352x512 .bf16) (x4 : Vec F S256x512 .f32) (x5 : Vec F S256x512 .bf16) (xs0 : Vec F S512x4352 .f32) (xs1 : Vec F S512x4352 .f32) :
    Σ' (L6 : List (View.Piece (Elt F) S256x512 .bf16)), Σ' (L7 : List (View.Piece (Elt F) S4352x512 .bf16)), Σ' (L8 : List (View.Piece (Elt F) S4352x512 .bf16)), Σ' (LS0 : List (View.Piece (Elt F) S512x4352 .f32)), { LS1 : List (View.Piece (Elt F) S512x4352 .f32) //
      ∀ (xi7 : Vec F S4352x512 .bf16) (xi8 : Vec F S4352x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xi7 ∗ owns (c : Thread nD τ) arg11 fullShare xi8 ∗ owns (c : Thread nD τ) arg12 fullShare xs0 ∗ owns (c : Thread nD τ) arg13 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xi7 ∗ owns (c : Thread nD τ) arg11 fullShare xi8 ∗ (arg12.view.loc (c : Thread nD τ) ↦[arg12.view.set]{fullShare} arg12.view.writes (Elt F) (harg12.unread xs0) LS0) ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0_sb_bwd i arg3 harg3 arg4 harg4 arg5 harg5 arg6 harg6 arg7 harg7 arg8 harg8 arg9 harg9 arg10 harg10 arg11 harg11 arg12 harg12 arg13 harg13) K } := by
  refine ⟨?_, [], [], ?_, ?_, fun xi7 xi8 E K => ?run⟩
  case run =>
    simp only [cc0_sb_bwd_eq_skeleton]; unfold cc0_sb_bwd_skel
    simp only [k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf7; obtain rfl := harg11.eq_unread hf8; obtain rfl := harg12.eq_unread hfs0; obtain rfl := harg13.eq_unread hfs1
    sl_exec (disch := first | sl_exact hc0 | sl_exact hc1 | exact chk1_all _ _)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]
    · iexists _; isplitr; · ipureintro; exact harg10.read_unread _
      iexact H7
    isplitl [H8]
    · iexists _; isplitr; · ipureintro; exact harg11.read_unread _
      iexact H8
    isplitl [HS0]; · iexact HS0
    iexact HS1

end Cert.KernelIdeal.Sb

end
-- ==== Proof.KernelIdeal.RunC.lean ====
/- The run of the body at the last query tile: the gradients of k and v are written out. -/
module

public import proofs.«01_k».proof.Proof.KernelIdeal.RunB

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The run of the body at the last query tile: the gradients of k and v are written out.
    The pieces each buffer ends with are the witness. -/
noncomputable def kernelRun0_C (c : Dev nD) (i : grid0.Coords) (arg3 : Memref sig .tc .smem S34 .f32) (harg3 : arg3.IsWhole) (arg4 : Memref sig .tc .vmem S256x512 .bf16) (harg4 : arg4.IsWhole) (arg5 : Memref sig .tc .vmem S4352x512 .bf16) (harg5 : arg5.IsWhole) (arg6 : Memref sig .tc .vmem S4352x512 .bf16) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4352x512 .bf16) (harg10 : arg10.IsWhole) (arg11 : Memref sig .tc .vmem S4352x512 .bf16) (harg11 : arg11.IsWhole) (arg12 : Memref sig .tc .vmem S512x4352 .f32) (harg12 : arg12.IsWhole) (arg13 : Memref sig .tc .vmem S512x4352 .f32) (harg13 : arg13.IsWhole) (hc0 : ¬cond0_0 i) (hc1 : cond0_1 i)
    (x0 : Vec F S34 .f32) (x1 : Vec F S256x512 .bf16) (x2 : Vec F S4352x512 .bf16) (x3 : Vec F S4352x512 .bf16) (x4 : Vec F S256x512 .f32) (x5 : Vec F S256x512 .bf16) (xs0 : Vec F S512x4352 .f32) (xs1 : Vec F S512x4352 .f32) :
    Σ' (L6 : List (View.Piece (Elt F) S256x512 .bf16)), Σ' (L7 : List (View.Piece (Elt F) S4352x512 .bf16)), Σ' (L8 : List (View.Piece (Elt F) S4352x512 .bf16)), Σ' (LS0 : List (View.Piece (Elt F) S512x4352 .f32)), { LS1 : List (View.Piece (Elt F) S512x4352 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (arg12.view.loc (c : Thread nD τ) ↦[arg12.view.set]{fullShare} arg12.view.writes (Elt F) (harg12.unread xs0) LS0) ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0_sb_bwd i arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_sb_bwd_eq_skeleton]; unfold cc0_sb_bwd_skel
    simp only [k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hfs0; obtain rfl := harg13.eq_unread hfs1
    sl_exec (disch := first | sl_exact hc0 | sl_exact hc1 | exact chk1_all _ _)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [H8]; · iexists _; iexact H8
    isplitl [HS0]; · iexact HS0
    iexact HS1

end Cert.KernelIdeal.Sb

end
-- ==== Proof.KernelIdeal.Outs.lean ====
/- What each grid point leaves in the outputs and accumulators, point by point. -/
module

public import proofs.«01_k».proof.Proof.KernelIdeal.RunC

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section caseA

variable (c : Dev nD) (i : grid0.Coords) (arg3 : Memref sig .tc .smem S34 .f32) (harg3 : arg3.IsWhole) (arg4 : Memref sig .tc .vmem S256x512 .bf16) (harg4 : arg4.IsWhole) (arg5 : Memref sig .tc .vmem S4352x512 .bf16) (harg5 : arg5.IsWhole) (arg6 : Memref sig .tc .vmem S4352x512 .bf16) (harg6 : arg6.IsWhole) (arg7 : Memref sig .tc .vmem S256x512 .f32) (harg7 : arg7.IsWhole)
  (arg8 : Memref sig .tc .vmem S256x512 .bf16) (harg8 : arg8.IsWhole) (arg9 : Memref sig .tc .vmem S256x512 .bf16) (harg9 : arg9.IsWhole) (arg10 : Memref sig .tc .vmem S4352x512 .bf16) (harg10 : arg10.IsWhole) (arg11 : Memref sig .tc .vmem S4352x512 .bf16) (harg11 : arg11.IsWhole) (arg12 : Memref sig .tc .vmem S512x4352 .f32) (harg12 : arg12.IsWhole) (arg13 : Memref sig .tc .vmem S512x4352 .f32) (harg13 : arg13.IsWhole)
  (hc0 : cond0_0 i) (hc1 : ¬cond0_1 i)
  (x0 : Vec F S34 .f32) (x1 : Vec F S256x512 .bf16) (x2 : Vec F S4352x512 .bf16) (x3 : Vec F S4352x512 .bf16) (x4 : Vec F S256x512 .f32) (x5 : Vec F S256x512 .bf16)

theorem cover0_A_6 (y : S256x512.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 x0 x1 x2 x3 x4 x5).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 x0 x1 x2 x3 x4 x5).1 S256x128.size (by sl_kernel_rfl) y

def out0_A_6 : Vec F S256x512 .bf16 :=
  VO0_6.read (Elt F) (VO0_6.writes (Elt F) VO0_6.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5).1)

def out0_A_7 : Vec F S4352x512 .bf16 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5).2.1)

def out0_A_8 : Vec F S4352x512 .bf16 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5).2.2.1)

theorem scover0_A_0 (y : S512x4352.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 x0 x1 x2 x3 x4 x5).2.2.2.1, y ∈ pc.1.set :=
  View.cover_of_wholeMem (kernelRun0_A c i arg3 harg3 arg4 harg4 arg5 harg5 arg6 harg6 arg7 harg7 arg8 harg8 arg9 harg9 arg10 harg10 arg11 harg11 arg12 harg12 arg13 harg13 hc0 hc1 x0 x1 x2 x3 x4 x5).2.2.2.1 (by sl_whole_mem) y

def sout0_A_0 : Vec F S512x4352 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5).2.2.2.1)

theorem scover0_A_1 (y : S512x4352.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 x0 x1 x2 x3 x4 x5).2.2.2.2.1, y ∈ pc.1.set :=
  View.cover_of_wholeMem (kernelRun0_A c i arg3 harg3 arg4 harg4 arg5 harg5 arg6 harg6 arg7 harg7 arg8 harg8 arg9 harg9 arg10 harg10 arg11 harg11 arg12 harg12 arg13 harg13 hc0 hc1 x0 x1 x2 x3 x4 x5).2.2.2.2.1 (by sl_whole_mem) y

def sout0_A_1 : Vec F S512x4352 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5).2.2.2.2.1)

/-- What the body leaves at the first query tile: the three outputs and the two accumulators. -/
def outs0_A : Vec F S256x512 .bf16 × Vec F S4352x512 .bf16 × Vec F S4352x512 .bf16 × Vec F S512x4352 .f32 × Vec F S512x4352 .f32 :=
  (out0_A_6 c i arg3 harg3 arg4 harg4 arg5 harg5 arg6 harg6 arg7 harg7 arg8 harg8 arg9 harg9 arg10 harg10 arg11 harg11 arg12 harg12 arg13 harg13 hc0 hc1 x0 x1 x2 x3 x4 x5,
    out0_A_7 c i arg3 harg3 arg4 harg4 arg5 harg5 arg6 harg6 arg7 harg7 arg8 harg8 arg9 harg9 arg10 harg10 arg11 harg11 arg12 harg12 arg13 harg13 hc0 hc1 x0 x1 x2 x3 x4 x5,
    out0_A_8 c i arg3 harg3 arg4 harg4 arg5 harg5 arg6 harg6 arg7 harg7 arg8 harg8 arg9 harg9 arg10 harg10 arg11 harg11 arg12 harg12 arg13 harg13 hc0 hc1 x0 x1 x2 x3 x4 x5,
    sout0_A_0 c i arg3 harg3 arg4 harg4 arg5 harg5 arg6 harg6 arg7 harg7 arg8 harg8 arg9 harg9 arg10 harg10 arg11 harg11 arg12 harg12 arg13 harg13 hc0 hc1 x0 x1 x2 x3 x4 x5,
    sout0_A_1 c i arg3 harg3 arg4 harg4 arg5 harg5 arg6 harg6 arg7 harg7 arg8 harg8 arg9 harg9 arg10 harg10 arg11 harg11 arg12 harg12 arg13 harg13 hc0 hc1 x0 x1 x2 x3 x4 x5)

end caseA

section caseB

variable (c : Dev nD) (i : grid0.Coords) (arg3 : Memref sig .tc .smem S34 .f32) (harg3 : arg3.IsWhole) (arg4 : Memref sig .tc .vmem S256x512 .bf16) (harg4 : arg4.IsWhole) (arg5 : Memref sig .tc .vmem S4352x512 .bf16) (harg5 : arg5.IsWhole) (arg6 : Memref sig .tc .vmem S4352x512 .bf16) (harg6 : arg6.IsWhole) (arg7 : Memref sig .tc .vmem S256x512 .f32) (harg7 : arg7.IsWhole)
  (arg8 : Memref sig .tc .vmem S256x512 .bf16) (harg8 : arg8.IsWhole) (arg9 : Memref sig .tc .vmem S256x512 .bf16) (harg9 : arg9.IsWhole) (arg10 : Memref sig .tc .vmem S4352x512 .bf16) (harg10 : arg10.IsWhole) (arg11 : Memref sig .tc .vmem S4352x512 .bf16) (harg11 : arg11.IsWhole) (arg12 : Memref sig .tc .vmem S512x4352 .f32) (harg12 : arg12.IsWhole) (arg13 : Memref sig .tc .vmem S512x4352 .f32) (harg13 : arg13.IsWhole)
  (hc0 : ¬cond0_0 i) (hc1 : ¬cond0_1 i)
  (x0 : Vec F S34 .f32) (x1 : Vec F S256x512 .bf16) (x2 : Vec F S4352x512 .bf16) (x3 : Vec F S4352x512 .bf16) (x4 : Vec F S256x512 .f32) (x5 : Vec F S256x512 .bf16) (xs0 : Vec F S512x4352 .f32) (xs1 : Vec F S512x4352 .f32)

theorem cover0_B_6 (y : S256x512.Idx) :
    ∃ pc ∈ (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1).1 S256x128.size (by sl_kernel_rfl) y

def out0_B_6 : Vec F S256x512 .bf16 :=
  VO0_6.read (Elt F) (VO0_6.writes (Elt F) VO0_6.junk (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1).1)

def out0_B_7 : Vec F S4352x512 .bf16 :=
  VO0_7.read (Elt F) (VO0_7.writes (Elt F) VO0_7.junk (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.1)

def out0_B_8 : Vec F S4352x512 .bf16 :=
  VO0_8.read (Elt F) (VO0_8.writes (Elt F) VO0_8.junk (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.1)

def sout0_B_0 : Vec F S512x4352 .f32 :=
  arg12.view.read (Elt F) (arg12.view.writes (Elt F) (harg12.unread xs0) (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.1)

def sout0_B_1 : Vec F S512x4352 .f32 :=
  arg13.view.read (Elt F) (arg13.view.writes (Elt F) (harg13.unread xs1) (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.2.1)

/-- What the body leaves at a query tile between: the three outputs and the two accumulators. -/
def outs0_B : Vec F S256x512 .bf16 × Vec F S4352x512 .bf16 × Vec F S4352x512 .bf16 × Vec F S512x4352 .f32 × Vec F S512x4352 .f32 :=
  (out0_B_6 c i arg3 harg3 arg4 harg4 arg5 harg5 arg6 harg6 arg7 harg7 arg8 harg8 arg9 harg9 arg10 harg10 arg11 harg11 arg12 harg12 arg13 harg13 hc0 hc1 x0 x1 x2 x3 x4 x5 xs0 xs1,
    out0_B_7 c i arg3 harg3 arg4 harg4 arg5 harg5 arg6 harg6 arg7 harg7 arg8 harg8 arg9 harg9 arg10 harg10 arg11 harg11 arg12 harg12 arg13 harg13 hc0 hc1 x0 x1 x2 x3 x4 x5 xs0 xs1,
    out0_B_8 c i arg3 harg3 arg4 harg4 arg5 harg5 arg6 harg6 arg7 harg7 arg8 harg8 arg9 harg9 arg10 harg10 arg11 harg11 arg12 harg12 arg13 harg13 hc0 hc1 x0 x1 x2 x3 x4 x5 xs0 xs1,
    sout0_B_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1,
    sout0_B_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1)

end caseB

section caseC

variable (c : Dev nD) (i : grid0.Coords) (arg3 : Memref sig .tc .smem S34 .f32) (harg3 : arg3.IsWhole) (arg4 : Memref sig .tc .vmem S256x512 .bf16) (harg4 : arg4.IsWhole) (arg5 : Memref sig .tc .vmem S4352x512 .bf16) (harg5 : arg5.IsWhole) (arg6 : Memref sig .tc .vmem S4352x512 .bf16) (harg6 : arg6.IsWhole) (arg7 : Memref sig .tc .vmem S256x512 .f32) (harg7 : arg7.IsWhole)
  (arg8 : Memref sig .tc .vmem S256x512 .bf16) (harg8 : arg8.IsWhole) (arg9 : Memref sig .tc .vmem S256x512 .bf16) (harg9 : arg9.IsWhole) (arg10 : Memref sig .tc .vmem S4352x512 .bf16) (harg10 : arg10.IsWhole) (arg11 : Memref sig .tc .vmem S4352x512 .bf16) (harg11 : arg11.IsWhole) (arg12 : Memref sig .tc .vmem S512x4352 .f32) (harg12 : arg12.IsWhole) (arg13 : Memref sig .tc .vmem S512x4352 .f32) (harg13 : arg13.IsWhole)
  (hc0 : ¬cond0_0 i) (hc1 : cond0_1 i)
  (x0 : Vec F S34 .f32) (x1 : Vec F S256x512 .bf16) (x2 : Vec F S4352x512 .bf16) (x3 : Vec F S4352x512 .bf16) (x4 : Vec F S256x512 .f32) (x5 : Vec F S256x512 .bf16) (xs0 : Vec F S512x4352 .f32) (xs1 : Vec F S512x4352 .f32)

theorem cover0_C_6 (y : S256x512.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1).1 S256x128.size (by sl_kernel_rfl) y

def out0_C_6 : Vec F S256x512 .bf16 :=
  VO0_6.read (Elt F) (VO0_6.writes (Elt F) VO0_6.junk (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1).1)

theorem cover0_C_7 (y : S4352x512.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.1 S4352x512.size (by sl_kernel_rfl) y

def out0_C_7 : Vec F S4352x512 .bf16 :=
  VO0_7.read (Elt F) (VO0_7.writes (Elt F) VO0_7.junk (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.1)

theorem cover0_C_8 (y : S4352x512.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.1 S4352x512.size (by sl_kernel_rfl) y

def out0_C_8 : Vec F S4352x512 .bf16 :=
  VO0_8.read (Elt F) (VO0_8.writes (Elt F) VO0_8.junk (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.1)

def sout0_C_0 : Vec F S512x4352 .f32 :=
  arg12.view.read (Elt F) (arg12.view.writes (Elt F) (harg12.unread xs0) (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.1)

def sout0_C_1 : Vec F S512x4352 .f32 :=
  arg13.view.read (Elt F) (arg13.view.writes (Elt F) (harg13.unread xs1) (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.2.1)

/-- What the body leaves at the last query tile: the three outputs and the two accumulators. -/
def outs0_C : Vec F S256x512 .bf16 × Vec F S4352x512 .bf16 × Vec F S4352x512 .bf16 × Vec F S512x4352 .f32 × Vec F S512x4352 .f32 :=
  (out0_C_6 c i arg3 harg3 arg4 harg4 arg5 harg5 arg6 harg6 arg7 harg7 arg8 harg8 arg9 harg9 arg10 harg10 arg11 harg11 arg12 harg12 arg13 harg13 hc0 hc1 x0 x1 x2 x3 x4 x5 xs0 xs1,
    out0_C_7 c i arg3 harg3 arg4 harg4 arg5 harg5 arg6 harg6 arg7 harg7 arg8 harg8 arg9 harg9 arg10 harg10 arg11 harg11 arg12 harg12 arg13 harg13 hc0 hc1 x0 x1 x2 x3 x4 x5 xs0 xs1,
    out0_C_8 c i arg3 harg3 arg4 harg4 arg5 harg5 arg6 harg6 arg7 harg7 arg8 harg8 arg9 harg9 arg10 harg10 arg11 harg11 arg12 harg12 arg13 harg13 hc0 hc1 x0 x1 x2 x3 x4 x5 xs0 xs1,
    sout0_C_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1,
    sout0_C_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1)

end caseC

/-- What the outputs and the two accumulators hold after each point. -/
def outsAt0 (c : Dev nD) : (n : ℕ) → n < cfg0.N → Vec F S256x512 .bf16 × Vec F S4352x512 .bf16 × Vec F S4352x512 .bf16 × Vec F S512x4352 .f32 × Vec F S512x4352 .f32
  | 0, hn => outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 17 = 0 then
      if h1 : (n + 1) % 17 = 16 then
        False.elim (by have hN : n + 1 < 68 := lt_of_lt_of_eq hn (show cfg0.N = 68 from N_0); omega)
      else
        outs0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      if h1 : (n + 1) % 17 = 16 then
        outs0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2
      else
        outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2

theorem outsAt0_A (c : Dev nD) (t : Fin cfg0.N) (h0 : t.val % 17 = 0) (h1 : ¬t.val % 17 = 16) :
    outsAt0 m c t.val t.isLt = outs0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans ((dif_neg h1).trans rfl)

theorem outsAt0_B (c : Dev nD) (t : Fin cfg0.N) (h0 : ¬t.val % 17 = 0) (h1 : ¬t.val % 17 = 16) :
    outsAt0 m c t.val t.isLt = outs0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 17 = 0) (h1 : t.val % 17 = 16) :
    outsAt0 m c t.val t.isLt = outs0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-- The invariant before a point: the accumulators at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2)) ∗ (∃ r, prngReg c r)) := by
  cases n with
  | zero => exact absurd rfl hz
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

end Cert.KernelIdeal.Sb

end
-- ==== Proof.KernelIdeal.Body.lean ====
/- The body at every grid point. -/
module

public import proofs.«01_k».proof.Proof.KernelIdeal.Outs

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 68 := lt_of_lt_of_eq t.isLt (show cfg0.N = 68 from N_0)
  by_cases h0 : t.val % 17 = 0
  · by_cases h1 : t.val % 17 = 16
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold outs0_A out0_A_6 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _)
        isplitl [H7]; · iexists _; iexact H7
        iexists _; iexact H8
      · rw [PhiS_castSucc m c t, PhiS_pos m c _ _ hz]
        rw [outsAt0_A m c t h0 h1]
        unfold outs0_A out0_A_6 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexists _; iexact HS0
        isplitl [HS1]; · iexists _; iexact HS1
        iintro ⟨H0, H1, H2, H3, H4, H5, ⟨%e6, H6⟩, H7, H8, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _)
        isplitl [H7]; · iexists _; iexact H7
        iexists _; iexact H8
  · by_cases h1 : t.val % 17 = 16
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1)], after0_8]
      by_cases hz : t.val = 0
      · exfalso; have hN : t.val < 68 := lt_of_lt_of_eq t.isLt (show cfg0.N = 68 from N_0); omega
      · rw [PhiS_castSucc m c t, PhiS_pos m c _ _ hz]
        rw [outsAt0_C m c t h0 h1]
        unfold outs0_C out0_C_6 out0_C_7 out0_C_8 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        iintro ⟨H0, H1, H2, H3, H4, H5, ⟨%e6, H6⟩, ⟨%e7, H7⟩, ⟨%e8, H8⟩, HS0, HS1⟩
        isplitl [HS0 HS1 Hg]
        · isplitl [HS0 HS1]
          · isplitl [HS0]
            · unfold owns; iexists _; isplitr
              swap; · iexact HS0
              ipureintro; rfl
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      by_cases hz : t.val = 0
      · exfalso; have hN : t.val < 68 := lt_of_lt_of_eq t.isLt (show cfg0.N = 68 from N_0); omega
      · rw [PhiS_castSucc m c t, PhiS_pos m c _ _ hz]
        rw [outsAt0_B m c t h0 h1]
        unfold outs0_B out0_B_6 sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, HS0, HS1⟩
        isplitl [HS0 HS1 Hg]
        · isplitl [HS0 HS1]
          · isplitl [HS0]
            · unfold owns; iexists _; isplitr
              swap; · iexact HS0
              ipureintro; rfl
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _)
        isplitl [H7]; · iexists _; iexact H7
        iexists _; iexact H8

end Cert.KernelIdeal.Sb

end
-- ==== Proof.KernelIdeal.Frame.lean ====
/- The launch: the whole program runs, and leaves its arguments and semaphores as they were. -/
module

public import proofs.«01_k».proof.Proof.KernelIdeal.Body
public import Idealize.ShloMosaic.Lib.Claim

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

/-- The same, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 68 := N_0; omega)

set_option backward.isDefEq.respectTransparency.types false in
/-- The whole program runs, and its semaphores end at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Sb

end
-- ==== Proof.KernelIdeal.Head.lean ====
/- The arithmetic of one head in one trip of the key loop, and the trip as four such heads. -/
module

public import proofs.«01_k».proof.Proof.KernelIdeal.Trips

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI Idealize.SL.Sem

variable {F : FTy → Type} [FloatOps F] [Named F]

/-- The scaled logits of a query tile against a key tile, masked. -/
def zV (valid : IVec S256x256 1) (q kb : FVec F S256x128 .bf16) : FVec F S256x256 .f32 :=
  select valid (mulf (matmul dot_S256x128_S256x128_S256x256_1_1_0_0_n_n none q kb (constant S256x256 .f32 0x00000000#32)) (broadcast S256x256 (Scalar.ofBits .f32 0x3DB504F3#32 : F .f32)))
    (broadcast S256x256 (Named.named κ "mask" 0xF149F2CA#32 : F .f32))
/-- The softplus of the logits, the identity above 20. -/
def softV (z : FVec F S256x256 .f32) : FVec F S256x256 .f32 :=
  select (cmpf .ogt z (broadcast S256x256 (Scalar.ofBits .f32 0x41A00000#32 : F .f32))) z
    (log (addf (broadcast S256x256 (Scalar.ofBits .f32 0x3F800000#32 : F .f32)) (exp (minimumf z (broadcast S256x256 (Scalar.ofBits .f32 0x41A00000#32 : F .f32))))))
/-- The logarithm of the stick's broken share. -/
def lbV (z : FVec F S256x256 .f32) : FVec F S256x256 .f32 := subf z (softV z)
/-- The running sums, within the tile, of the logarithm of the kept share. -/
def kuV (upto : FVec F S256x256 .bf16) (z : FVec F S256x256 .f32) : FVec F S256x256 .f32 :=
  matmul dot_S256x256_S256x256_S256x256_1_0_0_1_n_n none (truncf .bf16 (subf (broadcast S256x256 (Scalar.ofBits .f32 0x00000000#32 : F .f32)) (softV z)) bitsLt_bf16_f32) upto (constant S256x256 .f32 0x00000000#32)
/-- The attention weights. -/
def aV (tot kp : FVec F S256x1 .f32) (lb ku : FVec F S256x256 .f32) : FVec F S256x256 .f32 :=
  exp (addf lb (subf (broadcastTo S256x256 (subf tot kp) broadcasts_S256x1_S256x256) ku))
/-- The weights times their gradients. -/
def gV (a : FVec F S256x256 .f32) (d vb : FVec F S256x128 .bf16) : FVec F S256x256 .f32 :=
  mulf a (matmul dot_S256x128_S256x128_S256x256_1_1_0_0_n_n none d vb (constant S256x256 .f32 0x00000000#32))
/-- The sums of `gV` over the earlier keys of the tile. -/
def giV (before : FVec F S256x256 .bf16) (g : FVec F S256x256 .f32) : FVec F S256x256 .f32 :=
  matmul dot_S256x256_S256x256_S256x256_1_0_0_1_n_n none (truncf .bf16 g bitsLt_bf16_f32) before (constant S256x256 .f32 0x00000000#32)
/-- The gradients of the logits. -/
def dzV (gp : FVec F S256x1 .f32) (lb g gi : FVec F S256x256 .f32) : FVec F S256x256 .bf16 :=
  truncf .bf16 (subf (mulf g (subf (broadcast S256x256 (Scalar.ofBits .f32 0x3F800000#32 : F .f32)) (exp lb)))
    (mulf (exp lb) (addf (broadcastTo S256x256 gp broadcasts_S256x1_S256x256) gi))) bitsLt_bf16_f32
/-- The gradient of q with one key tile's share added. -/
def dqV (dq : FVec F S256x128 .f32) (dz : FVec F S256x256 .bf16) (kb : FVec F S256x128 .bf16) : FVec F S256x128 .f32 :=
  addf dq (matmul dot_S256x256_S256x128_S256x128_1_0_0_1_n_n none dz kb (constant S256x128 .f32 0x00000000#32))
/-- The transposed gradient of k with one query tile's share added. -/
def dkV (qt : FVec F S128x256 .bf16) (dz : FVec F S256x256 .bf16) (old : FVec F S128x256 .f32) : FVec F S128x256 .f32 :=
  shapeCast S128x256 (addf old (mulf (broadcast S128x256 (Scalar.ofBits .f32 0x3DB504F3#32 : F .f32))
    (matmul dot_S128x256_S256x256_S128x256_1_0_0_1_n_n none qt dz (constant S128x256 .f32 0x00000000#32)))) shapeCasts_S128x256_S128x256
/-- The transposed gradient of v with one query tile's share added. -/
def dvV (dt : FVec F S128x256 .bf16) (a : FVec F S256x256 .f32) (old : FVec F S128x256 .f32) : FVec F S128x256 .f32 :=
  shapeCast S128x256 (addf old (matmul dot_S128x256_S256x256_S128x256_1_0_0_1_n_n none dt (truncf .bf16 a bitsLt_bf16_f32) (constant S128x256 .f32 0x00000000#32))) shapeCasts_S128x256_S128x256
/-- The kept share's logarithm summed over the key tiles so far. -/
def kpV (kp : FVec F S256x1 .f32) (ku : FVec F S256x256 .f32) : FVec F S256x1 .f32 :=
  addf kp (extractStridedSlice S256x1 ![0, 255] ku slices_S256x256_o0_255_S256x1)
/-- The weights times their gradients, summed over the key tiles so far. -/
def gpV (gp : FVec F S256x1 .f32) (g gi : FVec F S256x256 .f32) : FVec F S256x1 .f32 :=
  addf gp (addf (extractStridedSlice S256x1 ![0, 255] gi slices_S256x256_o0_255_S256x1) (extractStridedSlice S256x1 ![0, 255] g slices_S256x256_o0_255_S256x1))

/-- What one head reads in a trip: the mask, its query and gradient tiles, plain and transposed, the row totals, the two
    triangles, the key and value tiles, and the sums so far. -/
structure HeadIn (F : FTy → Type) where
  /-- which keys each query sees -/
  valid : IVec S256x256 1
  /-- the queries -/
  q : FVec F S256x128 .bf16
  /-- the output's gradient -/
  d : FVec F S256x128 .bf16
  /-- the queries, transposed -/
  qt : FVec F S128x256 .bf16
  /-- the output's gradient, transposed -/
  dt : FVec F S128x256 .bf16
  /-- the logarithm of the kept share, summed over all keys -/
  tot : FVec F S256x1 .f32
  /-- ones at and after the diagonal -/
  upto : FVec F S256x256 .bf16
  /-- ones after the diagonal -/
  before : FVec F S256x256 .bf16
  /-- the keys -/
  kb : FVec F S256x128 .bf16
  /-- the values -/
  vb : FVec F S256x128 .bf16
  /-- the gradient of q so far -/
  dq : FVec F S256x128 .f32
  /-- the logarithm of the kept share so far -/
  kp : FVec F S256x1 .f32
  /-- the weights times their gradients so far -/
  gp : FVec F S256x1 .f32

namespace HeadIn
variable (H : HeadIn F)
/-- The masked logits. -/
def z : FVec F S256x256 .f32 := zV H.valid H.q H.kb
/-- The running sums of the kept share's logarithm. -/
def ku : FVec F S256x256 .f32 := kuV H.upto H.z
/-- The attention weights. -/
def a : FVec F S256x256 .f32 := aV H.tot H.kp (lbV H.z) H.ku
/-- The weights times their gradients. -/
def g : FVec F S256x256 .f32 := gV H.a H.d H.vb
/-- Their sums over earlier keys of the tile. -/
def gi : FVec F S256x256 .f32 := giV H.before H.g
/-- The logits' gradients. -/
def dz : FVec F S256x256 .bf16 := dzV H.gp (lbV H.z) H.g H.gi
/-- The new gradient of q. -/
def dq' : FVec F S256x128 .f32 := dqV H.dq H.dz H.kb
/-- The new sum of the kept share's logarithm. -/
def kp' : FVec F S256x1 .f32 := kpV H.kp H.ku
/-- The new sum of the weights times their gradients. -/
def gp' : FVec F S256x1 .f32 := gpV H.gp H.g H.gi
/-- The new transposed gradient of k, from the old one. -/
def dk' (old : FVec F S128x256 .f32) : FVec F S128x256 .f32 := dkV H.qt H.dz old
/-- The new transposed gradient of v, from the old one. -/
def dv' (old : FVec F S128x256 .f32) : FVec F S128x256 .f32 := dvV H.dt H.a old
end HeadIn

/-- One more piece: the block of `arg` that the list `L` leaves, changed by `upd`. -/
def push (arg : Memref sig .tc .vmem S512x4352 .f32) (f : BufTy.Contents (Elt F) arg.view.ty) (R : Rect S512x4352)
    (upd : FVec F R.shape .f32 → FVec F R.shape .f32) (L : List (View.Piece (Elt F) S512x4352 .f32)) :
    List (View.Piece (Elt F) S512x4352 .f32) :=
  ⟨R, upd (arg.view.readAt (Elt F) R.toLoadRect (arg.view.writes (Elt F) f L))⟩ :: L

/-- What the four heads carry from one key tile to the next. -/
abbrev Acc (F : FTy → Type) : Type := FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32

section Trip

variable (𝒱 : Variants) (c : Dev nD) (bd : Option 𝒱.V) (i : grid0.Coords) (arg3 : Memref sig .tc .smem S34 .f32) (harg3 : arg3.IsWhole) (arg4 : Memref sig .tc .vmem S256x512 .bf16) (harg4 : arg4.IsWhole) (arg5 : Memref sig .tc .vmem S4352x512 .bf16) (harg5 : arg5.IsWhole) (arg6 : Memref sig .tc .vmem S4352x512 .bf16) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4352x512 .bf16) (harg10 : arg10.IsWhole) (arg11 : Memref sig .tc .vmem S4352x512 .bf16) (harg11 : arg11.IsWhole) (arg12 : Memref sig .tc .vmem S512x4352 .f32) (harg12 : arg12.IsWhole) (arg13 : Memref sig .tc .vmem S512x4352 .f32) (harg13 : arg13.IsWhole) (arg2 : BitVec 32) (v3 : Vec F S256x128 .bf16) (v4 : Vec F S256x128 .bf16) (v5 : Vec F S256x128 .bf16) (v6 : Vec F S256x128 .bf16) (v7 : Vec F S256x128 .bf16) (v8 : Vec F S256x128 .bf16) (v9 : Vec F S256x128 .bf16) (v10 : Vec F S256x128 .bf16) (v14 : FVec F S128x256 .bf16) (v18 : FVec F S128x256 .bf16) (v22 : FVec F S128x256 .bf16) (v26 : FVec F S128x256 .bf16) (v30 : FVec F S128x256 .bf16) (v34 : FVec F S128x256 .bf16) (v38 : FVec F S128x256 .bf16) (v42 : FVec F S128x256 .bf16) (v44 : FVec F S256x1 .f32) (v46 : FVec F S256x1 .f32) (v48 : FVec F S256x1 .f32) (v50 : FVec F S256x1 .f32) (v51 : IVec S256x256 32) (v52 : IVec S256x256 32) (v56 : FVec F S256x256 .bf16) (v60 : FVec F S256x256 .bf16) (v61 : BitVec 32) (v62 : BitVec 32) (c8_i32 : BitVec 32) (v63 : BitVec 32) (v68 : BitVec 32) (v86 : BitVec 32) (k0_hw1 : k0_chk1 i v86) (v88 : BitVec 32) (X_arg5 : BufTy.Contents (Elt F) arg5.view.ty) (X_arg6 : BufTy.Contents (Elt F) arg6.view.ty) (k : Fin (k0_t1_loop i v86).trips)
  (acc : Acc F) (f12 : BufTy.Contents (Elt F) arg12.view.ty) (f13 : BufTy.Contents (Elt F) arg13.view.ty)

/-- What head 0 of the group reads in trip `k`. -/
def head0 : HeadIn F where
  valid := k0_pay6 i arg2 v51 v52 v86 v88 1#32 k
  q := v3
  d := v7
  qt := v14
  dt := v30
  tot := v44
  upto := v56
  before := v60
  kb := arg5.view.readAt (Elt F) (Rect.unit (s := S4352x512) (k0_off2 i v86 k) S256x128.size (k0_off2_inb i v86 k0_hw1 k)).toLoadRect X_arg5
  vb := arg6.view.readAt (Elt F) (Rect.unit (s := S4352x512) (k0_off2 i v86 k) S256x128.size (k0_off2_inb i v86 k0_hw1 k)).toLoadRect X_arg6
  dq := acc.1
  kp := acc.2.1
  gp := acc.2.2.1

/-- What head 1 of the group reads in trip `k`. -/
def head1 : HeadIn F where
  valid := k0_pay6 i arg2 v51 v52 v86 v88 1#32 k
  q := v4
  d := v8
  qt := v18
  dt := v34
  tot := v46
  upto := v56
  before := v60
  kb := arg5.view.readAt (Elt F) (Rect.unit (s := S4352x512) (k0_off4 i v86 k) S256x128.size (k0_off4_inb i v86 k0_hw1 k)).toLoadRect X_arg5
  vb := arg6.view.readAt (Elt F) (Rect.unit (s := S4352x512) (k0_off4 i v86 k) S256x128.size (k0_off4_inb i v86 k0_hw1 k)).toLoadRect X_arg6
  dq := acc.2.2.2.1
  kp := acc.2.2.2.2.1
  gp := acc.2.2.2.2.2.1

/-- What head 2 of the group reads in trip `k`. -/
def head2 : HeadIn F where
  valid := k0_pay6 i arg2 v51 v52 v86 v88 1#32 k
  q := v5
  d := v9
  qt := v22
  dt := v38
  tot := v48
  upto := v56
  before := v60
  kb := arg5.view.readAt (Elt F) (Rect.unit (s := S4352x512) (k0_off6 i v86 k) S256x128.size (k0_off6_inb i v86 k0_hw1 k)).toLoadRect X_arg5
  vb := arg6.view.readAt (Elt F) (Rect.unit (s := S4352x512) (k0_off6 i v86 k) S256x128.size (k0_off6_inb i v86 k0_hw1 k)).toLoadRect X_arg6
  dq := acc.2.2.2.2.2.2.1
  kp := acc.2.2.2.2.2.2.2.1
  gp := acc.2.2.2.2.2.2.2.2.1

/-- What head 3 of the group reads in trip `k`. -/
def head3 : HeadIn F where
  valid := k0_pay6 i arg2 v51 v52 v86 v88 1#32 k
  q := v6
  d := v10
  qt := v26
  dt := v42
  tot := v50
  upto := v56
  before := v60
  kb := arg5.view.readAt (Elt F) (Rect.unit (s := S4352x512) (k0_off8 i v86 k) S256x128.size (k0_off8_inb i v86 k0_hw1 k)).toLoadRect X_arg5
  vb := arg6.view.readAt (Elt F) (Rect.unit (s := S4352x512) (k0_off8 i v86 k) S256x128.size (k0_off8_inb i v86 k0_hw1 k)).toLoadRect X_arg6
  dq := acc.2.2.2.2.2.2.2.2.2.1
  kp := acc.2.2.2.2.2.2.2.2.2.2.1
  gp := acc.2.2.2.2.2.2.2.2.2.2.2

set_option maxHeartbeats 4000000 in
/-- What a trip carries on is each head's new sums. -/
theorem tripR_eq : tripR_k0_t1 (F := F) 𝒱 c bd i arg3 harg3 arg4 harg4 arg5 harg5 arg6 harg6 arg7 harg7 arg8 harg8 arg9 harg9 arg10 harg10 arg11 harg11 arg12 harg12 arg13 harg13 arg2 v3 v4 v5 v6 v7 v8 v9 v10 v14 v18 v22 v26 v30 v34 v38 v42 v44 v46 v48 v50 v51 v52 v56 v60 v61 v62 c8_i32 v63 v68 v86 k0_hw1 v88 X_arg5 X_arg6 k acc f12 f13 =
    ((head0 i arg5 arg6 arg2 v3 v7 v14 v30 v44 v51 v52 v56 v60 v86 k0_hw1 v88 X_arg5 X_arg6 k acc).dq', (head0 i arg5 arg6 arg2 v3 v7 v14 v30 v44 v51 v52 v56 v60 v86 k0_hw1 v88 X_arg5 X_arg6 k acc).kp', (head0 i arg5 arg6 arg2 v3 v7 v14 v30 v44 v51 v52 v56 v60 v86 k0_hw1 v88 X_arg5 X_arg6 k acc).gp',
     (head1 i arg5 arg6 arg2 v4 v8 v18 v34 v46 v51 v52 v56 v60 v86 k0_hw1 v88 X_arg5 X_arg6 k acc).dq', (head1 i arg5 arg6 arg2 v4 v8 v18 v34 v46 v51 v52 v56 v60 v86 k0_hw1 v88 X_arg5 X_arg6 k acc).kp', (head1 i arg5 arg6 arg2 v4 v8 v18 v34 v46 v51 v52 v56 v60 v86 k0_hw1 v88 X_arg5 X_arg6 k acc).gp',
     (head2 i arg5 arg6 arg2 v5 v9 v22 v38 v48 v51 v52 v56 v60 v86 k0_hw1 v88 X_arg5 X_arg6 k acc).dq', (head2 i arg5 arg6 arg2 v5 v9 v22 v38 v48 v51 v52 v56 v60 v86 k0_hw1 v88 X_arg5 X_arg6 k acc).kp', (head2 i arg5 arg6 arg2 v5 v9 v22 v38 v48 v51 v52 v56 v60 v86 k0_hw1 v88 X_arg5 X_arg6 k acc).gp',
     (head3 i arg5 arg6 arg2 v6 v10 v26 v42 v50 v51 v52 v56 v60 v86 k0_hw1 v88 X_arg5 X_arg6 k acc).dq', (head3 i arg5 arg6 arg2 v6 v10 v26 v42 v50 v51 v52 v56 v60 v86 k0_hw1 v88 X_arg5 X_arg6 k acc).kp', (head3 i arg5 arg6 arg2 v6 v10 v26 v42 v50 v51 v52 v56 v60 v86 k0_hw1 v88 X_arg5 X_arg6 k acc).gp') := by
  unfold tripR_k0_t1 trip_k0_t1
  rfl

set_option maxHeartbeats 4000000 in
/-- What a trip stores is each head's new block of the accumulators. -/
theorem tripL_eq : tripL_k0_t1 (F := F) 𝒱 c bd i arg3 harg3 arg4 harg4 arg5 harg5 arg6 harg6 arg7 harg7 arg8 harg8 arg9 harg9 arg10 harg10 arg11 harg11 arg12 harg12 arg13 harg13 arg2 v3 v4 v5 v6 v7 v8 v9 v10 v14 v18 v22 v26 v30 v34 v38 v42 v44 v46 v48 v50 v51 v52 v56 v60 v61 v62 c8_i32 v63 v68 v86 k0_hw1 v88 X_arg5 X_arg6 k acc f12 f13 =
    ((push arg12 f12 (Rect.unit (s := S512x4352) (k0_off9 i v86 k) S128x256.size (k0_off9_inb i v86 k0_hw1 k)) ((head3 i arg5 arg6 arg2 v6 v10 v26 v42 v50 v51 v52 v56 v60 v86 k0_hw1 v88 X_arg5 X_arg6 k acc).dk') (push arg12 f12 (Rect.unit (s := S512x4352) (k0_off7 i v86 k) S128x256.size (k0_off7_inb i v86 k0_hw1 k)) ((head2 i arg5 arg6 arg2 v5 v9 v22 v38 v48 v51 v52 v56 v60 v86 k0_hw1 v88 X_arg5 X_arg6 k acc).dk') (push arg12 f12 (Rect.unit (s := S512x4352) (k0_off5 i v86 k) S128x256.size (k0_off5_inb i v86 k0_hw1 k)) ((head1 i arg5 arg6 arg2 v4 v8 v18 v34 v46 v51 v52 v56 v60 v86 k0_hw1 v88 X_arg5 X_arg6 k acc).dk') (push arg12 f12 (Rect.unit (s := S512x4352) (k0_off3 i v86 k) S128x256.size (k0_off3_inb i v86 k0_hw1 k)) ((head0 i arg5 arg6 arg2 v3 v7 v14 v30 v44 v51 v52 v56 v60 v86 k0_hw1 v88 X_arg5 X_arg6 k acc).dk') [])))),
     (push arg13 f13 (Rect.unit (s := S512x4352) (k0_off9 i v86 k) S128x256.size (k0_off9_inb i v86 k0_hw1 k)) ((head3 i arg5 arg6 arg2 v6 v10 v26 v42 v50 v51 v52 v56 v60 v86 k0_hw1 v88 X_arg5 X_arg6 k acc).dv') (push arg13 f13 (Rect.unit (s := S512x4352) (k0_off7 i v86 k) S128x256.size (k0_off7_inb i v86 k0_hw1 k)) ((head2 i arg5 arg6 arg2 v5 v9 v22 v38 v48 v51 v52 v56 v60 v86 k0_hw1 v88 X_arg5 X_arg6 k acc).dv') (push arg13 f13 (Rect.unit (s := S512x4352) (k0_off5 i v86 k) S128x256.size (k0_off5_inb i v86 k0_hw1 k)) ((head1 i arg5 arg6 arg2 v4 v8 v18 v34 v46 v51 v52 v56 v60 v86 k0_hw1 v88 X_arg5 X_arg6 k acc).dv') (push arg13 f13 (Rect.unit (s := S512x4352) (k0_off3 i v86 k) S128x256.size (k0_off3_inb i v86 k0_hw1 k)) ((head0 i arg5 arg6 arg2 v3 v7 v14 v30 v44 v51 v52 v56 v60 v86 k0_hw1 v88 X_arg5 X_arg6 k acc).dv') []))))) := by
  unfold tripL_k0_t1 trip_k0_t1
  rfl

end Trip

end Cert.KernelIdeal.Sb
-- ==== Proof.Stick.Real.lean ====
/- The mathematics of the stick-breaking attention's gradient for one head, over the real numbers: a sequence of 4352
   rows of which the first 240 are padding, query t attending to the keys s with 240 ≤ s < t. Kernel and reference are
   both shown equal to the functions `dq`, `dk` and `dv` below. -/
module

public import Idealize.ShloMosaic.Lib.ValueIdx
public import Idealize.ShloMosaic.Lib.MatmulPlain

@[expose] public section

noncomputable section

namespace Cert.Stick

open Idealize.ShloMosaic
open scoped BigOperators
open Finset

/-- The scale of the logits: the real number that the literal nearest 1/√128 denotes. -/
def sc : ℝ := (Ideal.ofBits .f32 0x3DB504F3#32).toReal

/-- The literal is that real number. -/
theorem ofBits_sc : Ideal.ofBits .f32 0x3DB504F3#32 = (sc : EReal) := by
  unfold sc
  simp [Ideal.ofBits, Ideal.ieee, -EReal.coe_mul]

/-- One head's queries, keys, values and the gradient of its output, by row and lane. -/
structure Rows where
  /-- queries -/
  q : ℕ → ℕ → ℝ
  /-- keys -/
  k : ℕ → ℕ → ℝ
  /-- values -/
  v : ℕ → ℕ → ℝ
  /-- the gradient of the output -/
  d : ℕ → ℕ → ℝ

/-- Query `t` attends to key `s`. -/
def ok (t s : ℕ) : Prop := s < t ∧ 240 ≤ s

instance (t s : ℕ) : Decidable (ok t s) := inferInstanceAs (Decidable (_ ∧ _))

/-- The softplus. -/
def soft (x : ℝ) : ℝ := Real.log (1 + Real.exp x)

namespace Rows

variable (S : Rows)

/-- The logit of query `t` and key `s`. -/
def logit (t s : ℕ) : ℝ := (∑ e ∈ range 128, S.q t e * S.k s e) * sc
/-- The logarithm of the share that `s` leaves of the stick. -/
def keep (t s : ℕ) : ℝ := if ok t s then -soft (S.logit t s) else 0
/-- The sum of `keep` over the first `n` keys. -/
def pre (t n : ℕ) : ℝ := ∑ s ∈ range n, S.keep t s
/-- The share that `s` breaks off. -/
def beta (t s : ℕ) : ℝ := if ok t s then Real.exp (S.logit t s - soft (S.logit t s)) else 0
/-- The attention weight: the share broken off, of what the later keys leave. -/
def wt (t s : ℕ) : ℝ :=
  if ok t s then Real.exp (S.logit t s - soft (S.logit t s) + (S.pre t 4352 - S.pre t (s + 1))) else 0
/-- The gradient of the weight. -/
def dwt (t s : ℕ) : ℝ := ∑ e ∈ range 128, S.d t e * S.v s e
/-- The weight times its gradient. -/
def gg (t s : ℕ) : ℝ := S.wt t s * S.dwt t s
/-- The sum of `gg` over the first `n` keys. -/
def gpre (t n : ℕ) : ℝ := ∑ s ∈ range n, S.gg t s
/-- The gradient of the logit, before the scale. -/
def dlogit (t s : ℕ) : ℝ := S.gg t s * (1 - S.beta t s) - S.beta t s * S.gpre t s
/-- The gradient of the queries. -/
def dq (t e : ℕ) : ℝ := sc * ∑ s ∈ range 4352, S.dlogit t s * S.k s e
/-- The gradient of the keys. -/
def dk (s e : ℕ) : ℝ := sc * ∑ t ∈ range 4352, S.q t e * S.dlogit t s
/-- The gradient of the values. -/
def dv (s e : ℕ) : ℝ := ∑ t ∈ range 4352, S.d t e * S.wt t s

theorem wt_zero {t s : ℕ} (h : ¬ ok t s) : S.wt t s = 0 := if_neg h
theorem dlogit_zero {t s : ℕ} (h : ¬ ok t s) : S.dlogit t s = 0 := by
  unfold dlogit gg beta
  rw [S.wt_zero h, if_neg h]; ring

end Rows

/-- A finite sum of real numbers as extended reals. -/
theorem coe_sum {ι : Type} (A : Finset ι) (f : ι → ℝ) : ((∑ m ∈ A, f m : ℝ) : EReal) = ∑ m ∈ A, ((f m : ℝ) : EReal) := by
  classical
  induction A using Finset.induction_on with
  | empty => simp
  | insert a A ha ih => rw [Finset.sum_insert ha, Finset.sum_insert ha, EReal.coe_add, ih]

/-- A product of real numbers summed over a finite range, from its factors as extended reals. -/
theorem sum_coe {K : ℕ} (a b : ℕ → ℝ) (x y : Fin K → EReal) (hx : ∀ m, x m = ((a m.val : ℝ) : EReal))
    (hy : ∀ m, y m = ((b m.val : ℝ) : EReal)) : ∑ m, x m * y m = ((∑ m ∈ range K, a m * b m : ℝ) : EReal) := by
  rw [← Fin.sum_univ_eq_sum_range (fun m => a m * b m) K, coe_sum]
  refine Finset.sum_congr rfl fun m _ => ?_
  rw [hx, hy, EReal.coe_mul]

/-- A sum against ones up to `c`. -/
theorem sum_upto (f : ℕ → ℝ) {n c : ℕ} (h : c < n) :
    ∑ m ∈ range n, f m * (if m ≤ c then 1 else 0) = ∑ m ∈ range (c + 1), f m := by
  simp only [mul_ite, mul_one, mul_zero]
  rw [← Finset.sum_filter]
  refine Finset.sum_congr (Finset.ext fun m => ?_) fun _ _ => rfl
  simp only [Finset.mem_filter, Finset.mem_range]; omega

/-- A sum against ones before `c`. -/
theorem sum_before (f : ℕ → ℝ) {n c : ℕ} (h : c < n) :
    ∑ m ∈ range n, f m * (if m < c then 1 else 0) = ∑ m ∈ range c, f m := by
  simp only [mul_ite, mul_one, mul_zero]
  rw [← Finset.sum_filter]
  refine Finset.sum_congr (Finset.ext fun m => ?_) fun _ _ => rfl
  simp only [Finset.mem_filter, Finset.mem_range]; omega

/-- A sum over one more tile. -/
theorem sum_tile (f : ℕ → ℝ) (j c : ℕ) :
    ∑ s ∈ range (256 * j), f s + ∑ m ∈ range c, f (256 * j + m) = ∑ s ∈ range (256 * j + c), f s :=
  (Finset.sum_range_add f (256 * j) c).symm

end Cert.Stick

end
-- ==== Proof.KernelIdeal.HeadVal.lean ====
/- What one head does in one trip, over the extended reals: from blocks that hold the head's rows and sums over the
   earlier key tiles, the sums over one tile more. -/
module

public import proofs.«01_k».proof.Proof.KernelIdeal.Head
public import proofs.«01_k».proof.Proof.Stick.Real
public import Idealize.ShloMosaic.Lib.Pipeline.Value

@[expose] public section

set_option maxRecDepth 16384

noncomputable section

namespace Cert.KernelIdeal.Sb

open Cert.KernelIdeal.Gen Cert.Stick
open Idealize.ShloMosaic Idealize.ShloMosaic.ValueIdx Idealize.ShloMosaic.TcCoe
open scoped BigOperators
open Finset

/-- The blocks of a head in key tile `j`, for query tile `i` of the rows `S`. -/
structure HeadOk (S : Rows) (i j : ℕ) (H : HeadIn Ideal) : Prop where
  valid : ∀ r c : Fin 256, H.valid (ix2 r c) = if ok (256 * i + r) (256 * j + c) then 1#1 else 0#1
  q : ∀ (r : Fin 256) (e : Fin 128), H.q (ix2 r e) = ((S.q (256 * i + r) e : ℝ) : EReal)
  d : ∀ (r : Fin 256) (e : Fin 128), H.d (ix2 r e) = ((S.d (256 * i + r) e : ℝ) : EReal)
  qt : ∀ (e : Fin 128) (r : Fin 256), H.qt (ix2 e r) = ((S.q (256 * i + r) e : ℝ) : EReal)
  dt : ∀ (e : Fin 128) (r : Fin 256), H.dt (ix2 e r) = ((S.d (256 * i + r) e : ℝ) : EReal)
  tot : ∀ r : Fin 256, H.tot (ix2 r (0 : Fin 1)) = ((S.pre (256 * i + r) 4352 : ℝ) : EReal)
  upto : ∀ r c : Fin 256, H.upto (ix2 r c) = (((if r.val ≤ c.val then 1 else 0) : ℝ) : EReal)
  before : ∀ r c : Fin 256, H.before (ix2 r c) = (((if r.val < c.val then 1 else 0) : ℝ) : EReal)
  kb : ∀ (c : Fin 256) (e : Fin 128), H.kb (ix2 c e) = ((S.k (256 * j + c) e : ℝ) : EReal)
  vb : ∀ (c : Fin 256) (e : Fin 128), H.vb (ix2 c e) = ((S.v (256 * j + c) e : ℝ) : EReal)
  dq : ∀ (r : Fin 256) (e : Fin 128),
    H.dq (ix2 r e) = ((∑ s ∈ range (256 * j), S.dlogit (256 * i + r) s * S.k s e : ℝ) : EReal)
  kp : ∀ r : Fin 256, H.kp (ix2 r (0 : Fin 1)) = ((S.pre (256 * i + r) (256 * j) : ℝ) : EReal)
  gp : ∀ r : Fin 256, H.gp (ix2 r (0 : Fin 1)) = ((S.gpre (256 * i + r) (256 * j) : ℝ) : EReal)
  small : ∀ r c : Fin 256, ok (256 * i + r) (256 * j + c) → S.logit (256 * i + r) (256 * j + c) ≤ 20

theorem ofBits_twenty : Ideal.ofBits .f32 0x41A00000#32 = ((20 : ℝ) : EReal) := by
  simp [Ideal.ofBits, Ideal.ieee, -EReal.coe_mul]
  norm_num

theorem ofBits_one : Ideal.ofBits .f32 0x3F800000#32 = ((1 : ℝ) : EReal) := by
  simp [Ideal.ofBits, Ideal.ieee, -EReal.coe_mul]
  norm_num

/-- The kernel's softplus at a number up to 20. -/
theorem softV_coe (z : FVec Ideal S256x256 .f32) (r c : Fin 256) (x : ℝ) (h : z (ix2 r c) = (x : EReal)) (hx : x ≤ 20) :
    softV z (ix2 r c) = ((soft x : ℝ) : EReal) := by
  show Scalar.select (Ideal.cmp .ogt (z (ix2 r c)) (Ideal.ofBits .f32 0x41A00000#32)) (z (ix2 r c))
    (Ideal.log (Ideal.ofBits .f32 0x3F800000#32 + Ideal.exp (min (z (ix2 r c)) (Ideal.ofBits .f32 0x41A00000#32)))) = _
  rw [h, ofBits_twenty, ofBits_one]
  have e1 : Ideal.cmp .ogt (x : EReal) ((20 : ℝ) : EReal) = 0#1 := by
    show BitVec.ofBool (decide (((20 : ℝ) : EReal) < (x : EReal))) = _
    rw [decide_eq_false]; · rfl
    rw [EReal.coe_lt_coe_iff]; linarith
  have e2 : min (x : EReal) ((20 : ℝ) : EReal) = (x : EReal) := min_eq_left (EReal.coe_le_coe_iff.mpr hx)
  rw [e1, e2, Ideal.exp_coe, ← EReal.coe_add, Ideal.log_coe, if_neg (by have := Real.exp_pos x; linarith)]
  rfl

/-- The kernel's softplus at −∞. -/
theorem softV_bot (z : FVec Ideal S256x256 .f32) (r c : Fin 256) (h : z (ix2 r c) = ⊥) : softV z (ix2 r c) = ((0 : ℝ) : EReal) := by
  show Scalar.select (Ideal.cmp .ogt (z (ix2 r c)) (Ideal.ofBits .f32 0x41A00000#32)) (z (ix2 r c))
    (Ideal.log (Ideal.ofBits .f32 0x3F800000#32 + Ideal.exp (min (z (ix2 r c)) (Ideal.ofBits .f32 0x41A00000#32)))) = _
  rw [h, ofBits_twenty, ofBits_one]
  have e1 : Ideal.cmp .ogt (⊥ : EReal) ((20 : ℝ) : EReal) = 0#1 := by
    show BitVec.ofBool (decide (((20 : ℝ) : EReal) < (⊥ : EReal))) = _
    rw [decide_eq_false]; · rfl
    exact not_lt_bot
  rw [e1, min_eq_left bot_le, Ideal.exp_bot, add_zero, Ideal.log_coe, if_neg (by norm_num), Real.log_one]
  rfl

namespace HeadOk

variable {S : Rows} {i j : ℕ} {H : HeadIn Ideal} (h : HeadOk S i j H)

include h

theorem z_ok (r c : Fin 256) (ho : ok (256 * i + r) (256 * j + c)) :
    H.z (ix2 r c) = ((S.logit (256 * i + r) (256 * j + c) : ℝ) : EReal) := by
  show Scalar.select (H.valid (ix2 r c)) (FloatOps.matmul (DotDims.transposedRhs 256 128 256) none H.q H.kb
    (constant S256x256 .f32 0x00000000#32) (ix2 r c) * Ideal.ofBits .f32 0x3DB504F3#32) _ = _
  rw [h.valid, if_pos ho, select_one, Ideal.matmul_transposedRhs_apply, constant_apply, Ideal.ofBits_zero_f32, zero_add,
    sum_coe (fun e => S.q (256 * i + r) e) (fun e => S.k (256 * j + c) e) _ _ (h.q r) (h.kb c), ofBits_sc, ← EReal.coe_mul]
  rfl

theorem z_not (r c : Fin 256) (ho : ¬ ok (256 * i + r) (256 * j + c)) : H.z (ix2 r c) = ⊥ := by
  show Scalar.select (H.valid (ix2 r c)) _ (Named.named κ "mask" 0xF149F2CA#32 : Ideal .f32) = _
  rw [h.valid, if_neg ho, select_zero]
  exact IdealRules.named_const.ideal_named_scalar _ _ _ _ rfl

theorem soft_ok (r c : Fin 256) (ho : ok (256 * i + r) (256 * j + c)) :
    softV H.z (ix2 r c) = ((soft (S.logit (256 * i + r) (256 * j + c)) : ℝ) : EReal) :=
  softV_coe _ r c _ (h.z_ok r c ho) (h.small r c ho)

theorem soft_not (r c : Fin 256) (ho : ¬ ok (256 * i + r) (256 * j + c)) : softV H.z (ix2 r c) = ((0 : ℝ) : EReal) :=
  softV_bot _ r c (h.z_not r c ho)

theorem keep_eq (r c : Fin 256) : Ideal.ofBits .f32 0x00000000#32 - softV H.z (ix2 r c)
    = ((S.keep (256 * i + r) (256 * j + c) : ℝ) : EReal) := by
  rw [Ideal.ofBits_zero_f32]
  unfold Rows.keep
  by_cases ho : ok (256 * i + r) (256 * j + c)
  · rw [if_pos ho, h.soft_ok r c ho, zero_sub, EReal.coe_neg]
  · rw [if_neg ho, h.soft_not r c ho, zero_sub, ← EReal.coe_neg, neg_zero]

theorem lb_ok (r c : Fin 256) (ho : ok (256 * i + r) (256 * j + c)) : lbV H.z (ix2 r c)
    = ((S.logit (256 * i + r) (256 * j + c) - soft (S.logit (256 * i + r) (256 * j + c)) : ℝ) : EReal) := by
  show H.z (ix2 r c) - softV H.z (ix2 r c) = _
  rw [h.z_ok r c ho, h.soft_ok r c ho, EReal.coe_sub]

theorem lb_not (r c : Fin 256) (ho : ¬ ok (256 * i + r) (256 * j + c)) : lbV H.z (ix2 r c) = ⊥ := by
  show H.z (ix2 r c) - softV H.z (ix2 r c) = _
  rw [h.z_not r c ho, h.soft_not r c ho]
  rfl

theorem beta_eq (r c : Fin 256) : Ideal.exp (lbV H.z (ix2 r c)) = ((S.beta (256 * i + r) (256 * j + c) : ℝ) : EReal) := by
  unfold Rows.beta
  by_cases ho : ok (256 * i + r) (256 * j + c)
  · rw [if_pos ho, h.lb_ok r c ho, Ideal.exp_coe]
  · rw [if_neg ho, h.lb_not r c ho, Ideal.exp_bot, EReal.coe_zero]

theorem ku_eq (r c : Fin 256) :
    H.ku (ix2 r c) = ((∑ m ∈ range (c.val + 1), S.keep (256 * i + r) (256 * j + m) : ℝ) : EReal) := by
  show FloatOps.matmul (DotDims.plain 256 256 256) none
    (truncf .bf16 (subf (broadcast S256x256 (Scalar.ofBits .f32 0x00000000#32 : Ideal .f32)) (softV H.z)) bitsLt_bf16_f32) H.upto
    (constant S256x256 .f32 0x00000000#32) (ix2 r c) = _
  rw [Ideal.matmul_plain_apply, constant_apply, Ideal.ofBits_zero_f32, zero_add]
  refine (sum_coe (fun m => S.keep (256 * i + r) (256 * j + m)) (fun m => if m ≤ c.val then 1 else 0) _ _
      (fun m => h.keep_eq r m) (fun m => h.upto m c)).trans ?_
  rw [sum_upto _ c.isLt]

/-- What broadcasting a column reads. -/
theorem a_eq (r c : Fin 256) : H.a (ix2 r c) = ((S.wt (256 * i + r) (256 * j + c) : ℝ) : EReal) := by
  have e0 : broadcastTo S256x256 (subf H.tot H.kp) broadcasts_S256x1_S256x256 (ix2 r c)
      = H.tot (ix2 r (0 : Fin 1)) - H.kp (ix2 r (0 : Fin 1)) := by
    show subf H.tot H.kp _ = subf H.tot H.kp (ix2 r (0 : Fin 1))
    congr 1
    funext b; match b with | ⟨0, _⟩ => rfl | ⟨1, _⟩ => rfl
  show Ideal.exp (lbV H.z (ix2 r c) + (broadcastTo S256x256 (subf H.tot H.kp) broadcasts_S256x1_S256x256 (ix2 r c) - H.ku (ix2 r c))) = _
  rw [e0, h.tot, h.kp, h.ku_eq, ← EReal.coe_sub, ← EReal.coe_sub]
  unfold Rows.wt
  by_cases ho : ok (256 * i + r) (256 * j + c)
  · rw [if_pos ho, h.lb_ok r c ho, ← EReal.coe_add, Ideal.exp_coe]
    have : S.pre (256 * i + r) (256 * j + c + 1) = S.pre (256 * i + r) (256 * j) + ∑ m ∈ range (c.val + 1), S.keep (256 * i + r) (256 * j + m) :=
      (sum_tile _ j (c.val + 1)).symm
    rw [this]; congr 2; ring
  · rw [if_neg ho, h.lb_not r c ho, EReal.bot_add, Ideal.exp_bot, EReal.coe_zero]

theorem g_eq (r c : Fin 256) : H.g (ix2 r c) = ((S.gg (256 * i + r) (256 * j + c) : ℝ) : EReal) := by
  show H.a (ix2 r c) * FloatOps.matmul (DotDims.transposedRhs 256 128 256) none H.d H.vb
    (constant S256x256 .f32 0x00000000#32) (ix2 r c) = _
  rw [Ideal.matmul_transposedRhs_apply, constant_apply, Ideal.ofBits_zero_f32, zero_add, h.a_eq,
    sum_coe (fun e => S.d (256 * i + r) e) (fun e => S.v (256 * j + c) e) _ _ (h.d r) (h.vb c), ← EReal.coe_mul]
  rfl

theorem gi_eq (r c : Fin 256) :
    H.gi (ix2 r c) = ((∑ m ∈ range c.val, S.gg (256 * i + r) (256 * j + m) : ℝ) : EReal) := by
  show FloatOps.matmul (DotDims.plain 256 256 256) none (truncf .bf16 H.g bitsLt_bf16_f32) H.before
    (constant S256x256 .f32 0x00000000#32) (ix2 r c) = _
  rw [Ideal.matmul_plain_apply, constant_apply, Ideal.ofBits_zero_f32, zero_add]
  refine (sum_coe (fun m => S.gg (256 * i + r) (256 * j + m)) (fun m => if m < c.val then 1 else 0) _ _
      (fun m => h.g_eq r m) (fun m => h.before m c)).trans ?_
  rw [sum_before _ c.isLt]

theorem dz_eq (r c : Fin 256) : H.dz (ix2 r c) = ((S.dlogit (256 * i + r) (256 * j + c) : ℝ) : EReal) := by
  have e0 : broadcastTo S256x256 H.gp broadcasts_S256x1_S256x256 (ix2 r c) = H.gp (ix2 r (0 : Fin 1)) := by
    show H.gp _ = H.gp (ix2 r (0 : Fin 1))
    congr 1
    funext b; match b with | ⟨0, _⟩ => rfl | ⟨1, _⟩ => rfl
  show H.g (ix2 r c) * (Ideal.ofBits .f32 0x3F800000#32 - Ideal.exp (lbV H.z (ix2 r c)))
    - Ideal.exp (lbV H.z (ix2 r c)) * (broadcastTo S256x256 H.gp broadcasts_S256x1_S256x256 (ix2 r c) + H.gi (ix2 r c)) = _
  rw [e0, h.g_eq, h.beta_eq, h.gp, h.gi_eq, ofBits_one, ← EReal.coe_sub, ← EReal.coe_add, ← EReal.coe_mul, ← EReal.coe_mul,
    ← EReal.coe_sub]
  have : S.gpre (256 * i + r) (256 * j + c) = S.gpre (256 * i + r) (256 * j) + ∑ m ∈ range c.val, S.gg (256 * i + r) (256 * j + m) :=
    (sum_tile _ j c.val).symm
  unfold Rows.dlogit
  rw [this]

theorem dq_eq (r : Fin 256) (e : Fin 128) :
    H.dq' (ix2 r e) = ((∑ s ∈ range (256 * (j + 1)), S.dlogit (256 * i + r) s * S.k s e : ℝ) : EReal) := by
  show H.dq (ix2 r e) + FloatOps.matmul (DotDims.plain 256 256 128) none H.dz H.kb
    (constant S256x128 .f32 0x00000000#32) (ix2 r e) = _
  rw [Ideal.matmul_plain_apply, constant_apply, Ideal.ofBits_zero_f32, zero_add, h.dq,
    sum_coe (fun m => S.dlogit (256 * i + r) (256 * j + m)) (fun m => S.k (256 * j + m) e) _ _
      (fun m => h.dz_eq r m) (fun m => h.kb m e), ← EReal.coe_add, mul_add, mul_one]
  rw [sum_tile (fun s => S.dlogit (256 * i + r) s * S.k s e) j 256]

theorem kp_eq (r : Fin 256) : H.kp' (ix2 r (0 : Fin 1)) = ((S.pre (256 * i + r) (256 * (j + 1)) : ℝ) : EReal) := by
  have e0 : extractStridedSlice S256x1 ![0, 255] H.ku slices_S256x256_o0_255_S256x1 (ix2 r (0 : Fin 1)) = H.ku (ix2 r (255 : Fin 256)) := by
    show H.ku _ = H.ku _
    congr 1
    funext b; match b with | ⟨0, _⟩ => exact Fin.ext (Nat.zero_add _) | ⟨1, _⟩ => rfl
  show H.kp (ix2 r (0 : Fin 1)) + extractStridedSlice S256x1 ![0, 255] H.ku slices_S256x256_o0_255_S256x1 (ix2 r (0 : Fin 1)) = _
  rw [e0, h.kp, h.ku_eq, ← EReal.coe_add, mul_add, mul_one]
  exact congrArg _ (sum_tile (fun s => S.keep (256 * i + r) s) j 256)

theorem gp_eq (r : Fin 256) : H.gp' (ix2 r (0 : Fin 1)) = ((S.gpre (256 * i + r) (256 * (j + 1)) : ℝ) : EReal) := by
  have e0 (x : FVec Ideal S256x256 .f32) :
      extractStridedSlice S256x1 ![0, 255] x slices_S256x256_o0_255_S256x1 (ix2 r (0 : Fin 1)) = x (ix2 r (255 : Fin 256)) := by
    show x _ = x _
    congr 1
    funext b; match b with | ⟨0, _⟩ => exact Fin.ext (Nat.zero_add _) | ⟨1, _⟩ => rfl
  show H.gp (ix2 r (0 : Fin 1)) + (extractStridedSlice S256x1 ![0, 255] H.gi slices_S256x256_o0_255_S256x1 (ix2 r (0 : Fin 1))
    + extractStridedSlice S256x1 ![0, 255] H.g slices_S256x256_o0_255_S256x1 (ix2 r (0 : Fin 1))) = _
  rw [e0, e0, h.gp, h.gi_eq, h.g_eq, ← EReal.coe_add, ← EReal.coe_add, mul_add, mul_one]
  refine congrArg _ ?_
  show S.gpre (256 * i + r) (256 * j) + (∑ m ∈ range 255, S.gg (256 * i + r) (256 * j + m) + S.gg (256 * i + r) (256 * j + 255)) = _
  rw [← Finset.sum_range_succ (fun m => S.gg (256 * i + r) (256 * j + m)) 255]
  exact sum_tile (fun s => S.gg (256 * i + r) s) j 256

theorem dk_eq (old : FVec Ideal S128x256 .f32) (e : Fin 128) (c : Fin 256) : H.dk' old (ix2 e c) = old (ix2 e c)
    + ((sc * ∑ r ∈ range 256, S.q (256 * i + r) e * S.dlogit (256 * i + r) (256 * j + c) : ℝ) : EReal) := by
  unfold HeadIn.dk' dkV
  rw [shapeCast_self]
  show old (ix2 e c) + Ideal.ofBits .f32 0x3DB504F3#32 * FloatOps.matmul (DotDims.plain 128 256 256) none H.qt H.dz
    (constant S128x256 .f32 0x00000000#32) (ix2 e c) = _
  rw [Ideal.matmul_plain_apply, constant_apply, Ideal.ofBits_zero_f32, zero_add, ofBits_sc,
    sum_coe (fun r => S.q (256 * i + r) e) (fun r => S.dlogit (256 * i + r) (256 * j + c)) _ _
      (fun m => h.qt e m) (fun m => h.dz_eq m c), ← EReal.coe_mul]

theorem dv_eq (old : FVec Ideal S128x256 .f32) (e : Fin 128) (c : Fin 256) : H.dv' old (ix2 e c) = old (ix2 e c)
    + ((∑ r ∈ range 256, S.d (256 * i + r) e * S.wt (256 * i + r) (256 * j + c) : ℝ) : EReal) := by
  unfold HeadIn.dv' dvV
  rw [shapeCast_self]
  show old (ix2 e c) + FloatOps.matmul (DotDims.plain 128 256 256) none H.dt (truncf .bf16 H.a bitsLt_bf16_f32)
    (constant S128x256 .f32 0x00000000#32) (ix2 e c) = _
  rw [Ideal.matmul_plain_apply, constant_apply, Ideal.ofBits_zero_f32, zero_add]
  exact congrArg _ (sum_coe (fun r => S.d (256 * i + r) e) (fun r => S.wt (256 * i + r) (256 * j + c)) _ _
      (fun m => h.dt e m) (fun m => h.a_eq m c))

end HeadOk

end Cert.KernelIdeal.Sb

end
-- ==== Proof.KernelIdeal.TripVal.lean ====
/- The key loop over the extended reals: what a trip carries on, and what it adds to the accumulators. -/
module

public import proofs.«01_k».proof.Proof.KernelIdeal.HeadVal
public import Idealize.ShloMosaic.Lib.WordCmp
public import Idealize.ShloMosaic.Lib.WritesUnit

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI Idealize.SL.Sem
open Cert.Stick Idealize.ShloMosaic.ValueIdx
open scoped BigOperators
open Finset

/-- Row `128 h + e` of an accumulator, or of the lanes of a block: lane `e` of the group's head `h`. -/
abbrev lane (h : Fin 4) (e : Fin 128) : Fin 512 := ⟨128 * h.val + e.val, by have := h.isLt; have := e.isLt; omega⟩

/-- The query tiles of a head: queries and output gradients, plain and transposed, and the row totals. -/
structure Loaded (S : Rows) (n : ℕ) (q d : FVec Ideal S256x128 .bf16) (qt dt : FVec Ideal S128x256 .bf16) (tot : FVec Ideal S256x1 .f32) : Prop where
  q : ∀ (r : Fin 256) (e : Fin 128), q (ix2 r e) = ((S.q (256 * n + r) e : ℝ) : EReal)
  d : ∀ (r : Fin 256) (e : Fin 128), d (ix2 r e) = ((S.d (256 * n + r) e : ℝ) : EReal)
  qt : ∀ (e : Fin 128) (r : Fin 256), qt (ix2 e r) = ((S.q (256 * n + r) e : ℝ) : EReal)
  dt : ∀ (e : Fin 128) (r : Fin 256), dt (ix2 e r) = ((S.d (256 * n + r) e : ℝ) : EReal)
  tot : ∀ r : Fin 256, tot (ix2 r (0 : Fin 1)) = ((S.pre (256 * n + r) 4352 : ℝ) : EReal)

/-- The sums of a head over the key tiles before tile `k`. -/
structure Carried (S : Rows) (n k : ℕ) (dq : FVec Ideal S256x128 .f32) (kp gp : FVec Ideal S256x1 .f32) : Prop where
  dq : ∀ (r : Fin 256) (e : Fin 128), dq (ix2 r e) = ((∑ s ∈ range (256 * k), S.dlogit (256 * n + r) s * S.k s e : ℝ) : EReal)
  kp : ∀ r : Fin 256, kp (ix2 r (0 : Fin 1)) = ((S.pre (256 * n + r) (256 * k) : ℝ) : EReal)
  gp : ∀ r : Fin 256, gp (ix2 r (0 : Fin 1)) = ((S.gpre (256 * n + r) (256 * k) : ℝ) : EReal)

/-- A query tile's share of the gradient of the keys. -/
def dkPart (S : Rows) (n s e : ℕ) : ℝ := sc * ∑ r ∈ range 256, S.q (256 * n + r) e * S.dlogit (256 * n + r) s
/-- A query tile's share of the gradient of the values. -/
def dvPart (S : Rows) (n s e : ℕ) : ℝ := ∑ r ∈ range 256, S.d (256 * n + r) e * S.wt (256 * n + r) s

/-- One head's step, from its sums so far. -/
theorem Carried.step {S : Rows} {n k : ℕ} {H : HeadIn Ideal} (h : HeadOk S n k H) : Carried S n (k + 1) H.dq' H.kp' H.gp' :=
  ⟨h.dq_eq, h.kp_eq, h.gp_eq⟩

/-- The difference of two small words, signed. -/
theorem toInt_sub_small {a b : ℕ} (ha : a < 2 ^ 20) (hb : b < 2 ^ 20) :
    (BitVec.ofNat 32 a - BitVec.ofNat 32 b).toInt = (a : ℤ) - b := by
  rw [BitVec.toInt_sub, WordCmp.toInt_ofNat_of_lt (by omega), WordCmp.toInt_ofNat_of_lt (by omega)]
  norm_num [Int.bmod]
  split <;> omega

/-- Which keys of tile `k` the queries of tile `n` see. -/
theorem valid_eq (i : grid0.Coords) (arg2 : BitVec 32) (v51 v52 : IVec S256x256 32) (v86 v88 : BitVec 32) (k : Fin (k0_t1_loop i v86).trips) (n : ℕ)
    (hn : n < 17) (h2 : arg2 = BitVec.ofNat 32 n) (h51 : ∀ r c : Fin 256, v51 (ix2 r c) = BitVec.ofNat 32 r) (h52 : ∀ r c : Fin 256, v52 (ix2 r c) = BitVec.ofNat 32 c)
    (h88 : v88 = 0#32) (hk : k.val < 17) (r c : Fin 256) :
    k0_pay6 i arg2 v51 v52 v86 v88 1#32 k (ix2 r c) = if ok (256 * n + r) (256 * k.val + c) then 1#1 else 0#1 := by
  have hr := r.isLt
  have hc := c.isLt
  have hiv : Scf.iv v88 1#32 k.val = BitVec.ofNat 32 k.val := by
    rw [h88]; show 0#32 + BitVec.ofNat 32 k.val * 1#32 = _; rw [BitVec.mul_one, BitVec.zero_add]
  show IntOp.andi (IntOp.cmpi .slt (v52 (ix2 r c) - v51 (ix2 r c)) ((arg2 - Scf.iv v88 1#32 k.val) * 256#32))
    (IntOp.cmpi .sge (v52 (ix2 r c)) (240#32 - Scf.iv v88 1#32 k.val * 256#32)) = _
  rw [hiv, h51, h52, h2, BitVec.mul_comm (_ - _), BitVec.mul_sub, BitVec.mul_comm 256#32, BitVec.mul_comm 256#32 (BitVec.ofNat 32 k.val), WordCmp.cmpi_slt_eq, WordCmp.cmpi_sge_eq,
    show BitVec.ofNat 32 n * 256#32 = BitVec.ofNat 32 (n * 256) from (BitVec.ofNat_mul _ _).symm,
    show BitVec.ofNat 32 k.val * 256#32 = BitVec.ofNat 32 (k.val * 256) from (BitVec.ofNat_mul _ _).symm,
    toInt_sub_small (by omega) (by omega), toInt_sub_small (by omega) (by omega),
    show (240#32 : BitVec 32) = BitVec.ofNat 32 240 from rfl, toInt_sub_small (by omega) (by omega),
    WordCmp.toInt_ofNat_of_lt (by omega), WordCmp.andi_ofBool]
  by_cases ho : ok (256 * n + r) (256 * k.val + c)
  · rw [if_pos ho]
    unfold ok at ho
    rw [decide_eq_true (by push_cast; omega), decide_eq_true (by push_cast; omega)]; rfl
  · rw [if_neg ho]
    unfold ok at ho
    by_cases h1 : ((c.val : ℤ) - r.val < ((n * 256 : ℕ) : ℤ) - ((k.val * 256 : ℕ) : ℤ))
    · rw [decide_eq_true h1, decide_eq_false (by push_cast at h1 ⊢; omega)]; rfl
    · rw [decide_eq_false h1]; rfl

/-- A block of 256 rows and 128 lanes, read through its sequence. -/
theorem readAt_block (arg : Memref sig .tc .vmem S4352x512 .bf16) (X : BufTy.Contents (Elt Ideal) arg.view.ty) {off : Fin 2 → ℕ}
    (inb : ∀ a, off a + S256x128.size a ≤ S4352x512.size a) (k : ℕ) (h : Fin 4) (hoff : off = ![256 * k, 128 * h.val]) (hk : k < 17)
    (c : Fin 256) (e : Fin 128) :
    arg.view.readAt (Elt Ideal) (Rect.unit (s := S4352x512) off S256x128.size inb).toLoadRect X (ix2 c e)
      = arg.view.read (Elt Ideal) X (ix2 ⟨256 * k + c.val, by have := c.isLt; omega⟩ (lane h e)) := by
  subst hoff
  rw [View.readAt_apply]
  congr 1
  funext a; apply Fin.ext
  match a with
  | ⟨0, _⟩ => show 256 * k + 1 * c.val = 256 * k + c.val; omega
  | ⟨1, _⟩ => show 128 * h.val + 1 * e.val = 128 * h.val + e.val; omega

/-- What one more piece leaves: its head's rows and its tile's columns have its increment added. -/
theorem push_read (arg : Memref sig .tc .vmem S512x4352 .f32) (f : BufTy.Contents (Elt Ideal) arg.view.ty) {off : Fin 2 → ℕ}
    (inb : ∀ a, off a + S128x256.size a ≤ S512x4352.size a) (upd : FVec Ideal S128x256 .f32 → FVec Ideal S128x256 .f32)
    (L : List (View.Piece (Elt Ideal) S512x4352 .f32)) (k : ℕ) (hh : Fin 4) (hoff : off = ![128 * hh.val, 256 * k]) (inc : ℕ → ℕ → ℝ)
    (hupd : ∀ old (e : Fin 128) (c : Fin 256), upd old (ix2 e c) = old (ix2 e c) + ((inc (256 * k + c) e : ℝ) : EReal))
    (h : Fin 4) (e : Fin 128) (s : Fin 4352) :
    arg.view.read (Elt Ideal) (arg.view.writes (Elt Ideal) f (push arg f (Rect.unit (s := S512x4352) off S128x256.size inb) upd L)) (ix2 (lane h e) s)
      = arg.view.read (Elt Ideal) (arg.view.writes (Elt Ideal) f L) (ix2 (lane h e) s)
        + ((if h = hh ∧ 256 * k ≤ s.val ∧ s.val < 256 * k + 256 then inc s e else 0 : ℝ) : EReal) := by
  have he := e.isLt
  unfold push
  by_cases hin : h = hh ∧ 256 * k ≤ s.val ∧ s.val < 256 * k + 256
  · rw [if_pos hin]
    obtain ⟨rfl, h1, h2⟩ := hin
    have hc : s.val - 256 * k < 256 := by omega
    rw [View.read_writes_cons_unit_of_mem arg.view f inb _ L (ix2 (lane h e) s) (ix2 e ⟨s.val - 256 * k, hc⟩) hoff
      (fun a => match a with
        | ⟨0, _⟩ => rfl
        | ⟨1, _⟩ => by show s.val = 256 * k + (s.val - 256 * k); omega)]
    refine (hupd _ e ⟨s.val - 256 * k, hc⟩).trans ?_
    congr 1
    · rw [View.readAt_apply]
      subst hoff
      congr 1
      funext a; apply Fin.ext
      match a with
      | ⟨0, _⟩ => show 128 * h.val + 1 * e.val = 128 * h.val + e.val; omega
      | ⟨1, _⟩ => show 256 * k + 1 * (s.val - 256 * k) = s.val; omega
    · show ((inc (256 * k + (s.val - 256 * k)) e : ℝ) : EReal) = _
      rw [Nat.add_sub_cancel' h1]
  · rw [if_neg hin, EReal.coe_zero, add_zero]
    by_cases h0 : h = hh
    · exact View.read_writes_cons_unit_of_not_mem arg.view f inb _ L _ hoff 1 (by
        show s.val < 256 * k ∨ 256 * k + 256 ≤ s.val
        by_contra hcon; exact hin ⟨h0, by omega, by omega⟩)
    · exact View.read_writes_cons_unit_of_not_mem arg.view f inb _ L _ hoff 0 (by
        show 128 * h.val + e.val < 128 * hh.val ∨ 128 * hh.val + 128 ≤ 128 * h.val + e.val
        have : h.val ≠ hh.val := fun hc => h0 (Fin.ext hc)
        omega)

/-- From word 0 on the sweep runs over the tiles up to the query's own. -/
theorem trips1_eq (i : grid0.Coords) (v : BitVec 32) (h0 : firstWord i v = 0#32) : (k0_t1_loop i v).trips = (i 2).val + 1 := by
  have h1 := lastWord_toInt i
  rw [loop1_eq, h0]
  show Scf.trips _ _ _ = _
  unfold Scf.trips
  rw [h1, show (1#32 : BitVec 32).toInt = 1 from rfl, show (0#32 : BitVec 32).toInt = 0 from rfl]
  simp <;> omega

section Trip

variable (𝒱 : Variants) (c : Dev nD) (bd : Option 𝒱.V) (i : grid0.Coords) (arg3 : Memref sig .tc .smem S34 .f32) (harg3 : arg3.IsWhole) (arg4 : Memref sig .tc .vmem S256x512 .bf16) (harg4 : arg4.IsWhole) (arg5 : Memref sig .tc .vmem S4352x512 .bf16) (harg5 : arg5.IsWhole) (arg6 : Memref sig .tc .vmem S4352x512 .bf16) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4352x512 .bf16) (harg10 : arg10.IsWhole) (arg11 : Memref sig .tc .vmem S4352x512 .bf16) (harg11 : arg11.IsWhole) (arg12 : Memref sig .tc .vmem S512x4352 .f32) (harg12 : arg12.IsWhole) (arg13 : Memref sig .tc .vmem S512x4352 .f32) (harg13 : arg13.IsWhole) (arg2 : BitVec 32) (v3 : Vec Ideal S256x128 .bf16) (v4 : Vec Ideal S256x128 .bf16) (v5 : Vec Ideal S256x128 .bf16) (v6 : Vec Ideal S256x128 .bf16) (v7 : Vec Ideal S256x128 .bf16) (v8 : Vec Ideal S256x128 .bf16) (v9 : Vec Ideal S256x128 .bf16) (v10 : Vec Ideal S256x128 .bf16) (v14 : FVec Ideal S128x256 .bf16) (v18 : FVec Ideal S128x256 .bf16) (v22 : FVec Ideal S128x256 .bf16) (v26 : FVec Ideal S128x256 .bf16) (v30 : FVec Ideal S128x256 .bf16) (v34 : FVec Ideal S128x256 .bf16) (v38 : FVec Ideal S128x256 .bf16) (v42 : FVec Ideal S128x256 .bf16) (v44 : FVec Ideal S256x1 .f32) (v46 : FVec Ideal S256x1 .f32) (v48 : FVec Ideal S256x1 .f32) (v50 : FVec Ideal S256x1 .f32) (v51 : IVec S256x256 32) (v52 : IVec S256x256 32) (v56 : FVec Ideal S256x256 .bf16) (v60 : FVec Ideal S256x256 .bf16) (v61 : BitVec 32) (v62 : BitVec 32) (c8_i32 : BitVec 32) (v63 : BitVec 32) (v68 : BitVec 32) (v86 : BitVec 32) (k0_hw1 : k0_chk1 i v86) (v88 : BitVec 32) (X_arg5 : BufTy.Contents (Elt Ideal) arg5.view.ty) (X_arg6 : BufTy.Contents (Elt Ideal) arg6.view.ty)

variable (S : Fin 4 → Rows) (n : ℕ)

/-- What the loop's inputs hold: the group's query tiles, keys and values, the word the sweep begins at, the iotas and triangles. -/
structure LoopOk : Prop where
  hn : (i 2).val = n
  first : firstWord i v86 = 0#32
  h88 : v88 = 0#32
  h2 : arg2 = BitVec.ofNat 32 n
  h51 : ∀ r c : Fin 256, v51 (ix2 r c) = BitVec.ofNat 32 r
  h52 : ∀ r c : Fin 256, v52 (ix2 r c) = BitVec.ofNat 32 c
  upto : ∀ r c : Fin 256, v56 (ix2 r c) = (((if r.val ≤ c.val then 1 else 0) : ℝ) : EReal)
  before : ∀ r c : Fin 256, v60 (ix2 r c) = (((if r.val < c.val then 1 else 0) : ℝ) : EReal)
  l0 : Loaded (S 0) n v3 v7 v14 v30 v44
  l1 : Loaded (S 1) n v4 v8 v18 v34 v46
  l2 : Loaded (S 2) n v5 v9 v22 v38 v48
  l3 : Loaded (S 3) n v6 v10 v26 v42 v50
  hk : ∀ (h : Fin 4) (s : Fin 4352) (e : Fin 128), arg5.view.read (Elt Ideal) X_arg5 (ix2 s (lane h e)) = (((S h).k s e : ℝ) : EReal)
  hv : ∀ (h : Fin 4) (s : Fin 4352) (e : Fin 128), arg6.view.read (Elt Ideal) X_arg6 (ix2 s (lane h e)) = (((S h).v s e : ℝ) : EReal)
  small : ∀ (h : Fin 4) (r : Fin 256) (s : Fin 4352), ok (256 * n + r) s → (S h).logit (256 * n + r) s ≤ 20

/-- What the heads carry before trip `k`. -/
def AccOk (k : ℕ) (acc : Acc Ideal) : Prop :=
  Carried (S 0) n k (acc.1) (acc.2.1) (acc.2.2.1) ∧
  Carried (S 1) n k (acc.2.2.2.1) (acc.2.2.2.2.1) (acc.2.2.2.2.2.1) ∧
  Carried (S 2) n k (acc.2.2.2.2.2.2.1) (acc.2.2.2.2.2.2.2.1) (acc.2.2.2.2.2.2.2.2.1) ∧
  Carried (S 3) n k (acc.2.2.2.2.2.2.2.2.2.1) (acc.2.2.2.2.2.2.2.2.2.2.1) (acc.2.2.2.2.2.2.2.2.2.2.2)

variable (L : LoopOk i arg5 arg6 arg2 v3 v4 v5 v6 v7 v8 v9 v10 v14 v18 v22 v26 v30 v34 v38 v42 v44 v46 v48 v50 v51 v52 v56 v60 v86 v88 X_arg5 X_arg6 S n)
  (k : Fin (k0_t1_loop i v86).trips) (acc : Acc Ideal)

include L in
/-- A trip's number is at most the query tile's. -/
theorem trip_le : k.val ≤ n := by
  have ht := trips1_eq i v86 L.first
  have hk := k.isLt
  have hn := L.hn
  omega

include L in
/-- The key tile's first row, as the blocks' offsets compute it. -/
theorem row_eq : (Scalar.muli (tileWord i v86 k) 256#32).toNat = 256 * k.val := by
  have h := trip_le i arg5 arg6 arg2 v3 v4 v5 v6 v7 v8 v9 v10 v14 v18 v22 v26 v30 v34 v38 v42 v44 v46 v48 v50 v51 v52 v56 v60 v86 v88 X_arg5 X_arg6 S n L k
  have hn : n < 17 := L.hn ▸ (i 2).isLt
  have e : tileWord i v86 k.val = BitVec.ofNat 32 k.val := by
    show firstWord i v86 + BitVec.ofNat 32 k.val * 1#32 = _
    rw [L.first, BitVec.mul_one, BitVec.zero_add]
  rw [rowWord_toNat, e, BitVec.toNat_ofNat, Nat.mod_eq_of_lt (by omega), mul_comm]

include L in
theorem off2_eq : k0_off2 i v86 k = ![256 * k.val, 128 * 0] := by
  show ![(Scalar.muli (tileWord i v86 k) 256#32).toNat, _] = _
  rw [row_eq i arg5 arg6 arg2 v3 v4 v5 v6 v7 v8 v9 v10 v14 v18 v22 v26 v30 v34 v38 v42 v44 v46 v48 v50 v51 v52 v56 v60 v86 v88 X_arg5 X_arg6 S n L k]
include L in
theorem off3_eq : k0_off3 i v86 k = ![128 * 0, 256 * k.val] := by
  show ![_, (Scalar.muli (tileWord i v86 k) 256#32).toNat] = _
  rw [row_eq i arg5 arg6 arg2 v3 v4 v5 v6 v7 v8 v9 v10 v14 v18 v22 v26 v30 v34 v38 v42 v44 v46 v48 v50 v51 v52 v56 v60 v86 v88 X_arg5 X_arg6 S n L k]

include L in
theorem off4_eq : k0_off4 i v86 k = ![256 * k.val, 128 * 1] := by
  show ![(Scalar.muli (tileWord i v86 k) 256#32).toNat, _] = _
  rw [row_eq i arg5 arg6 arg2 v3 v4 v5 v6 v7 v8 v9 v10 v14 v18 v22 v26 v30 v34 v38 v42 v44 v46 v48 v50 v51 v52 v56 v60 v86 v88 X_arg5 X_arg6 S n L k]
include L in
theorem off5_eq : k0_off5 i v86 k = ![128 * 1, 256 * k.val] := by
  show ![_, (Scalar.muli (tileWord i v86 k) 256#32).toNat] = _
  rw [row_eq i arg5 arg6 arg2 v3 v4 v5 v6 v7 v8 v9 v10 v14 v18 v22 v26 v30 v34 v38 v42 v44 v46 v48 v50 v51 v52 v56 v60 v86 v88 X_arg5 X_arg6 S n L k]

include L in
theorem off6_eq : k0_off6 i v86 k = ![256 * k.val, 128 * 2] := by
  show ![(Scalar.muli (tileWord i v86 k) 256#32).toNat, _] = _
  rw [row_eq i arg5 arg6 arg2 v3 v4 v5 v6 v7 v8 v9 v10 v14 v18 v22 v26 v30 v34 v38 v42 v44 v46 v48 v50 v51 v52 v56 v60 v86 v88 X_arg5 X_arg6 S n L k]
include L in
theorem off7_eq : k0_off7 i v86 k = ![128 * 2, 256 * k.val] := by
  show ![_, (Scalar.muli (tileWord i v86 k) 256#32).toNat] = _
  rw [row_eq i arg5 arg6 arg2 v3 v4 v5 v6 v7 v8 v9 v10 v14 v18 v22 v26 v30 v34 v38 v42 v44 v46 v48 v50 v51 v52 v56 v60 v86 v88 X_arg5 X_arg6 S n L k]

include L in
theorem off8_eq : k0_off8 i v86 k = ![256 * k.val, 128 * 3] := by
  show ![(Scalar.muli (tileWord i v86 k) 256#32).toNat, _] = _
  rw [row_eq i arg5 arg6 arg2 v3 v4 v5 v6 v7 v8 v9 v10 v14 v18 v22 v26 v30 v34 v38 v42 v44 v46 v48 v50 v51 v52 v56 v60 v86 v88 X_arg5 X_arg6 S n L k]
include L in
theorem off9_eq : k0_off9 i v86 k = ![128 * 3, 256 * k.val] := by
  show ![_, (Scalar.muli (tileWord i v86 k) 256#32).toNat] = _
  rw [row_eq i arg5 arg6 arg2 v3 v4 v5 v6 v7 v8 v9 v10 v14 v18 v22 v26 v30 v34 v38 v42 v44 v46 v48 v50 v51 v52 v56 v60 v86 v88 X_arg5 X_arg6 S n L k]

include L in
/-- Head 0's blocks hold its rows. -/
theorem head0_ok (A : AccOk S n k.val acc) : HeadOk (S 0) n k.val (head0 i arg5 arg6 arg2 v3 v7 v14 v30 v44 v51 v52 v56 v60 v86 k0_hw1 v88 X_arg5 X_arg6 k acc) := by
  have hk := trip_le i arg5 arg6 arg2 v3 v4 v5 v6 v7 v8 v9 v10 v14 v18 v22 v26 v30 v34 v38 v42 v44 v46 v48 v50 v51 v52 v56 v60 v86 v88 X_arg5 X_arg6 S n L k
  have hn : n < 17 := L.hn ▸ (i 2).isLt
  have C := A.1
  exact {
    valid := valid_eq i arg2 v51 v52 v86 v88 k n hn L.h2 L.h51 L.h52 L.h88 (by omega)
    q := L.l0.q, d := L.l0.d, qt := L.l0.qt, dt := L.l0.dt, tot := L.l0.tot
    upto := L.upto, before := L.before
    kb := fun c e => (readAt_block arg5 X_arg5 _ k.val 0 (off2_eq i arg5 arg6 arg2 v3 v4 v5 v6 v7 v8 v9 v10 v14 v18 v22 v26 v30 v34 v38 v42 v44 v46 v48 v50 v51 v52 v56 v60 v86 v88 X_arg5 X_arg6 S n L k) (by omega) c e).trans (L.hk 0 _ e)
    vb := fun c e => (readAt_block arg6 X_arg6 _ k.val 0 (off2_eq i arg5 arg6 arg2 v3 v4 v5 v6 v7 v8 v9 v10 v14 v18 v22 v26 v30 v34 v38 v42 v44 v46 v48 v50 v51 v52 v56 v60 v86 v88 X_arg5 X_arg6 S n L k) (by omega) c e).trans (L.hv 0 _ e)
    dq := C.dq, kp := C.kp, gp := C.gp
    small := fun r c ho => L.small 0 r ⟨256 * k.val + c.val, by have := c.isLt; omega⟩ ho }

include L in
/-- Head 1's blocks hold its rows. -/
theorem head1_ok (A : AccOk S n k.val acc) : HeadOk (S 1) n k.val (head1 i arg5 arg6 arg2 v4 v8 v18 v34 v46 v51 v52 v56 v60 v86 k0_hw1 v88 X_arg5 X_arg6 k acc) := by
  have hk := trip_le i arg5 arg6 arg2 v3 v4 v5 v6 v7 v8 v9 v10 v14 v18 v22 v26 v30 v34 v38 v42 v44 v46 v48 v50 v51 v52 v56 v60 v86 v88 X_arg5 X_arg6 S n L k
  have hn : n < 17 := L.hn ▸ (i 2).isLt
  have C := A.2.1
  exact {
    valid := valid_eq i arg2 v51 v52 v86 v88 k n hn L.h2 L.h51 L.h52 L.h88 (by omega)
    q := L.l1.q, d := L.l1.d, qt := L.l1.qt, dt := L.l1.dt, tot := L.l1.tot
    upto := L.upto, before := L.before
    kb := fun c e => (readAt_block arg5 X_arg5 _ k.val 1 (off4_eq i arg5 arg6 arg2 v3 v4 v5 v6 v7 v8 v9 v10 v14 v18 v22 v26 v30 v34 v38 v42 v44 v46 v48 v50 v51 v52 v56 v60 v86 v88 X_arg5 X_arg6 S n L k) (by omega) c e).trans (L.hk 1 _ e)
    vb := fun c e => (readAt_block arg6 X_arg6 _ k.val 1 (off4_eq i arg5 arg6 arg2 v3 v4 v5 v6 v7 v8 v9 v10 v14 v18 v22 v26 v30 v34 v38 v42 v44 v46 v48 v50 v51 v52 v56 v60 v86 v88 X_arg5 X_arg6 S n L k) (by omega) c e).trans (L.hv 1 _ e)
    dq := C.dq, kp := C.kp, gp := C.gp
    small := fun r c ho => L.small 1 r ⟨256 * k.val + c.val, by have := c.isLt; omega⟩ ho }

include L in
/-- Head 2's blocks hold its rows. -/
theorem head2_ok (A : AccOk S n k.val acc) : HeadOk (S 2) n k.val (head2 i arg5 arg6 arg2 v5 v9 v22 v38 v48 v51 v52 v56 v60 v86 k0_hw1 v88 X_arg5 X_arg6 k acc) := by
  have hk := trip_le i arg5 arg6 arg2 v3 v4 v5 v6 v7 v8 v9 v10 v14 v18 v22 v26 v30 v34 v38 v42 v44 v46 v48 v50 v51 v52 v56 v60 v86 v88 X_arg5 X_arg6 S n L k
  have hn : n < 17 := L.hn ▸ (i 2).isLt
  have C := A.2.2.1
  exact {
    valid := valid_eq i arg2 v51 v52 v86 v88 k n hn L.h2 L.h51 L.h52 L.h88 (by omega)
    q := L.l2.q, d := L.l2.d, qt := L.l2.qt, dt := L.l2.dt, tot := L.l2.tot
    upto := L.upto, before := L.before
    kb := fun c e => (readAt_block arg5 X_arg5 _ k.val 2 (off6_eq i arg5 arg6 arg2 v3 v4 v5 v6 v7 v8 v9 v10 v14 v18 v22 v26 v30 v34 v38 v42 v44 v46 v48 v50 v51 v52 v56 v60 v86 v88 X_arg5 X_arg6 S n L k) (by omega) c e).trans (L.hk 2 _ e)
    vb := fun c e => (readAt_block arg6 X_arg6 _ k.val 2 (off6_eq i arg5 arg6 arg2 v3 v4 v5 v6 v7 v8 v9 v10 v14 v18 v22 v26 v30 v34 v38 v42 v44 v46 v48 v50 v51 v52 v56 v60 v86 v88 X_arg5 X_arg6 S n L k) (by omega) c e).trans (L.hv 2 _ e)
    dq := C.dq, kp := C.kp, gp := C.gp
    small := fun r c ho => L.small 2 r ⟨256 * k.val + c.val, by have := c.isLt; omega⟩ ho }

include L in
/-- Head 3's blocks hold its rows. -/
theorem head3_ok (A : AccOk S n k.val acc) : HeadOk (S 3) n k.val (head3 i arg5 arg6 arg2 v6 v10 v26 v42 v50 v51 v52 v56 v60 v86 k0_hw1 v88 X_arg5 X_arg6 k acc) := by
  have hk := trip_le i arg5 arg6 arg2 v3 v4 v5 v6 v7 v8 v9 v10 v14 v18 v22 v26 v30 v34 v38 v42 v44 v46 v48 v50 v51 v52 v56 v60 v86 v88 X_arg5 X_arg6 S n L k
  have hn : n < 17 := L.hn ▸ (i 2).isLt
  have C := A.2.2.2
  exact {
    valid := valid_eq i arg2 v51 v52 v86 v88 k n hn L.h2 L.h51 L.h52 L.h88 (by omega)
    q := L.l3.q, d := L.l3.d, qt := L.l3.qt, dt := L.l3.dt, tot := L.l3.tot
    upto := L.upto, before := L.before
    kb := fun c e => (readAt_block arg5 X_arg5 _ k.val 3 (off8_eq i arg5 arg6 arg2 v3 v4 v5 v6 v7 v8 v9 v10 v14 v18 v22 v26 v30 v34 v38 v42 v44 v46 v48 v50 v51 v52 v56 v60 v86 v88 X_arg5 X_arg6 S n L k) (by omega) c e).trans (L.hk 3 _ e)
    vb := fun c e => (readAt_block arg6 X_arg6 _ k.val 3 (off8_eq i arg5 arg6 arg2 v3 v4 v5 v6 v7 v8 v9 v10 v14 v18 v22 v26 v30 v34 v38 v42 v44 v46 v48 v50 v51 v52 v56 v60 v86 v88 X_arg5 X_arg6 S n L k) (by omega) c e).trans (L.hv 3 _ e)
    dq := C.dq, kp := C.kp, gp := C.gp
    small := fun r c ho => L.small 3 r ⟨256 * k.val + c.val, by have := c.isLt; omega⟩ ho }

variable (f12 : BufTy.Contents (Elt Ideal) arg12.view.ty) (f13 : BufTy.Contents (Elt Ideal) arg13.view.ty)

include L in
/-- A trip carries the sums over one tile more. -/
theorem tripR_ok (A : AccOk S n k.val acc) : AccOk S n (k.val + 1) (tripR_k0_t1 (F := Ideal) 𝒱 c bd i arg3 harg3 arg4 harg4 arg5 harg5 arg6 harg6 arg7 harg7 arg8 harg8 arg9 harg9 arg10 harg10 arg11 harg11 arg12 harg12 arg13 harg13 arg2 v3 v4 v5 v6 v7 v8 v9 v10 v14 v18 v22 v26 v30 v34 v38 v42 v44 v46 v48 v50 v51 v52 v56 v60 v61 v62 c8_i32 v63 v68 v86 k0_hw1 v88 X_arg5 X_arg6 k acc f12 f13) := by
  rw [tripR_eq]
  exact ⟨Carried.step (head0_ok i arg5 arg6 arg2 v3 v4 v5 v6 v7 v8 v9 v10 v14 v18 v22 v26 v30 v34 v38 v42 v44 v46 v48 v50 v51 v52 v56 v60 v86 k0_hw1 v88 X_arg5 X_arg6 S n L k acc A),
    Carried.step (head1_ok i arg5 arg6 arg2 v3 v4 v5 v6 v7 v8 v9 v10 v14 v18 v22 v26 v30 v34 v38 v42 v44 v46 v48 v50 v51 v52 v56 v60 v86 k0_hw1 v88 X_arg5 X_arg6 S n L k acc A),
    Carried.step (head2_ok i arg5 arg6 arg2 v3 v4 v5 v6 v7 v8 v9 v10 v14 v18 v22 v26 v30 v34 v38 v42 v44 v46 v48 v50 v51 v52 v56 v60 v86 k0_hw1 v88 X_arg5 X_arg6 S n L k acc A),
    Carried.step (head3_ok i arg5 arg6 arg2 v3 v4 v5 v6 v7 v8 v9 v10 v14 v18 v22 v26 v30 v34 v38 v42 v44 v46 v48 v50 v51 v52 v56 v60 v86 k0_hw1 v88 X_arg5 X_arg6 S n L k acc A)⟩

include L in
/-- A trip adds the query tile's share to the tile's columns of `arg12`. -/
theorem tripL_arg12 (A : AccOk S n k.val acc) (h : Fin 4) (e : Fin 128) (s : Fin 4352) :
    arg12.view.read (Elt Ideal) (arg12.view.writes (Elt Ideal) f12 (tripL_k0_t1 (F := Ideal) 𝒱 c bd i arg3 harg3 arg4 harg4 arg5 harg5 arg6 harg6 arg7 harg7 arg8 harg8 arg9 harg9 arg10 harg10 arg11 harg11 arg12 harg12 arg13 harg13 arg2 v3 v4 v5 v6 v7 v8 v9 v10 v14 v18 v22 v26 v30 v34 v38 v42 v44 v46 v48 v50 v51 v52 v56 v60 v61 v62 c8_i32 v63 v68 v86 k0_hw1 v88 X_arg5 X_arg6 k acc f12 f13).1) (ix2 (lane h e) s)
      = arg12.view.read (Elt Ideal) f12 (ix2 (lane h e) s)
        + ((if 256 * k.val ≤ s.val ∧ s.val < 256 * (k.val + 1) then dkPart (S h) n s e else 0 : ℝ) : EReal) := by
  rw [tripL_eq]
  dsimp only
  rw [push_read arg12 f12 _ _ _ k.val 3 (off9_eq i arg5 arg6 arg2 v3 v4 v5 v6 v7 v8 v9 v10 v14 v18 v22 v26 v30 v34 v38 v42 v44 v46 v48 v50 v51 v52 v56 v60 v86 v88 X_arg5 X_arg6 S n L k) (dkPart (S 3) n)
    (fun old e c => (head3_ok i arg5 arg6 arg2 v3 v4 v5 v6 v7 v8 v9 v10 v14 v18 v22 v26 v30 v34 v38 v42 v44 v46 v48 v50 v51 v52 v56 v60 v86 k0_hw1 v88 X_arg5 X_arg6 S n L k acc A).dk_eq old e c) h e s]
  rw [push_read arg12 f12 _ _ _ k.val 2 (off7_eq i arg5 arg6 arg2 v3 v4 v5 v6 v7 v8 v9 v10 v14 v18 v22 v26 v30 v34 v38 v42 v44 v46 v48 v50 v51 v52 v56 v60 v86 v88 X_arg5 X_arg6 S n L k) (dkPart (S 2) n)
    (fun old e c => (head2_ok i arg5 arg6 arg2 v3 v4 v5 v6 v7 v8 v9 v10 v14 v18 v22 v26 v30 v34 v38 v42 v44 v46 v48 v50 v51 v52 v56 v60 v86 k0_hw1 v88 X_arg5 X_arg6 S n L k acc A).dk_eq old e c) h e s]
  rw [push_read arg12 f12 _ _ _ k.val 1 (off5_eq i arg5 arg6 arg2 v3 v4 v5 v6 v7 v8 v9 v10 v14 v18 v22 v26 v30 v34 v38 v42 v44 v46 v48 v50 v51 v52 v56 v60 v86 v88 X_arg5 X_arg6 S n L k) (dkPart (S 1) n)
    (fun old e c => (head1_ok i arg5 arg6 arg2 v3 v4 v5 v6 v7 v8 v9 v10 v14 v18 v22 v26 v30 v34 v38 v42 v44 v46 v48 v50 v51 v52 v56 v60 v86 k0_hw1 v88 X_arg5 X_arg6 S n L k acc A).dk_eq old e c) h e s]
  rw [push_read arg12 f12 _ _ _ k.val 0 (off3_eq i arg5 arg6 arg2 v3 v4 v5 v6 v7 v8 v9 v10 v14 v18 v22 v26 v30 v34 v38 v42 v44 v46 v48 v50 v51 v52 v56 v60 v86 v88 X_arg5 X_arg6 S n L k) (dkPart (S 0) n)
    (fun old e c => (head0_ok i arg5 arg6 arg2 v3 v4 v5 v6 v7 v8 v9 v10 v14 v18 v22 v26 v30 v34 v38 v42 v44 v46 v48 v50 v51 v52 v56 v60 v86 k0_hw1 v88 X_arg5 X_arg6 S n L k acc A).dk_eq old e c) h e s]
  rw [View.writes_nil, mul_add, mul_one]
  rw [add_assoc, add_assoc, add_assoc, ← EReal.coe_add, ← EReal.coe_add, ← EReal.coe_add]
  congr 2
  fin_cases h <;> simp

include L in
/-- A trip adds the query tile's share to the tile's columns of `arg13`. -/
theorem tripL_arg13 (A : AccOk S n k.val acc) (h : Fin 4) (e : Fin 128) (s : Fin 4352) :
    arg13.view.read (Elt Ideal) (arg13.view.writes (Elt Ideal) f13 (tripL_k0_t1 (F := Ideal) 𝒱 c bd i arg3 harg3 arg4 harg4 arg5 harg5 arg6 harg6 arg7 harg7 arg8 harg8 arg9 harg9 arg10 harg10 arg11 harg11 arg12 harg12 arg13 harg13 arg2 v3 v4 v5 v6 v7 v8 v9 v10 v14 v18 v22 v26 v30 v34 v38 v42 v44 v46 v48 v50 v51 v52 v56 v60 v61 v62 c8_i32 v63 v68 v86 k0_hw1 v88 X_arg5 X_arg6 k acc f12 f13).2) (ix2 (lane h e) s)
      = arg13.view.read (Elt Ideal) f13 (ix2 (lane h e) s)
        + ((if 256 * k.val ≤ s.val ∧ s.val < 256 * (k.val + 1) then dvPart (S h) n s e else 0 : ℝ) : EReal) := by
  rw [tripL_eq]
  dsimp only
  rw [push_read arg13 f13 _ _ _ k.val 3 (off9_eq i arg5 arg6 arg2 v3 v4 v5 v6 v7 v8 v9 v10 v14 v18 v22 v26 v30 v34 v38 v42 v44 v46 v48 v50 v51 v52 v56 v60 v86 v88 X_arg5 X_arg6 S n L k) (dvPart (S 3) n)
    (fun old e c => (head3_ok i arg5 arg6 arg2 v3 v4 v5 v6 v7 v8 v9 v10 v14 v18 v22 v26 v30 v34 v38 v42 v44 v46 v48 v50 v51 v52 v56 v60 v86 k0_hw1 v88 X_arg5 X_arg6 S n L k acc A).dv_eq old e c) h e s]
  rw [push_read arg13 f13 _ _ _ k.val 2 (off7_eq i arg5 arg6 arg2 v3 v4 v5 v6 v7 v8 v9 v10 v14 v18 v22 v26 v30 v34 v38 v42 v44 v46 v48 v50 v51 v52 v56 v60 v86 v88 X_arg5 X_arg6 S n L k) (dvPart (S 2) n)
    (fun old e c => (head2_ok i arg5 arg6 arg2 v3 v4 v5 v6 v7 v8 v9 v10 v14 v18 v22 v26 v30 v34 v38 v42 v44 v46 v48 v50 v51 v52 v56 v60 v86 k0_hw1 v88 X_arg5 X_arg6 S n L k acc A).dv_eq old e c) h e s]
  rw [push_read arg13 f13 _ _ _ k.val 1 (off5_eq i arg5 arg6 arg2 v3 v4 v5 v6 v7 v8 v9 v10 v14 v18 v22 v26 v30 v34 v38 v42 v44 v46 v48 v50 v51 v52 v56 v60 v86 v88 X_arg5 X_arg6 S n L k) (dvPart (S 1) n)
    (fun old e c => (head1_ok i arg5 arg6 arg2 v3 v4 v5 v6 v7 v8 v9 v10 v14 v18 v22 v26 v30 v34 v38 v42 v44 v46 v48 v50 v51 v52 v56 v60 v86 k0_hw1 v88 X_arg5 X_arg6 S n L k acc A).dv_eq old e c) h e s]
  rw [push_read arg13 f13 _ _ _ k.val 0 (off3_eq i arg5 arg6 arg2 v3 v4 v5 v6 v7 v8 v9 v10 v14 v18 v22 v26 v30 v34 v38 v42 v44 v46 v48 v50 v51 v52 v56 v60 v86 v88 X_arg5 X_arg6 S n L k) (dvPart (S 0) n)
    (fun old e c => (head0_ok i arg5 arg6 arg2 v3 v4 v5 v6 v7 v8 v9 v10 v14 v18 v22 v26 v30 v34 v38 v42 v44 v46 v48 v50 v51 v52 v56 v60 v86 k0_hw1 v88 X_arg5 X_arg6 S n L k acc A).dv_eq old e c) h e s]
  rw [View.writes_nil, mul_add, mul_one]
  rw [add_assoc, add_assoc, add_assoc, ← EReal.coe_add, ← EReal.coe_add, ← EReal.coe_add]
  congr 2
  fin_cases h <;> simp

end Trip

end Cert.KernelIdeal.Sb

end
-- ==== Proof.KernelIdeal.LoopVal.lean ====
/- The whole key loop over the extended reals. -/
module

public import proofs.«01_k».proof.Proof.KernelIdeal.TripVal

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI Idealize.SL.Sem
open Cert.Stick Idealize.ShloMosaic.ValueIdx
open scoped BigOperators
open Finset

/-- Before any tile the sums are zero. -/
theorem Carried.start (S : Rows) (n : ℕ) {dq : FVec Ideal S256x128 .f32} {kp gp : FVec Ideal S256x1 .f32}
    (hdq : ∀ y, dq y = 0) (hkp : ∀ y, kp y = 0) (hgp : ∀ y, gp y = 0) : Carried S n 0 dq kp gp :=
  ⟨fun r e => by rw [hdq]; simp, fun r => by rw [hkp]; simp [Rows.pre], fun r => by rw [hgp]; simp [Rows.gpre]⟩

section Loop

variable (𝒱 : Variants) (c : Dev nD) (bd : Option 𝒱.V) (i : grid0.Coords) (arg3 : Memref sig .tc .smem S34 .f32) (harg3 : arg3.IsWhole) (arg4 : Memref sig .tc .vmem S256x512 .bf16) (harg4 : arg4.IsWhole) (arg5 : Memref sig .tc .vmem S4352x512 .bf16) (harg5 : arg5.IsWhole) (arg6 : Memref sig .tc .vmem S4352x512 .bf16) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4352x512 .bf16) (harg10 : arg10.IsWhole) (arg11 : Memref sig .tc .vmem S4352x512 .bf16) (harg11 : arg11.IsWhole) (arg12 : Memref sig .tc .vmem S512x4352 .f32) (harg12 : arg12.IsWhole) (arg13 : Memref sig .tc .vmem S512x4352 .f32) (harg13 : arg13.IsWhole) (arg2 : BitVec 32) (v3 : Vec Ideal S256x128 .bf16) (v4 : Vec Ideal S256x128 .bf16) (v5 : Vec Ideal S256x128 .bf16) (v6 : Vec Ideal S256x128 .bf16) (v7 : Vec Ideal S256x128 .bf16) (v8 : Vec Ideal S256x128 .bf16) (v9 : Vec Ideal S256x128 .bf16) (v10 : Vec Ideal S256x128 .bf16) (v14 : FVec Ideal S128x256 .bf16) (v18 : FVec Ideal S128x256 .bf16) (v22 : FVec Ideal S128x256 .bf16) (v26 : FVec Ideal S128x256 .bf16) (v30 : FVec Ideal S128x256 .bf16) (v34 : FVec Ideal S128x256 .bf16) (v38 : FVec Ideal S128x256 .bf16) (v42 : FVec Ideal S128x256 .bf16) (v44 : FVec Ideal S256x1 .f32) (v46 : FVec Ideal S256x1 .f32) (v48 : FVec Ideal S256x1 .f32) (v50 : FVec Ideal S256x1 .f32) (v51 : IVec S256x256 32) (v52 : IVec S256x256 32) (v56 : FVec Ideal S256x256 .bf16) (v60 : FVec Ideal S256x256 .bf16) (v61 : BitVec 32) (v62 : BitVec 32) (c8_i32 : BitVec 32) (v63 : BitVec 32) (v68 : BitVec 32) (v86 : BitVec 32) (k0_hw1 : k0_chk1 i v86) (v88 : BitVec 32) (X_arg5 : BufTy.Contents (Elt Ideal) arg5.view.ty) (X_arg6 : BufTy.Contents (Elt Ideal) arg6.view.ty)

variable (S : Fin 4 → Rows) (n : ℕ)
variable (L : LoopOk i arg5 arg6 arg2 v3 v4 v5 v6 v7 v8 v9 v10 v14 v18 v22 v26 v30 v34 v38 v42 v44 v46 v48 v50 v51 v52 v56 v60 v86 v88 X_arg5 X_arg6 S n)
variable (G12 : BufTy.Contents (Elt Ideal) arg12.view.ty) (G13 : BufTy.Contents (Elt Ideal) arg13.view.ty) (init : Acc Ideal)

include L in
/-- Before trip `k` the heads carry the sums over the tiles before, and the accumulators have those tiles' columns added. -/
theorem loop_ok (A : AccOk S n 0 init) : ∀ k : ℕ, k ≤ n + 1 →
    AccOk S n k (st_k0_t1 (F := Ideal) 𝒱 c bd i arg3 harg3 arg4 harg4 arg5 harg5 arg6 harg6 arg7 harg7 arg8 harg8 arg9 harg9 arg10 harg10 arg11 harg11 arg12 harg12 arg13 harg13 arg2 v3 v4 v5 v6 v7 v8 v9 v10 v14 v18 v22 v26 v30 v34 v38 v42 v44 v46 v48 v50 v51 v52 v56 v60 v61 v62 c8_i32 v63 v68 v86 k0_hw1 v88 X_arg5 X_arg6 G12 G13 init k).1
    ∧ (∀ (h : Fin 4) (e : Fin 128) (s : Fin 4352), arg12.view.read (Elt Ideal) (arg12.view.writes (Elt Ideal) G12 (st_k0_t1 (F := Ideal) 𝒱 c bd i arg3 harg3 arg4 harg4 arg5 harg5 arg6 harg6 arg7 harg7 arg8 harg8 arg9 harg9 arg10 harg10 arg11 harg11 arg12 harg12 arg13 harg13 arg2 v3 v4 v5 v6 v7 v8 v9 v10 v14 v18 v22 v26 v30 v34 v38 v42 v44 v46 v48 v50 v51 v52 v56 v60 v61 v62 c8_i32 v63 v68 v86 k0_hw1 v88 X_arg5 X_arg6 G12 G13 init k).2.1) (ix2 (lane h e) s)
        = arg12.view.read (Elt Ideal) G12 (ix2 (lane h e) s) + ((if s.val < 256 * k then dkPart (S h) n s e else 0 : ℝ) : EReal))
    ∧ (∀ (h : Fin 4) (e : Fin 128) (s : Fin 4352), arg13.view.read (Elt Ideal) (arg13.view.writes (Elt Ideal) G13 (st_k0_t1 (F := Ideal) 𝒱 c bd i arg3 harg3 arg4 harg4 arg5 harg5 arg6 harg6 arg7 harg7 arg8 harg8 arg9 harg9 arg10 harg10 arg11 harg11 arg12 harg12 arg13 harg13 arg2 v3 v4 v5 v6 v7 v8 v9 v10 v14 v18 v22 v26 v30 v34 v38 v42 v44 v46 v48 v50 v51 v52 v56 v60 v61 v62 c8_i32 v63 v68 v86 k0_hw1 v88 X_arg5 X_arg6 G12 G13 init k).2.2) (ix2 (lane h e) s)
        = arg13.view.read (Elt Ideal) G13 (ix2 (lane h e) s) + ((if s.val < 256 * k then dvPart (S h) n s e else 0 : ℝ) : EReal)) := by
  intro k
  induction k with
  | zero =>
    intro _
    exact ⟨A, fun h e s => by rw [if_neg (by omega), EReal.coe_zero, add_zero]; rfl,
      fun h e s => by rw [if_neg (by omega), EReal.coe_zero, add_zero]; rfl⟩
  | succ k ih =>
    intro hk
    obtain ⟨ihA, ih12, ih13⟩ := ih (by omega)
    have hlt : k < (k0_t1_loop i v86).trips := by
      rw [trips1_eq i v86 L.first, L.hn]; omega
    have hs := st_k0_t1_succ (F := Ideal) 𝒱 c bd i arg3 harg3 arg4 harg4 arg5 harg5 arg6 harg6 arg7 harg7 arg8 harg8 arg9 harg9 arg10 harg10 arg11 harg11 arg12 harg12 arg13 harg13 arg2 v3 v4 v5 v6 v7 v8 v9 v10 v14 v18 v22 v26 v30 v34 v38 v42 v44 v46 v48 v50 v51 v52 v56 v60 v61 v62 c8_i32 v63 v68 v86 k0_hw1 v88 X_arg5 X_arg6 G12 G13 init ⟨k, hlt⟩
    refine ⟨?_, fun h e s => ?_, fun h e s => ?_⟩
    · rw [hs]
      exact tripR_ok 𝒱 c bd i arg3 harg3 arg4 harg4 arg5 harg5 arg6 harg6 arg7 harg7 arg8 harg8 arg9 harg9 arg10 harg10 arg11 harg11 arg12 harg12 arg13 harg13 arg2 v3 v4 v5 v6 v7 v8 v9 v10 v14 v18 v22 v26 v30 v34 v38 v42 v44 v46 v48 v50 v51 v52 v56 v60 v61 v62 c8_i32 v63 v68 v86 k0_hw1 v88 X_arg5 X_arg6 S n L ⟨k, hlt⟩ _ _ _ ihA
    · rw [hs]
      dsimp only
      rw [View.writes_append, tripL_arg12 𝒱 c bd i arg3 harg3 arg4 harg4 arg5 harg5 arg6 harg6 arg7 harg7 arg8 harg8 arg9 harg9 arg10 harg10 arg11 harg11 arg12 harg12 arg13 harg13 arg2 v3 v4 v5 v6 v7 v8 v9 v10 v14 v18 v22 v26 v30 v34 v38 v42 v44 v46 v48 v50 v51 v52 v56 v60 v61 v62 c8_i32 v63 v68 v86 k0_hw1 v88 X_arg5 X_arg6 S n L ⟨k, hlt⟩ _ _ _ ihA h e s, ih12, add_assoc, ← EReal.coe_add]
      congr 2
      dsimp only
      by_cases h1 : s.val < 256 * k
      · rw [if_pos h1, if_neg (by omega), if_pos (by omega), add_zero]
      · by_cases h2 : s.val < 256 * (k + 1)
        · rw [if_neg h1, if_pos ⟨by omega, h2⟩, if_pos h2, zero_add]
        · rw [if_neg h1, if_neg (by omega), if_neg h2, add_zero]
    · rw [hs]
      dsimp only
      rw [View.writes_append, tripL_arg13 𝒱 c bd i arg3 harg3 arg4 harg4 arg5 harg5 arg6 harg6 arg7 harg7 arg8 harg8 arg9 harg9 arg10 harg10 arg11 harg11 arg12 harg12 arg13 harg13 arg2 v3 v4 v5 v6 v7 v8 v9 v10 v14 v18 v22 v26 v30 v34 v38 v42 v44 v46 v48 v50 v51 v52 v56 v60 v61 v62 c8_i32 v63 v68 v86 k0_hw1 v88 X_arg5 X_arg6 S n L ⟨k, hlt⟩ _ _ _ ihA h e s, ih13, add_assoc, ← EReal.coe_add]
      congr 2
      dsimp only
      by_cases h1 : s.val < 256 * k
      · rw [if_pos h1, if_neg (by omega), if_pos (by omega), add_zero]
      · by_cases h2 : s.val < 256 * (k + 1)
        · rw [if_neg h1, if_pos ⟨by omega, h2⟩, if_pos h2, zero_add]
        · rw [if_neg h1, if_neg (by omega), if_neg h2, add_zero]

end Loop

end Cert.KernelIdeal.Sb

end
-- ==== Proof.KernelIdeal.SweepVal.lean ====
/- The key loop of one grid point over the extended reals, from the blocks it is given. -/
module

public import proofs.«01_k».proof.Proof.KernelIdeal.LoopVal
public import Idealize.ShloMosaic.Lib.ValueLayout
public import Idealize.ShloMosaic.Lib.Pipeline.Value

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI Idealize.SL.Sem
open Cert.Stick Idealize.ShloMosaic.ValueIdx
open scoped BigOperators
open Finset

/-- What the blocks of a grid point hold: the visited counts, and the group's queries, keys, values, totals and output gradients. -/
structure BlockOk (S : Fin 4 → Rows) (i : grid0.Coords) (x0 : Vec Ideal S34 .f32) (x1 : Vec Ideal S256x512 .bf16) (x2 : Vec Ideal S4352x512 .bf16) (x3 : Vec Ideal S4352x512 .bf16) (x4 : Vec Ideal S256x512 .f32) (x5 : Vec Ideal S256x512 .bf16) : Prop where
  vis : ∀ y : S34.Idx, x0 y = ((((y 0).val % 17 + 1 : ℕ) : ℝ) : EReal)
  q : ∀ (h : Fin 4) (r : Fin 256) (e : Fin 128), x1 (ix2 r (lane h e)) = (((S h).q (256 * (i 2).val + r) e : ℝ) : EReal)
  k : ∀ (h : Fin 4) (s : Fin 4352) (e : Fin 128), x2 (ix2 s (lane h e)) = (((S h).k s e : ℝ) : EReal)
  v : ∀ (h : Fin 4) (s : Fin 4352) (e : Fin 128), x3 (ix2 s (lane h e)) = (((S h).v s e : ℝ) : EReal)
  tot : ∀ (h : Fin 4) (r : Fin 256), x4 (ix2 r (lane h 0)) = (((S h).pre (256 * (i 2).val + r) 4352 : ℝ) : EReal)
  d : ∀ (h : Fin 4) (r : Fin 256) (e : Fin 128), x5 (ix2 r (lane h e)) = (((S h).d (256 * (i 2).val + r) e : ℝ) : EReal)
  small : ∀ (h : Fin 4) (r : Fin 256) (s : Fin 4352), ok (256 * (i 2).val + r) s → (S h).logit (256 * (i 2).val + r) s ≤ 20

/-- The visited count of a grid point, as the word the loop's bounds are computed from. -/
abbrev seenWord (i : grid0.Coords) (arg3 : Memref sig .tc .smem S34 .f32) (harg3 : arg3.IsWhole) (x0 : Vec Ideal S34 .f32) : BitVec 32 :=
  Scalar.fptosi (F := Ideal) (φ := .f32) 32 (arg3.view.readAt (Elt Ideal) (Rect.unit (s := S34) (k0_off1 i) S1.size (k0_off1_inb i)).toLoadRect (harg3.unread x0) (Shape.Idx.first (Nat.lt_of_lt_of_eq Nat.zero_lt_one numel1_S1.symm)))

/-- A small whole number's word. -/
theorem fptosi_small (n : ℕ) (hn : n < 17) : Ideal.fptosi 32 (((n + 1 : ℕ) : ℝ) : EReal) = BitVec.ofNat 32 (n + 1) := by
  interval_cases n <;> (rw [Ideal.fptosi, Ideal.toIntClamped_coe]; norm_num)

/-- The visited count read is the query tile's. -/
theorem off1_mod (i : grid0.Coords) : k0_off1 i 0 % 17 = (i 2).val := by
  have h0 : (i 0).val < 2 := (i 0).isLt
  have h1 : (i 1).val < 2 := (i 1).isLt
  have h2 : (i 2).val < 17 := (i 2).isLt
  unfold k0_off1
  generalize (i 0).val = a at h0
  generalize (i 1).val = b at h1
  generalize (i 2).val = t at h2
  interval_cases a <;> interval_cases b <;> interval_cases t <;> rfl

theorem seenWord_eq {S : Fin 4 → Rows} {i : grid0.Coords} (arg3 : Memref sig .tc .smem S34 .f32) (harg3 : arg3.IsWhole)
    (x0 : Vec Ideal S34 .f32) (x1 : Vec Ideal S256x512 .bf16) (x2 : Vec Ideal S4352x512 .bf16) (x3 : Vec Ideal S4352x512 .bf16) (x4 : Vec Ideal S256x512 .f32) (x5 : Vec Ideal S256x512 .bf16) (B : BlockOk S i x0 x1 x2 x3 x4 x5) :
    seenWord i arg3 harg3 x0 = BitVec.ofNat 32 ((i 2).val + 1) := by
  have h2 : (i 2).val < 17 := (i 2).isLt
  show Ideal.fptosi 32 _ = _
  rw [View.readAt_apply, harg3.read_unread, B.vis]
  have e : ((Rect.unit (s := S34) (k0_off1 i) S1.size (k0_off1_inb i)).toLoadRect.idx (Shape.Idx.first (Nat.lt_of_lt_of_eq Nat.zero_lt_one numel1_S1.symm)) 0).val = k0_off1 i 0 := by
    show k0_off1 i 0 + 1 * _ = _
    rfl
  rw [e, off1_mod]
  exact fptosi_small _ h2

theorem first_zero {S : Fin 4 → Rows} {i : grid0.Coords} (arg3 : Memref sig .tc .smem S34 .f32) (harg3 : arg3.IsWhole)
    (x0 : Vec Ideal S34 .f32) (x1 : Vec Ideal S256x512 .bf16) (x2 : Vec Ideal S4352x512 .bf16) (x3 : Vec Ideal S4352x512 .bf16) (x4 : Vec Ideal S256x512 .f32) (x5 : Vec Ideal S256x512 .bf16) (B : BlockOk S i x0 x1 x2 x3 x4 x5) :
    firstWord i (seenWord i arg3 harg3 x0) = 0#32 := by
  have h2 : (i 2).val < 17 := (i 2).isLt
  rw [seenWord_eq arg3 harg3 x0 x1 x2 x3 x4 x5 B]
  show IntOp.maxsi (BitVec.ofNat 32 (i 2).val + 1#32 - BitVec.ofNat 32 ((i 2).val + 1)) 0#32 = 0#32
  generalize (i 2).val = t at h2
  interval_cases t <;> rfl

/-- A head's lanes of a block of queries. -/
theorem lanes_read (arg : Memref sig .tc .vmem S256x512 .bf16) (harg : arg.IsWhole) (x : Vec Ideal S256x512 .bf16) (h : Fin 4) {off : Fin 2 → ℕ}
    (inb : ∀ a, off a + S256x128.size a ≤ S256x512.size a) (hoff : off = ![0, 128 * h.val]) (r : Fin 256) (e : Fin 128) :
    arg.view.readAt (Elt Ideal) (Rect.unit (s := S256x512) off S256x128.size inb).toLoadRect (harg.unread x) (ix2 r e) = x (ix2 r (lane h e)) := by
  subst hoff
  rw [View.readAt_apply, harg.read_unread]
  congr 1
  funext a; apply Fin.ext
  match a with
  | ⟨0, _⟩ => show 0 + 1 * r.val = r.val; omega
  | ⟨1, _⟩ => show 128 * h.val + 1 * e.val = 128 * h.val + e.val; omega

/-- A head's column of totals. -/
theorem totals_read (arg : Memref sig .tc .vmem S256x512 .f32) (harg : arg.IsWhole) (x : Vec Ideal S256x512 .f32) (h : Fin 4) {off : Fin 2 → ℕ}
    (inb : ∀ a, off a + S256x1.size a ≤ S256x512.size a) (hoff : off = ![0, 128 * h.val]) (r : Fin 256) :
    arg.view.readAt (Elt Ideal) (Rect.unit (s := S256x512) off S256x1.size inb).toLoadRect (harg.unread x) (ix2 r (0 : Fin 1)) = x (ix2 r (lane h 0)) := by
  subst hoff
  rw [View.readAt_apply, harg.read_unread]
  congr 1
  funext a; apply Fin.ext
  match a with
  | ⟨0, _⟩ => show 0 + 1 * r.val = r.val; omega
  | ⟨1, _⟩ => rfl

/-- The triangle of keys up to a key. -/
theorem upto_read (r c : Fin 256) : k0_pay128 (F := Ideal) (ix2 r c) = (((if r.val ≤ c.val then 1 else 0) : ℝ) : EReal) := by
  have hr := r.isLt
  have hc := c.isLt
  show ((((IntOp.cmpi .sle (BitVec.ofNat 32 (0 * 256 + r.val)) (BitVec.ofNat 32 (0 * 256 + c.val))).setWidth 32).toInt : ℝ) : EReal) = _
  rw [WordCmp.cmpi_sle_eq, WordCmp.toInt_ofNat_of_lt (by omega), WordCmp.toInt_ofNat_of_lt (by omega)]
  by_cases h : r.val ≤ c.val
  · rw [if_pos h, decide_eq_true (by omega), show ((BitVec.ofBool true).setWidth 32).toInt = 1 from rfl]
    norm_num
  · rw [if_neg h, decide_eq_false (by omega)]
    norm_num

/-- The triangle of keys before a key. -/
theorem before_read (r c : Fin 256) : k0_pay129 (F := Ideal) (ix2 r c) = (((if r.val < c.val then 1 else 0) : ℝ) : EReal) := by
  have hr := r.isLt
  have hc := c.isLt
  show ((((IntOp.cmpi .slt (BitVec.ofNat 32 (0 * 256 + r.val)) (BitVec.ofNat 32 (0 * 256 + c.val))).setWidth 32).toInt : ℝ) : EReal) = _
  rw [WordCmp.cmpi_slt_eq, WordCmp.toInt_ofNat_of_lt (by omega), WordCmp.toInt_ofNat_of_lt (by omega)]
  by_cases h : r.val < c.val
  · rw [if_pos h, decide_eq_true (by omega), show ((BitVec.ofBool true).setWidth 32).toInt = 1 from rfl]
    norm_num
  · rw [if_neg h, decide_eq_false (by omega)]
    norm_num

section Sweep

variable (c : Dev nD) (i : grid0.Coords) (arg3 : Memref sig .tc .smem S34 .f32) (harg3 : arg3.IsWhole) (arg4 : Memref sig .tc .vmem S256x512 .bf16) (harg4 : arg4.IsWhole) (arg5 : Memref sig .tc .vmem S4352x512 .bf16) (harg5 : arg5.IsWhole) (arg6 : Memref sig .tc .vmem S4352x512 .bf16) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4352x512 .bf16) (harg10 : arg10.IsWhole) (arg11 : Memref sig .tc .vmem S4352x512 .bf16) (harg11 : arg11.IsWhole) (arg12 : Memref sig .tc .vmem S512x4352 .f32) (harg12 : arg12.IsWhole) (arg13 : Memref sig .tc .vmem S512x4352 .f32) (harg13 : arg13.IsWhole)
variable (x0 : Vec Ideal S34 .f32) (x1 : Vec Ideal S256x512 .bf16) (x2 : Vec Ideal S4352x512 .bf16) (x3 : Vec Ideal S4352x512 .bf16) (x4 : Vec Ideal S256x512 .f32) (x5 : Vec Ideal S256x512 .bf16)

/-- The state of the key loop of a grid point after `N` tiles, from the blocks and from what the accumulators held. -/
abbrev sweep (G12 : BufTy.Contents (Elt Ideal) arg12.view.ty) (G13 : BufTy.Contents (Elt Ideal) arg13.view.ty) (N : ℕ) :=
  st_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (arg4.view.readAt (Elt Ideal) (Rect.unit (s := S256x512) ![0, 0] S256x128.size inb_S256x512_S256x128_0_0).toLoadRect (harg4.unread x1)) (arg4.view.readAt (Elt Ideal) (Rect.unit (s := S256x512) ![0, 128] S256x128.size inb_S256x512_S256x128_0_128).toLoadRect (harg4.unread x1)) (arg4.view.readAt (Elt Ideal) (Rect.unit (s := S256x512) ![0, 256] S256x128.size inb_S256x512_S256x128_0_256).toLoadRect (harg4.unread x1)) (arg4.view.readAt (Elt Ideal) (Rect.unit (s := S256x512) ![0, 384] S256x128.size inb_S256x512_S256x128_0_384).toLoadRect (harg4.unread x1)) (arg8.view.readAt (Elt Ideal) (Rect.unit (s := S256x512) ![0, 0] S256x128.size inb_S256x512_S256x128_0_0).toLoadRect (harg8.unread x5)) (arg8.view.readAt (Elt Ideal) (Rect.unit (s := S256x512) ![0, 128] S256x128.size inb_S256x512_S256x128_0_128).toLoadRect (harg8.unread x5)) (arg8.view.readAt (Elt Ideal) (Rect.unit (s := S256x512) ![0, 256] S256x128.size inb_S256x512_S256x128_0_256).toLoadRect (harg8.unread x5)) (arg8.view.readAt (Elt Ideal) (Rect.unit (s := S256x512) ![0, 384] S256x128.size inb_S256x512_S256x128_0_384).toLoadRect (harg8.unread x5))
    (k0_pay116 (F := Ideal) (arg4.view.readAt (Elt Ideal) (Rect.unit (s := S256x512) ![0, 0] S256x128.size inb_S256x512_S256x128_0_0).toLoadRect (harg4.unread x1)))
    (k0_pay117 (F := Ideal) (arg4.view.readAt (Elt Ideal) (Rect.unit (s := S256x512) ![0, 128] S256x128.size inb_S256x512_S256x128_0_128).toLoadRect (harg4.unread x1)))
    (k0_pay118 (F := Ideal) (arg4.view.readAt (Elt Ideal) (Rect.unit (s := S256x512) ![0, 256] S256x128.size inb_S256x512_S256x128_0_256).toLoadRect (harg4.unread x1)))
    (k0_pay119 (F := Ideal) (arg4.view.readAt (Elt Ideal) (Rect.unit (s := S256x512) ![0, 384] S256x128.size inb_S256x512_S256x128_0_384).toLoadRect (harg4.unread x1)))
    (k0_pay120 (F := Ideal) (arg8.view.readAt (Elt Ideal) (Rect.unit (s := S256x512) ![0, 0] S256x128.size inb_S256x512_S256x128_0_0).toLoadRect (harg8.unread x5)))
    (k0_pay121 (F := Ideal) (arg8.view.readAt (Elt Ideal) (Rect.unit (s := S256x512) ![0, 128] S256x128.size inb_S256x512_S256x128_0_128).toLoadRect (harg8.unread x5)))
    (k0_pay122 (F := Ideal) (arg8.view.readAt (Elt Ideal) (Rect.unit (s := S256x512) ![0, 256] S256x128.size inb_S256x512_S256x128_0_256).toLoadRect (harg8.unread x5)))
    (k0_pay123 (F := Ideal) (arg8.view.readAt (Elt Ideal) (Rect.unit (s := S256x512) ![0, 384] S256x128.size inb_S256x512_S256x128_0_384).toLoadRect (harg8.unread x5)))
    (k0_pay124 (F := Ideal) (arg7.view.readAt (Elt Ideal) (Rect.unit (s := S256x512) ![0, 0] S256x1.size inb_S256x512_S256x1_0_0).toLoadRect (harg7.unread x4)))
    (k0_pay125 (F := Ideal) (arg7.view.readAt (Elt Ideal) (Rect.unit (s := S256x512) ![0, 128] S256x1.size inb_S256x512_S256x1_0_128).toLoadRect (harg7.unread x4)))
    (k0_pay126 (F := Ideal) (arg7.view.readAt (Elt Ideal) (Rect.unit (s := S256x512) ![0, 256] S256x1.size inb_S256x512_S256x1_0_256).toLoadRect (harg7.unread x4)))
    (k0_pay127 (F := Ideal) (arg7.view.readAt (Elt Ideal) (Rect.unit (s := S256x512) ![0, 384] S256x1.size inb_S256x512_S256x1_0_384).toLoadRect (harg7.unread x4))) (iota .tc S256x256 32 [0] iota_S256x256_d0_w32) (iota .tc S256x256 32 [1] iota_S256x256_d1_w32) (k0_pay128 (F := Ideal)) (k0_pay129 (F := Ideal)) (Scalar.muli (BitVec.ofNat 32 (i 0).val) 1#32) (Scalar.muli (BitVec.ofNat 32 (i 1).val) 4#32) 8#32 (Scalar.divsi (Scalar.muli (BitVec.ofNat 32 (i 1).val) 4#32) 8#32) (Scalar.subi (Scalar.extui (Scalar.cmpi .sgt (Scalar.muli (BitVec.ofNat 32 (i 1).val) 4#32) 0#32)) (Scalar.extui (Scalar.cmpi .slt (Scalar.muli (BitVec.ofNat 32 (i 1).val) 4#32) 0#32))) (seenWord i arg3 harg3 x0) (chk1_all i (seenWord i arg3 harg3 x0))
    (firstWord i (seenWord i arg3 harg3 x0)) (harg5.unread x2) (harg6.unread x3) G12 G13
    (k0_pay131, k0_pay130, k0_pay130, k0_pay132, k0_pay130, k0_pay130, k0_pay133, k0_pay130, k0_pay130, k0_pay134, k0_pay130, k0_pay130) N

variable (S : Fin 4 → Rows) (B : BlockOk S i x0 x1 x2 x3 x4 x5)

include B in
theorem loaded_0 : Loaded (S 0) (i 2).val (arg4.view.readAt (Elt Ideal) (Rect.unit (s := S256x512) ![0, 0] S256x128.size inb_S256x512_S256x128_0_0).toLoadRect (harg4.unread x1)) (arg8.view.readAt (Elt Ideal) (Rect.unit (s := S256x512) ![0, 0] S256x128.size inb_S256x512_S256x128_0_0).toLoadRect (harg8.unread x5)) (k0_pay116 (F := Ideal) (arg4.view.readAt (Elt Ideal) (Rect.unit (s := S256x512) ![0, 0] S256x128.size inb_S256x512_S256x128_0_0).toLoadRect (harg4.unread x1))) (k0_pay120 (F := Ideal) (arg8.view.readAt (Elt Ideal) (Rect.unit (s := S256x512) ![0, 0] S256x128.size inb_S256x512_S256x128_0_0).toLoadRect (harg8.unread x5))) (k0_pay124 (F := Ideal) (arg7.view.readAt (Elt Ideal) (Rect.unit (s := S256x512) ![0, 0] S256x1.size inb_S256x512_S256x1_0_0).toLoadRect (harg7.unread x4))) :=
  { q := fun r e => (lanes_read arg4 harg4 x1 0 _ rfl r e).trans (B.q 0 r e)
    d := fun r e => (lanes_read arg8 harg8 x5 0 _ rfl r e).trans (B.d 0 r e)
    qt := fun e r => (transpose_ix2_apply _ transposes_S256x128_p1_0_S128x256 e r).trans ((lanes_read arg4 harg4 x1 0 _ rfl r e).trans (B.q 0 r e))
    dt := fun e r => (transpose_ix2_apply _ transposes_S256x128_p1_0_S128x256 e r).trans ((lanes_read arg8 harg8 x5 0 _ rfl r e).trans (B.d 0 r e))
    tot := fun r => by
      unfold k0_pay124
      rw [shapeCast_self]
      exact (totals_read arg7 harg7 x4 0 _ rfl r).trans (B.tot 0 r) }

include B in
theorem loaded_1 : Loaded (S 1) (i 2).val (arg4.view.readAt (Elt Ideal) (Rect.unit (s := S256x512) ![0, 128] S256x128.size inb_S256x512_S256x128_0_128).toLoadRect (harg4.unread x1)) (arg8.view.readAt (Elt Ideal) (Rect.unit (s := S256x512) ![0, 128] S256x128.size inb_S256x512_S256x128_0_128).toLoadRect (harg8.unread x5)) (k0_pay117 (F := Ideal) (arg4.view.readAt (Elt Ideal) (Rect.unit (s := S256x512) ![0, 128] S256x128.size inb_S256x512_S256x128_0_128).toLoadRect (harg4.unread x1))) (k0_pay121 (F := Ideal) (arg8.view.readAt (Elt Ideal) (Rect.unit (s := S256x512) ![0, 128] S256x128.size inb_S256x512_S256x128_0_128).toLoadRect (harg8.unread x5))) (k0_pay125 (F := Ideal) (arg7.view.readAt (Elt Ideal) (Rect.unit (s := S256x512) ![0, 128] S256x1.size inb_S256x512_S256x1_0_128).toLoadRect (harg7.unread x4))) :=
  { q := fun r e => (lanes_read arg4 harg4 x1 1 _ rfl r e).trans (B.q 1 r e)
    d := fun r e => (lanes_read arg8 harg8 x5 1 _ rfl r e).trans (B.d 1 r e)
    qt := fun e r => (transpose_ix2_apply _ transposes_S256x128_p1_0_S128x256 e r).trans ((lanes_read arg4 harg4 x1 1 _ rfl r e).trans (B.q 1 r e))
    dt := fun e r => (transpose_ix2_apply _ transposes_S256x128_p1_0_S128x256 e r).trans ((lanes_read arg8 harg8 x5 1 _ rfl r e).trans (B.d 1 r e))
    tot := fun r => by
      unfold k0_pay125
      rw [shapeCast_self]
      exact (totals_read arg7 harg7 x4 1 _ rfl r).trans (B.tot 1 r) }

include B in
theorem loaded_2 : Loaded (S 2) (i 2).val (arg4.view.readAt (Elt Ideal) (Rect.unit (s := S256x512) ![0, 256] S256x128.size inb_S256x512_S256x128_0_256).toLoadRect (harg4.unread x1)) (arg8.view.readAt (Elt Ideal) (Rect.unit (s := S256x512) ![0, 256] S256x128.size inb_S256x512_S256x128_0_256).toLoadRect (harg8.unread x5)) (k0_pay118 (F := Ideal) (arg4.view.readAt (Elt Ideal) (Rect.unit (s := S256x512) ![0, 256] S256x128.size inb_S256x512_S256x128_0_256).toLoadRect (harg4.unread x1))) (k0_pay122 (F := Ideal) (arg8.view.readAt (Elt Ideal) (Rect.unit (s := S256x512) ![0, 256] S256x128.size inb_S256x512_S256x128_0_256).toLoadRect (harg8.unread x5))) (k0_pay126 (F := Ideal) (arg7.view.readAt (Elt Ideal) (Rect.unit (s := S256x512) ![0, 256] S256x1.size inb_S256x512_S256x1_0_256).toLoadRect (harg7.unread x4))) :=
  { q := fun r e => (lanes_read arg4 harg4 x1 2 _ rfl r e).trans (B.q 2 r e)
    d := fun r e => (lanes_read arg8 harg8 x5 2 _ rfl r e).trans (B.d 2 r e)
    qt := fun e r => (transpose_ix2_apply _ transposes_S256x128_p1_0_S128x256 e r).trans ((lanes_read arg4 harg4 x1 2 _ rfl r e).trans (B.q 2 r e))
    dt := fun e r => (transpose_ix2_apply _ transposes_S256x128_p1_0_S128x256 e r).trans ((lanes_read arg8 harg8 x5 2 _ rfl r e).trans (B.d 2 r e))
    tot := fun r => by
      unfold k0_pay126
      rw [shapeCast_self]
      exact (totals_read arg7 harg7 x4 2 _ rfl r).trans (B.tot 2 r) }

include B in
theorem loaded_3 : Loaded (S 3) (i 2).val (arg4.view.readAt (Elt Ideal) (Rect.unit (s := S256x512) ![0, 384] S256x128.size inb_S256x512_S256x128_0_384).toLoadRect (harg4.unread x1)) (arg8.view.readAt (Elt Ideal) (Rect.unit (s := S256x512) ![0, 384] S256x128.size inb_S256x512_S256x128_0_384).toLoadRect (harg8.unread x5)) (k0_pay119 (F := Ideal) (arg4.view.readAt (Elt Ideal) (Rect.unit (s := S256x512) ![0, 384] S256x128.size inb_S256x512_S256x128_0_384).toLoadRect (harg4.unread x1))) (k0_pay123 (F := Ideal) (arg8.view.readAt (Elt Ideal) (Rect.unit (s := S256x512) ![0, 384] S256x128.size inb_S256x512_S256x128_0_384).toLoadRect (harg8.unread x5))) (k0_pay127 (F := Ideal) (arg7.view.readAt (Elt Ideal) (Rect.unit (s := S256x512) ![0, 384] S256x1.size inb_S256x512_S256x1_0_384).toLoadRect (harg7.unread x4))) :=
  { q := fun r e => (lanes_read arg4 harg4 x1 3 _ rfl r e).trans (B.q 3 r e)
    d := fun r e => (lanes_read arg8 harg8 x5 3 _ rfl r e).trans (B.d 3 r e)
    qt := fun e r => (transpose_ix2_apply _ transposes_S256x128_p1_0_S128x256 e r).trans ((lanes_read arg4 harg4 x1 3 _ rfl r e).trans (B.q 3 r e))
    dt := fun e r => (transpose_ix2_apply _ transposes_S256x128_p1_0_S128x256 e r).trans ((lanes_read arg8 harg8 x5 3 _ rfl r e).trans (B.d 3 r e))
    tot := fun r => by
      unfold k0_pay127
      rw [shapeCast_self]
      exact (totals_read arg7 harg7 x4 3 _ rfl r).trans (B.tot 3 r) }

include B in
/-- The blocks make the loop's inputs right. -/
theorem loopOk_of_blocks : LoopOk i arg5 arg6 (BitVec.ofNat 32 (i 2).val) (arg4.view.readAt (Elt Ideal) (Rect.unit (s := S256x512) ![0, 0] S256x128.size inb_S256x512_S256x128_0_0).toLoadRect (harg4.unread x1)) (arg4.view.readAt (Elt Ideal) (Rect.unit (s := S256x512) ![0, 128] S256x128.size inb_S256x512_S256x128_0_128).toLoadRect (harg4.unread x1)) (arg4.view.readAt (Elt Ideal) (Rect.unit (s := S256x512) ![0, 256] S256x128.size inb_S256x512_S256x128_0_256).toLoadRect (harg4.unread x1)) (arg4.view.readAt (Elt Ideal) (Rect.unit (s := S256x512) ![0, 384] S256x128.size inb_S256x512_S256x128_0_384).toLoadRect (harg4.unread x1)) (arg8.view.readAt (Elt Ideal) (Rect.unit (s := S256x512) ![0, 0] S256x128.size inb_S256x512_S256x128_0_0).toLoadRect (harg8.unread x5)) (arg8.view.readAt (Elt Ideal) (Rect.unit (s := S256x512) ![0, 128] S256x128.size inb_S256x512_S256x128_0_128).toLoadRect (harg8.unread x5)) (arg8.view.readAt (Elt Ideal) (Rect.unit (s := S256x512) ![0, 256] S256x128.size inb_S256x512_S256x128_0_256).toLoadRect (harg8.unread x5)) (arg8.view.readAt (Elt Ideal) (Rect.unit (s := S256x512) ![0, 384] S256x128.size inb_S256x512_S256x128_0_384).toLoadRect (harg8.unread x5)) (k0_pay116 (F := Ideal) (arg4.view.readAt (Elt Ideal) (Rect.unit (s := S256x512) ![0, 0] S256x128.size inb_S256x512_S256x128_0_0).toLoadRect (harg4.unread x1))) (k0_pay117 (F := Ideal) (arg4.view.readAt (Elt Ideal) (Rect.unit (s := S256x512) ![0, 128] S256x128.size inb_S256x512_S256x128_0_128).toLoadRect (harg4.unread x1))) (k0_pay118 (F := Ideal) (arg4.view.readAt (Elt Ideal) (Rect.unit (s := S256x512) ![0, 256] S256x128.size inb_S256x512_S256x128_0_256).toLoadRect (harg4.unread x1))) (k0_pay119 (F := Ideal) (arg4.view.readAt (Elt Ideal) (Rect.unit (s := S256x512) ![0, 384] S256x128.size inb_S256x512_S256x128_0_384).toLoadRect (harg4.unread x1))) (k0_pay120 (F := Ideal) (arg8.view.readAt (Elt Ideal) (Rect.unit (s := S256x512) ![0, 0] S256x128.size inb_S256x512_S256x128_0_0).toLoadRect (harg8.unread x5))) (k0_pay121 (F := Ideal) (arg8.view.readAt (Elt Ideal) (Rect.unit (s := S256x512) ![0, 128] S256x128.size inb_S256x512_S256x128_0_128).toLoadRect (harg8.unread x5))) (k0_pay122 (F := Ideal) (arg8.view.readAt (Elt Ideal) (Rect.unit (s := S256x512) ![0, 256] S256x128.size inb_S256x512_S256x128_0_256).toLoadRect (harg8.unread x5))) (k0_pay123 (F := Ideal) (arg8.view.readAt (Elt Ideal) (Rect.unit (s := S256x512) ![0, 384] S256x128.size inb_S256x512_S256x128_0_384).toLoadRect (harg8.unread x5))) (k0_pay124 (F := Ideal) (arg7.view.readAt (Elt Ideal) (Rect.unit (s := S256x512) ![0, 0] S256x1.size inb_S256x512_S256x1_0_0).toLoadRect (harg7.unread x4))) (k0_pay125 (F := Ideal) (arg7.view.readAt (Elt Ideal) (Rect.unit (s := S256x512) ![0, 128] S256x1.size inb_S256x512_S256x1_0_128).toLoadRect (harg7.unread x4))) (k0_pay126 (F := Ideal) (arg7.view.readAt (Elt Ideal) (Rect.unit (s := S256x512) ![0, 256] S256x1.size inb_S256x512_S256x1_0_256).toLoadRect (harg7.unread x4))) (k0_pay127 (F := Ideal) (arg7.view.readAt (Elt Ideal) (Rect.unit (s := S256x512) ![0, 384] S256x1.size inb_S256x512_S256x1_0_384).toLoadRect (harg7.unread x4))) (iota .tc S256x256 32 [0] iota_S256x256_d0_w32) (iota .tc S256x256 32 [1] iota_S256x256_d1_w32) (k0_pay128 (F := Ideal)) (k0_pay129 (F := Ideal)) (seenWord i arg3 harg3 x0) (firstWord i (seenWord i arg3 harg3 x0)) (harg5.unread x2) (harg6.unread x3) S (i 2).val where
  hn := rfl
  first := first_zero arg3 harg3 x0 x1 x2 x3 x4 x5 B
  h88 := first_zero arg3 harg3 x0 x1 x2 x3 x4 x5 B
  h2 := rfl
  h51 := fun r c => by
    show BitVec.ofNat 32 (0 * 256 + r.val) = _
    rw [Nat.zero_mul, Nat.zero_add]
  h52 := fun r c => by
    show BitVec.ofNat 32 (0 * 256 + c.val) = _
    rw [Nat.zero_mul, Nat.zero_add]
  upto := upto_read
  before := before_read
  l0 := loaded_0 i arg4 harg4 arg7 harg7 arg8 harg8 x0 x1 x2 x3 x4 x5 S B
  l1 := loaded_1 i arg4 harg4 arg7 harg7 arg8 harg8 x0 x1 x2 x3 x4 x5 S B
  l2 := loaded_2 i arg4 harg4 arg7 harg7 arg8 harg8 x0 x1 x2 x3 x4 x5 S B
  l3 := loaded_3 i arg4 harg4 arg7 harg7 arg8 harg8 x0 x1 x2 x3 x4 x5 S B
  hk := fun h s e => by rw [harg5.read_unread]; exact B.k h s e
  hv := fun h s e => by rw [harg6.read_unread]; exact B.v h s e
  small := B.small

include B in
/-- After the point's last tile the heads carry the sums over all tiles up to the query's own, and the accumulators have the
    query tile's shares added in the columns of those tiles. -/
theorem sweep_ok (G12 : BufTy.Contents (Elt Ideal) arg12.view.ty) (G13 : BufTy.Contents (Elt Ideal) arg13.view.ty) :
    AccOk S (i 2).val ((i 2).val + 1) (sweep c i arg3 harg3 arg4 harg4 arg5 harg5 arg6 harg6 arg7 harg7 arg8 harg8 arg9 harg9 arg10 harg10 arg11 harg11 arg12 harg12 arg13 harg13 x0 x1 x2 x3 x4 x5 G12 G13 ((i 2).val + 1)).1
    ∧ (∀ (h : Fin 4) (e : Fin 128) (s : Fin 4352), arg12.view.read (Elt Ideal) (arg12.view.writes (Elt Ideal) G12 (sweep c i arg3 harg3 arg4 harg4 arg5 harg5 arg6 harg6 arg7 harg7 arg8 harg8 arg9 harg9 arg10 harg10 arg11 harg11 arg12 harg12 arg13 harg13 x0 x1 x2 x3 x4 x5 G12 G13 ((i 2).val + 1)).2.1) (ix2 (lane h e) s)
        = arg12.view.read (Elt Ideal) G12 (ix2 (lane h e) s) + ((if s.val < 256 * ((i 2).val + 1) then dkPart (S h) (i 2).val s e else 0 : ℝ) : EReal))
    ∧ (∀ (h : Fin 4) (e : Fin 128) (s : Fin 4352), arg13.view.read (Elt Ideal) (arg13.view.writes (Elt Ideal) G13 (sweep c i arg3 harg3 arg4 harg4 arg5 harg5 arg6 harg6 arg7 harg7 arg8 harg8 arg9 harg9 arg10 harg10 arg11 harg11 arg12 harg12 arg13 harg13 x0 x1 x2 x3 x4 x5 G12 G13 ((i 2).val + 1)).2.2) (ix2 (lane h e) s)
        = arg13.view.read (Elt Ideal) G13 (ix2 (lane h e) s) + ((if s.val < 256 * ((i 2).val + 1) then dvPart (S h) (i 2).val s e else 0 : ℝ) : EReal)) := by
  have zero : (Scalar.ofBits (F := Ideal) .f32 0x00000000#32 : EReal) = 0 := Ideal.ofBits_zero_f32
  exact loop_ok Variants.none c none i arg3 harg3 arg4 harg4 arg5 harg5 arg6 harg6 arg7 harg7 arg8 harg8 arg9 harg9 arg10 harg10 arg11 harg11 arg12 harg12 arg13 harg13 (BitVec.ofNat 32 (i 2).val) (arg4.view.readAt (Elt Ideal) (Rect.unit (s := S256x512) ![0, 0] S256x128.size inb_S256x512_S256x128_0_0).toLoadRect (harg4.unread x1)) (arg4.view.readAt (Elt Ideal) (Rect.unit (s := S256x512) ![0, 128] S256x128.size inb_S256x512_S256x128_0_128).toLoadRect (harg4.unread x1)) (arg4.view.readAt (Elt Ideal) (Rect.unit (s := S256x512) ![0, 256] S256x128.size inb_S256x512_S256x128_0_256).toLoadRect (harg4.unread x1)) (arg4.view.readAt (Elt Ideal) (Rect.unit (s := S256x512) ![0, 384] S256x128.size inb_S256x512_S256x128_0_384).toLoadRect (harg4.unread x1)) (arg8.view.readAt (Elt Ideal) (Rect.unit (s := S256x512) ![0, 0] S256x128.size inb_S256x512_S256x128_0_0).toLoadRect (harg8.unread x5)) (arg8.view.readAt (Elt Ideal) (Rect.unit (s := S256x512) ![0, 128] S256x128.size inb_S256x512_S256x128_0_128).toLoadRect (harg8.unread x5)) (arg8.view.readAt (Elt Ideal) (Rect.unit (s := S256x512) ![0, 256] S256x128.size inb_S256x512_S256x128_0_256).toLoadRect (harg8.unread x5)) (arg8.view.readAt (Elt Ideal) (Rect.unit (s := S256x512) ![0, 384] S256x128.size inb_S256x512_S256x128_0_384).toLoadRect (harg8.unread x5))
    (k0_pay116 (F := Ideal) (arg4.view.readAt (Elt Ideal) (Rect.unit (s := S256x512) ![0, 0] S256x128.size inb_S256x512_S256x128_0_0).toLoadRect (harg4.unread x1)))
    (k0_pay117 (F := Ideal) (arg4.view.readAt (Elt Ideal) (Rect.unit (s := S256x512) ![0, 128] S256x128.size inb_S256x512_S256x128_0_128).toLoadRect (harg4.unread x1)))
    (k0_pay118 (F := Ideal) (arg4.view.readAt (Elt Ideal) (Rect.unit (s := S256x512) ![0, 256] S256x128.size inb_S256x512_S256x128_0_256).toLoadRect (harg4.unread x1)))
    (k0_pay119 (F := Ideal) (arg4.view.readAt (Elt Ideal) (Rect.unit (s := S256x512) ![0, 384] S256x128.size inb_S256x512_S256x128_0_384).toLoadRect (harg4.unread x1)))
    (k0_pay120 (F := Ideal) (arg8.view.readAt (Elt Ideal) (Rect.unit (s := S256x512) ![0, 0] S256x128.size inb_S256x512_S256x128_0_0).toLoadRect (harg8.unread x5)))
    (k0_pay121 (F := Ideal) (arg8.view.readAt (Elt Ideal) (Rect.unit (s := S256x512) ![0, 128] S256x128.size inb_S256x512_S256x128_0_128).toLoadRect (harg8.unread x5)))
    (k0_pay122 (F := Ideal) (arg8.view.readAt (Elt Ideal) (Rect.unit (s := S256x512) ![0, 256] S256x128.size inb_S256x512_S256x128_0_256).toLoadRect (harg8.unread x5)))
    (k0_pay123 (F := Ideal) (arg8.view.readAt (Elt Ideal) (Rect.unit (s := S256x512) ![0, 384] S256x128.size inb_S256x512_S256x128_0_384).toLoadRect (harg8.unread x5)))
    (k0_pay124 (F := Ideal) (arg7.view.readAt (Elt Ideal) (Rect.unit (s := S256x512) ![0, 0] S256x1.size inb_S256x512_S256x1_0_0).toLoadRect (harg7.unread x4)))
    (k0_pay125 (F := Ideal) (arg7.view.readAt (Elt Ideal) (Rect.unit (s := S256x512) ![0, 128] S256x1.size inb_S256x512_S256x1_0_128).toLoadRect (harg7.unread x4)))
    (k0_pay126 (F := Ideal) (arg7.view.readAt (Elt Ideal) (Rect.unit (s := S256x512) ![0, 256] S256x1.size inb_S256x512_S256x1_0_256).toLoadRect (harg7.unread x4)))
    (k0_pay127 (F := Ideal) (arg7.view.readAt (Elt Ideal) (Rect.unit (s := S256x512) ![0, 384] S256x1.size inb_S256x512_S256x1_0_384).toLoadRect (harg7.unread x4))) (iota .tc S256x256 32 [0] iota_S256x256_d0_w32) (iota .tc S256x256 32 [1] iota_S256x256_d1_w32) (k0_pay128 (F := Ideal)) (k0_pay129 (F := Ideal)) (Scalar.muli (BitVec.ofNat 32 (i 0).val) 1#32) (Scalar.muli (BitVec.ofNat 32 (i 1).val) 4#32) 8#32 (Scalar.divsi (Scalar.muli (BitVec.ofNat 32 (i 1).val) 4#32) 8#32) (Scalar.subi (Scalar.extui (Scalar.cmpi .sgt (Scalar.muli (BitVec.ofNat 32 (i 1).val) 4#32) 0#32)) (Scalar.extui (Scalar.cmpi .slt (Scalar.muli (BitVec.ofNat 32 (i 1).val) 4#32) 0#32))) (seenWord i arg3 harg3 x0) (chk1_all i (seenWord i arg3 harg3 x0))
    (firstWord i (seenWord i arg3 harg3 x0)) (harg5.unread x2) (harg6.unread x3) S (i 2).val
    (loopOk_of_blocks i arg3 harg3 arg4 harg4 arg5 harg5 arg6 harg6 arg7 harg7 arg8 harg8 x0 x1 x2 x3 x4 x5 S B) G12 G13
    (k0_pay131, k0_pay130, k0_pay130, k0_pay132, k0_pay130, k0_pay130, k0_pay133, k0_pay130, k0_pay130, k0_pay134, k0_pay130, k0_pay130)
    ⟨Carried.start _ _ (fun _ => zero) (fun _ => zero) (fun _ => zero), Carried.start _ _ (fun _ => zero) (fun _ => zero) (fun _ => zero),
      Carried.start _ _ (fun _ => zero) (fun _ => zero) (fun _ => zero), Carried.start _ _ (fun _ => zero) (fun _ => zero) (fun _ => zero)⟩
    ((i 2).val + 1) (Nat.le_refl _)

end Sweep

end Cert.KernelIdeal.Sb

end
-- ==== Proof.KernelIdeal.RunVal.lean ====
/- What one grid point stores, from the state its key loop ends in. -/
module

public import proofs.«01_k».proof.Proof.KernelIdeal.SweepVal

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI Idealize.SL.Sem
open Cert.Stick Idealize.ShloMosaic.ValueIdx
open scoped BigOperators
open Finset

/-- The four heads' query gradients, stored side by side. -/
def dqPieces (acc : Acc Ideal) : List (View.Piece (Elt Ideal) S256x512 .bf16) :=
  [⟨Rect.unit (s := S256x512) ![0, 384] ![256, 128] inb_S256x512_S256x128_0_384, k0_pay3 (F := Ideal) acc.2.2.2.2.2.2.2.2.2.1⟩,
    ⟨Rect.unit (s := S256x512) ![0, 256] ![256, 128] inb_S256x512_S256x128_0_256, k0_pay2 (F := Ideal) acc.2.2.2.2.2.2.1⟩,
    ⟨Rect.unit (s := S256x512) ![0, 128] ![256, 128] inb_S256x512_S256x128_0_128, k0_pay1 (F := Ideal) acc.2.2.2.1 (k0_pay144 (F := Ideal))⟩,
    ⟨Rect.unit (s := S256x512) ![0, 0] ![256, 128] inb_S256x512_S256x128_0_0, k0_pay143 (F := Ideal) acc.1⟩]

/-- A query tile's gradient is its sum over the keys up to the tile. -/
theorem dq_upto (S : Rows) (n : ℕ) (hn : n < 17) (r : Fin 256) (e : Fin 128) :
    S.dq (256 * n + r) e = sc * ∑ s ∈ range (256 * (n + 1)), S.dlogit (256 * n + r) s * S.k s e := by
  have hr := r.isLt
  unfold Rows.dq
  congr 1
  symm
  refine sum_subset (range_subset_range.mpr (by omega)) fun s _ hs => ?_
  rw [S.dlogit_zero (fun h => hs (mem_range.mpr (by have := h.1; omega))), zero_mul]

/-- A head's lanes of a row, read back from the piece stored there. -/
theorem piece_in {κ : Kind} {ms : Space} (v : View sig κ ms S256x512 .bf16) (f : v.ty.Contents (Elt Ideal)) (o : ℕ)
    (inb : ∀ a, (![0, o] : Fin 2 → ℕ) a + (![256, 128] : Fin 2 → ℕ) a ≤ S256x512.size a) (w : FVec Ideal S256x128 .bf16)
    (L : List (View.Piece (Elt Ideal) S256x512 .bf16)) (h : Fin 4) (ho : 128 * h.val = o) (r : Fin 256) (e : Fin 128) :
    v.read (Elt Ideal) (v.writes (Elt Ideal) f ((⟨Rect.unit (s := S256x512) ![0, o] ![256, 128] inb, w⟩ : View.Piece (Elt Ideal) S256x512 .bf16) :: L)) (ix2 r (lane h e)) = w (ix2 r e) :=
  View.read_writes_cons_unit_of_mem v f inb w L (ix2 r (lane h e)) (ix2 r e) rfl (fun a => by
    match a with
    | ⟨0, _⟩ => exact (Nat.zero_add _).symm
    | ⟨1, _⟩ => show 128 * h.val + e.val = o + e.val; omega)

/-- A head's lanes of a row are not touched by the piece of a later head. -/
theorem piece_out {κ : Kind} {ms : Space} (v : View sig κ ms S256x512 .bf16) (f : v.ty.Contents (Elt Ideal)) (o : ℕ)
    (inb : ∀ a, (![0, o] : Fin 2 → ℕ) a + (![256, 128] : Fin 2 → ℕ) a ≤ S256x512.size a) (w : FVec Ideal S256x128 .bf16)
    (L : List (View.Piece (Elt Ideal) S256x512 .bf16)) (h : Fin 4) (ho : 128 * h.val + 128 ≤ o) (r : Fin 256) (e : Fin 128) :
    v.read (Elt Ideal) (v.writes (Elt Ideal) f ((⟨Rect.unit (s := S256x512) ![0, o] ![256, 128] inb, w⟩ : View.Piece (Elt Ideal) S256x512 .bf16) :: L)) (ix2 r (lane h e))
      = v.read (Elt Ideal) (v.writes (Elt Ideal) f L) (ix2 r (lane h e)) :=
  View.read_writes_cons_unit_of_not_mem v f inb w L (ix2 r (lane h e)) rfl 1 (Or.inl (by
    show 128 * h.val + e.val < o
    have := e.isLt
    omega))

/-- What is stored for the queries is their gradient. -/
theorem dqPieces_read {S : Fin 4 → Rows} {n : ℕ} (hn : n < 17) {acc : Acc Ideal} (A : AccOk S n (n + 1) acc)
    {κ : Kind} {ms : Space} (v : View sig κ ms S256x512 .bf16) (f : v.ty.Contents (Elt Ideal))
    (h : Fin 4) (r : Fin 256) (e : Fin 128) :
    v.read (Elt Ideal) (v.writes (Elt Ideal) f (dqPieces acc)) (ix2 r (lane h e)) = (((S h).dq (256 * n + r) e : ℝ) : EReal) := by
  unfold dqPieces
  rcases (by omega : h.val = 0 ∨ h.val = 1 ∨ h.val = 2 ∨ h.val = 3) with h0 | h0 | h0 | h0
  · obtain rfl : h = 0 := Fin.ext h0
    refine (piece_out v f 384 _ _ _ 0 (by decide) r e).trans ((piece_out v f 256 _ _ _ 0 (by decide) r e).trans
      ((piece_out v f 128 _ _ _ 0 (by decide) r e).trans ((piece_in v f 0 _ _ _ 0 rfl r e).trans ?_)))
    show Ideal.ofBits .f32 0x3DB504F3#32 * acc.1 (ix2 r e) = _
    rw [ofBits_sc, A.1.dq r e, ← EReal.coe_mul, dq_upto _ _ hn]
  · obtain rfl : h = 1 := Fin.ext h0
    refine (piece_out v f 384 _ _ _ 1 (by decide) r e).trans ((piece_out v f 256 _ _ _ 1 (by decide) r e).trans
      ((piece_in v f 128 _ _ _ 1 rfl r e).trans ?_))
    show Ideal.ofBits .f32 0x3DB504F3#32 * acc.2.2.2.1 (ix2 r e) = _
    rw [ofBits_sc, A.2.1.dq r e, ← EReal.coe_mul, dq_upto _ _ hn]
  · obtain rfl : h = 2 := Fin.ext h0
    refine (piece_out v f 384 _ _ _ 2 (by decide) r e).trans ((piece_in v f 256 _ _ _ 2 rfl r e).trans ?_)
    show Ideal.ofBits .f32 0x3DB504F3#32 * acc.2.2.2.2.2.2.1 (ix2 r e) = _
    rw [ofBits_sc, A.2.2.1.dq r e, ← EReal.coe_mul, dq_upto _ _ hn]
  · obtain rfl : h = 3 := Fin.ext h0
    refine (piece_in v f 384 _ _ _ 3 rfl r e).trans ?_
    show Ideal.ofBits .f32 0x3DB504F3#32 * acc.2.2.2.2.2.2.2.2.2.1 (ix2 r e) = _
    rw [ofBits_sc, A.2.2.2.dq r e, ← EReal.coe_mul, dq_upto _ _ hn]

/-- The stored key gradient is the transposed accumulator. -/
theorem pay4_read (x : Vec Ideal S512x4352 .f32) (s : Fin 4352) (l : Fin 512) : k0_pay4 (F := Ideal) x (ix2 s l) = x (ix2 l s) := by
  unfold k0_pay4
  exact transpose_ix2_apply x transposes_S512x4352_p1_0_S4352x512 s l

theorem pay5_read (x : Vec Ideal S512x4352 .f32) (s : Fin 4352) (l : Fin 512) : k0_pay5 (F := Ideal) x (ix2 s l) = x (ix2 l s) := by
  unfold k0_pay5
  exact transpose_ix2_apply x transposes_S512x4352_p1_0_S4352x512 s l

/-- A query tile adds nothing to the keys after it. -/
theorem dkPart_upto (S : Rows) (n : ℕ) (s : ℕ) (e : ℕ) : (if s < 256 * (n + 1) then dkPart S n s e else 0) = dkPart S n s e := by
  by_cases h : s < 256 * (n + 1)
  · rw [if_pos h]
  · rw [if_neg h]
    unfold dkPart
    rw [sum_eq_zero fun r hr => ?_, mul_zero]
    have := mem_range.mp hr
    rw [S.dlogit_zero (fun h1 => h (by have := h1.1; omega)), mul_zero]

theorem dvPart_upto (S : Rows) (n : ℕ) (s : ℕ) (e : ℕ) : (if s < 256 * (n + 1) then dvPart S n s e else 0) = dvPart S n s e := by
  by_cases h : s < 256 * (n + 1)
  · rw [if_pos h]
  · rw [if_neg h]
    unfold dvPart
    rw [sum_eq_zero fun r hr => ?_]
    have := mem_range.mp hr
    rw [S.wt_zero (fun h1 => h (by have := h1.1; omega)), mul_zero]

section Run

variable (c : Dev nD) (i : grid0.Coords) (arg3 : Memref sig .tc .smem S34 .f32) (harg3 : arg3.IsWhole) (arg4 : Memref sig .tc .vmem S256x512 .bf16) (harg4 : arg4.IsWhole) (arg5 : Memref sig .tc .vmem S4352x512 .bf16) (harg5 : arg5.IsWhole) (arg6 : Memref sig .tc .vmem S4352x512 .bf16) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4352x512 .bf16) (harg10 : arg10.IsWhole) (arg11 : Memref sig .tc .vmem S4352x512 .bf16) (harg11 : arg11.IsWhole) (arg12 : Memref sig .tc .vmem S512x4352 .f32) (harg12 : arg12.IsWhole) (arg13 : Memref sig .tc .vmem S512x4352 .f32) (harg13 : arg13.IsWhole)
variable (x0 : Vec Ideal S34 .f32) (x1 : Vec Ideal S256x512 .bf16) (x2 : Vec Ideal S4352x512 .bf16) (x3 : Vec Ideal S4352x512 .bf16) (x4 : Vec Ideal S256x512 .f32) (x5 : Vec Ideal S256x512 .bf16)

/-- The state a grid point's loops end in: the second loop, over the keys the first leaves, starts from the first's end. -/
abbrev ending (w : BitVec 32) (G12 X12 : BufTy.Contents (Elt Ideal) arg12.view.ty) (G13 X13 : BufTy.Contents (Elt Ideal) arg13.view.ty) :=
  st_k0_t2 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (arg4.view.readAt (Elt Ideal) (Rect.unit (s := S256x512) ![0, 0] S256x128.size inb_S256x512_S256x128_0_0).toLoadRect (harg4.unread x1)) (arg4.view.readAt (Elt Ideal) (Rect.unit (s := S256x512) ![0, 128] S256x128.size inb_S256x512_S256x128_0_128).toLoadRect (harg4.unread x1)) (arg4.view.readAt (Elt Ideal) (Rect.unit (s := S256x512) ![0, 256] S256x128.size inb_S256x512_S256x128_0_256).toLoadRect (harg4.unread x1)) (arg4.view.readAt (Elt Ideal) (Rect.unit (s := S256x512) ![0, 384] S256x128.size inb_S256x512_S256x128_0_384).toLoadRect (harg4.unread x1)) (arg8.view.readAt (Elt Ideal) (Rect.unit (s := S256x512) ![0, 0] S256x128.size inb_S256x512_S256x128_0_0).toLoadRect (harg8.unread x5)) (arg8.view.readAt (Elt Ideal) (Rect.unit (s := S256x512) ![0, 128] S256x128.size inb_S256x512_S256x128_0_128).toLoadRect (harg8.unread x5)) (arg8.view.readAt (Elt Ideal) (Rect.unit (s := S256x512) ![0, 256] S256x128.size inb_S256x512_S256x128_0_256).toLoadRect (harg8.unread x5)) (arg8.view.readAt (Elt Ideal) (Rect.unit (s := S256x512) ![0, 384] S256x128.size inb_S256x512_S256x128_0_384).toLoadRect (harg8.unread x5))
    (k0_pay116 (F := Ideal) (arg4.view.readAt (Elt Ideal) (Rect.unit (s := S256x512) ![0, 0] S256x128.size inb_S256x512_S256x128_0_0).toLoadRect (harg4.unread x1)))
    (k0_pay117 (F := Ideal) (arg4.view.readAt (Elt Ideal) (Rect.unit (s := S256x512) ![0, 128] S256x128.size inb_S256x512_S256x128_0_128).toLoadRect (harg4.unread x1)))
    (k0_pay118 (F := Ideal) (arg4.view.readAt (Elt Ideal) (Rect.unit (s := S256x512) ![0, 256] S256x128.size inb_S256x512_S256x128_0_256).toLoadRect (harg4.unread x1)))
    (k0_pay119 (F := Ideal) (arg4.view.readAt (Elt Ideal) (Rect.unit (s := S256x512) ![0, 384] S256x128.size inb_S256x512_S256x128_0_384).toLoadRect (harg4.unread x1)))
    (k0_pay120 (F := Ideal) (arg8.view.readAt (Elt Ideal) (Rect.unit (s := S256x512) ![0, 0] S256x128.size inb_S256x512_S256x128_0_0).toLoadRect (harg8.unread x5)))
    (k0_pay121 (F := Ideal) (arg8.view.readAt (Elt Ideal) (Rect.unit (s := S256x512) ![0, 128] S256x128.size inb_S256x512_S256x128_0_128).toLoadRect (harg8.unread x5)))
    (k0_pay122 (F := Ideal) (arg8.view.readAt (Elt Ideal) (Rect.unit (s := S256x512) ![0, 256] S256x128.size inb_S256x512_S256x128_0_256).toLoadRect (harg8.unread x5)))
    (k0_pay123 (F := Ideal) (arg8.view.readAt (Elt Ideal) (Rect.unit (s := S256x512) ![0, 384] S256x128.size inb_S256x512_S256x128_0_384).toLoadRect (harg8.unread x5)))
    (k0_pay124 (F := Ideal) (arg7.view.readAt (Elt Ideal) (Rect.unit (s := S256x512) ![0, 0] S256x1.size inb_S256x512_S256x1_0_0).toLoadRect (harg7.unread x4)))
    (k0_pay125 (F := Ideal) (arg7.view.readAt (Elt Ideal) (Rect.unit (s := S256x512) ![0, 128] S256x1.size inb_S256x512_S256x1_0_128).toLoadRect (harg7.unread x4)))
    (k0_pay126 (F := Ideal) (arg7.view.readAt (Elt Ideal) (Rect.unit (s := S256x512) ![0, 256] S256x1.size inb_S256x512_S256x1_0_256).toLoadRect (harg7.unread x4)))
    (k0_pay127 (F := Ideal) (arg7.view.readAt (Elt Ideal) (Rect.unit (s := S256x512) ![0, 384] S256x1.size inb_S256x512_S256x1_0_384).toLoadRect (harg7.unread x4))) (iota .tc S256x256 32 [0] iota_S256x256_d0_w32) (iota .tc S256x256 32 [1] iota_S256x256_d1_w32) (k0_pay128 (F := Ideal)) (k0_pay129 (F := Ideal)) (Scalar.muli (BitVec.ofNat 32 (i 0).val) 1#32) (Scalar.muli (BitVec.ofNat 32 (i 1).val) 4#32) 8#32 (Scalar.divsi (Scalar.muli (BitVec.ofNat 32 (i 1).val) 4#32) 8#32) (Scalar.subi (Scalar.extui (Scalar.cmpi .sgt (Scalar.muli (BitVec.ofNat 32 (i 1).val) 4#32) 0#32)) (Scalar.extui (Scalar.cmpi .slt (Scalar.muli (BitVec.ofNat 32 (i 1).val) 4#32) 0#32))) (seenWord i arg3 harg3 x0) (chk1_all i (seenWord i arg3 harg3 x0))
    w (harg5.unread x2) (harg6.unread x3) X12 X13
    (sweep c i arg3 harg3 arg4 harg4 arg5 harg5 arg6 harg6 arg7 harg7 arg8 harg8 arg9 harg9 arg10 harg10 arg11 harg11 arg12 harg12 arg13 harg13 x0 x1 x2 x3 x4 x5 G12 G13 (k0_t1_loop i (seenWord i arg3 harg3 x0)).trips).1 (k0_t2_loop i (seenWord i arg3 harg3 x0)).trips

/-- The second loop makes no trip, and the first goes over all the tiles up to the query's own. -/
theorem ending_eq {S : Fin 4 → Rows} (B : BlockOk S i x0 x1 x2 x3 x4 x5) (w : BitVec 32) (G12 X12 : BufTy.Contents (Elt Ideal) arg12.view.ty) (G13 X13 : BufTy.Contents (Elt Ideal) arg13.view.ty) :
    ending c i arg3 harg3 arg4 harg4 arg5 harg5 arg6 harg6 arg7 harg7 arg8 harg8 arg9 harg9 arg10 harg10 arg11 harg11 arg12 harg12 arg13 harg13 x0 x1 x2 x3 x4 x5 w G12 X12 G13 X13 = ((sweep c i arg3 harg3 arg4 harg4 arg5 harg5 arg6 harg6 arg7 harg7 arg8 harg8 arg9 harg9 arg10 harg10 arg11 harg11 arg12 harg12 arg13 harg13 x0 x1 x2 x3 x4 x5 G12 G13 ((i 2).val + 1)).1, [], []) := by
  unfold ending
  rw [trips2_eq, trips1_eq i _ (first_zero arg3 harg3 x0 x1 x2 x3 x4 x5 B)]
  rfl

end Run

end Cert.KernelIdeal.Sb

end
-- ==== Proof.KernelIdeal.RunValA.lean ====
/- What a grid point of a group's first query tile leaves in its outputs and accumulators. -/
module

public import proofs.«01_k».proof.Proof.KernelIdeal.RunVal
public import proofs.«01_k».proof.Proof.KernelIdeal.Outs

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI Idealize.SL.Sem
open Cert.Stick Idealize.ShloMosaic.ValueIdx
open scoped BigOperators
open Finset

attribute [local irreducible] st_k0_t1 st_k0_t2

section Run

variable (c : Dev nD) (i : grid0.Coords) (arg3 : Memref sig .tc .smem S34 .f32) (harg3 : arg3.IsWhole) (arg4 : Memref sig .tc .vmem S256x512 .bf16) (harg4 : arg4.IsWhole) (arg5 : Memref sig .tc .vmem S4352x512 .bf16) (harg5 : arg5.IsWhole) (arg6 : Memref sig .tc .vmem S4352x512 .bf16) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4352x512 .bf16) (harg10 : arg10.IsWhole) (arg11 : Memref sig .tc .vmem S4352x512 .bf16) (harg11 : arg11.IsWhole) (arg12 : Memref sig .tc .vmem S512x4352 .f32) (harg12 : arg12.IsWhole) (arg13 : Memref sig .tc .vmem S512x4352 .f32) (harg13 : arg13.IsWhole) (hc0 : cond0_0 i) (hc1 : ¬cond0_1 i)
variable (x0 : Vec Ideal S34 .f32) (x1 : Vec Ideal S256x512 .bf16) (x2 : Vec Ideal S4352x512 .bf16) (x3 : Vec Ideal S4352x512 .bf16) (x4 : Vec Ideal S256x512 .f32) (x5 : Vec Ideal S256x512 .bf16)
variable {S : Fin 4 → Rows} (B : BlockOk S i x0 x1 x2 x3 x4 x5)

include B in
/-- What is stored for the queries. -/
theorem runA_dq : (kernelRun0_A (F := Ideal) c i arg3 harg3 arg4 harg4 arg5 harg5 arg6 harg6 arg7 harg7 arg8 harg8 arg9 harg9 arg10 harg10 arg11 harg11 arg12 harg12 arg13 harg13 hc0 hc1 x0 x1 x2 x3 x4 x5).1 = dqPieces (sweep c i arg3 harg3 arg4 harg4 arg5 harg5 arg6 harg6 arg7 harg7 arg8 harg8 arg9 harg9 arg10 harg10 arg11 harg11 arg12 harg12 arg13 harg13 x0 x1 x2 x3 x4 x5 (arg12.view.writes (Elt Ideal) arg12.view.junk [⟨Rect.unit (s := S512x4352) ![0, 0] S512x4352.size inb_S512x4352_S512x4352_0_0, k0_pay114 (F := Ideal)⟩]) (arg13.view.writes (Elt Ideal) arg13.view.junk [⟨Rect.unit (s := S512x4352) ![0, 0] S512x4352.size inb_S512x4352_S512x4352_0_0, k0_pay115 (F := Ideal)⟩]) ((i 2).val + 1)).1 := by
  have e : (kernelRun0_A (F := Ideal) c i arg3 harg3 arg4 harg4 arg5 harg5 arg6 harg6 arg7 harg7 arg8 harg8 arg9 harg9 arg10 harg10 arg11 harg11 arg12 harg12 arg13 harg13 hc0 hc1 x0 x1 x2 x3 x4 x5).1 = dqPieces (ending c i arg3 harg3 arg4 harg4 arg5 harg5 arg6 harg6 arg7 harg7 arg8 harg8 arg9 harg9 arg10 harg10 arg11 harg11 arg12 harg12 arg13 harg13 x0 x1 x2 x3 x4 x5 (kernelRun0_A.sl.v99 c i arg3 harg3 x0) (arg12.view.writes (Elt Ideal) arg12.view.junk [⟨Rect.unit (s := S512x4352) ![0, 0] S512x4352.size inb_S512x4352_S512x4352_0_0, k0_pay114 (F := Ideal)⟩]) (arg12.view.writes (Elt Ideal) arg12.view.junk ((sweep c i arg3 harg3 arg4 harg4 arg5 harg5 arg6 harg6 arg7 harg7 arg8 harg8 arg9 harg9 arg10 harg10 arg11 harg11 arg12 harg12 arg13 harg13 x0 x1 x2 x3 x4 x5 (arg12.view.writes (Elt Ideal) arg12.view.junk [⟨Rect.unit (s := S512x4352) ![0, 0] S512x4352.size inb_S512x4352_S512x4352_0_0, k0_pay114 (F := Ideal)⟩]) (arg13.view.writes (Elt Ideal) arg13.view.junk [⟨Rect.unit (s := S512x4352) ![0, 0] S512x4352.size inb_S512x4352_S512x4352_0_0, k0_pay115 (F := Ideal)⟩]) (k0_t1_loop i (seenWord i arg3 harg3 x0)).trips).2.1 ++ [⟨Rect.unit (s := S512x4352) ![0, 0] S512x4352.size inb_S512x4352_S512x4352_0_0, k0_pay114 (F := Ideal)⟩])) (arg13.view.writes (Elt Ideal) arg13.view.junk [⟨Rect.unit (s := S512x4352) ![0, 0] S512x4352.size inb_S512x4352_S512x4352_0_0, k0_pay115 (F := Ideal)⟩]) (arg13.view.writes (Elt Ideal) arg13.view.junk ((sweep c i arg3 harg3 arg4 harg4 arg5 harg5 arg6 harg6 arg7 harg7 arg8 harg8 arg9 harg9 arg10 harg10 arg11 harg11 arg12 harg12 arg13 harg13 x0 x1 x2 x3 x4 x5 (arg12.view.writes (Elt Ideal) arg12.view.junk [⟨Rect.unit (s := S512x4352) ![0, 0] S512x4352.size inb_S512x4352_S512x4352_0_0, k0_pay114 (F := Ideal)⟩]) (arg13.view.writes (Elt Ideal) arg13.view.junk [⟨Rect.unit (s := S512x4352) ![0, 0] S512x4352.size inb_S512x4352_S512x4352_0_0, k0_pay115 (F := Ideal)⟩]) (k0_t1_loop i (seenWord i arg3 harg3 x0)).trips).2.2 ++ [⟨Rect.unit (s := S512x4352) ![0, 0] S512x4352.size inb_S512x4352_S512x4352_0_0, k0_pay115 (F := Ideal)⟩]))).1 := by
    unfold kernelRun0_A
    rfl
  rw [e, ending_eq c i arg3 harg3 arg4 harg4 arg5 harg5 arg6 harg6 arg7 harg7 arg8 harg8 arg9 harg9 arg10 harg10 arg11 harg11 arg12 harg12 arg13 harg13 x0 x1 x2 x3 x4 x5 B]

include B in
/-- What the two accumulators receive. -/
theorem runA_acc : (kernelRun0_A (F := Ideal) c i arg3 harg3 arg4 harg4 arg5 harg5 arg6 harg6 arg7 harg7 arg8 harg8 arg9 harg9 arg10 harg10 arg11 harg11 arg12 harg12 arg13 harg13 hc0 hc1 x0 x1 x2 x3 x4 x5).2.2.2.1 = ((sweep c i arg3 harg3 arg4 harg4 arg5 harg5 arg6 harg6 arg7 harg7 arg8 harg8 arg9 harg9 arg10 harg10 arg11 harg11 arg12 harg12 arg13 harg13 x0 x1 x2 x3 x4 x5 (arg12.view.writes (Elt Ideal) arg12.view.junk [⟨Rect.unit (s := S512x4352) ![0, 0] S512x4352.size inb_S512x4352_S512x4352_0_0, k0_pay114 (F := Ideal)⟩]) (arg13.view.writes (Elt Ideal) arg13.view.junk [⟨Rect.unit (s := S512x4352) ![0, 0] S512x4352.size inb_S512x4352_S512x4352_0_0, k0_pay115 (F := Ideal)⟩]) ((i 2).val + 1)).2.1 ++ [⟨Rect.unit (s := S512x4352) ![0, 0] S512x4352.size inb_S512x4352_S512x4352_0_0, k0_pay114 (F := Ideal)⟩]) ∧ (kernelRun0_A (F := Ideal) c i arg3 harg3 arg4 harg4 arg5 harg5 arg6 harg6 arg7 harg7 arg8 harg8 arg9 harg9 arg10 harg10 arg11 harg11 arg12 harg12 arg13 harg13 hc0 hc1 x0 x1 x2 x3 x4 x5).2.2.2.2.1 = ((sweep c i arg3 harg3 arg4 harg4 arg5 harg5 arg6 harg6 arg7 harg7 arg8 harg8 arg9 harg9 arg10 harg10 arg11 harg11 arg12 harg12 arg13 harg13 x0 x1 x2 x3 x4 x5 (arg12.view.writes (Elt Ideal) arg12.view.junk [⟨Rect.unit (s := S512x4352) ![0, 0] S512x4352.size inb_S512x4352_S512x4352_0_0, k0_pay114 (F := Ideal)⟩]) (arg13.view.writes (Elt Ideal) arg13.view.junk [⟨Rect.unit (s := S512x4352) ![0, 0] S512x4352.size inb_S512x4352_S512x4352_0_0, k0_pay115 (F := Ideal)⟩]) ((i 2).val + 1)).2.2 ++ [⟨Rect.unit (s := S512x4352) ![0, 0] S512x4352.size inb_S512x4352_S512x4352_0_0, k0_pay115 (F := Ideal)⟩]) := by
  have e0 : (kernelRun0_A (F := Ideal) c i arg3 harg3 arg4 harg4 arg5 harg5 arg6 harg6 arg7 harg7 arg8 harg8 arg9 harg9 arg10 harg10 arg11 harg11 arg12 harg12 arg13 harg13 hc0 hc1 x0 x1 x2 x3 x4 x5).2.2.2.1 = (ending c i arg3 harg3 arg4 harg4 arg5 harg5 arg6 harg6 arg7 harg7 arg8 harg8 arg9 harg9 arg10 harg10 arg11 harg11 arg12 harg12 arg13 harg13 x0 x1 x2 x3 x4 x5 (kernelRun0_A.sl.v99 c i arg3 harg3 x0) (arg12.view.writes (Elt Ideal) arg12.view.junk [⟨Rect.unit (s := S512x4352) ![0, 0] S512x4352.size inb_S512x4352_S512x4352_0_0, k0_pay114 (F := Ideal)⟩]) (arg12.view.writes (Elt Ideal) arg12.view.junk ((sweep c i arg3 harg3 arg4 harg4 arg5 harg5 arg6 harg6 arg7 harg7 arg8 harg8 arg9 harg9 arg10 harg10 arg11 harg11 arg12 harg12 arg13 harg13 x0 x1 x2 x3 x4 x5 (arg12.view.writes (Elt Ideal) arg12.view.junk [⟨Rect.unit (s := S512x4352) ![0, 0] S512x4352.size inb_S512x4352_S512x4352_0_0, k0_pay114 (F := Ideal)⟩]) (arg13.view.writes (Elt Ideal) arg13.view.junk [⟨Rect.unit (s := S512x4352) ![0, 0] S512x4352.size inb_S512x4352_S512x4352_0_0, k0_pay115 (F := Ideal)⟩]) (k0_t1_loop i (seenWord i arg3 harg3 x0)).trips).2.1 ++ [⟨Rect.unit (s := S512x4352) ![0, 0] S512x4352.size inb_S512x4352_S512x4352_0_0, k0_pay114 (F := Ideal)⟩])) (arg13.view.writes (Elt Ideal) arg13.view.junk [⟨Rect.unit (s := S512x4352) ![0, 0] S512x4352.size inb_S512x4352_S512x4352_0_0, k0_pay115 (F := Ideal)⟩]) (arg13.view.writes (Elt Ideal) arg13.view.junk ((sweep c i arg3 harg3 arg4 harg4 arg5 harg5 arg6 harg6 arg7 harg7 arg8 harg8 arg9 harg9 arg10 harg10 arg11 harg11 arg12 harg12 arg13 harg13 x0 x1 x2 x3 x4 x5 (arg12.view.writes (Elt Ideal) arg12.view.junk [⟨Rect.unit (s := S512x4352) ![0, 0] S512x4352.size inb_S512x4352_S512x4352_0_0, k0_pay114 (F := Ideal)⟩]) (arg13.view.writes (Elt Ideal) arg13.view.junk [⟨Rect.unit (s := S512x4352) ![0, 0] S512x4352.size inb_S512x4352_S512x4352_0_0, k0_pay115 (F := Ideal)⟩]) (k0_t1_loop i (seenWord i arg3 harg3 x0)).trips).2.2 ++ [⟨Rect.unit (s := S512x4352) ![0, 0] S512x4352.size inb_S512x4352_S512x4352_0_0, k0_pay115 (F := Ideal)⟩]))).2.1 ++ ((sweep c i arg3 harg3 arg4 harg4 arg5 harg5 arg6 harg6 arg7 harg7 arg8 harg8 arg9 harg9 arg10 harg10 arg11 harg11 arg12 harg12 arg13 harg13 x0 x1 x2 x3 x4 x5 (arg12.view.writes (Elt Ideal) arg12.view.junk [⟨Rect.unit (s := S512x4352) ![0, 0] S512x4352.size inb_S512x4352_S512x4352_0_0, k0_pay114 (F := Ideal)⟩]) (arg13.view.writes (Elt Ideal) arg13.view.junk [⟨Rect.unit (s := S512x4352) ![0, 0] S512x4352.size inb_S512x4352_S512x4352_0_0, k0_pay115 (F := Ideal)⟩]) (k0_t1_loop i (seenWord i arg3 harg3 x0)).trips).2.1 ++ [⟨Rect.unit (s := S512x4352) ![0, 0] S512x4352.size inb_S512x4352_S512x4352_0_0, k0_pay114 (F := Ideal)⟩]) := by
    unfold kernelRun0_A
    rfl
  have e1 : (kernelRun0_A (F := Ideal) c i arg3 harg3 arg4 harg4 arg5 harg5 arg6 harg6 arg7 harg7 arg8 harg8 arg9 harg9 arg10 harg10 arg11 harg11 arg12 harg12 arg13 harg13 hc0 hc1 x0 x1 x2 x3 x4 x5).2.2.2.2.1 = (ending c i arg3 harg3 arg4 harg4 arg5 harg5 arg6 harg6 arg7 harg7 arg8 harg8 arg9 harg9 arg10 harg10 arg11 harg11 arg12 harg12 arg13 harg13 x0 x1 x2 x3 x4 x5 (kernelRun0_A.sl.v99 c i arg3 harg3 x0) (arg12.view.writes (Elt Ideal) arg12.view.junk [⟨Rect.unit (s := S512x4352) ![0, 0] S512x4352.size inb_S512x4352_S512x4352_0_0, k0_pay114 (F := Ideal)⟩]) (arg12.view.writes (Elt Ideal) arg12.view.junk ((sweep c i arg3 harg3 arg4 harg4 arg5 harg5 arg6 harg6 arg7 harg7 arg8 harg8 arg9 harg9 arg10 harg10 arg11 harg11 arg12 harg12 arg13 harg13 x0 x1 x2 x3 x4 x5 (arg12.view.writes (Elt Ideal) arg12.view.junk [⟨Rect.unit (s := S512x4352) ![0, 0] S512x4352.size inb_S512x4352_S512x4352_0_0, k0_pay114 (F := Ideal)⟩]) (arg13.view.writes (Elt Ideal) arg13.view.junk [⟨Rect.unit (s := S512x4352) ![0, 0] S512x4352.size inb_S512x4352_S512x4352_0_0, k0_pay115 (F := Ideal)⟩]) (k0_t1_loop i (seenWord i arg3 harg3 x0)).trips).2.1 ++ [⟨Rect.unit (s := S512x4352) ![0, 0] S512x4352.size inb_S512x4352_S512x4352_0_0, k0_pay114 (F := Ideal)⟩])) (arg13.view.writes (Elt Ideal) arg13.view.junk [⟨Rect.unit (s := S512x4352) ![0, 0] S512x4352.size inb_S512x4352_S512x4352_0_0, k0_pay115 (F := Ideal)⟩]) (arg13.view.writes (Elt Ideal) arg13.view.junk ((sweep c i arg3 harg3 arg4 harg4 arg5 harg5 arg6 harg6 arg7 harg7 arg8 harg8 arg9 harg9 arg10 harg10 arg11 harg11 arg12 harg12 arg13 harg13 x0 x1 x2 x3 x4 x5 (arg12.view.writes (Elt Ideal) arg12.view.junk [⟨Rect.unit (s := S512x4352) ![0, 0] S512x4352.size inb_S512x4352_S512x4352_0_0, k0_pay114 (F := Ideal)⟩]) (arg13.view.writes (Elt Ideal) arg13.view.junk [⟨Rect.unit (s := S512x4352) ![0, 0] S512x4352.size inb_S512x4352_S512x4352_0_0, k0_pay115 (F := Ideal)⟩]) (k0_t1_loop i (seenWord i arg3 harg3 x0)).trips).2.2 ++ [⟨Rect.unit (s := S512x4352) ![0, 0] S512x4352.size inb_S512x4352_S512x4352_0_0, k0_pay115 (F := Ideal)⟩]))).2.2 ++ ((sweep c i arg3 harg3 arg4 harg4 arg5 harg5 arg6 harg6 arg7 harg7 arg8 harg8 arg9 harg9 arg10 harg10 arg11 harg11 arg12 harg12 arg13 harg13 x0 x1 x2 x3 x4 x5 (arg12.view.writes (Elt Ideal) arg12.view.junk [⟨Rect.unit (s := S512x4352) ![0, 0] S512x4352.size inb_S512x4352_S512x4352_0_0, k0_pay114 (F := Ideal)⟩]) (arg13.view.writes (Elt Ideal) arg13.view.junk [⟨Rect.unit (s := S512x4352) ![0, 0] S512x4352.size inb_S512x4352_S512x4352_0_0, k0_pay115 (F := Ideal)⟩]) (k0_t1_loop i (seenWord i arg3 harg3 x0)).trips).2.2 ++ [⟨Rect.unit (s := S512x4352) ![0, 0] S512x4352.size inb_S512x4352_S512x4352_0_0, k0_pay115 (F := Ideal)⟩]) := by
    unfold kernelRun0_A
    rfl
  refine ⟨?_, ?_⟩
  · rw [e0, ending_eq c i arg3 harg3 arg4 harg4 arg5 harg5 arg6 harg6 arg7 harg7 arg8 harg8 arg9 harg9 arg10 harg10 arg11 harg11 arg12 harg12 arg13 harg13 x0 x1 x2 x3 x4 x5 B, trips1_eq i _ (first_zero arg3 harg3 x0 x1 x2 x3 x4 x5 B)]
    rfl
  · rw [e1, ending_eq c i arg3 harg3 arg4 harg4 arg5 harg5 arg6 harg6 arg7 harg7 arg8 harg8 arg9 harg9 arg10 harg10 arg11 harg11 arg12 harg12 arg13 harg13 x0 x1 x2 x3 x4 x5 B, trips1_eq i _ (first_zero arg3 harg3 x0 x1 x2 x3 x4 x5 B)]
    rfl

include B in
theorem outA_dq (h : Fin 4) (r : Fin 256) (e : Fin 128) :
    out0_A_6 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 (ix2 r (lane h e)) = (((S h).dq (256 * (i 2).val + r) e : ℝ) : EReal) := by
  unfold out0_A_6
  rw [runA_dq c i arg3 harg3 arg4 harg4 arg5 harg5 arg6 harg6 arg7 harg7 arg8 harg8 arg9 harg9 arg10 harg10 arg11 harg11 arg12 harg12 arg13 harg13 hc0 hc1 x0 x1 x2 x3 x4 x5 B]
  exact dqPieces_read (i 2).isLt (sweep_ok c i arg3 harg3 arg4 harg4 arg5 harg5 arg6 harg6 arg7 harg7 arg8 harg8 arg9 harg9 arg10 harg10 arg11 harg11 arg12 harg12 arg13 harg13 x0 x1 x2 x3 x4 x5 S B (arg12.view.writes (Elt Ideal) arg12.view.junk [⟨Rect.unit (s := S512x4352) ![0, 0] S512x4352.size inb_S512x4352_S512x4352_0_0, k0_pay114 (F := Ideal)⟩]) (arg13.view.writes (Elt Ideal) arg13.view.junk [⟨Rect.unit (s := S512x4352) ![0, 0] S512x4352.size inb_S512x4352_S512x4352_0_0, k0_pay115 (F := Ideal)⟩])).1 _ _ h r e

include B in
theorem soutA_0 (hs : arg12 = scM0_0) (h : Fin 4) (e : Fin 128) (s : Fin 4352) :
    sout0_A_0 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 (ix2 (lane h e) s) = ((dkPart (S h) (i 2).val s e : ℝ) : EReal) := by
  have hz : arg12.view.read (Elt Ideal) (arg12.view.writes (Elt Ideal) arg12.view.junk [⟨Rect.unit (s := S512x4352) ![0, 0] S512x4352.size inb_S512x4352_S512x4352_0_0, k0_pay114 (F := Ideal)⟩]) (ix2 (lane h e) s) = 0 :=
    (View.read_writes_cons_unit_of_mem arg12.view _ _ _ _ (ix2 (lane h e) s) (ix2 (lane h e) s) rfl (fun a => by
      match a with
      | ⟨0, _⟩ => exact (Nat.zero_add _).symm
      | ⟨1, _⟩ => exact (Nat.zero_add _).symm)).trans Ideal.ofBits_zero_f32
  have hw := (sweep_ok c i arg3 harg3 arg4 harg4 arg5 harg5 arg6 harg6 arg7 harg7 arg8 harg8 arg9 harg9 arg10 harg10 arg11 harg11 arg12 harg12 arg13 harg13 x0 x1 x2 x3 x4 x5 S B (arg12.view.writes (Elt Ideal) arg12.view.junk [⟨Rect.unit (s := S512x4352) ![0, 0] S512x4352.size inb_S512x4352_S512x4352_0_0, k0_pay114 (F := Ideal)⟩]) (arg13.view.writes (Elt Ideal) arg13.view.junk [⟨Rect.unit (s := S512x4352) ![0, 0] S512x4352.size inb_S512x4352_S512x4352_0_0, k0_pay115 (F := Ideal)⟩])).2.1 h e s
  rw [hz, zero_add, dkPart_upto] at hw
  unfold sout0_A_0
  rw [(runA_acc c i arg3 harg3 arg4 harg4 arg5 harg5 arg6 harg6 arg7 harg7 arg8 harg8 arg9 harg9 arg10 harg10 arg11 harg11 arg12 harg12 arg13 harg13 hc0 hc1 x0 x1 x2 x3 x4 x5 B).1]
  refine Eq.trans ?_ hw
  rw [← View.writes_append]
  subst hs
  rfl

include B in
theorem soutA_1 (hs : arg13 = scM0_1) (h : Fin 4) (e : Fin 128) (s : Fin 4352) :
    sout0_A_1 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 (ix2 (lane h e) s) = ((dvPart (S h) (i 2).val s e : ℝ) : EReal) := by
  have hz : arg13.view.read (Elt Ideal) (arg13.view.writes (Elt Ideal) arg13.view.junk [⟨Rect.unit (s := S512x4352) ![0, 0] S512x4352.size inb_S512x4352_S512x4352_0_0, k0_pay115 (F := Ideal)⟩]) (ix2 (lane h e) s) = 0 :=
    (View.read_writes_cons_unit_of_mem arg13.view _ _ _ _ (ix2 (lane h e) s) (ix2 (lane h e) s) rfl (fun a => by
      match a with
      | ⟨0, _⟩ => exact (Nat.zero_add _).symm
      | ⟨1, _⟩ => exact (Nat.zero_add _).symm)).trans Ideal.ofBits_zero_f32
  have hw := (sweep_ok c i arg3 harg3 arg4 harg4 arg5 harg5 arg6 harg6 arg7 harg7 arg8 harg8 arg9 harg9 arg10 harg10 arg11 harg11 arg12 harg12 arg13 harg13 x0 x1 x2 x3 x4 x5 S B (arg12.view.writes (Elt Ideal) arg12.view.junk [⟨Rect.unit (s := S512x4352) ![0, 0] S512x4352.size inb_S512x4352_S512x4352_0_0, k0_pay114 (F := Ideal)⟩]) (arg13.view.writes (Elt Ideal) arg13.view.junk [⟨Rect.unit (s := S512x4352) ![0, 0] S512x4352.size inb_S512x4352_S512x4352_0_0, k0_pay115 (F := Ideal)⟩])).2.2 h e s
  rw [hz, zero_add, dvPart_upto] at hw
  unfold sout0_A_1
  rw [(runA_acc c i arg3 harg3 arg4 harg4 arg5 harg5 arg6 harg6 arg7 harg7 arg8 harg8 arg9 harg9 arg10 harg10 arg11 harg11 arg12 harg12 arg13 harg13 hc0 hc1 x0 x1 x2 x3 x4 x5 B).2]
  refine Eq.trans ?_ hw
  rw [← View.writes_append]
  subst hs
  rfl

end Run

end Cert.KernelIdeal.Sb

end
-- ==== Proof.KernelIdeal.RunValB.lean ====
/- What a grid point of a query tile between the first and the last leaves in its outputs and accumulators. -/
module

public import proofs.«01_k».proof.Proof.KernelIdeal.RunVal
public import proofs.«01_k».proof.Proof.KernelIdeal.Outs

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI Idealize.SL.Sem
open Cert.Stick Idealize.ShloMosaic.ValueIdx
open scoped BigOperators
open Finset

attribute [local irreducible] st_k0_t1 st_k0_t2

section Run

variable (c : Dev nD) (i : grid0.Coords) (arg3 : Memref sig .tc .smem S34 .f32) (harg3 : arg3.IsWhole) (arg4 : Memref sig .tc .vmem S256x512 .bf16) (harg4 : arg4.IsWhole) (arg5 : Memref sig .tc .vmem S4352x512 .bf16) (harg5 : arg5.IsWhole) (arg6 : Memref sig .tc .vmem S4352x512 .bf16) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4352x512 .bf16) (harg10 : arg10.IsWhole) (arg11 : Memref sig .tc .vmem S4352x512 .bf16) (harg11 : arg11.IsWhole) (arg12 : Memref sig .tc .vmem S512x4352 .f32) (harg12 : arg12.IsWhole) (arg13 : Memref sig .tc .vmem S512x4352 .f32) (harg13 : arg13.IsWhole) (hc0 : ¬cond0_0 i) (hc1 : ¬cond0_1 i)
variable (x0 : Vec Ideal S34 .f32) (x1 : Vec Ideal S256x512 .bf16) (x2 : Vec Ideal S4352x512 .bf16) (x3 : Vec Ideal S4352x512 .bf16) (x4 : Vec Ideal S256x512 .f32) (x5 : Vec Ideal S256x512 .bf16) (xs0 xs1 : Vec Ideal S512x4352 .f32)
variable {S : Fin 4 → Rows} (B : BlockOk S i x0 x1 x2 x3 x4 x5)

include B in
/-- What is stored for the queries. -/
theorem runB_dq : (kernelRun0_B (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1).1 = dqPieces (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) ((i 2).val + 1)).1 := by
  have e : (kernelRun0_B (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1).1 = dqPieces (ending c i arg3 harg3 arg4 harg4 arg5 harg5 arg6 harg6 arg7 harg7 arg8 harg8 arg9 harg9 arg10 harg10 arg11 harg11 arg12 harg12 arg13 harg13 x0 x1 x2 x3 x4 x5 (kernelRun0_B.sl.v99 c i arg3 harg3 x0) (harg12.unread xs0) (arg12.view.writes (Elt Ideal) (harg12.unread xs0) (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) (k0_t1_loop i (seenWord i arg3 harg3 x0)).trips).2.1) (harg13.unread xs1) (arg13.view.writes (Elt Ideal) (harg13.unread xs1) (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) (k0_t1_loop i (seenWord i arg3 harg3 x0)).trips).2.2)).1 := by
    unfold kernelRun0_B
    rfl
  rw [e, ending_eq c i arg3 harg3 arg4 harg4 arg5 harg5 arg6 harg6 arg7 harg7 arg8 harg8 arg9 harg9 arg10 harg10 arg11 harg11 arg12 harg12 arg13 harg13 x0 x1 x2 x3 x4 x5 B]

include B in
/-- What the two accumulators receive. -/
theorem runB_acc : (kernelRun0_B (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.1 = (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) ((i 2).val + 1)).2.1 ∧ (kernelRun0_B (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.2.1 = (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) ((i 2).val + 1)).2.2 := by
  have e0 : (kernelRun0_B (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.1 = (ending c i arg3 harg3 arg4 harg4 arg5 harg5 arg6 harg6 arg7 harg7 arg8 harg8 arg9 harg9 arg10 harg10 arg11 harg11 arg12 harg12 arg13 harg13 x0 x1 x2 x3 x4 x5 (kernelRun0_B.sl.v99 c i arg3 harg3 x0) (harg12.unread xs0) (arg12.view.writes (Elt Ideal) (harg12.unread xs0) (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) (k0_t1_loop i (seenWord i arg3 harg3 x0)).trips).2.1) (harg13.unread xs1) (arg13.view.writes (Elt Ideal) (harg13.unread xs1) (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) (k0_t1_loop i (seenWord i arg3 harg3 x0)).trips).2.2)).2.1 ++ (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) (k0_t1_loop i (seenWord i arg3 harg3 x0)).trips).2.1 := by
    unfold kernelRun0_B
    rfl
  have e1 : (kernelRun0_B (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.2.1 = (ending c i arg3 harg3 arg4 harg4 arg5 harg5 arg6 harg6 arg7 harg7 arg8 harg8 arg9 harg9 arg10 harg10 arg11 harg11 arg12 harg12 arg13 harg13 x0 x1 x2 x3 x4 x5 (kernelRun0_B.sl.v99 c i arg3 harg3 x0) (harg12.unread xs0) (arg12.view.writes (Elt Ideal) (harg12.unread xs0) (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) (k0_t1_loop i (seenWord i arg3 harg3 x0)).trips).2.1) (harg13.unread xs1) (arg13.view.writes (Elt Ideal) (harg13.unread xs1) (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) (k0_t1_loop i (seenWord i arg3 harg3 x0)).trips).2.2)).2.2 ++ (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) (k0_t1_loop i (seenWord i arg3 harg3 x0)).trips).2.2 := by
    unfold kernelRun0_B
    rfl
  refine ⟨?_, ?_⟩
  · rw [e0, ending_eq c i arg3 harg3 arg4 harg4 arg5 harg5 arg6 harg6 arg7 harg7 arg8 harg8 arg9 harg9 arg10 harg10 arg11 harg11 arg12 harg12 arg13 harg13 x0 x1 x2 x3 x4 x5 B, trips1_eq i _ (first_zero arg3 harg3 x0 x1 x2 x3 x4 x5 B)]
    rfl
  · rw [e1, ending_eq c i arg3 harg3 arg4 harg4 arg5 harg5 arg6 harg6 arg7 harg7 arg8 harg8 arg9 harg9 arg10 harg10 arg11 harg11 arg12 harg12 arg13 harg13 x0 x1 x2 x3 x4 x5 B, trips1_eq i _ (first_zero arg3 harg3 x0 x1 x2 x3 x4 x5 B)]
    rfl

include B in
theorem outB_dq (h : Fin 4) (r : Fin 256) (e : Fin 128) :
    out0_B_6 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1 (ix2 r (lane h e)) = (((S h).dq (256 * (i 2).val + r) e : ℝ) : EReal) := by
  unfold out0_B_6
  rw [runB_dq c i arg3 harg3 arg4 harg4 arg5 harg5 arg6 harg6 arg7 harg7 arg8 harg8 arg9 harg9 arg10 harg10 arg11 harg11 arg12 harg12 arg13 harg13 hc0 hc1 x0 x1 x2 x3 x4 x5 xs0 xs1 B]
  exact dqPieces_read (i 2).isLt (sweep_ok c i arg3 harg3 arg4 harg4 arg5 harg5 arg6 harg6 arg7 harg7 arg8 harg8 arg9 harg9 arg10 harg10 arg11 harg11 arg12 harg12 arg13 harg13 x0 x1 x2 x3 x4 x5 S B (harg12.unread xs0) (harg13.unread xs1)).1 _ _ h r e

include B in
theorem soutB_0 (h : Fin 4) (e : Fin 128) (s : Fin 4352) :
    sout0_B_0 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1 (ix2 (lane h e) s) = xs0 (ix2 (lane h e) s) + ((dkPart (S h) (i 2).val s e : ℝ) : EReal) := by
  have hw := (sweep_ok c i arg3 harg3 arg4 harg4 arg5 harg5 arg6 harg6 arg7 harg7 arg8 harg8 arg9 harg9 arg10 harg10 arg11 harg11 arg12 harg12 arg13 harg13 x0 x1 x2 x3 x4 x5 S B (harg12.unread xs0) (harg13.unread xs1)).2.1 h e s
  rw [harg12.read_unread, dkPart_upto] at hw
  unfold sout0_B_0
  rw [(runB_acc c i arg3 harg3 arg4 harg4 arg5 harg5 arg6 harg6 arg7 harg7 arg8 harg8 arg9 harg9 arg10 harg10 arg11 harg11 arg12 harg12 arg13 harg13 hc0 hc1 x0 x1 x2 x3 x4 x5 xs0 xs1 B).1]
  exact hw

include B in
theorem soutB_1 (h : Fin 4) (e : Fin 128) (s : Fin 4352) :
    sout0_B_1 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1 (ix2 (lane h e) s) = xs1 (ix2 (lane h e) s) + ((dvPart (S h) (i 2).val s e : ℝ) : EReal) := by
  have hw := (sweep_ok c i arg3 harg3 arg4 harg4 arg5 harg5 arg6 harg6 arg7 harg7 arg8 harg8 arg9 harg9 arg10 harg10 arg11 harg11 arg12 harg12 arg13 harg13 x0 x1 x2 x3 x4 x5 S B (harg12.unread xs0) (harg13.unread xs1)).2.2 h e s
  rw [harg13.read_unread, dvPart_upto] at hw
  unfold sout0_B_1
  rw [(runB_acc c i arg3 harg3 arg4 harg4 arg5 harg5 arg6 harg6 arg7 harg7 arg8 harg8 arg9 harg9 arg10 harg10 arg11 harg11 arg12 harg12 arg13 harg13 hc0 hc1 x0 x1 x2 x3 x4 x5 xs0 xs1 B).2]
  exact hw

end Run

end Cert.KernelIdeal.Sb

end
-- ==== Proof.KernelIdeal.RunValC.lean ====
/- What a grid point of a group's last query tile leaves in its outputs and accumulators. -/
module

public import proofs.«01_k».proof.Proof.KernelIdeal.RunVal
public import proofs.«01_k».proof.Proof.KernelIdeal.Outs

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI Idealize.SL.Sem
open Cert.Stick Idealize.ShloMosaic.ValueIdx
open scoped BigOperators
open Finset

attribute [local irreducible] st_k0_t1 st_k0_t2

section Run

variable (c : Dev nD) (i : grid0.Coords) (arg3 : Memref sig .tc .smem S34 .f32) (harg3 : arg3.IsWhole) (arg4 : Memref sig .tc .vmem S256x512 .bf16) (harg4 : arg4.IsWhole) (arg5 : Memref sig .tc .vmem S4352x512 .bf16) (harg5 : arg5.IsWhole) (arg6 : Memref sig .tc .vmem S4352x512 .bf16) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S4352x512 .bf16) (harg10 : arg10.IsWhole) (arg11 : Memref sig .tc .vmem S4352x512 .bf16) (harg11 : arg11.IsWhole) (arg12 : Memref sig .tc .vmem S512x4352 .f32) (harg12 : arg12.IsWhole) (arg13 : Memref sig .tc .vmem S512x4352 .f32) (harg13 : arg13.IsWhole) (hc0 : ¬cond0_0 i) (hc1 : cond0_1 i)
variable (x0 : Vec Ideal S34 .f32) (x1 : Vec Ideal S256x512 .bf16) (x2 : Vec Ideal S4352x512 .bf16) (x3 : Vec Ideal S4352x512 .bf16) (x4 : Vec Ideal S256x512 .f32) (x5 : Vec Ideal S256x512 .bf16) (xs0 xs1 : Vec Ideal S512x4352 .f32)
variable {S : Fin 4 → Rows} (B : BlockOk S i x0 x1 x2 x3 x4 x5)

include B in
/-- What is stored for the queries. -/
theorem runC_dq : (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1).1 = dqPieces (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) ((i 2).val + 1)).1 := by
  have e : (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1).1 = dqPieces (ending c i arg3 harg3 arg4 harg4 arg5 harg5 arg6 harg6 arg7 harg7 arg8 harg8 arg9 harg9 arg10 harg10 arg11 harg11 arg12 harg12 arg13 harg13 x0 x1 x2 x3 x4 x5 (kernelRun0_C.sl.v99 c i arg3 harg3 x0) (harg12.unread xs0) (arg12.view.writes (Elt Ideal) (harg12.unread xs0) (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) (k0_t1_loop i (seenWord i arg3 harg3 x0)).trips).2.1) (harg13.unread xs1) (arg13.view.writes (Elt Ideal) (harg13.unread xs1) (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) (k0_t1_loop i (seenWord i arg3 harg3 x0)).trips).2.2)).1 := by
    unfold kernelRun0_C
    rfl
  rw [e, ending_eq c i arg3 harg3 arg4 harg4 arg5 harg5 arg6 harg6 arg7 harg7 arg8 harg8 arg9 harg9 arg10 harg10 arg11 harg11 arg12 harg12 arg13 harg13 x0 x1 x2 x3 x4 x5 B]

include B in
/-- What the two accumulators receive. -/
theorem runC_acc : (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.1 = (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) ((i 2).val + 1)).2.1 ∧ (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.2.1 = (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) ((i 2).val + 1)).2.2 := by
  have e0 : (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.1 = (ending c i arg3 harg3 arg4 harg4 arg5 harg5 arg6 harg6 arg7 harg7 arg8 harg8 arg9 harg9 arg10 harg10 arg11 harg11 arg12 harg12 arg13 harg13 x0 x1 x2 x3 x4 x5 (kernelRun0_C.sl.v99 c i arg3 harg3 x0) (harg12.unread xs0) (arg12.view.writes (Elt Ideal) (harg12.unread xs0) (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) (k0_t1_loop i (seenWord i arg3 harg3 x0)).trips).2.1) (harg13.unread xs1) (arg13.view.writes (Elt Ideal) (harg13.unread xs1) (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) (k0_t1_loop i (seenWord i arg3 harg3 x0)).trips).2.2)).2.1 ++ (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) (k0_t1_loop i (seenWord i arg3 harg3 x0)).trips).2.1 := by
    unfold kernelRun0_C
    rfl
  have e1 : (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.2.1 = (ending c i arg3 harg3 arg4 harg4 arg5 harg5 arg6 harg6 arg7 harg7 arg8 harg8 arg9 harg9 arg10 harg10 arg11 harg11 arg12 harg12 arg13 harg13 x0 x1 x2 x3 x4 x5 (kernelRun0_C.sl.v99 c i arg3 harg3 x0) (harg12.unread xs0) (arg12.view.writes (Elt Ideal) (harg12.unread xs0) (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) (k0_t1_loop i (seenWord i arg3 harg3 x0)).trips).2.1) (harg13.unread xs1) (arg13.view.writes (Elt Ideal) (harg13.unread xs1) (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) (k0_t1_loop i (seenWord i arg3 harg3 x0)).trips).2.2)).2.2 ++ (sweep c i arg3 harg3 arg4 harg4 arg5 harg5 arg6 harg6 arg7 harg7 arg8 harg8 arg9 harg9 arg10 harg10 arg11 harg11 arg12 harg12 arg13 harg13 x0 x1 x2 x3 x4 x5 (harg12.unread xs0) (harg13.unread xs1) (k0_t1_loop i (seenWord i arg3 harg3 x0)).trips).2.2 := by
    unfold kernelRun0_C
    rfl
  refine ⟨?_, ?_⟩
  · rw [e0, ending_eq c i arg3 harg3 arg4 harg4 arg5 harg5 arg6 harg6 arg7 harg7 arg8 harg8 arg9 harg9 arg10 harg10 arg11 harg11 arg12 harg12 arg13 harg13 x0 x1 x2 x3 x4 x5 B, trips1_eq i _ (first_zero arg3 harg3 x0 x1 x2 x3 x4 x5 B)]
    rfl
  · rw [e1, ending_eq c i arg3 harg3 arg4 harg4 arg5 harg5 arg6 harg6 arg7 harg7 arg8 harg8 arg9 harg9 arg10 harg10 arg11 harg11 arg12 harg12 arg13 harg13 x0 x1 x2 x3 x4 x5 B, trips1_eq i _ (first_zero arg3 harg3 x0 x1 x2 x3 x4 x5 B)]
    rfl

/-- The last query tile stores the transposed accumulators. -/
theorem runC_out : (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.1 = [⟨Rect.unit (s := S4352x512) ![0, 0] ![4352, 512] inb_S4352x512_S4352x512_0_0,
        k0_pay4 (F := Ideal) (arg12.view.readAt (Elt Ideal) (Rect.unit (s := S512x4352) ![0, 0] S512x4352.size inb_S512x4352_S512x4352_0_0).toLoadRect (arg12.view.writes (Elt Ideal) (harg12.unread xs0) (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.1))⟩]
    ∧ (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.1 = [⟨Rect.unit (s := S4352x512) ![0, 0] ![4352, 512] inb_S4352x512_S4352x512_0_0,
        k0_pay5 (F := Ideal) (arg13.view.readAt (Elt Ideal) (Rect.unit (s := S512x4352) ![0, 0] S512x4352.size inb_S512x4352_S512x4352_0_0).toLoadRect (arg13.view.writes (Elt Ideal) (harg13.unread xs1) (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.2.1))⟩] :=
  ⟨rfl, rfl⟩

include B in
theorem outC_dq (h : Fin 4) (r : Fin 256) (e : Fin 128) :
    out0_C_6 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1 (ix2 r (lane h e)) = (((S h).dq (256 * (i 2).val + r) e : ℝ) : EReal) := by
  unfold out0_C_6
  rw [runC_dq c i arg3 harg3 arg4 harg4 arg5 harg5 arg6 harg6 arg7 harg7 arg8 harg8 arg9 harg9 arg10 harg10 arg11 harg11 arg12 harg12 arg13 harg13 hc0 hc1 x0 x1 x2 x3 x4 x5 xs0 xs1 B]
  exact dqPieces_read (i 2).isLt (sweep_ok c i arg3 harg3 arg4 harg4 arg5 harg5 arg6 harg6 arg7 harg7 arg8 harg8 arg9 harg9 arg10 harg10 arg11 harg11 arg12 harg12 arg13 harg13 x0 x1 x2 x3 x4 x5 S B (harg12.unread xs0) (harg13.unread xs1)).1 _ _ h r e

include B in
theorem soutC_0 (h : Fin 4) (e : Fin 128) (s : Fin 4352) :
    sout0_C_0 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1 (ix2 (lane h e) s) = xs0 (ix2 (lane h e) s) + ((dkPart (S h) (i 2).val s e : ℝ) : EReal) := by
  have hw := (sweep_ok c i arg3 harg3 arg4 harg4 arg5 harg5 arg6 harg6 arg7 harg7 arg8 harg8 arg9 harg9 arg10 harg10 arg11 harg11 arg12 harg12 arg13 harg13 x0 x1 x2 x3 x4 x5 S B (harg12.unread xs0) (harg13.unread xs1)).2.1 h e s
  rw [harg12.read_unread, dkPart_upto] at hw
  unfold sout0_C_0
  rw [(runC_acc c i arg3 harg3 arg4 harg4 arg5 harg5 arg6 harg6 arg7 harg7 arg8 harg8 arg9 harg9 arg10 harg10 arg11 harg11 arg12 harg12 arg13 harg13 hc0 hc1 x0 x1 x2 x3 x4 x5 xs0 xs1 B).1]
  exact hw

include B in
theorem outC_7 (h : Fin 4) (e : Fin 128) (s : Fin 4352) :
    out0_C_7 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1 (ix2 s (lane h e)) = xs0 (ix2 (lane h e) s) + ((dkPart (S h) (i 2).val s e : ℝ) : EReal) := by
  refine Eq.trans ?_ (soutC_0 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 B h e s)
  unfold out0_C_7
  rw [(runC_out c i arg3 harg3 arg4 harg4 arg5 harg5 arg6 harg6 arg7 harg7 arg8 harg8 arg9 harg9 arg10 harg10 arg11 harg11 arg12 harg12 arg13 harg13 hc0 hc1 x0 x1 x2 x3 x4 x5 xs0 xs1).1]
  refine (View.read_writes_cons_unit_of_mem _ _ _ _ _ (ix2 s (lane h e)) (ix2 s (lane h e)) rfl (fun a => by
      match a with
      | ⟨0, _⟩ => exact (Nat.zero_add _).symm
      | ⟨1, _⟩ => exact (Nat.zero_add _).symm)).trans ?_
  refine (pay4_read _ s (lane h e)).trans ?_
  rw [View.readAt_apply]
  unfold sout0_C_0
  congr 1
  funext a; apply Fin.ext
  match a with
  | ⟨0, _⟩ => show 0 + 1 * (lane h e).val = (lane h e).val; omega
  | ⟨1, _⟩ => show 0 + 1 * s.val = s.val; omega

include B in
theorem soutC_1 (h : Fin 4) (e : Fin 128) (s : Fin 4352) :
    sout0_C_1 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1 (ix2 (lane h e) s) = xs1 (ix2 (lane h e) s) + ((dvPart (S h) (i 2).val s e : ℝ) : EReal) := by
  have hw := (sweep_ok c i arg3 harg3 arg4 harg4 arg5 harg5 arg6 harg6 arg7 harg7 arg8 harg8 arg9 harg9 arg10 harg10 arg11 harg11 arg12 harg12 arg13 harg13 x0 x1 x2 x3 x4 x5 S B (harg12.unread xs0) (harg13.unread xs1)).2.2 h e s
  rw [harg13.read_unread, dvPart_upto] at hw
  unfold sout0_C_1
  rw [(runC_acc c i arg3 harg3 arg4 harg4 arg5 harg5 arg6 harg6 arg7 harg7 arg8 harg8 arg9 harg9 arg10 harg10 arg11 harg11 arg12 harg12 arg13 harg13 hc0 hc1 x0 x1 x2 x3 x4 x5 xs0 xs1 B).2]
  exact hw

include B in
theorem outC_8 (h : Fin 4) (e : Fin 128) (s : Fin 4352) :
    out0_C_8 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1 (ix2 s (lane h e)) = xs1 (ix2 (lane h e) s) + ((dvPart (S h) (i 2).val s e : ℝ) : EReal) := by
  refine Eq.trans ?_ (soutC_1 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 B h e s)
  unfold out0_C_8
  rw [(runC_out c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2]
  refine (View.read_writes_cons_unit_of_mem _ _ _ _ _ (ix2 s (lane h e)) (ix2 s (lane h e)) rfl (fun a => by
      match a with
      | ⟨0, _⟩ => exact (Nat.zero_add _).symm
      | ⟨1, _⟩ => exact (Nat.zero_add _).symm)).trans ?_
  refine (pay5_read _ s (lane h e)).trans ?_
  rw [View.readAt_apply]
  unfold sout0_C_1
  congr 1
  funext a; apply Fin.ext
  match a with
  | ⟨0, _⟩ => show 0 + 1 * (lane h e).val = (lane h e).val; omega
  | ⟨1, _⟩ => show 0 + 1 * s.val = s.val; omega

end Run

end Cert.KernelIdeal.Sb

end
-- ==== Proof.KernelIdeal.GridVal.lean ====
/- What the sweep over the grid leaves after every point. -/
module

public import proofs.«01_k».proof.Proof.KernelIdeal.RunValA
public import proofs.«01_k».proof.Proof.KernelIdeal.RunValB
public import proofs.«01_k».proof.Proof.KernelIdeal.RunValC

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI Idealize.SL.Sem
open Cert.Stick Idealize.ShloMosaic.ValueIdx
open scoped BigOperators
open Finset

/-- The batch of a grid point. -/
def batchOf (t : ℕ) : ℕ := t / 34
/-- A head of a grid point's group. -/
def headOf (t : ℕ) (h : Fin 4) : ℕ := 4 * (t / 17 % 2) + h.val

theorem tile_coord (t : Fin cfg0.N) : ((grid0.coords t) 2).val = t.val % 17 := by
  have e2 : (grid0.coords t 2).val = t.val / 1 % 17 := Pipeline.Grid.coords_val t 2 (by decide) rfl
  rw [e2, Nat.div_one]

theorem batch_coord (t : Fin cfg0.N) : ((grid0.coords t) 0).val = t.val / 34 := by
  have ht : t.val < 68 := Nat.lt_of_lt_of_eq t.isLt N_0
  have e0 : (grid0.coords t 0).val = t.val / 34 % 2 := Pipeline.Grid.coords_val t 0 (by decide) rfl
  rw [e0]
  omega

theorem group_coord (t : Fin cfg0.N) : ((grid0.coords t) 1).val = t.val / 17 % 2 :=
  Pipeline.Grid.coords_val t 1 (by decide) rfl

/-- The gradient of the keys, of the queries of the first `N` tiles. -/
def dkUpto (S : Rows) (N : ℕ) (s e : ℕ) : ℝ := sc * ∑ t ∈ range (256 * N), S.q t e * S.dlogit t s
/-- The gradient of the values, of the queries of the first `N` tiles. -/
def dvUpto (S : Rows) (N : ℕ) (s e : ℕ) : ℝ := ∑ t ∈ range (256 * N), S.d t e * S.wt t s

theorem dkUpto_succ (S : Rows) (N : ℕ) (s e : ℕ) : dkUpto S (N + 1) s e = dkUpto S N s e + dkPart S N s e := by
  unfold dkUpto dkPart
  rw [← mul_add, Nat.mul_succ, ← sum_tile]

theorem dvUpto_succ (S : Rows) (N : ℕ) (s e : ℕ) : dvUpto S (N + 1) s e = dvUpto S N s e + dvPart S N s e := by
  unfold dvUpto dvPart
  rw [Nat.mul_succ, ← sum_tile]

theorem dkUpto_all (S : Rows) (s e : ℕ) : dkUpto S (16 + 1) s e = S.dk s e := by
  have h : 256 * (16 + 1) = 4352 := by norm_num
  unfold dkUpto Rows.dk
  rw [h]

theorem dvUpto_all (S : Rows) (s e : ℕ) : dvUpto S (16 + 1) s e = S.dv s e := by
  have h : 256 * (16 + 1) = 4352 := by norm_num
  unfold dvUpto Rows.dv
  rw [h]

theorem dkUpto_one (S : Rows) (s e : ℕ) : dkUpto S 1 s e = dkPart S 0 s e := by
  have h : dkUpto S 0 s e = 0 := by simp [dkUpto]
  rw [dkUpto_succ, h, zero_add]

theorem dvUpto_one (S : Rows) (s e : ℕ) : dvUpto S 1 s e = dvPart S 0 s e := by
  have h : dvUpto S 0 s e = 0 := by simp [dvUpto]
  rw [dvUpto_succ, h, zero_add]

variable (m : (ℓ : Loc nD τ sig) → Buf (Elt Ideal) ℓ) (c : Dev nD) (R : ℕ → ℕ → Rows)

/-- The blocks of every grid point are those of its batch and heads. -/
def BlocksOk : Prop := ∀ t : Fin cfg0.N,
  BlockOk (fun h => R (batchOf t.val) (headOf t.val h)) (grid0.coords t) (iblk m c 0 t) (iblk m c 1 t) (iblk m c 2 t) (iblk m c 3 t) (iblk m c 4 t) (iblk m c 5 t)

/-- What a grid point leaves: the gradient of its queries, and the accumulators of the tiles so far. -/
structure PointOk (t : Fin cfg0.N) : Prop where
  dq : ∀ (h : Fin 4) (r : Fin 256) (e : Fin 128), (outsAt0 m c t.val t.isLt).1 (ix2 r (lane h e))
    = (((R (batchOf t.val) (headOf t.val h)).dq (256 * (t.val % 17) + r) e : ℝ) : EReal)
  dk : ∀ (h : Fin 4) (e : Fin 128) (s : Fin 4352), (outsAt0 m c t.val t.isLt).2.2.2.1 (ix2 (lane h e) s)
    = ((dkUpto (R (batchOf t.val) (headOf t.val h)) (t.val % 17 + 1) s e : ℝ) : EReal)
  dv : ∀ (h : Fin 4) (e : Fin 128) (s : Fin 4352), (outsAt0 m c t.val t.isLt).2.2.2.2 (ix2 (lane h e) s)
    = ((dvUpto (R (batchOf t.val) (headOf t.val h)) (t.val % 17 + 1) s e : ℝ) : EReal)

variable (HB : BlocksOk m c R)

include HB in
theorem point_A (t : Fin cfg0.N) (h0 : t.val % 17 = 0) (h1 : ¬t.val % 17 = 16) : PointOk m c R t := by
  refine ⟨fun h r e => ?_, fun h e s => ?_, fun h e s => ?_⟩
  · have q := outA_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (HB t) h r e
    rw [tile_coord t] at q
    rw [outsAt0_A m c t h0 h1]
    dsimp only [outs0_A]
    exact q
  · have q := soutA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (HB t) rfl h e s
    rw [tile_coord t] at q
    rw [outsAt0_A m c t h0 h1]
    dsimp only [outs0_A]
    refine q.trans ?_
    rw [h0, dkUpto_one]
  · have q := soutA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (HB t) rfl h e s
    rw [tile_coord t] at q
    rw [outsAt0_A m c t h0 h1]
    dsimp only [outs0_A]
    refine q.trans ?_
    rw [h0, dvUpto_one]

include HB in
theorem point_B (t : Fin cfg0.N) (h0 : ¬t.val % 17 = 0) (h1 : ¬t.val % 17 = 16)
    (P : PointOk m c R ⟨t.val - 1, Nat.lt_of_le_of_lt (Nat.sub_le _ _) t.isLt⟩) : PointOk m c R t := by
  have eb : batchOf (t.val - 1) = batchOf t.val := by unfold batchOf; omega
  have eh : ∀ h, headOf (t.val - 1) h = headOf t.val h := fun h => by unfold headOf; omega
  have en : (t.val - 1) % 17 + 1 = t.val % 17 := by omega
  refine ⟨fun h r e => ?_, fun h e s => ?_, fun h e s => ?_⟩
  · have q := outB_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (HB t) h r e
    rw [tile_coord t] at q
    rw [outsAt0_B m c t h0 h1]
    dsimp only [outs0_B]
    exact q
  · have p := P.dk h e s
    dsimp only at p
    rw [eb, eh, en] at p
    have q := soutB_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (HB t) h e s
    rw [p, tile_coord t, ← EReal.coe_add, ← dkUpto_succ] at q
    rw [outsAt0_B m c t h0 h1]
    dsimp only [outs0_B]
    exact q
  · have p := P.dv h e s
    dsimp only at p
    rw [eb, eh, en] at p
    have q := soutB_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (HB t) h e s
    rw [p, tile_coord t, ← EReal.coe_add, ← dvUpto_succ] at q
    rw [outsAt0_B m c t h0 h1]
    dsimp only [outs0_B]
    exact q

include HB in
theorem point_C (t : Fin cfg0.N) (h0 : ¬t.val % 17 = 0) (h1 : t.val % 17 = 16)
    (P : PointOk m c R ⟨t.val - 1, Nat.lt_of_le_of_lt (Nat.sub_le _ _) t.isLt⟩) : PointOk m c R t := by
  have eb : batchOf (t.val - 1) = batchOf t.val := by unfold batchOf; omega
  have eh : ∀ h, headOf (t.val - 1) h = headOf t.val h := fun h => by unfold headOf; omega
  have en : (t.val - 1) % 17 + 1 = t.val % 17 := by omega
  refine ⟨fun h r e => ?_, fun h e s => ?_, fun h e s => ?_⟩
  · have q := outC_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (HB t) h r e
    rw [tile_coord t] at q
    rw [outsAt0_C m c t h0 h1]
    dsimp only [outs0_C]
    exact q
  · have p := P.dk h e s
    dsimp only at p
    rw [eb, eh, en] at p
    have q := soutC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (HB t) h e s
    rw [p, tile_coord t, ← EReal.coe_add, ← dkUpto_succ] at q
    rw [outsAt0_C m c t h0 h1]
    dsimp only [outs0_C]
    exact q
  · have p := P.dv h e s
    dsimp only at p
    rw [eb, eh, en] at p
    have q := soutC_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (HB t) h e s
    rw [p, tile_coord t, ← EReal.coe_add, ← dvUpto_succ] at q
    rw [outsAt0_C m c t h0 h1]
    dsimp only [outs0_C]
    exact q

include HB in
/-- Every grid point leaves what it should. -/
theorem point_ok : ∀ (n : ℕ) (hn : n < cfg0.N), PointOk m c R ⟨n, hn⟩ := by
  intro n
  induction n with
  | zero => exact fun hn => point_A m c R HB ⟨0, hn⟩ (Nat.zero_mod _) (by show ¬(0 % 17 = 16); omega)
  | succ n ih =>
    intro hn
    by_cases h0 : (n + 1) % 17 = 0
    · exact point_A m c R HB ⟨n + 1, hn⟩ h0 (by show ¬((n + 1) % 17 = 16); omega)
    · by_cases h1 : (n + 1) % 17 = 16
      · exact point_C m c R HB ⟨n + 1, hn⟩ h0 h1 (ih (Nat.lt_of_succ_lt hn))
      · exact point_B m c R HB ⟨n + 1, hn⟩ h0 h1 (ih (Nat.lt_of_succ_lt hn))

include HB in
theorem tail_dk (t : Fin cfg0.N) (h0 : ¬t.val % 17 = 0) (h1 : t.val % 17 = 16)
    (P : PointOk m c R ⟨t.val - 1, Nat.lt_of_le_of_lt (Nat.sub_le _ _) t.isLt⟩) (h : Fin 4) (s : Fin 4352) (e : Fin 128) :
    (outsAt0 m c t.val t.isLt).2.1 (ix2 s (lane h e)) = ((dkUpto (R (batchOf t.val) (headOf t.val h)) (t.val % 17 + 1) s e : ℝ) : EReal) := by
  have eb : batchOf (t.val - 1) = batchOf t.val := by unfold batchOf; omega
  have eh : ∀ h, headOf (t.val - 1) h = headOf t.val h := fun h => by unfold headOf; omega
  have en : (t.val - 1) % 17 + 1 = t.val % 17 := by omega
  have p := P.dk h e s
  dsimp only at p
  rw [eb, eh, en] at p
  have q := outC_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (HB t) h e s
  rw [p, tile_coord t, ← EReal.coe_add, ← dkUpto_succ] at q
  rw [outsAt0_C m c t h0 h1]
  dsimp only [outs0_C]
  exact q

include HB in
/-- A group's last query tile stores the whole gradient. -/
theorem last_dk (t : Fin cfg0.N) (h1 : t.val % 17 = 16) (h : Fin 4) (s : Fin 4352) (e : Fin 128) :
    (outsAt0 m c t.val t.isLt).2.1 (ix2 s (lane h e)) = (((R (batchOf t.val) (headOf t.val h)).dk s e : ℝ) : EReal) :=
  (tail_dk m c R HB t (by omega) h1 (point_ok m c R HB (t.val - 1) (Nat.lt_of_le_of_lt (Nat.sub_le _ _) t.isLt)) h s e).trans
    (congrArg (fun x : ℝ => (x : EReal)) ((congrArg (fun n => dkUpto (R (batchOf t.val) (headOf t.val h)) (n + 1) s e) h1).trans (dkUpto_all _ _ _)))

include HB in
theorem tail_dv (t : Fin cfg0.N) (h0 : ¬t.val % 17 = 0) (h1 : t.val % 17 = 16)
    (P : PointOk m c R ⟨t.val - 1, Nat.lt_of_le_of_lt (Nat.sub_le _ _) t.isLt⟩) (h : Fin 4) (s : Fin 4352) (e : Fin 128) :
    (outsAt0 m c t.val t.isLt).2.2.1 (ix2 s (lane h e)) = ((dvUpto (R (batchOf t.val) (headOf t.val h)) (t.val % 17 + 1) s e : ℝ) : EReal) := by
  have eb : batchOf (t.val - 1) = batchOf t.val := by unfold batchOf; omega
  have eh : ∀ h, headOf (t.val - 1) h = headOf t.val h := fun h => by unfold headOf; omega
  have en : (t.val - 1) % 17 + 1 = t.val % 17 := by omega
  have p := P.dv h e s
  dsimp only at p
  rw [eb, eh, en] at p
  have q := outC_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (HB t) h e s
  rw [p, tile_coord t, ← EReal.coe_add, ← dvUpto_succ] at q
  rw [outsAt0_C m c t h0 h1]
  dsimp only [outs0_C]
  exact q

include HB in
/-- A group's last query tile stores the whole gradient. -/
theorem last_dv (t : Fin cfg0.N) (h1 : t.val % 17 = 16) (h : Fin 4) (s : Fin 4352) (e : Fin 128) :
    (outsAt0 m c t.val t.isLt).2.2.1 (ix2 s (lane h e)) = (((R (batchOf t.val) (headOf t.val h)).dv s e : ℝ) : EReal) :=
  (tail_dv m c R HB t (by omega) h1 (point_ok m c R HB (t.val - 1) (Nat.lt_of_le_of_lt (Nat.sub_le _ _) t.isLt)) h s e).trans
    (congrArg (fun x : ℝ => (x : EReal)) ((congrArg (fun n => dvUpto (R (batchOf t.val) (headOf t.val h)) (n + 1) s e) h1).trans (dvUpto_all _ _ _)))

end Cert.KernelIdeal.Sb

end
-- ==== Proof.Stick.Host.lean ====
/- The host operations that the kernel's surroundings and the reference both use, read at an index over the extended
   reals: the products over heads, the reshapes between [rows, columns] and [batch, row, head, lane], the sum over a
   sliding window that is a running sum, the mask and the logarithm of the sigmoid. -/
module

public import Idealize.ShloMosaic.Lib.ValueIdx
public import Idealize.ShloMosaic.Lib.IdealHost
public import Idealize.ShloMosaic.Lib.WordCmp
public import Idealize.ShloMosaic.Lib.Pipeline.Value
public import proofs.«01_k».proof.Proof.Stick.Real

@[expose] public section

noncomputable section

namespace Cert.Stick

open Idealize.ShloMosaic Idealize.ShloMosaic.ValueIdx
open scoped BigOperators
open Finset

section products

variable {B H T S E : ℕ}

/-- A batched product read at an index: the sum over the contracted coordinate. -/
theorem logits_heads_apply (w : DotDims.WF ⟨4, ![B, H, T, E]⟩ ⟨4, ![B, H, S, E]⟩ ⟨4, ![B, H, T, S]⟩ [3] [3] [2] [2] [0, 1] [0, 1])
    (x : FVec Ideal ⟨4, ![B, H, T, E]⟩ .f32) (y : FVec Ideal ⟨4, ![B, H, S, E]⟩ .f32) (b : Fin B) (g : Fin H) (t : Fin T) (s : Fin S) :
    Host.dotGeneral (⟨[3], [3], [2], [2], [0,1], [0,1], w⟩ : DotDims ⟨4, ![B, H, T, E]⟩ ⟨4, ![B, H, S, E]⟩ ⟨4, ![B, H, T, S]⟩) none x y (ix4 b g t s) = ∑ c : Fin E, x (ix4 b g t c) * y (ix4 b g s c) := by
  show FloatOps.dotGeneral _ none _ x y (ix4 b g t s) = _
  rw [Ideal.dotGeneral_apply,
    ← Equiv.sum_comp (contrEquiv1 (⟨[3], [3], [2], [2], [0,1], [0,1], w⟩ : DotDims ⟨4, ![B, H, T, E]⟩ ⟨4, ![B, H, S, E]⟩ ⟨4, ![B, H, T, S]⟩) E rfl rfl).symm]
  refine Finset.sum_congr rfl fun c _ => ?_
  have c3 := contrEquiv1_symm_val (⟨[3], [3], [2], [2], [0,1], [0,1], w⟩ : DotDims ⟨4, ![B, H, T, E]⟩ ⟨4, ![B, H, S, E]⟩ ⟨4, ![B, H, T, S]⟩) E rfl rfl c
  have l3 : (⟨[3], [3], [2], [2], [0,1], [0,1], w⟩ : DotDims ⟨4, ![B, H, T, E]⟩ ⟨4, ![B, H, S, E]⟩ ⟨4, ![B, H, T, S]⟩).lhsIdx (ix4 b g t s) ((contrEquiv1 _ E rfl rfl).symm c) = ix4 b g t c := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c3
  have r3 : (⟨[3], [3], [2], [2], [0,1], [0,1], w⟩ : DotDims ⟨4, ![B, H, T, E]⟩ ⟨4, ![B, H, S, E]⟩ ⟨4, ![B, H, T, S]⟩).rhsIdx (ix4 b g t s) ((contrEquiv1 _ E rfl rfl).symm c) = ix4 b g s c := by
    funext ax; apply Fin.ext
    match ax with
    | ⟨0, _⟩ => simp [DotDims.rhsIdx]; rfl
    | ⟨1, _⟩ => simp [DotDims.rhsIdx]; rfl
    | ⟨2, _⟩ => simp [DotDims.rhsIdx]; rfl
    | ⟨3, _⟩ => simp [DotDims.rhsIdx]; exact c3
  rw [l3, r3]

/-- A batched product read at an index: the sum over the contracted coordinate. -/
theorem logits_rows_apply (w : DotDims.WF ⟨4, ![B, T, H, E]⟩ ⟨4, ![B, S, H, E]⟩ ⟨4, ![B, H, T, S]⟩ [3] [3] [1] [1] [0, 2] [0, 2])
    (x : FVec Ideal ⟨4, ![B, T, H, E]⟩ .f32) (y : FVec Ideal ⟨4, ![B, S, H, E]⟩ .f32) (b : Fin B) (g : Fin H) (t : Fin T) (s : Fin S) :
    Host.dotGeneral (⟨[3], [3], [1], [1], [0,2], [0,2], w⟩ : DotDims ⟨4, ![B, T, H, E]⟩ ⟨4, ![B, S, H, E]⟩ ⟨4, ![B, H, T, S]⟩) none x y (ix4 b g t s) = ∑ c : Fin E, x (ix4 b t g c) * y (ix4 b s g c) := by
  show FloatOps.dotGeneral _ none _ x y (ix4 b g t s) = _
  rw [Ideal.dotGeneral_apply,
    ← Equiv.sum_comp (contrEquiv1 (⟨[3], [3], [1], [1], [0,2], [0,2], w⟩ : DotDims ⟨4, ![B, T, H, E]⟩ ⟨4, ![B, S, H, E]⟩ ⟨4, ![B, H, T, S]⟩) E rfl rfl).symm]
  refine Finset.sum_congr rfl fun c _ => ?_
  have c3 := contrEquiv1_symm_val (⟨[3], [3], [1], [1], [0,2], [0,2], w⟩ : DotDims ⟨4, ![B, T, H, E]⟩ ⟨4, ![B, S, H, E]⟩ ⟨4, ![B, H, T, S]⟩) E rfl rfl c
  have l3 : (⟨[3], [3], [1], [1], [0,2], [0,2], w⟩ : DotDims ⟨4, ![B, T, H, E]⟩ ⟨4, ![B, S, H, E]⟩ ⟨4, ![B, H, T, S]⟩).lhsIdx (ix4 b g t s) ((contrEquiv1 _ E rfl rfl).symm c) = ix4 b t g c := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c3
  have r3 : (⟨[3], [3], [1], [1], [0,2], [0,2], w⟩ : DotDims ⟨4, ![B, T, H, E]⟩ ⟨4, ![B, S, H, E]⟩ ⟨4, ![B, H, T, S]⟩).rhsIdx (ix4 b g t s) ((contrEquiv1 _ E rfl rfl).symm c) = ix4 b s g c := by
    funext ax; apply Fin.ext
    match ax with
    | ⟨0, _⟩ => simp [DotDims.rhsIdx]; rfl
    | ⟨1, _⟩ => simp [DotDims.rhsIdx]; rfl
    | ⟨2, _⟩ => simp [DotDims.rhsIdx]; rfl
    | ⟨3, _⟩ => simp [DotDims.rhsIdx]; exact c3
  rw [l3, r3]

/-- A batched product read at an index: the sum over the contracted coordinate. -/
theorem values_rows_apply (w : DotDims.WF ⟨4, ![B, H, E, T]⟩ ⟨4, ![B, S, H, E]⟩ ⟨4, ![B, H, T, S]⟩ [2] [3] [3] [1] [0, 1] [0, 2])
    (x : FVec Ideal ⟨4, ![B, H, E, T]⟩ .f32) (y : FVec Ideal ⟨4, ![B, S, H, E]⟩ .f32) (b : Fin B) (g : Fin H) (t : Fin T) (s : Fin S) :
    Host.dotGeneral (⟨[2], [3], [3], [1], [0,1], [0,2], w⟩ : DotDims ⟨4, ![B, H, E, T]⟩ ⟨4, ![B, S, H, E]⟩ ⟨4, ![B, H, T, S]⟩) none x y (ix4 b g t s) = ∑ c : Fin E, x (ix4 b g c t) * y (ix4 b s g c) := by
  show FloatOps.dotGeneral _ none _ x y (ix4 b g t s) = _
  rw [Ideal.dotGeneral_apply,
    ← Equiv.sum_comp (contrEquiv1 (⟨[2], [3], [3], [1], [0,1], [0,2], w⟩ : DotDims ⟨4, ![B, H, E, T]⟩ ⟨4, ![B, S, H, E]⟩ ⟨4, ![B, H, T, S]⟩) E rfl rfl).symm]
  refine Finset.sum_congr rfl fun c _ => ?_
  have c3 := contrEquiv1_symm_val (⟨[2], [3], [3], [1], [0,1], [0,2], w⟩ : DotDims ⟨4, ![B, H, E, T]⟩ ⟨4, ![B, S, H, E]⟩ ⟨4, ![B, H, T, S]⟩) E rfl rfl c
  have l3 : (⟨[2], [3], [3], [1], [0,1], [0,2], w⟩ : DotDims ⟨4, ![B, H, E, T]⟩ ⟨4, ![B, S, H, E]⟩ ⟨4, ![B, H, T, S]⟩).lhsIdx (ix4 b g t s) ((contrEquiv1 _ E rfl rfl).symm c) = ix4 b g c t := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
    | ⟨3, _⟩ => simp [DotDims.lhsIdx]; rfl
  have r3 : (⟨[2], [3], [3], [1], [0,1], [0,2], w⟩ : DotDims ⟨4, ![B, H, E, T]⟩ ⟨4, ![B, S, H, E]⟩ ⟨4, ![B, H, T, S]⟩).rhsIdx (ix4 b g t s) ((contrEquiv1 _ E rfl rfl).symm c) = ix4 b s g c := by
    funext ax; apply Fin.ext
    match ax with
    | ⟨0, _⟩ => simp [DotDims.rhsIdx]; rfl
    | ⟨1, _⟩ => simp [DotDims.rhsIdx]; rfl
    | ⟨2, _⟩ => simp [DotDims.rhsIdx]; rfl
    | ⟨3, _⟩ => simp [DotDims.rhsIdx]; exact c3
  rw [l3, r3]

/-- A batched product read at an index: the sum over the contracted coordinate. -/
theorem over_queries_apply (w : DotDims.WF ⟨4, ![B, H, E, T]⟩ ⟨4, ![B, H, T, S]⟩ ⟨4, ![B, H, E, S]⟩ [3] [2] [2] [3] [0, 1] [0, 1])
    (x : FVec Ideal ⟨4, ![B, H, E, T]⟩ .f32) (y : FVec Ideal ⟨4, ![B, H, T, S]⟩ .f32) (b : Fin B) (g : Fin H) (e : Fin E) (s : Fin S) :
    Host.dotGeneral (⟨[3], [2], [2], [3], [0,1], [0,1], w⟩ : DotDims ⟨4, ![B, H, E, T]⟩ ⟨4, ![B, H, T, S]⟩ ⟨4, ![B, H, E, S]⟩) none x y (ix4 b g e s) = ∑ c : Fin T, x (ix4 b g e c) * y (ix4 b g c s) := by
  show FloatOps.dotGeneral _ none _ x y (ix4 b g e s) = _
  rw [Ideal.dotGeneral_apply,
    ← Equiv.sum_comp (contrEquiv1 (⟨[3], [2], [2], [3], [0,1], [0,1], w⟩ : DotDims ⟨4, ![B, H, E, T]⟩ ⟨4, ![B, H, T, S]⟩ ⟨4, ![B, H, E, S]⟩) T rfl rfl).symm]
  refine Finset.sum_congr rfl fun c _ => ?_
  have c3 := contrEquiv1_symm_val (⟨[3], [2], [2], [3], [0,1], [0,1], w⟩ : DotDims ⟨4, ![B, H, E, T]⟩ ⟨4, ![B, H, T, S]⟩ ⟨4, ![B, H, E, S]⟩) T rfl rfl c
  have l3 : (⟨[3], [2], [2], [3], [0,1], [0,1], w⟩ : DotDims ⟨4, ![B, H, E, T]⟩ ⟨4, ![B, H, T, S]⟩ ⟨4, ![B, H, E, S]⟩).lhsIdx (ix4 b g e s) ((contrEquiv1 _ T rfl rfl).symm c) = ix4 b g e c := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c3
  have r3 : (⟨[3], [2], [2], [3], [0,1], [0,1], w⟩ : DotDims ⟨4, ![B, H, E, T]⟩ ⟨4, ![B, H, T, S]⟩ ⟨4, ![B, H, E, S]⟩).rhsIdx (ix4 b g e s) ((contrEquiv1 _ T rfl rfl).symm c) = ix4 b g c s := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
    | ⟨3, _⟩ => simp [DotDims.rhsIdx]; rfl
  rw [l3, r3]

/-- A batched product read at an index: the sum over the contracted coordinate. -/
theorem keys_grad_apply (w : DotDims.WF ⟨4, ![B, H, T, S]⟩ ⟨4, ![B, T, H, E]⟩ ⟨4, ![B, H, S, E]⟩ [2] [1] [3] [3] [0, 1] [0, 2])
    (x : FVec Ideal ⟨4, ![B, H, T, S]⟩ .f32) (y : FVec Ideal ⟨4, ![B, T, H, E]⟩ .f32) (b : Fin B) (g : Fin H) (s : Fin S) (e : Fin E) :
    Host.dotGeneral (⟨[2], [1], [3], [3], [0,1], [0,2], w⟩ : DotDims ⟨4, ![B, H, T, S]⟩ ⟨4, ![B, T, H, E]⟩ ⟨4, ![B, H, S, E]⟩) none x y (ix4 b g s e) = ∑ c : Fin T, x (ix4 b g c s) * y (ix4 b c g e) := by
  show FloatOps.dotGeneral _ none _ x y (ix4 b g s e) = _
  rw [Ideal.dotGeneral_apply,
    ← Equiv.sum_comp (contrEquiv1 (⟨[2], [1], [3], [3], [0,1], [0,2], w⟩ : DotDims ⟨4, ![B, H, T, S]⟩ ⟨4, ![B, T, H, E]⟩ ⟨4, ![B, H, S, E]⟩) T rfl rfl).symm]
  refine Finset.sum_congr rfl fun c _ => ?_
  have c3 := contrEquiv1_symm_val (⟨[2], [1], [3], [3], [0,1], [0,2], w⟩ : DotDims ⟨4, ![B, H, T, S]⟩ ⟨4, ![B, T, H, E]⟩ ⟨4, ![B, H, S, E]⟩) T rfl rfl c
  have l3 : (⟨[2], [1], [3], [3], [0,1], [0,2], w⟩ : DotDims ⟨4, ![B, H, T, S]⟩ ⟨4, ![B, T, H, E]⟩ ⟨4, ![B, H, S, E]⟩).lhsIdx (ix4 b g s e) ((contrEquiv1 _ T rfl rfl).symm c) = ix4 b g c s := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
    | ⟨3, _⟩ => simp [DotDims.lhsIdx]; rfl
  have r3 : (⟨[2], [1], [3], [3], [0,1], [0,2], w⟩ : DotDims ⟨4, ![B, H, T, S]⟩ ⟨4, ![B, T, H, E]⟩ ⟨4, ![B, H, S, E]⟩).rhsIdx (ix4 b g s e) ((contrEquiv1 _ T rfl rfl).symm c) = ix4 b c g e := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
    | ⟨3, _⟩ => simp [DotDims.rhsIdx]; rfl
  rw [l3, r3]

/-- A batched product read at an index: the sum over the contracted coordinate. -/
theorem queries_grad_apply (w : DotDims.WF ⟨4, ![B, H, T, S]⟩ ⟨4, ![B, S, H, E]⟩ ⟨4, ![B, H, T, E]⟩ [3] [1] [2] [3] [0, 1] [0, 2])
    (x : FVec Ideal ⟨4, ![B, H, T, S]⟩ .f32) (y : FVec Ideal ⟨4, ![B, S, H, E]⟩ .f32) (b : Fin B) (g : Fin H) (t : Fin T) (e : Fin E) :
    Host.dotGeneral (⟨[3], [1], [2], [3], [0,1], [0,2], w⟩ : DotDims ⟨4, ![B, H, T, S]⟩ ⟨4, ![B, S, H, E]⟩ ⟨4, ![B, H, T, E]⟩) none x y (ix4 b g t e) = ∑ c : Fin S, x (ix4 b g t c) * y (ix4 b c g e) := by
  show FloatOps.dotGeneral _ none _ x y (ix4 b g t e) = _
  rw [Ideal.dotGeneral_apply,
    ← Equiv.sum_comp (contrEquiv1 (⟨[3], [1], [2], [3], [0,1], [0,2], w⟩ : DotDims ⟨4, ![B, H, T, S]⟩ ⟨4, ![B, S, H, E]⟩ ⟨4, ![B, H, T, E]⟩) S rfl rfl).symm]
  refine Finset.sum_congr rfl fun c _ => ?_
  have c3 := contrEquiv1_symm_val (⟨[3], [1], [2], [3], [0,1], [0,2], w⟩ : DotDims ⟨4, ![B, H, T, S]⟩ ⟨4, ![B, S, H, E]⟩ ⟨4, ![B, H, T, E]⟩) S rfl rfl c
  have l3 : (⟨[3], [1], [2], [3], [0,1], [0,2], w⟩ : DotDims ⟨4, ![B, H, T, S]⟩ ⟨4, ![B, S, H, E]⟩ ⟨4, ![B, H, T, E]⟩).lhsIdx (ix4 b g t e) ((contrEquiv1 _ S rfl rfl).symm c) = ix4 b g t c := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c3
  have r3 : (⟨[3], [1], [2], [3], [0,1], [0,2], w⟩ : DotDims ⟨4, ![B, H, T, S]⟩ ⟨4, ![B, S, H, E]⟩ ⟨4, ![B, H, T, E]⟩).rhsIdx (ix4 b g t e) ((contrEquiv1 _ S rfl rfl).symm c) = ix4 b c g e := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
    | ⟨3, _⟩ => simp [DotDims.rhsIdx]; rfl
  rw [l3, r3]

end products

section layout

variable {α : Type}

/-- The row of the arrays that holds position `t` of sequence `b`. -/
def rowOf (b : Fin 2) (t : Fin 4352) : Fin 8704 := ⟨4352 * b.val + t.val, by omega⟩

/-- The column of the arrays that holds lane `e` of head `g`. -/
def colOf (g : Fin 8) (e : Fin 128) : Fin 1024 := ⟨128 * g.val + e.val, by omega⟩

/-- Rows and columns split into sequence, position, head and lane. -/
theorem split_apply (x : (⟨2, ![8704, 1024]⟩ : Shape).Idx → α) (h : (⟨2, ![8704, 1024]⟩ : Shape).ShapeCasts ⟨4, ![2, 4352, 8, 128]⟩)
    (b : Fin 2) (t : Fin 4352) (g : Fin 8) (e : Fin 128) :
    shapeCast ⟨4, ![2, 4352, 8, 128]⟩ x h (ix4 b t g e) = x (ix2 (rowOf b t) (colOf g e)) := by
  refine shapeCast_apply x h _ _ ?_
  rw [Shape.rowMajor_val_two, Shape.rowMajor_val_four]
  show (rowOf b t).val * 1024 + (colOf g e).val = ((b.val * 4352 + t.val) * 8 + g.val) * 128 + e.val
  unfold rowOf colOf; dsimp only; omega

/-- Sequence, position, head and lane joined into rows and columns. -/
theorem join_apply (x : (⟨4, ![2, 4352, 8, 128]⟩ : Shape).Idx → α) (h : (⟨4, ![2, 4352, 8, 128]⟩ : Shape).ShapeCasts ⟨2, ![8704, 1024]⟩)
    (b : Fin 2) (t : Fin 4352) (g : Fin 8) (e : Fin 128) :
    shapeCast ⟨2, ![8704, 1024]⟩ x h (ix2 (rowOf b t) (colOf g e)) = x (ix4 b t g e) := by
  refine shapeCast_apply x h _ _ ?_
  rw [Shape.rowMajor_val_two, Shape.rowMajor_val_four]
  show ((b.val * 4352 + t.val) * 8 + g.val) * 128 + e.val = (rowOf b t).val * 1024 + (colOf g e).val
  unfold rowOf colOf; dsimp only; omega

/-- Every index of the arrays is a sequence's position and a head's lane. -/
theorem exists_row_col (y : (⟨2, ![8704, 1024]⟩ : Shape).Idx) : ∃ b t g e, y = ix2 (rowOf b t) (colOf g e) := by
  have h0 : (y 0).val < 8704 := (y 0).isLt
  have h1 : (y 1).val < 1024 := (y 1).isLt
  refine ⟨⟨(y 0).val / 4352, by omega⟩, ⟨(y 0).val % 4352, by omega⟩, ⟨(y 1).val / 128, by omega⟩, ⟨(y 1).val % 128, by omega⟩, ?_⟩
  funext a
  match a with
  | ⟨0, _⟩ => apply Fin.ext; show (y 0).val = 4352 * ((y 0).val / 4352) + (y 0).val % 4352; omega
  | ⟨1, _⟩ => apply Fin.ext; show (y 1).val = 128 * ((y 1).val / 128) + (y 1).val % 128; omega

end layout

section windows

/-- A left fold of additions is the first value plus the sum. -/
theorem foldl_add_sum {ι : Type} (l : List ι) (g : ι → EReal) (r : EReal) : l.foldl (fun r n => r + g n) r = r + (l.map g).sum := by
  induction l generalizing r with
  | nil => simp
  | cons a l ih => rw [List.foldl_cons, ih, List.map_cons, List.sum_cons, add_assoc]

/-- The indices of a window along the last axis only are the coordinates of that axis. -/
def lastEquiv (N : ℕ) : (⟨4, ![1, 1, 1, N]⟩ : Shape).Idx ≃ Fin N where
  toFun i := i 3
  invFun k := ix4 0 0 0 k
  left_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv k := rfl

/-- The sum over a window of the last axis, read at an index: over the window's coordinates `k`, the operand's entry at
    `s + k - lo` where that lies inside. -/
theorem window_apply {B H T N : ℕ} (lo hi : ℕ) (x : FVec Ideal ⟨4, ![B, H, T, N]⟩ .f32) (init : FVec Ideal ⟨0, ![]⟩ .f32)
    (hinit : init ix0 = 0)
    (h : (⟨4, ![B, H, T, N]⟩ : Shape).ReduceWindows (![1, 1, 1, N] : Fin 4 → Nat) ![1, 1, 1, 1] ![0, 0, 0, lo] ![0, 0, 0, hi] ⟨4, ![B, H, T, N]⟩)
    (hu : 0 < (⟨0, ![]⟩ : Shape).numel) (b : Fin B) (g : Fin H) (t : Fin T) (s : Fin N) :
    Host.reduceWindowAdd ![1, 1, 1, N] ![1, 1, 1, 1] ![0, 0, 0, lo] ![0, 0, 0, hi] x init h hu (ix4 b g t s)
      = ∑ k : Fin N, if hk : lo ≤ s.val + k.val ∧ s.val + k.val - lo < N then x (ix4 b g t ⟨s.val + k.val - lo, hk.2⟩) else 0 := by
  have hv : init (Shape.Idx.first hu) = 0 := (congrArg init (eq_ix0 _)).trans hinit
  show Ideal.hostReduceWindowAdd _ _ _ _ h x (init (Shape.Idx.first hu)) (ix4 b g t s) = _
  rw [hv]
  unfold Ideal.hostReduceWindowAdd Host.reduceWindow
  dsimp only
  rw [foldl_add_sum, zero_add, ← List.ofFn_eq_map, List.sum_ofFn]
  rw [← Equiv.sum_comp (Shape.rowMajor (⟨4, ![1, 1, 1, N]⟩ : Shape)), ← Equiv.sum_comp (lastEquiv N).symm]
  refine Finset.sum_congr rfl fun k _ => ?_
  simp only [Equiv.symm_apply_apply]
  have e0 : ((lastEquiv N).symm k 0).val = 0 := rfl
  have e1 : ((lastEquiv N).symm k 1).val = 0 := rfl
  have e2 : ((lastEquiv N).symm k 2).val = 0 := rfl
  have e3 : ((lastEquiv N).symm k 3).val = k.val := rfl
  have hb := b.isLt
  have hg := g.isLt
  have ht := t.isLt
  by_cases hk : lo ≤ s.val + k.val ∧ s.val + k.val - lo < N
  · have hin : ∀ a : Fin 4, (![0, 0, 0, lo] : Fin 4 → ℕ) a ≤ (ix4 b g t s a).val * (![1, 1, 1, 1] : Fin 4 → ℕ) a + ((lastEquiv N).symm k a).val
        ∧ (ix4 b g t s a).val * (![1, 1, 1, 1] : Fin 4 → ℕ) a + ((lastEquiv N).symm k a).val - (![0, 0, 0, lo] : Fin 4 → ℕ) a
          < (⟨4, ![B, H, T, N]⟩ : Shape).size a := by
      intro a
      match a with
      | ⟨0, _⟩ => show 0 ≤ b.val * 1 + 0 ∧ b.val * 1 + 0 - 0 < B; omega
      | ⟨1, _⟩ => show 0 ≤ g.val * 1 + 0 ∧ g.val * 1 + 0 - 0 < H; omega
      | ⟨2, _⟩ => show 0 ≤ t.val * 1 + 0 ∧ t.val * 1 + 0 - 0 < T; omega
      | ⟨3, _⟩ => show lo ≤ s.val * 1 + k.val ∧ s.val * 1 + k.val - lo < N; omega
    rw [dif_pos hk]
    refine (dif_pos hin).trans ?_
    refine congrArg x (funext fun a => Fin.ext ?_)
    match a with
    | ⟨0, _⟩ => show b.val * 1 + 0 - 0 = b.val; omega
    | ⟨1, _⟩ => show g.val * 1 + 0 - 0 = g.val; omega
    | ⟨2, _⟩ => show t.val * 1 + 0 - 0 = t.val; omega
    | ⟨3, _⟩ => show s.val * 1 + k.val - lo = s.val + k.val - lo; omega
  · rw [dif_neg hk]
    refine dif_neg fun hin => hk ?_
    have h3 := hin 3
    change lo ≤ s.val * 1 + k.val ∧ s.val * 1 + k.val - lo < N at h3
    omega

end windows

section mask

/-- The bit of a decided proposition is one exactly when it holds. -/
theorem ofBool_one (p : Prop) [Decidable p] : (BitVec.ofBool (decide p) = 1#1) = p := by
  by_cases h : p <;> simp [h]

/-- Query `t` sees key `s` when the key comes first and is not padding: the host's bits. -/
theorem mask_bit (t s : ℕ) (ht : t < 4352) (hs : s < 4352) :
    IntOp.andi (IntOp.cmpi .slt (BitVec.ofNat 32 s) (BitVec.ofNat 32 t)) (IntOp.cmpi .sge (BitVec.ofNat 32 s) 240#32)
      = BitVec.ofBool (decide (ok t s)) := by
  rw [WordCmp.cmpi_slt_eq, WordCmp.cmpi_sge_eq, WordCmp.toInt_ofNat_of_lt (by omega), WordCmp.toInt_ofNat_of_lt (by omega)]
  have e : (240#32 : BitVec 32).toInt = 240 := by decide
  rw [e]
  unfold ok
  by_cases h1 : s < t <;> by_cases h2 : 240 ≤ s <;> simp [h1, h2, IntOp.andi] <;> omega

/-- A choice on the bit of a decided proposition. -/
theorem select_ofBool {α : Type} (p : Prop) [Decidable p] (a b : α) :
    (if BitVec.ofBool (decide p) = 1#1 then a else b) = if p then a else b := by
  by_cases h : p <;> simp [h]

end mask

section sigmoid

/-- `log (1 + exp)` both ways round: the function at a number is the larger of the number and nought plus a remainder. -/
theorem soft_max (x : ℝ) : soft x = max x 0 + Real.log (1 + Real.exp (-|x|)) := by
  unfold soft
  rcases le_total 0 x with h | h
  · rw [max_eq_left h, abs_of_nonneg h]
    have e : 1 + Real.exp x = Real.exp x * (1 + Real.exp (-x)) := by rw [mul_add, ← Real.exp_add]; simp; ring
    rw [e, Real.log_mul (Real.exp_pos x).ne' (by positivity), Real.log_exp]
  · rw [max_eq_right h, abs_of_nonpos h, neg_neg, zero_add]

/-- At the negated number it is smaller by the number. -/
theorem soft_neg (x : ℝ) : soft (-x) = soft x - x := by
  rw [soft_max, soft_max, abs_neg]
  rcases le_total 0 x with h | h
  · rw [max_eq_right (by linarith : -x ≤ 0), max_eq_left h]; ring
  · rw [max_eq_left (by linarith : 0 ≤ -x), max_eq_right h]; ring

/-- The host's `log (1 + exp x)` of a real number. -/
theorem host_soft (x : ℝ) :
    (max (x : EReal) 0 + Ideal.log (1 + Ideal.exp (-((|x| : ℝ) : EReal)))) = ((soft x : ℝ) : EReal) := by
  have e1 : (max (x : EReal) 0) = ((max x 0 : ℝ) : EReal) := by
    rcases le_total 0 x with h | h
    · rw [max_eq_left h, max_eq_left (by exact_mod_cast h)]
    · rw [max_eq_right h, max_eq_right (by exact_mod_cast h)]; rfl
  rw [e1, ← EReal.coe_neg, Ideal.exp_coe, show (1 : EReal) = ((1 : ℝ) : EReal) from rfl, ← EReal.coe_add, Ideal.log_coe,
    if_neg (not_le.mpr (by positivity)), ← EReal.coe_add, ← soft_max]

end sigmoid

end Cert.Stick

end
-- ==== Proof.Stick.Arr.lean ====
/- The arrays that the host computes on the way to the logits, the mask and the logarithms of what each key leaves, as
   the kernel's surroundings and the reference both spell them, and their entries over the extended reals. -/
module

public import proofs.«01_k».proof.Proof.Stick.Host

@[expose] public section

noncomputable section

namespace Cert.Stick

open Idealize.ShloMosaic Idealize.ShloMosaic.ValueIdx
open scoped BigOperators
open Finset

/-- The shape of queries, keys, values and their gradients. -/
abbrev SA : Shape := ⟨2, ![8704, 1024]⟩
/-- Sequence, position, head, lane. -/
abbrev SP : Shape := ⟨4, ![2, 4352, 8, 128]⟩
/-- Sequence, head, position, lane. -/
abbrev SH : Shape := ⟨4, ![2, 8, 4352, 128]⟩
/-- Sequence, head, query, key. -/
abbrev SS : Shape := ⟨4, ![2, 8, 4352, 4352]⟩
/-- Query, key. -/
abbrev SQ : Shape := ⟨2, ![4352, 4352]⟩
/-- A scalar. -/
abbrev S0 : Shape := ⟨0, ![]⟩

/-- The rows of head `g` of sequence `b` as the four arrays hold them. -/
def rowsOf (x y v d : SA.Idx → EReal) (b g : ℕ) : Rows where
  q t e := (x (ix2 (rowOf ⟨b % 2, by omega⟩ ⟨t % 4352, by omega⟩) (colOf ⟨g % 8, by omega⟩ ⟨e % 128, by omega⟩))).toReal
  k t e := (y (ix2 (rowOf ⟨b % 2, by omega⟩ ⟨t % 4352, by omega⟩) (colOf ⟨g % 8, by omega⟩ ⟨e % 128, by omega⟩))).toReal
  v t e := (v (ix2 (rowOf ⟨b % 2, by omega⟩ ⟨t % 4352, by omega⟩) (colOf ⟨g % 8, by omega⟩ ⟨e % 128, by omega⟩))).toReal
  d t e := (d (ix2 (rowOf ⟨b % 2, by omega⟩ ⟨t % 4352, by omega⟩) (colOf ⟨g % 8, by omega⟩ ⟨e % 128, by omega⟩))).toReal

/-- Every entry is a real number. -/
def Fin' (x : SA.Idx → EReal) : Prop := ∀ i, ∃ r : ℝ, x i = (r : EReal)

section entries

variable {x y v d : SA.Idx → EReal}

theorem coord_eq {α : Type} (z : SA.Idx → α) (b : Fin 2) (t : Fin 4352) (g : Fin 8) (e : Fin 128) :
    z (ix2 (rowOf ⟨b.val % 2, by omega⟩ ⟨t.val % 4352, by omega⟩) (colOf ⟨g.val % 8, by omega⟩ ⟨e.val % 128, by omega⟩))
      = z (ix2 (rowOf b t) (colOf g e)) := by
  congr 1
  funext a
  match a with
  | ⟨0, _⟩ => apply Fin.ext; show 4352 * (b.val % 2) + t.val % 4352 = 4352 * b.val + t.val; omega
  | ⟨1, _⟩ => apply Fin.ext; show 128 * (g.val % 8) + e.val % 128 = 128 * g.val + e.val; omega

theorem entry (z : SA.Idx → EReal) (hz : Fin' z) (b : Fin 2) (t : Fin 4352) (g : Fin 8) (e : Fin 128) :
    z (ix2 (rowOf b t) (colOf g e)) = (((z (ix2 (rowOf ⟨b.val % 2, by omega⟩ ⟨t.val % 4352, by omega⟩)
      (colOf ⟨g.val % 8, by omega⟩ ⟨e.val % 128, by omega⟩))).toReal : ℝ) : EReal) := by
  rw [coord_eq z]
  obtain ⟨r, hr⟩ := hz (ix2 (rowOf b t) (colOf g e))
  rw [hr, EReal.toReal_coe]

theorem entry_q (hx : Fin' x) (b : Fin 2) (t : Fin 4352) (g : Fin 8) (e : Fin 128) :
    x (ix2 (rowOf b t) (colOf g e)) = (((rowsOf x y v d b.val g.val).q t.val e.val : ℝ) : EReal) := entry x hx b t g e
theorem entry_k (hy : Fin' y) (b : Fin 2) (t : Fin 4352) (g : Fin 8) (e : Fin 128) :
    y (ix2 (rowOf b t) (colOf g e)) = (((rowsOf x y v d b.val g.val).k t.val e.val : ℝ) : EReal) := entry y hy b t g e
theorem entry_v (hv : Fin' v) (b : Fin 2) (t : Fin 4352) (g : Fin 8) (e : Fin 128) :
    v (ix2 (rowOf b t) (colOf g e)) = (((rowsOf x y v d b.val g.val).v t.val e.val : ℝ) : EReal) := entry v hv b t g e
theorem entry_d (hd : Fin' d) (b : Fin 2) (t : Fin 4352) (g : Fin 8) (e : Fin 128) :
    d (ix2 (rowOf b t) (colOf g e)) = (((rowsOf x y v d b.val g.val).d t.val e.val : ℝ) : EReal) := entry d hd b t g e

end entries

/-- The shape relations that the arrays below use. -/
structure Side : Prop where
  ext : FTy.bits .bf16 < FTy.bits .f32
  split : SA.ShapeCasts SP
  row : (⟨1, ![4352]⟩ : Shape).BroadcastsInDim ⟨2, ![1, 4352]⟩ (![1] : Fin 1 → Fin 2)
  col : (⟨1, ![4352]⟩ : Shape).BroadcastsInDim ⟨2, ![4352, 1]⟩ (![0] : Fin 1 → Fin 2)
  rows : (⟨2, ![1, 4352]⟩ : Shape).BroadcastsInDim SQ (![0, 1] : Fin 2 → Fin 2)
  cols : (⟨2, ![4352, 1]⟩ : Shape).BroadcastsInDim SQ (![0, 1] : Fin 2 → Fin 2)
  pad : S0.BroadcastsInDim ⟨1, ![4352]⟩ (![] : Fin 0 → Fin 1)
  all : S0.BroadcastsInDim SS (![] : Fin 0 → Fin 4)
  both : SQ.BroadcastsInDim SS (![2, 3] : Fin 2 → Fin 4)

variable (F : Side)

/-- An argument widened and split into sequence, position, head and lane. -/
def splitArr (x : FVec Ideal SA .bf16) : FVec Ideal SP .f32 := shapeCast SP (extf .f32 x F.ext) F.split

theorem splitArr_apply (x : FVec Ideal SA .bf16) (b : Fin 2) (t : Fin 4352) (g : Fin 8) (e : Fin 128) :
    splitArr F x (ix4 b t g e) = x (ix2 (rowOf b t) (colOf g e)) := by
  unfold splitArr
  rw [split_apply]
  rfl

/-- The mask: which key a query sees. -/
def maskArr : IVec SQ 1 :=
  andi (cmpi .slt (broadcastInDim SQ ![0, 1] F.rows (broadcastInDim (⟨2, ![1, 4352]⟩ : Shape) ![1] F.row (iotaInDim (⟨1, ![4352]⟩ : Shape) 32 0)))
      (broadcastInDim SQ ![0, 1] F.cols (broadcastInDim (⟨2, ![4352, 1]⟩ : Shape) ![0] F.col (iotaInDim (⟨1, ![4352]⟩ : Shape) 32 0))))
    (broadcastInDim SQ ![0, 1] F.rows (broadcastInDim (⟨2, ![1, 4352]⟩ : Shape) ![1] F.row
      (cmpi .sge (iotaInDim (⟨1, ![4352]⟩ : Shape) 32 0) (broadcastInDim (⟨1, ![4352]⟩ : Shape) ![] F.pad (constantI S0 32 240#32)))))

theorem bcast_rows {α : Type} (z : (⟨1, ![4352]⟩ : Shape).Idx → α) (t s : Fin 4352) :
    broadcastInDim SQ ![0, 1] F.rows (broadcastInDim (⟨2, ![1, 4352]⟩ : Shape) ![1] F.row z) (ix2 t s) = z (ix1 s) := by
  rw [broadcastInDim_apply _ _ _ (ix2 t s) (ix2 (0 : Fin 1) s), broadcastInDim_apply _ _ _ (ix2 (0 : Fin 1) s) (ix1 s)]
  · intro a
    match a with
    | ⟨0, _⟩ => rfl
  · intro a
    match a with
    | ⟨0, _⟩ => rfl
    | ⟨1, _⟩ => rfl

theorem bcast_cols {α : Type} (z : (⟨1, ![4352]⟩ : Shape).Idx → α) (t s : Fin 4352) :
    broadcastInDim SQ ![0, 1] F.cols (broadcastInDim (⟨2, ![4352, 1]⟩ : Shape) ![0] F.col z) (ix2 t s) = z (ix1 t) := by
  rw [broadcastInDim_apply _ _ _ (ix2 t s) (ix2 t (0 : Fin 1)), broadcastInDim_apply _ _ _ (ix2 t (0 : Fin 1)) (ix1 t)]
  · intro a
    match a with
    | ⟨0, _⟩ => rfl
  · intro a
    match a with
    | ⟨0, _⟩ => rfl
    | ⟨1, _⟩ => rfl

theorem pad_bit (s : Fin 4352) : cmpi .sge (iotaInDim (⟨1, ![4352]⟩ : Shape) 32 0)
      (broadcastInDim (⟨1, ![4352]⟩ : Shape) ![] F.pad (constantI S0 32 240#32)) (ix1 s)
    = IntOp.cmpi .sge (BitVec.ofNat 32 s.val) 240#32 := by
  have e : broadcastInDim (⟨1, ![4352]⟩ : Shape) ![] F.pad (constantI S0 32 240#32) (ix1 s) = 240#32 :=
    broadcastInDim_scalar_apply _ _ _
  exact congrArg (IntOp.cmpi .sge (BitVec.ofNat 32 s.val)) e

theorem maskArr_apply (t s : Fin 4352) : maskArr F (ix2 t s) = BitVec.ofBool (decide (ok t.val s.val)) := by
  have e1 := bcast_rows F (iotaInDim (⟨1, ![4352]⟩ : Shape) 32 0) t s
  have e2 := bcast_cols F (iotaInDim (⟨1, ![4352]⟩ : Shape) 32 0) t s
  have e3 := (bcast_rows F (cmpi .sge (iotaInDim (⟨1, ![4352]⟩ : Shape) 32 0)
      (broadcastInDim (⟨1, ![4352]⟩ : Shape) ![] F.pad (constantI S0 32 240#32))) t s).trans (pad_bit F s)
  refine Eq.trans ?_ (mask_bit t.val s.val t.isLt s.isLt)
  exact congrArg₂ IntOp.andi (congrArg₂ (IntOp.cmpi .slt) e1 e2) e3

/-- The mask over all heads. -/
def maskAll : IVec SS 1 := broadcastInDim SS ![2, 3] F.both (maskArr F)

theorem maskAll_apply (b : Fin 2) (g : Fin 8) (t s : Fin 4352) :
    maskAll F (ix4 b g t s) = BitVec.ofBool (decide (ok t.val s.val)) := by
  unfold maskAll
  rw [broadcastInDim_apply _ _ _ (ix4 b g t s) (ix2 t s), maskArr_apply]
  intro a
  match a with
  | ⟨0, _⟩ => rfl
  | ⟨1, _⟩ => rfl

/-- A scalar over all heads, queries and keys. -/
def splat (b : BitVec 32) : FVec Ideal SS .f32 := broadcastInDim SS ![] F.all (constant S0 .f32 b)

theorem splat_apply (b : BitVec 32) (i : SS.Idx) : splat F b i = Ideal.ofBits .f32 b := by
  unfold splat
  rw [broadcastInDim_scalar_apply]
  rfl

/-- A choice by the mask, read at an index. -/
theorem choose_apply (a c : FVec Ideal SS .f32) (b : Fin 2) (g : Fin 8) (t s : Fin 4352) :
    select (maskAll F) a c (ix4 b g t s) = if ok t.val s.val then a (ix4 b g t s) else c (ix4 b g t s) := by
  show (if maskAll F (ix4 b g t s) = 1#1 then _ else _) = _
  rw [maskAll_apply, select_ofBool]

/-- The softplus of the negated logits, as the host computes it. -/
def softArr (z : FVec Ideal SS .f32) : FVec Ideal SS .f32 :=
  select (cmpf .une (subf (Host.negf z) (splat F 0x00000000#32)) (subf (Host.negf z) (splat F 0x00000000#32)))
    (addf (Host.negf z) (splat F 0x00000000#32))
    (addf (maximumf (Host.negf z) (splat F 0x00000000#32))
      (Host.log1p (Host.exp (Host.negf (Host.absf (subf (Host.negf z) (splat F 0x00000000#32)))))))

theorem softArr_apply (z : FVec Ideal SS .f32) (i : SS.Idx) (r : ℝ) (hz : z i = (r : EReal)) :
    softArr F z i = ((soft (-r) : ℝ) : EReal) := by
  have h0 : splat F 0x00000000#32 i = 0 := (splat_apply F _ i).trans Ideal.ofBits_zero_f32
  have hn : Host.negf z i = ((-r : ℝ) : EReal) := by
    show -(z i) = _
    rw [hz]; rfl
  unfold softArr
  show (if Ideal.cmp .une (Host.negf z i - splat F 0x00000000#32 i) (Host.negf z i - splat F 0x00000000#32 i) = 1#1 then
    Host.negf z i + splat F 0x00000000#32 i else
    max (Host.negf z i) (splat F 0x00000000#32 i)
      + Ideal.log (1 + Ideal.exp (-(max (Host.negf z i - splat F 0x00000000#32 i) (-(Host.negf z i - splat F 0x00000000#32 i)))))) = _
  rw [h0, hn, sub_zero]
  have hc : Ideal.cmp .une (((-r : ℝ) : EReal)) (((-r : ℝ) : EReal)) = 0#1 := by simp [Ideal.cmp]
  rw [hc, if_neg (by decide)]
  have ha : max (((-r : ℝ) : EReal)) (-(((-r : ℝ) : EReal))) = ((|(-r)| : ℝ) : EReal) := by
    have hm : -(((-r : ℝ) : EReal)) = ((-(-r) : ℝ) : EReal) := (EReal.coe_neg _).symm
    rw [hm, abs_eq_max_neg]
    exact (EReal.coe_strictMono.monotone.map_max (a := -r) (b := -(-r))).symm
  rw [ha]
  exact host_soft (-r)

/-- The logarithm of what a key leaves of the stick, over all keys: nought where the query does not see the key. -/
def keepArr (z : FVec Ideal SS .f32) : FVec Ideal SS .f32 :=
  select (maskAll F) (subf (Host.negf (softArr F z)) z) (splat F 0x00000000#32)

section keep

variable (S : Fin 2 → Fin 8 → Rows) (z : FVec Ideal SS .f32)
  (hz : ∀ b g (t s : Fin 4352), z (ix4 b g t s) = (((S b g).logit t.val s.val : ℝ) : EReal))

include hz

theorem logBeta_apply (b : Fin 2) (g : Fin 8) (t s : Fin 4352) :
    Host.negf (softArr F z) (ix4 b g t s)
      = (((S b g).logit t.val s.val - soft ((S b g).logit t.val s.val) : ℝ) : EReal) := by
  show -(softArr F z (ix4 b g t s)) = _
  rw [softArr_apply F z _ _ (hz b g t s), soft_neg, ← EReal.coe_neg]
  congr 1; ring

theorem keepArr_apply (b : Fin 2) (g : Fin 8) (t s : Fin 4352) :
    keepArr F z (ix4 b g t s) = (((S b g).keep t.val s.val : ℝ) : EReal) := by
  unfold keepArr
  rw [choose_apply]
  unfold Rows.keep
  by_cases h : ok t.val s.val
  · rw [if_pos h, if_pos h]
    show Host.negf (softArr F z) (ix4 b g t s) - z (ix4 b g t s) = _
    rw [logBeta_apply F S z hz, hz, ← EReal.coe_sub]
    congr 1; ring
  · rw [if_neg h, if_neg h, splat_apply]
    exact Ideal.ofBits_zero_f32

end keep

end Cert.Stick

end
-- ==== Proof.KernelIdeal.HostVal.lean ====
/- What the host hands to the kernel's grid besides the arguments: for every query the sum of the logarithms over all its
   keys, and for every tile the count of key tiles it visits. -/
module

public import proofs.«01_k».proof.Proof.Gen.KernelIdeal.Frame
public import proofs.«01_k».proof.Proof.Stick.Arr

@[expose] public section

set_option maxRecDepth 16384

noncomputable section

namespace Cert.KernelIdeal.Sb

open Cert.KernelIdeal.Gen
open Idealize.ShloMosaic Idealize.ShloMosaic.TcCoe
open Idealize.SL Idealize.SL.RA Idealize.SL.BI Idealize.SL.Sem
open Cert.Stick Idealize.ShloMosaic.ValueIdx
open scoped BigOperators
open Finset

/-- The shape relations that the host's arrays use, from the program's. -/
theorem side : Side where
  ext := Facts₀.bitsLt_bf16_f32
  split := Facts₀.shapeCasts_S8704x1024_S2x4352x8x128
  row := Facts₀.bcast_S4352_S1x4352_1
  col := Facts₀.bcast_S4352_S4352x1_0
  rows := Facts₀.bcast_S1x4352_S4352x4352_0_1
  cols := Facts₀.bcast_S4352x1_S4352x4352_0_1
  pad := Facts₀.bcast_S_S4352
  all := Facts₀.bcast_S_S2x8x4352x4352
  both := Facts₀.bcast_S4352x4352_S2x8x4352x4352_2_3

/-- An argument's heads before its positions. -/
def headsArr (x : FVec Ideal SA .bf16) : FVec Ideal SH .f32 :=
  transpose SH [0, 2, 1, 3] (splitArr side x) Facts₀.transposes_S2x4352x8x128_S2x8x4352x128_0_2_1_3

theorem headsArr_apply (x : FVec Ideal SA .bf16) (b : Fin 2) (g : Fin 8) (t : Fin 4352) (e : Fin 128) :
    headsArr x (ix4 b g t e) = x (ix2 (rowOf b t) (colOf g e)) := by
  unfold headsArr
  rw [transpose_apply _ _ _ (ix4 b g t e) (ix4 b t g e), splitArr_apply]
  intro a
  match a with
  | ⟨0, _⟩ => rfl
  | ⟨1, _⟩ => rfl
  | ⟨2, _⟩ => rfl
  | ⟨3, _⟩ => rfl

/-- The logits that the host forms. -/
def hostLogits (x y : FVec Ideal SA .bf16) : FVec Ideal SS .f32 :=
  mulf (Host.dotGeneral dot_S2x8x4352x128_S2x8x4352x128_S2x8x4352x4352_3_3_2_2_01_01 none (headsArr x) (headsArr y)) (splat side 0x3DB504F3#32)

/-- Every query's sum of the logarithms of what its keys leave. -/
def sumArr (x y : FVec Ideal SA .bf16) : FVec Ideal (⟨3, ![2, 8, 4352]⟩ : Shape) .f32 :=
  Host.reduceAdd (keepArr side (hostLogits x y)) (constant (F := Ideal) S0 .f32 0x00000000#32) Facts₀.reducesTo_S2x8x4352x4352_S2x8x4352_d3 Facts₀.h_S_

/-- That sum under every lane of the query's head. -/
def totArr (x y : FVec Ideal SA .bf16) : FVec Ideal SA .f32 :=
  shapeCast SA (transpose SP [0, 2, 1, 3]
    (broadcastInDim SH ![0, 1, 2, 3] Facts₀.bcast_S2x8x4352x1_S2x8x4352x128_0_1_2_3
      (broadcastInDim (⟨4, ![2, 8, 4352, 1]⟩ : Shape) ![0, 1, 2] Facts₀.bcast_S2x8x4352_S2x8x4352x1_0_1_2 (sumArr x y)))
    Facts₀.transposes_S2x8x4352x128_S2x4352x8x128_0_2_1_3) Facts₀.shapeCasts_S2x4352x8x128_S8704x1024

/-- The count of key tiles that each tile of queries visits. -/
def visArr : FVec Ideal S34 .f32 :=
  shapeCast S34 (broadcastInDim S2x17 ![0, 1] Facts₀.bcast_S1x17_S2x17_0_1
    (shapeCast S1x17 (sitofp .f32 (addi (broadcastInDim S17 ![] Facts₀.bcast_S_S17 (constantI S_ 32 1#32)) (iotaInDim S17 32 0)) : FVec Ideal S17 .f32)
      Facts₀.shapeCasts_S17_S1x17)) Facts₀.shapeCasts_S2x17_S34

section arrays

variable (m : (ℓ : Loc nD τ sig) → Buf (Elt Ideal) ℓ) (c : Dev nD)

set_option maxHeartbeats 4000000

/-- The window of sums reads the host's sums. -/
theorem V_tot : V m c main_v27 = totArr (m ((c : Thread nD τ).loc main_arg0)) (m ((c : Thread nD τ).loc main_arg1)) := by
  simp only [V, hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp <;> rfl

/-- The window of counts reads the host's counts. -/
theorem V_vis : V m c main_v34 = visArr := by
  simp only [V, hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp <;> rfl

end arrays

section entries

variable {x y v d : FVec Ideal SA .bf16} (hx : Fin' x) (hy : Fin' y)

include hx hy in
theorem hostLogits_apply (b : Fin 2) (g : Fin 8) (t s : Fin 4352) :
    hostLogits x y (ix4 b g t s) = (((rowsOf x y v d b.val g.val).logit t.val s.val : ℝ) : EReal) := by
  unfold hostLogits
  have e1 : Host.dotGeneral dot_S2x8x4352x128_S2x8x4352x128_S2x8x4352x4352_3_3_2_2_01_01 none (headsArr x) (headsArr y) (ix4 b g t s)
      = ∑ c : Fin 128, headsArr x (ix4 b g t c) * headsArr y (ix4 b g s c) := logits_heads_apply _ _ _ b g t s
  show Host.dotGeneral dot_S2x8x4352x128_S2x8x4352x128_S2x8x4352x4352_3_3_2_2_01_01 none (headsArr x) (headsArr y) (ix4 b g t s)
    * splat side 0x3DB504F3#32 (ix4 b g t s) = _
  rw [e1, splat_apply, ofBits_sc]
  have e := sum_coe (fun c => (rowsOf x y v d b.val g.val).q t.val c) (fun c => (rowsOf x y v d b.val g.val).k s.val c)
    (fun c : Fin 128 => headsArr x (ix4 b g t c)) (fun c => headsArr y (ix4 b g s c))
    (fun c => (headsArr_apply x b g t c).trans (entry_q hx b t g c))
    (fun c => (headsArr_apply y b g s c).trans (entry_k hy b s g c))
  rw [e, ← EReal.coe_mul]
  rfl

include hx hy in
theorem sumArr_apply (b : Fin 2) (g : Fin 8) (t : Fin 4352) :
    sumArr x y (ix3 b g t) = (((rowsOf x y v d b.val g.val).pre t.val 4352 : ℝ) : EReal) := by
  unfold sumArr
  have hR : SS.Reduces [3] (⟨3, ![2, 8, 4352]⟩ : Shape) := by decide
  have hl : ∀ k : Fin 4352, hR.lift (ix3 b g t) k = ix4 b g t k := by
    intro k
    funext a
    match a with
    | ⟨0, _⟩ => rfl
    | ⟨1, _⟩ => rfl
    | ⟨2, _⟩ => rfl
    | ⟨3, _⟩ => rfl
  rw [hostReduceAdd_apply]
  refine (Ideal.hostReduceAdd_single _ hR _ _ _).trans ?_
  have h0 : (constant (F := Ideal) S0 .f32 0x00000000#32) (Shape.Idx.first Facts₀.h_S_) = (0 : EReal) := Ideal.ofBits_zero_f32
  rw [h0, zero_add]
  unfold Rows.pre
  rw [← Fin.sum_univ_eq_sum_range (fun k => (rowsOf x y v d b.val g.val).keep t.val k) 4352, coe_sum]
  refine Finset.sum_congr rfl fun k _ => ?_
  exact (congrArg (keepArr side (hostLogits x y)) (hl k)).trans
    (keepArr_apply side (fun b g => rowsOf x y v d b.val g.val) (hostLogits x y) (fun b g t s => hostLogits_apply hx hy b g t s) b g t k)

include hx hy in
/-- An entry of the sums. -/
theorem totArr_apply (b : Fin 2) (g : Fin 8) (t : Fin 4352) (e : Fin 128) :
    totArr x y (ix2 (rowOf b t) (colOf g e)) = (((rowsOf x y v d b.val g.val).pre t.val 4352 : ℝ) : EReal) := by
  unfold totArr
  rw [join_apply, transpose_apply _ _ _ (ix4 b t g e) (ix4 b g t e),
    broadcastInDim_apply _ _ _ (ix4 b g t e) (ix4 b g t (0 : Fin 1)),
    broadcastInDim_apply _ _ _ (ix4 b g t (0 : Fin 1)) (ix3 b g t), sumArr_apply hx hy]
  · intro a
    match a with
    | ⟨0, _⟩ => rfl
    | ⟨1, _⟩ => rfl
    | ⟨2, _⟩ => rfl
  · intro a
    match a with
    | ⟨0, _⟩ => rfl
    | ⟨1, _⟩ => rfl
    | ⟨2, _⟩ => rfl
    | ⟨3, _⟩ => rfl
  · intro a
    match a with
    | ⟨0, _⟩ => rfl
    | ⟨1, _⟩ => rfl
    | ⟨2, _⟩ => rfl
    | ⟨3, _⟩ => rfl

/-- An entry of the counts. -/
theorem visArr_apply (w : S34.Idx) : visArr w = ((((w 0).val % 17 + 1 : ℕ) : ℝ) : EReal) := by
  have hw : (w 0).val < 34 := (w 0).isLt
  unfold visArr
  rw [shapeCast_apply _ _ w (ix2 (⟨(w 0).val / 17, by omega⟩ : Fin 2) (⟨(w 0).val % 17, by omega⟩ : Fin 17)),
    broadcastInDim_apply _ _ _ (ix2 (⟨(w 0).val / 17, by omega⟩ : Fin 2) (⟨(w 0).val % 17, by omega⟩ : Fin 17))
      (ix2 (0 : Fin 1) (⟨(w 0).val % 17, by omega⟩ : Fin 17)),
    shapeCast_apply _ _ (ix2 (0 : Fin 1) (⟨(w 0).val % 17, by omega⟩ : Fin 17)) (ix1 (⟨(w 0).val % 17, by omega⟩ : Fin 17))]
  · show (((IntOp.addi (broadcastInDim S17 ![] Facts₀.bcast_S_S17 (constantI S_ 32 1#32) (ix1 (⟨(w 0).val % 17, by omega⟩ : Fin 17)))
      (BitVec.ofNat 32 ((w 0).val % 17))).toInt : ℝ) : EReal) = _
    have e : broadcastInDim S17 ![] Facts₀.bcast_S_S17 (constantI S_ 32 1#32) (ix1 (⟨(w 0).val % 17, by omega⟩ : Fin 17)) = 1#32 :=
      broadcastInDim_scalar_apply _ _ _
    rw [e]
    have e2 : IntOp.addi 1#32 (BitVec.ofNat 32 ((w 0).val % 17)) = BitVec.ofNat 32 ((w 0).val % 17 + 1) := by
      show 1#32 + BitVec.ofNat 32 ((w 0).val % 17) = _
      rw [add_comm, BitVec.ofNat_add]
    rw [e2, WordCmp.toInt_ofNat_of_lt (by omega)]
    norm_cast
  · rw [Shape.rowMajor_val_one, Shape.rowMajor_val_two]
    show (w 0).val % 17 = 0 * 17 + (w 0).val % 17
    omega
  · intro a
    match a with
    | ⟨0, _⟩ => rfl
    | ⟨1, _⟩ => rfl
  · rw [Shape.rowMajor_val_one, Shape.rowMajor_val_two]
    show (w 0).val / 17 * 17 + (w 0).val % 17 = (w 0).val
    omega

end entries

end Cert.KernelIdeal.Sb

end
-- ==== Proof.KernelIdeal.Blocks.lean ====
/- The blocks the grid reads are blocks of the four arguments, the totals and the tile counts. -/
module

public import proofs.«01_k».proof.Proof.KernelIdeal.GridVal
public import proofs.«01_k».proof.Proof.KernelIdeal.HostVal
public import Idealize.ShloMosaic.Lib.Pipeline.ValueKit.Geometry

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI Idealize.SL.Sem
open Cert.Stick Idealize.ShloMosaic.ValueIdx
open scoped BigOperators
open Finset

/-- The batch of a grid point, as a coordinate. -/
def bOf (t : Fin cfg0.N) : Fin 2 := ⟨batchOf t.val, by
  have ht : t.val < 68 := Nat.lt_of_lt_of_eq t.isLt N_0
  unfold batchOf; omega⟩
/-- A head of a grid point's group, as a coordinate. -/
def gOf (t : Fin cfg0.N) (h : Fin 4) : Fin 8 := ⟨headOf t.val h, by
  have := h.isLt
  unfold headOf; omega⟩
/-- A row of a grid point's query tile, as a position. -/
def tOf (t : Fin cfg0.N) (r : Fin 256) : Fin 4352 := ⟨256 * (t.val % 17) + r.val, by
  have := r.isLt
  omega⟩

theorem ix_q1 : ∀ t : Fin cfg0.N, win0_1.index t = ![t.val / 34 * 17 + t.val % 17, t.val / 17 % 2] :=
  (by decide +kernel : ∀ t : Fin grid0.N, win0_1.index t = ![t.val / 34 * 17 + t.val % 17, t.val / 17 % 2])
theorem ix_k2 : ∀ t : Fin cfg0.N, win0_2.index t = ![t.val / 34, t.val / 17 % 2] :=
  (by decide +kernel : ∀ t : Fin grid0.N, win0_2.index t = ![t.val / 34, t.val / 17 % 2])
theorem ix_v3 : ∀ t : Fin cfg0.N, win0_3.index t = ![t.val / 34, t.val / 17 % 2] :=
  (by decide +kernel : ∀ t : Fin grid0.N, win0_3.index t = ![t.val / 34, t.val / 17 % 2])
theorem ix_t4 : ∀ t : Fin cfg0.N, win0_4.index t = ![t.val / 34 * 17 + t.val % 17, t.val / 17 % 2] :=
  (by decide +kernel : ∀ t : Fin grid0.N, win0_4.index t = ![t.val / 34 * 17 + t.val % 17, t.val / 17 % 2])
theorem ix_d5 : ∀ t : Fin cfg0.N, win0_5.index t = ![t.val / 34 * 17 + t.val % 17, t.val / 17 % 2] :=
  (by decide +kernel : ∀ t : Fin grid0.N, win0_5.index t = ![t.val / 34 * 17 + t.val % 17, t.val / 17 % 2])
theorem ix_o6 : ∀ t : Fin cfg0.N, win0_6.index t = ![t.val / 34 * 17 + t.val % 17, t.val / 17 % 2] :=
  (by decide +kernel : ∀ t : Fin grid0.N, win0_6.index t = ![t.val / 34 * 17 + t.val % 17, t.val / 17 % 2])
theorem ix_o7 : ∀ t : Fin cfg0.N, win0_7.index t = ![t.val / 34, t.val / 17 % 2] :=
  (by decide +kernel : ∀ t : Fin grid0.N, win0_7.index t = ![t.val / 34, t.val / 17 % 2])
theorem ix_o8 : ∀ t : Fin cfg0.N, win0_8.index t = ![t.val / 34, t.val / 17 % 2] :=
  (by decide +kernel : ∀ t : Fin grid0.N, win0_8.index t = ![t.val / 34, t.val / 17 % 2])

theorem row_tile (t : Fin cfg0.N) (r : Fin 256) :
    (t.val / 34 * 17 + t.val % 17) * 256 + r.val = (rowOf (bOf t) (tOf t r)).val := by
  simp only [rowOf, bOf, tOf, batchOf]; omega
theorem row_all (t : Fin cfg0.N) (s : Fin 4352) :
    t.val / 34 * 4352 + s.val = (rowOf (bOf t) s).val := by
  simp only [rowOf, bOf, batchOf]; omega
theorem col_lane (t : Fin cfg0.N) (h : Fin 4) (e : Fin 128) :
    t.val / 17 % 2 * 512 + (lane h e).val = (colOf (gOf t h) e).val := by
  simp only [colOf, gOf, headOf, lane]; omega

theorem at_q1 (t : Fin cfg0.N) (h : Fin 4) (r : Fin 256) (e : Fin 128) :
    (win0_1.blk t).view.emb (ix2 r (lane h e)) = ix2 (rowOf (bOf t) (tOf t r)) (colOf (gOf t h) e) := by
  have e0 := row_tile t r
  have e1 := col_lane t h e
  blk_ext [ix_q1]
theorem at_t4 (t : Fin cfg0.N) (h : Fin 4) (r : Fin 256) (e : Fin 128) :
    (win0_4.blk t).view.emb (ix2 r (lane h e)) = ix2 (rowOf (bOf t) (tOf t r)) (colOf (gOf t h) e) := by
  have e0 := row_tile t r
  have e1 := col_lane t h e
  blk_ext [ix_t4]
theorem at_d5 (t : Fin cfg0.N) (h : Fin 4) (r : Fin 256) (e : Fin 128) :
    (win0_5.blk t).view.emb (ix2 r (lane h e)) = ix2 (rowOf (bOf t) (tOf t r)) (colOf (gOf t h) e) := by
  have e0 := row_tile t r
  have e1 := col_lane t h e
  blk_ext [ix_d5]
theorem at_o6 (t : Fin cfg0.N) (h : Fin 4) (r : Fin 256) (e : Fin 128) :
    (win0_6.blk t).view.emb (ix2 r (lane h e)) = ix2 (rowOf (bOf t) (tOf t r)) (colOf (gOf t h) e) := by
  have e0 := row_tile t r
  have e1 := col_lane t h e
  blk_ext [ix_o6]
theorem at_k2 (t : Fin cfg0.N) (h : Fin 4) (s : Fin 4352) (e : Fin 128) :
    (win0_2.blk t).view.emb (ix2 s (lane h e)) = ix2 (rowOf (bOf t) s) (colOf (gOf t h) e) := by
  have e0 := row_all t s
  have e1 := col_lane t h e
  blk_ext [ix_k2]
theorem at_v3 (t : Fin cfg0.N) (h : Fin 4) (s : Fin 4352) (e : Fin 128) :
    (win0_3.blk t).view.emb (ix2 s (lane h e)) = ix2 (rowOf (bOf t) s) (colOf (gOf t h) e) := by
  have e0 := row_all t s
  have e1 := col_lane t h e
  blk_ext [ix_v3]
theorem at_o7 (t : Fin cfg0.N) (h : Fin 4) (s : Fin 4352) (e : Fin 128) :
    (win0_7.blk t).view.emb (ix2 s (lane h e)) = ix2 (rowOf (bOf t) s) (colOf (gOf t h) e) := by
  have e0 := row_all t s
  have e1 := col_lane t h e
  blk_ext [ix_o7]
theorem at_o8 (t : Fin cfg0.N) (h : Fin 4) (s : Fin 4352) (e : Fin 128) :
    (win0_8.blk t).view.emb (ix2 s (lane h e)) = ix2 (rowOf (bOf t) s) (colOf (gOf t h) e) := by
  have e0 := row_all t s
  have e1 := col_lane t h e
  blk_ext [ix_o8]

variable (m : (ℓ : Loc nD τ sig) → Buf (Elt Ideal) ℓ) (c : Dev nD)

/-- The problem's real rows, read from the arguments. -/
def probRows (b g : ℕ) : Rows :=
  rowsOf (m ((c.tc : Thread nD τ).loc main_arg0)) (m ((c.tc : Thread nD τ).loc main_arg1))
    (m ((c.tc : Thread nD τ).loc main_arg2)) (m ((c.tc : Thread nD τ).loc main_arg3)) b g

theorem read_q (t : Fin cfg0.N) (h : Fin 4) (r : Fin 256) (e : Fin 128) :
    iblk m c 1 t (ix2 r (lane h e)) = m ((c.tc : Thread nD τ).loc main_arg0) (ix2 (rowOf (bOf t) (tOf t r)) (colOf (gOf t h) e)) := by
  rw [← V_main_arg0 m c, ← at_q1]; rfl
theorem read_k (t : Fin cfg0.N) (h : Fin 4) (s : Fin 4352) (e : Fin 128) :
    iblk m c 2 t (ix2 s (lane h e)) = m ((c.tc : Thread nD τ).loc main_arg1) (ix2 (rowOf (bOf t) s) (colOf (gOf t h) e)) := by
  rw [← V_main_arg1 m c, ← at_k2]; rfl
theorem read_v (t : Fin cfg0.N) (h : Fin 4) (s : Fin 4352) (e : Fin 128) :
    iblk m c 3 t (ix2 s (lane h e)) = m ((c.tc : Thread nD τ).loc main_arg2) (ix2 (rowOf (bOf t) s) (colOf (gOf t h) e)) := by
  rw [← V_main_arg2 m c, ← at_v3]; rfl
theorem read_d (t : Fin cfg0.N) (h : Fin 4) (r : Fin 256) (e : Fin 128) :
    iblk m c 5 t (ix2 r (lane h e)) = m ((c.tc : Thread nD τ).loc main_arg3) (ix2 (rowOf (bOf t) (tOf t r)) (colOf (gOf t h) e)) := by
  rw [← V_main_arg3 m c, ← at_d5]; rfl
theorem read_tot (t : Fin cfg0.N) (h : Fin 4) (r : Fin 256) (e : Fin 128) :
    iblk m c 4 t (ix2 r (lane h e)) = totArr (m ((c.tc : Thread nD τ).loc main_arg0)) (m ((c.tc : Thread nD τ).loc main_arg1))
      (ix2 (rowOf (bOf t) (tOf t r)) (colOf (gOf t h) e)) := by
  rw [← V_tot m c, ← at_t4]; rfl
theorem at_s0 (t : Fin cfg0.N) (y : S34.Idx) : (win0_0.blk t).view.emb y = y := by
  have e0 : ∀ t : Fin cfg0.N, win0_0.index t = ![0] := (by decide +kernel : ∀ t : Fin grid0.N, win0_0.index t = ![0])
  blk_ext [e0]
theorem read_vis (t : Fin cfg0.N) (y : S34.Idx) : iblk m c 0 t y = visArr y := by
  rw [← V_vis m c]
  conv_rhs => rw [← at_s0 t y]
  rfl

/-- Every grid point reads its blocks of the problem. -/
theorem blocks_ok
    (hx : Fin' (m ((c.tc : Thread nD τ).loc main_arg0))) (hy : Fin' (m ((c.tc : Thread nD τ).loc main_arg1)))
    (hv : Fin' (m ((c.tc : Thread nD τ).loc main_arg2))) (hd : Fin' (m ((c.tc : Thread nD τ).loc main_arg3)))
    (hs : ∀ (b : Fin 2) (g : Fin 8) (t s : Fin 4352), ok t.val s.val → (probRows m c b.val g.val).logit t.val s.val ≤ 20) :
    BlocksOk m c (probRows m c) := by
  intro t
  exact {
    vis := fun y => (read_vis m c t y).trans (visArr_apply y)
    q := fun h r e => by
      rw [tile_coord t]
      exact (read_q m c t h r e).trans (entry_q (hx := hx) (bOf t) (tOf t r) (gOf t h) e)
    k := fun h s e => (read_k m c t h s e).trans (entry_k (hy := hy) (bOf t) s (gOf t h) e)
    v := fun h s e => (read_v m c t h s e).trans (entry_v (hv := hv) (bOf t) s (gOf t h) e)
    tot := fun h r => by
      rw [tile_coord t]
      exact (read_tot m c t h r 0).trans (totArr_apply (hx := hx) (hy := hy) (b := bOf t) (g := gOf t h) (t := tOf t r) (e := 0))
    d := fun h r e => by
      rw [tile_coord t]
      exact (read_d m c t h r e).trans (entry_d (hd := hd) (bOf t) (tOf t r) (gOf t h) e)
    small := fun h r s hok => by
      rw [tile_coord t] at hok ⊢
      exact hs (bOf t) (gOf t h) (tOf t r) s hok }

end Cert.KernelIdeal.Sb

end
-- ==== Proof.KernelIdeal.ArrVal.lean ====
/- What the run leaves in the three results. -/
module

public import proofs.«01_k».proof.Proof.KernelIdeal.Blocks
public import proofs.«01_k».proof.Proof.KernelIdeal.Frame

@[expose] public section

set_option maxRecDepth 16384

noncomputable section

namespace Cert.KernelIdeal.Sb

open Cert.KernelIdeal.Gen
open Idealize.ShloMosaic Idealize.ShloMosaic.TcCoe Idealize.ShloMosaic.Tactic
open Idealize.SL Idealize.SL.RA Idealize.SL.BI Idealize.SL.Sem
open Cert.Stick Idealize.ShloMosaic.ValueIdx
open scoped BigOperators
open Finset

/-- An index of a block of four heads: a row, a head, a lane. -/
theorem exists_lane {n : ℕ} (y : (⟨2, ![n, 512]⟩ : Shape).Idx) : ∃ (r : Fin n) (h : Fin 4) (e : Fin 128), y = ix2 r (lane h e) := by
  have h1 : (y 1).val < 512 := (y 1).isLt
  refine ⟨⟨(y 0).val, (y 0).isLt⟩, ⟨(y 1).val / 128, by omega⟩, ⟨(y 1).val % 128, by omega⟩, ?_⟩
  funext a
  match a with
  | ⟨0, _⟩ => rfl
  | ⟨1, _⟩ => apply Fin.ext; show (y 1).val = 128 * ((y 1).val / 128) + (y 1).val % 128; omega

variable (m : (ℓ : Loc nD τ sig) → Buf (Elt Ideal) ℓ) (c : Dev nD)
variable (R : ℕ → ℕ → Rows) (HB : BlocksOk m c R) (G : SA.Idx → EReal)

include HB in
/-- The first result, of the queries. -/
theorem final_dq (hG : ∀ (b : Fin 2) (g : Fin 8) (t : Fin 4352) (e : Fin 128),
    G (ix2 (rowOf b t) (colOf g e)) = (((R b.val g.val).dq t.val e.val : ℝ) : EReal)) :
    (dats m 0 c).arrAt 6 cfg0.N = G := by
  refine (dats m 0 c).arrAt_eq_of_covers 6 G (by decide +kernel) fun t hf y => ?_
  blk_simp
  rw [after0_6]
  obtain ⟨r, h, e, rfl⟩ := exists_lane (n := 256) y
  rw [at_o6 t h r e, hG]
  exact (point_ok m c R HB t.val t.isLt).dq h r e

include HB in
/-- The second result, of the keys. -/
theorem final_dk (hG : ∀ (b : Fin 2) (g : Fin 8) (t : Fin 4352) (e : Fin 128),
    G (ix2 (rowOf b t) (colOf g e)) = (((R b.val g.val).dk t.val e.val : ℝ) : EReal)) :
    (dats m 0 c).arrAt 7 cfg0.N = G := by
  refine (dats m 0 c).arrAt_eq_of_covers 7 G (by decide +kernel) fun t hf y => ?_
  blk_simp
  rw [after0_7]
  obtain ⟨r, h, e, rfl⟩ := exists_lane (n := 4352) y
  rw [at_o7 t h r e, hG]
  exact last_dk m c R HB t ((flush0_7 t).mp hf) h r e

include HB in
/-- The third result, of the values. -/
theorem final_dv (hG : ∀ (b : Fin 2) (g : Fin 8) (t : Fin 4352) (e : Fin 128),
    G (ix2 (rowOf b t) (colOf g e)) = (((R b.val g.val).dv t.val e.val : ℝ) : EReal)) :
    (dats m 0 c).arrAt 8 cfg0.N = G := by
  refine (dats m 0 c).arrAt_eq_of_covers 8 G (by decide +kernel) fun t hf y => ?_
  blk_simp
  rw [after0_8]
  obtain ⟨r, h, e, rfl⟩ := exists_lane (n := 4352) y
  rw [at_o8 t h r e, hG]
  exact last_dv m c R HB t ((flush0_8 t).mp hf) h r e

/-- The run leaves the three results and keeps the arguments. -/
theorem run_results (ρ : Dev nD → PrngReg) : θ_run defs (onTc (τ := τ) (main (F := Ideal))) ⟨m, fun _ => 0, ρ⟩ (fun r => ∀ c : Dev nD,
      r.2.mem ((c.tc : Thread nD τ).loc main_v35_0) = (dats m 0 c).arrAt 6 cfg0.N
      ∧ r.2.mem ((c.tc : Thread nD τ).loc main_v35_1) = (dats m 0 c).arrAt 7 cfg0.N
      ∧ r.2.mem ((c.tc : Thread nD τ).loc main_v35_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1 6, (h c).1 7, (h c).1 8,
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 5).trans (((dats m 0 c).arrAt_in 5 rfl _).trans ((A_eq m c 5).trans (V_main_arg3 m c)))⟩) (run_main m ρ)

end Cert.KernelIdeal.Sb

end
-- ==== Proof.Stick.Grad.lean ====
/- The arrays of the reference's gradient, in the order in which its host operations compute them, and their entries:
   the attention weights, their gradients, the running sums in both directions, the gradient of the logits, and from
   it the gradients of queries, keys and values. -/
module

public import proofs.«01_k».proof.Proof.Stick.Arr

@[expose] public section

noncomputable section

namespace Cert.Stick

open Idealize.ShloMosaic Idealize.ShloMosaic.ValueIdx
open scoped BigOperators
open Finset

section sums

/-- A sum over the entries from `s` on. -/
theorem sum_from (f : ℕ → ℝ) {N s : ℕ} (hs : s < N) :
    ∑ k ∈ range N, (if 0 ≤ s + k ∧ s + k - 0 < N then f (s + k - 0) else 0) = ∑ j ∈ range N, f j - ∑ j ∈ range s, f j := by
  have e : ∑ j ∈ range N, f j = ∑ j ∈ range s, f j + ∑ k ∈ range (N - s), f (s + k) := by
    rw [← Finset.sum_range_add]; congr 2; omega
  rw [e, add_sub_cancel_left]
  have e2 : ∑ k ∈ range N, (if 0 ≤ s + k ∧ s + k - 0 < N then f (s + k - 0) else 0)
      = ∑ k ∈ range (N - s), (if 0 ≤ s + k ∧ s + k - 0 < N then f (s + k - 0) else 0)
        + ∑ k ∈ range s, (if 0 ≤ s + (N - s + k) ∧ s + (N - s + k) - 0 < N then f (s + (N - s + k) - 0) else 0) := by
    rw [← Finset.sum_range_add (fun k => if 0 ≤ s + k ∧ s + k - 0 < N then f (s + k - 0) else 0)]
    congr 2; omega
  rw [e2, Finset.sum_eq_zero (s := range s), add_zero]
  · refine Finset.sum_congr rfl fun k hk => ?_
    rw [Finset.mem_range] at hk
    rw [if_pos (by omega)]; rfl
  · intro k _
    rw [if_neg (by omega)]

/-- A sum over the entries up to `s`. -/
theorem sum_to (f : ℕ → ℝ) {N s : ℕ} (hs : s < N) :
    ∑ k ∈ range N, (if N - 1 ≤ s + k ∧ s + k - (N - 1) < N then f (s + k - (N - 1)) else 0) = ∑ j ∈ range (s + 1), f j := by
  have e2 : ∑ k ∈ range N, (if N - 1 ≤ s + k ∧ s + k - (N - 1) < N then f (s + k - (N - 1)) else 0)
      = ∑ k ∈ range (N - (s + 1)), (if N - 1 ≤ s + k ∧ s + k - (N - 1) < N then f (s + k - (N - 1)) else 0)
        + ∑ k ∈ range (s + 1), (if N - 1 ≤ s + (N - (s + 1) + k) ∧ s + (N - (s + 1) + k) - (N - 1) < N then
            f (s + (N - (s + 1) + k) - (N - 1)) else 0) := by
    rw [← Finset.sum_range_add (fun k => if N - 1 ≤ s + k ∧ s + k - (N - 1) < N then f (s + k - (N - 1)) else 0)]
    congr 2; omega
  rw [e2, Finset.sum_eq_zero (s := range (N - (s + 1))), zero_add]
  · refine Finset.sum_congr rfl fun k hk => ?_
    rw [Finset.mem_range] at hk
    rw [if_pos (by omega)]
    congr 1; omega
  · intro k hk
    rw [Finset.mem_range] at hk
    rw [if_neg (by omega)]

/-- A window's sum of real entries. -/
theorem window_real {N lo : ℕ} {s : Fin N} (f : ℕ → ℝ) (x : Fin N → EReal) (hx : ∀ k, x k = ((f k.val : ℝ) : EReal)) :
    (∑ k : Fin N, if hk : lo ≤ s.val + k.val ∧ s.val + k.val - lo < N then x ⟨s.val + k.val - lo, hk.2⟩ else 0)
      = ((∑ k ∈ range N, (if lo ≤ s.val + k ∧ s.val + k - lo < N then f (s.val + k - lo) else 0) : ℝ) : EReal) := by
  rw [← Fin.sum_univ_eq_sum_range (fun k => if lo ≤ s.val + k ∧ s.val + k - lo < N then f (s.val + k - lo) else 0) N, coe_sum]
  refine Finset.sum_congr rfl fun k _ => ?_
  by_cases hk : lo ≤ s.val + k.val ∧ s.val + k.val - lo < N
  · rw [dif_pos hk, if_pos hk, hx]
  · rw [dif_neg hk, if_neg hk]; rfl

end sums

/-- Sequence, head, lane, position. -/
abbrev SL : Shape := ⟨4, ![2, 8, 128, 4352]⟩

/-- The shape relations that the gradient uses besides. -/
structure SideG : Prop extends Side where
  join : SP.ShapeCasts SA
  pos : 0 < S0.numel
  scalar : S0.BroadcastsInDim S0 (![] : Fin 0 → Fin 0)
  fromHere : SS.ReduceWindows (![1, 1, 1, 4352] : Fin 4 → Nat) ![1, 1, 1, 1] ![0, 0, 0, 0] ![0, 0, 0, 4351] SS
  upTo : SS.ReduceWindows (![1, 1, 1, 4352] : Fin 4 → Nat) ![1, 1, 1, 1] ![0, 0, 0, 4351] ![0, 0, 0, 0] SS
  lanes : SP.Transposes [0, 2, 3, 1] SL
  back : SL.Transposes [0, 3, 1, 2] SP
  heads : SH.Transposes [0, 2, 1, 3] SP
  w1 : DotDims.WF SP SP SS [3] [3] [1] [1] [0, 2] [0, 2]
  w2 : DotDims.WF SL SP SS [2] [3] [3] [1] [0, 1] [0, 2]
  w3 : DotDims.WF SL SS SL [3] [2] [2] [3] [0, 1] [0, 1]
  w4 : DotDims.WF SS SP SH [2] [1] [3] [3] [0, 1] [0, 2]
  w5 : DotDims.WF SS SP SH [3] [1] [2] [3] [0, 1] [0, 2]

variable (F : SideG) (x y v d : FVec Ideal SA .bf16)

/-- The logits. -/
def logitArr : FVec Ideal SS .f32 :=
  mulf (Host.dotGeneral (⟨[3], [3], [1], [1], [0, 2], [0, 2], F.w1⟩ : DotDims SP SP SS) none (splitArr F.toSide x) (splitArr F.toSide y))
    (splat F.toSide 0x3DB504F3#32)
/-- The logarithm of what each key leaves. -/
def gKeep : FVec Ideal SS .f32 := keepArr F.toSide (logitArr F x y)
/-- The sum of those from a key on. -/
def gFrom : FVec Ideal SS .f32 :=
  Host.reduceWindowAdd ![1, 1, 1, 4352] ![1, 1, 1, 1] ![0, 0, 0, 0] ![0, 0, 0, 4351] (gKeep F x y)
    (broadcastInDim S0 ![] F.scalar (constant (F := Ideal) S0 .f32 0x00000000#32)) F.fromHere F.pos
/-- The weights before the mask. -/
def gExp : FVec Ideal SS .f32 :=
  Host.exp (addf (Host.negf (softArr F.toSide (logitArr F x y))) (subf (gFrom F x y) (gKeep F x y)))
/-- The weights. -/
def gWt : FVec Ideal SS .f32 := select (maskAll F.toSide) (gExp F x y) (splat F.toSide 0x00000000#32)
/-- The gradient of the output, lanes before positions. -/
def gOut : FVec Ideal SL .f32 := transpose SL [0, 2, 3, 1] (splitArr F.toSide d) F.lanes
/-- The gradient of the weights. -/
def gDwt : FVec Ideal SS .f32 :=
  Host.dotGeneral (⟨[2], [3], [3], [1], [0, 1], [0, 2], F.w2⟩ : DotDims SL SP SS) none (gOut F d) (splitArr F.toSide v)
/-- The weights' gradient times the weights. -/
def gGg : FVec Ideal SS .f32 :=
  mulf (select (maskAll F.toSide) (gDwt F v d) (splat F.toSide 0x00000000#32)) (gExp F x y)
/-- The sum of that up to a key. -/
def gUpTo : FVec Ideal SS .f32 :=
  Host.reduceWindowAdd ![1, 1, 1, 4352] ![1, 1, 1, 1] ![0, 0, 0, 4351] ![0, 0, 0, 0] (gGg F x y v d)
    (broadcastInDim S0 ![] F.scalar (constant (F := Ideal) S0 .f32 0x00000000#32)) F.upTo F.pos
/-- The gradient of the logarithm of what each key leaves. -/
def gDkeep : FVec Ideal SS .f32 :=
  select (maskAll F.toSide) (addf (Host.negf (gGg F x y v d)) (gUpTo F x y v d)) (splat F.toSide 0x00000000#32)
/-- The share that each key leaves. -/
def gLeft : FVec Ideal SS .f32 :=
  Host.exp (subf
    (select (cmpf .oeq (Host.negf (logitArr F x y)) (splat F.toSide 0x7F800000#32)) (splat F.toSide 0x00000000#32) (Host.negf (logitArr F x y)))
    (select (cmpf .oeq (softArr F.toSide (logitArr F x y)) (splat F.toSide 0x7F800000#32)) (splat F.toSide 0x00000000#32)
      (softArr F.toSide (logitArr F x y))))
/-- The gradient of the scaled logits, times the scale. -/
def gDz : FVec Ideal SS .f32 :=
  mulf (addf (Host.negf (gDkeep F x y v d))
      (Host.negf (mulf (Host.negf (addf (gGg F x y v d) (gDkeep F x y v d))) (gLeft F x y))))
    (splat F.toSide 0x3DB504F3#32)
/-- The gradient of the queries. -/
def gDq : FVec Ideal SA .bf16 :=
  truncf .bf16 (shapeCast SA (transpose SP [0, 2, 1, 3]
    (Host.dotGeneral (⟨[3], [1], [2], [3], [0, 1], [0, 2], F.w5⟩ : DotDims SS SP SH) none (gDz F x y v d) (splitArr F.toSide y)) F.heads) F.join) F.ext
/-- The gradient of the keys. -/
def gDk : FVec Ideal SA .bf16 :=
  truncf .bf16 (shapeCast SA (transpose SP [0, 2, 1, 3]
    (Host.dotGeneral (⟨[2], [1], [3], [3], [0, 1], [0, 2], F.w4⟩ : DotDims SS SP SH) none (gDz F x y v d) (splitArr F.toSide x)) F.heads) F.join) F.ext
/-- The gradient of the values. -/
def gDv : FVec Ideal SA .bf16 :=
  truncf .bf16 (shapeCast SA (transpose SP [0, 3, 1, 2]
    (Host.dotGeneral (⟨[3], [2], [2], [3], [0, 1], [0, 1], F.w3⟩ : DotDims SL SS SL) none (gOut F d) (gWt F x y)) F.back) F.join) F.ext

/-- A result narrowed and joined into rows and columns. -/
theorem join_trunc (z : FVec Ideal SP .f32) (hj : SP.ShapeCasts SA) (he : FTy.bits .bf16 < FTy.bits .f32)
    (b : Fin 2) (t : Fin 4352) (g : Fin 8) (e : Fin 128) :
    truncf .bf16 (shapeCast SA z hj) he (ix2 (rowOf b t) (colOf g e)) = z (ix4 b t g e) :=
  join_apply (α := EReal) z hj b t g e

section values

variable (hx : Fin' x) (hy : Fin' y) (hv : Fin' v) (hd : Fin' d)

variable (b : Fin 2) (g : Fin 8) (t s : Fin 4352)

include hx hy in
theorem logitArr_apply : logitArr F x y (ix4 b g t s) = ((((rowsOf x y v d) b.val g.val).logit t.val s.val : ℝ) : EReal) := by
  unfold logitArr
  show Host.dotGeneral _ none _ _ (ix4 b g t s) * splat F.toSide 0x3DB504F3#32 (ix4 b g t s) = _
  rw [logits_rows_apply, splat_apply, ofBits_sc]
  have e := sum_coe (fun c => ((rowsOf x y v d) b.val g.val).q t.val c) (fun c => ((rowsOf x y v d) b.val g.val).k s.val c)
    (fun c : Fin 128 => splitArr F.toSide x (ix4 b t g c)) (fun c => splitArr F.toSide y (ix4 b s g c))
    (fun c => (splitArr_apply F.toSide x b t g c).trans (entry_q hx b t g c))
    (fun c => (splitArr_apply F.toSide y b s g c).trans (entry_k hy b s g c))
  rw [e, ← EReal.coe_mul]
  rfl

include hx hy in
theorem gKeep_apply : gKeep F x y (ix4 b g t s) = ((((rowsOf x y v d) b.val g.val).keep t.val s.val : ℝ) : EReal) :=
  keepArr_apply F.toSide (fun b g => (rowsOf x y v d) b.val g.val) (logitArr F x y) (fun b g t s => logitArr_apply F x y v d hx hy b g t s) b g t s

theorem init_zero : broadcastInDim S0 ![] F.scalar (constant (F := Ideal) S0 .f32 0x00000000#32) ix0 = (0 : EReal) := by
  rw [broadcastInDim_scalar_apply]
  exact Ideal.ofBits_zero_f32

include hx hy in
theorem gFrom_apply : gFrom F x y (ix4 b g t s)
    = ((((rowsOf x y v d) b.val g.val).pre t.val 4352 - ((rowsOf x y v d) b.val g.val).pre t.val s.val : ℝ) : EReal) := by
  unfold gFrom
  rw [window_apply 0 4351 _ _ (init_zero F)]
  rw [window_real (fun j => ((rowsOf x y v d) b.val g.val).keep t.val j) (fun k => gKeep F x y (ix4 b g t k))
    (fun k => gKeep_apply F x y v d hx hy b g t k), sum_from _ s.isLt]
  rfl

include hx hy in
theorem gExp_apply : gExp F x y (ix4 b g t s)
    = ((Real.exp (((rowsOf x y v d) b.val g.val).logit t.val s.val - soft (((rowsOf x y v d) b.val g.val).logit t.val s.val)
        + (((rowsOf x y v d) b.val g.val).pre t.val 4352 - ((rowsOf x y v d) b.val g.val).pre t.val (s.val + 1))) : ℝ) : EReal) := by
  unfold gExp
  show Ideal.exp (Host.negf (softArr F.toSide (logitArr F x y)) (ix4 b g t s) + (gFrom F x y (ix4 b g t s) - gKeep F x y (ix4 b g t s))) = _
  rw [logBeta_apply F.toSide (fun b g => (rowsOf x y v d) b.val g.val) (logitArr F x y) (fun b g t s => logitArr_apply F x y v d hx hy b g t s),
    gFrom_apply F x y v d hx hy, gKeep_apply F x y v d hx hy, ← EReal.coe_sub, ← EReal.coe_add, Ideal.exp_coe]
  congr 3
  unfold Rows.pre
  rw [Finset.sum_range_succ _ s.val]
  ring

include hx hy in
theorem gWt_apply : gWt F x y (ix4 b g t s) = ((((rowsOf x y v d) b.val g.val).wt t.val s.val : ℝ) : EReal) := by
  unfold gWt
  rw [choose_apply, gExp_apply F x y v d hx hy, splat_apply, Ideal.ofBits_zero_f32]
  unfold Rows.wt
  by_cases h : ok t.val s.val
  · rw [if_pos h, if_pos h]
  · rw [if_neg h, if_neg h]; rfl

include hd in
theorem gOut_apply (e : Fin 128) : gOut F d (ix4 b g e t) = ((((rowsOf x y v d) b.val g.val).d t.val e.val : ℝ) : EReal) := by
  unfold gOut
  rw [transpose_apply _ _ _ (ix4 b g e t) (ix4 b t g e), splitArr_apply]
  · exact entry_d hd b t g e
  · intro a
    match a with
    | ⟨0, _⟩ => rfl
    | ⟨1, _⟩ => rfl
    | ⟨2, _⟩ => rfl
    | ⟨3, _⟩ => rfl

include hv hd in
theorem gDwt_apply : gDwt F v d (ix4 b g t s) = ((((rowsOf x y v d) b.val g.val).dwt t.val s.val : ℝ) : EReal) := by
  unfold gDwt
  rw [values_rows_apply]
  exact sum_coe (fun c => ((rowsOf x y v d) b.val g.val).d t.val c) (fun c => ((rowsOf x y v d) b.val g.val).v s.val c) _ _
    (fun c => gOut_apply F x y v d hd b g t c)
    (fun c => (splitArr_apply F.toSide v b s g c).trans (entry_v hv b s g c))

include hx hy hv hd in
theorem gGg_apply : gGg F x y v d (ix4 b g t s) = ((((rowsOf x y v d) b.val g.val).gg t.val s.val : ℝ) : EReal) := by
  unfold gGg
  show select (maskAll F.toSide) (gDwt F v d) (splat F.toSide 0x00000000#32) (ix4 b g t s) * gExp F x y (ix4 b g t s) = _
  rw [choose_apply, gDwt_apply F x y v d hv hd, splat_apply, Ideal.ofBits_zero_f32, gExp_apply F x y v d hx hy]
  unfold Rows.gg Rows.wt
  by_cases h : ok t.val s.val
  · rw [if_pos h, if_pos h, ← EReal.coe_mul, mul_comm]
  · rw [if_neg h, if_neg h, zero_mul, zero_mul]; rfl

include hx hy hv hd in
theorem gUpTo_apply : gUpTo F x y v d (ix4 b g t s) = ((((rowsOf x y v d) b.val g.val).gpre t.val (s.val + 1) : ℝ) : EReal) := by
  unfold gUpTo
  rw [window_apply 4351 0 _ _ (init_zero F)]
  rw [window_real (fun j => ((rowsOf x y v d) b.val g.val).gg t.val j) (fun k => gGg F x y v d (ix4 b g t k))
    (fun k => gGg_apply F x y v d hx hy hv hd b g t k)]
  have e := sum_to (fun j => ((rowsOf x y v d) b.val g.val).gg t.val j) s.isLt
  exact congrArg _ e

include hx hy hv hd in
theorem gDkeep_apply : gDkeep F x y v d (ix4 b g t s)
    = (((if ok t.val s.val then ((rowsOf x y v d) b.val g.val).gpre t.val s.val else 0) : ℝ) : EReal) := by
  unfold gDkeep
  rw [choose_apply, splat_apply, Ideal.ofBits_zero_f32]
  by_cases h : ok t.val s.val
  · rw [if_pos h, if_pos h]
    show -(gGg F x y v d (ix4 b g t s)) + gUpTo F x y v d (ix4 b g t s) = _
    rw [gGg_apply F x y v d hx hy hv hd, gUpTo_apply F x y v d hx hy hv hd, ← EReal.coe_neg, ← EReal.coe_add]
    congr 1
    unfold Rows.gpre
    rw [Finset.sum_range_succ _ s.val]
    ring
  · rw [if_neg h, if_neg h]; rfl

/-- A real number is not infinite. -/
theorem not_top (r : ℝ) : Ideal.cmp .oeq (r : EReal) (Ideal.ofBits .f32 0x7F800000#32) = 0#1 := by
  have e : Ideal.ofBits .f32 0x7F800000#32 = (⊤ : EReal) := by simp [Ideal.ofBits, Ideal.ieee]
  rw [e]
  simp [Ideal.cmp]

/-- What is left of one when the sigmoid is taken. -/
theorem left_real (z : ℝ) : Real.exp (-z - soft (-z)) = 1 - Real.exp (z - soft z) := by
  have hp : 0 < 1 + Real.exp z := by positivity
  rw [soft_neg, show -z - (soft z - z) = -soft z by ring]
  unfold soft
  rw [Real.exp_neg, Real.exp_log hp, Real.exp_sub, Real.exp_log hp]
  field_simp
  ring

include hx hy in
theorem gLeft_apply : gLeft F x y (ix4 b g t s)
    = ((1 - Real.exp (((rowsOf x y v d) b.val g.val).logit t.val s.val - soft (((rowsOf x y v d) b.val g.val).logit t.val s.val)) : ℝ) : EReal) := by
  have hz := logitArr_apply F x y v d hx hy b g t s
  have hs := softArr_apply F.toSide (logitArr F x y) (ix4 b g t s) _ hz
  have hn : Host.negf (logitArr F x y) (ix4 b g t s) = ((-((rowsOf x y v d) b.val g.val).logit t.val s.val : ℝ) : EReal) := by
    show -(logitArr F x y (ix4 b g t s)) = _
    rw [hz, ← EReal.coe_neg]
  unfold gLeft
  show Ideal.exp ((if Ideal.cmp .oeq (Host.negf (logitArr F x y) (ix4 b g t s)) (splat F.toSide 0x7F800000#32 (ix4 b g t s)) = 1#1 then
      splat F.toSide 0x00000000#32 (ix4 b g t s) else Host.negf (logitArr F x y) (ix4 b g t s))
    - (if Ideal.cmp .oeq (softArr F.toSide (logitArr F x y) (ix4 b g t s)) (splat F.toSide 0x7F800000#32 (ix4 b g t s)) = 1#1 then
      splat F.toSide 0x00000000#32 (ix4 b g t s) else softArr F.toSide (logitArr F x y) (ix4 b g t s))) = _
  rw [hn, hs, splat_apply, splat_apply, not_top, not_top, if_neg (by decide), if_neg (by decide), ← EReal.coe_sub, Ideal.exp_coe, left_real]

include hx hy hv hd in
theorem gDz_apply : gDz F x y v d (ix4 b g t s) = ((sc * ((rowsOf x y v d) b.val g.val).dlogit t.val s.val : ℝ) : EReal) := by
  unfold gDz
  show (-(gDkeep F x y v d (ix4 b g t s)) + -(-(gGg F x y v d (ix4 b g t s) + gDkeep F x y v d (ix4 b g t s)) * gLeft F x y (ix4 b g t s)))
    * splat F.toSide 0x3DB504F3#32 (ix4 b g t s) = _
  rw [gDkeep_apply F x y v d hx hy hv hd, gGg_apply F x y v d hx hy hv hd, gLeft_apply F x y v d hx hy, splat_apply, ofBits_sc,
    ← EReal.coe_add, ← EReal.coe_neg, ← EReal.coe_neg, ← EReal.coe_mul, ← EReal.coe_neg, ← EReal.coe_add, ← EReal.coe_mul]
  congr 1
  by_cases h : ok t.val s.val
  · unfold Rows.dlogit Rows.beta
    rw [if_pos h, if_pos h]
    ring
  · rw [((rowsOf x y v d) b.val g.val).dlogit_zero h, if_neg h]
    unfold Rows.gg
    rw [((rowsOf x y v d) b.val g.val).wt_zero h]
    ring

include hx hy hv hd in
/-- The queries' gradient. -/
theorem gDq_apply (e : Fin 128) : gDq F x y v d (ix2 (rowOf b t) (colOf g e)) = ((((rowsOf x y v d) b.val g.val).dq t.val e.val : ℝ) : EReal) := by
  unfold gDq
  rw [join_trunc, transpose_apply _ _ _ (ix4 b t g e) (ix4 b g t e), queries_grad_apply]
  · refine (sum_coe (fun c => sc * ((rowsOf x y v d) b.val g.val).dlogit t.val c) (fun c => ((rowsOf x y v d) b.val g.val).k c e.val) _ _
      (fun c => gDz_apply F x y v d hx hy hv hd b g t c)
      (fun c => (splitArr_apply F.toSide y b c g e).trans (entry_k hy b c g e))).trans ?_
    congr 1
    unfold Rows.dq
    rw [Finset.mul_sum]
    refine Finset.sum_congr rfl fun c _ => ?_
    ring
  · intro a
    match a with
    | ⟨0, _⟩ => rfl
    | ⟨1, _⟩ => rfl
    | ⟨2, _⟩ => rfl
    | ⟨3, _⟩ => rfl

include hx hy hv hd in
/-- The keys' gradient. -/
theorem gDk_apply (e : Fin 128) : gDk F x y v d (ix2 (rowOf b s) (colOf g e)) = ((((rowsOf x y v d) b.val g.val).dk s.val e.val : ℝ) : EReal) := by
  unfold gDk
  rw [join_trunc, transpose_apply _ _ _ (ix4 b s g e) (ix4 b g s e), keys_grad_apply]
  · refine (sum_coe (fun c => sc * ((rowsOf x y v d) b.val g.val).dlogit c s.val) (fun c => ((rowsOf x y v d) b.val g.val).q c e.val) _ _
      (fun c => gDz_apply F x y v d hx hy hv hd b g c s)
      (fun c => (splitArr_apply F.toSide x b c g e).trans (entry_q hx b c g e))).trans ?_
    congr 1
    unfold Rows.dk
    rw [Finset.mul_sum]
    refine Finset.sum_congr rfl fun c _ => ?_
    ring
  · intro a
    match a with
    | ⟨0, _⟩ => rfl
    | ⟨1, _⟩ => rfl
    | ⟨2, _⟩ => rfl
    | ⟨3, _⟩ => rfl

include hx hy hd in
/-- The values' gradient. -/
theorem gDv_apply (e : Fin 128) : gDv F x y d (ix2 (rowOf b s) (colOf g e)) = ((((rowsOf x y v d) b.val g.val).dv s.val e.val : ℝ) : EReal) := by
  unfold gDv
  rw [join_trunc, transpose_apply _ _ _ (ix4 b s g e) (ix4 b g e s), over_queries_apply]
  · exact sum_coe (fun c => ((rowsOf x y v d) b.val g.val).d c e.val) (fun c => ((rowsOf x y v d) b.val g.val).wt c s.val) _ _
      (fun c => gOut_apply F x y v d hd b g c e) (fun c => gWt_apply F x y v d hx hy b g c s)
  · intro a
    match a with
    | ⟨0, _⟩ => rfl
    | ⟨1, _⟩ => rfl
    | ⟨2, _⟩ => rfl
    | ⟨3, _⟩ => rfl

end values

end Cert.Stick

end
-- ==== Proof.ReferenceIdeal.Res.lean ====
/- The reference's three results are the gradients' arrays of the arguments. -/
module

public import proofs.«01_k».proof.Proof.Gen.ReferenceIdeal.Run
public import proofs.«01_k».proof.Proof.Stick.Grad

@[expose] public section

set_option maxRecDepth 16384

noncomputable section

namespace Cert.ReferenceIdeal.Sb

open Cert.ReferenceIdeal Cert.ReferenceIdeal.Gen Idealize.ShloMosaic Idealize.ShloMosaic.TcCoe Idealize.SL.Sem
open Cert.Stick

/-- The shape relations that the gradients' arrays use, from the reference's. -/
theorem side : SideG where
  ext := Facts₀.bitsLt_bf16_f32
  split := Facts₀.shapeCasts_S8704x1024_S2x4352x8x128
  row := Facts₀.bcast_S4352_S1x4352_1
  col := Facts₀.bcast_S4352_S4352x1_0
  rows := Facts₀.bcast_S1x4352_S4352x4352_0_1
  cols := Facts₀.bcast_S4352x1_S4352x4352_0_1
  pad := Facts₀.bcast_S_S4352
  all := Facts₀.bcast_S_S2x8x4352x4352
  both := Facts₀.bcast_S4352x4352_S2x8x4352x4352_2_3
  join := Facts₀.shapeCasts_S2x4352x8x128_S8704x1024
  pos := Facts₀.h_S_
  scalar := Facts₀.bcast_S_S_
  fromHere := Facts₀.reduceWindows_S2x8x4352x4352_S2x8x4352x4352_w1s1p0_0_w1s1p0_0_w1s1p0_0_w4352s1p0_4351
  upTo := Facts₀.reduceWindows_S2x8x4352x4352_S2x8x4352x4352_w1s1p0_0_w1s1p0_0_w1s1p0_0_w4352s1p4351_0
  lanes := Facts₀.transposes_S2x4352x8x128_S2x8x128x4352_0_2_3_1
  back := Facts₀.transposes_S2x8x128x4352_S2x4352x8x128_0_3_1_2
  heads := Facts₀.transposes_S2x8x4352x128_S2x4352x8x128_0_2_1_3
  w1 := Facts₀.dot_S2x4352x8x128_S2x4352x8x128_S2x8x4352x4352_3_3_1_1_02_02_wf
  w2 := Facts₀.dot_S2x8x128x4352_S2x4352x8x128_S2x8x4352x4352_2_3_3_1_01_02_wf
  w3 := Facts₀.dot_S2x8x128x4352_S2x8x4352x4352_S2x8x128x4352_3_2_2_3_01_01_wf
  w4 := Facts₀.dot_S2x8x4352x4352_S2x4352x8x128_S2x8x4352x128_2_1_3_3_01_02_wf
  w5 := Facts₀.dot_S2x8x4352x4352_S2x4352x8x128_S2x8x4352x128_3_1_2_3_01_02_wf

variable (m : (ℓ : Loc nD τ sig) → Buf (Elt Ideal) ℓ) (c : Dev nD)

set_option maxHeartbeats 4000000

/-- The third result is the values' gradient. -/
theorem res_dv : Value.res_main_v58 m c = gDv side (m ((c.tc : Thread nD τ).loc main_arg0)) (m ((c.tc : Thread nD τ).loc main_arg1))
    (m ((c.tc : Thread nD τ).loc main_arg3)) := by
  unfold Value.res_main_v58; rfl

/-- The first result is the queries' gradient. -/
theorem res_dq : Value.res_main_v56 m c = gDq side (m ((c.tc : Thread nD τ).loc main_arg0)) (m ((c.tc : Thread nD τ).loc main_arg1))
    (m ((c.tc : Thread nD τ).loc main_arg2)) (m ((c.tc : Thread nD τ).loc main_arg3)) := by
  unfold Value.res_main_v56; rfl

/-- The second result is the keys' gradient. -/
theorem res_dk : Value.res_main_v57 m c = gDk side (m ((c.tc : Thread nD τ).loc main_arg0)) (m ((c.tc : Thread nD τ).loc main_arg1))
    (m ((c.tc : Thread nD τ).loc main_arg2)) (m ((c.tc : Thread nD τ).loc main_arg3)) := by
  unfold Value.res_main_v57; rfl

end Cert.ReferenceIdeal.Sb

end
-- ==== Proof.Pre.Decode.lean ====
/- What the precondition says of the four arguments: every entry is a real number, and the logit of every query and a key
   that it sees is at most twenty. -/
module

public import proofs.«01_k».proof.Proof.Gen.Pre_logits_below_linear
public import proofs.«01_k».proof.Proof.ReferenceIdeal.Res
public import Idealize.ShloMosaic.Lib.ReduceAll

@[expose] public section

set_option maxRecDepth 16384

noncomputable section

namespace Cert.Pre_logits_below_linear.Sb

open Cert.Pre_logits_below_linear Cert.Pre_logits_below_linear.Gen Idealize.ShloMosaic Idealize.ShloMosaic.ValueIdx
open Cert.Stick
open scoped BigOperators

/-- Both bits of a conjunction that is one are one. -/
theorem and_bits (p q : BitVec 1) (h : IntOp.andi p q = 1#1) : p = 1#1 ∧ q = 1#1 := by
  revert p q; decide

/-- A disjunction with a negated bit that is one, as an implication. -/
theorem or_bits (p q : BitVec 1) (h : IntOp.ori (~~~p) q = 1#1) (hp : p = 1#1) : q = 1#1 := by
  revert p q; decide

instance : Subsingleton S_.Idx := ⟨fun a b => funext fun i => i.elim0⟩

/-- An extended real whose absolute value is below infinity is a real number. -/
theorem real_of_abs (x : EReal) (h : Ideal.cmp .olt (max x (-x)) (Ideal.ofBits .f32 0x7F800000#32) = 1#1) : ∃ r : ℝ, x = (r : EReal) := by
  have e : Ideal.ofBits .f32 0x7F800000#32 = (⊤ : EReal) := by simp [Ideal.ofBits, Ideal.ieee]
  rw [e] at h
  have h' : max x (-x) < ⊤ := by
    by_contra hn
    simp [Ideal.cmp, hn] at h
  induction x with
  | bot => simp at h'
  | top => simp at h'
  | coe r => exact ⟨r, rfl⟩

/-- Twenty. -/
theorem ofBits_twenty : Ideal.ofBits .f32 0x41A00000#32 = ((20 : ℝ) : EReal) := by
  simp [Ideal.ofBits, Ideal.ieee, -EReal.coe_mul]; norm_num

/-- A whole array whose absolute values are below infinity has real entries. -/
theorem real_of_all (x : FVec Ideal SA .bf16)
    (h : Host.reduce IntOp.andi (cmpf .olt (Host.absf (extf .f32 x Facts.bitsLt_bf16_f32))
        (broadcastInDim S8704x1024 ![] Facts.bcast_S_S8704x1024 (constant (F := Ideal) S_ .f32 0x7F800000#32)))
      (constantI S_ 1 1#1) Facts.reducesTo_S8704x1024_S_d0_1 Facts.h_S_ ix0 = 1#1) : Fin' x := by
  intro i
  have h1 := Host.reduce_andi_all _ _ _ _ _ h i
  have e : broadcastInDim S8704x1024 ![] Facts.bcast_S_S8704x1024 (constant (F := Ideal) S_ .f32 0x7F800000#32) i = Ideal.ofBits .f32 0x7F800000#32 :=
    broadcastInDim_scalar_apply _ _ _
  have h2 : Ideal.cmp .olt (max (x i) (-(x i))) (broadcastInDim S8704x1024 ![] Facts.bcast_S_S8704x1024 (constant (F := Ideal) S_ .f32 0x7F800000#32) i) = 1#1 := h1
  rw [e] at h2
  exact real_of_abs _ h2

/-- The mask over all heads, as the precondition spreads it. -/
theorem spread_apply {α : Type} (z : SQ.Idx → α) (b : Fin 2) (g : Fin 8) (t s : Fin 4352) :
    broadcastInDim S2x8x4352x4352 ![0, 1, 2, 3] Facts.bcast_S1x1x4352x4352_S2x8x4352x4352_0_1_2_3
      (broadcastInDim S1x1x4352x4352 ![2, 3] Facts.bcast_S4352x4352_S1x1x4352x4352_2_3 z) (ix4 b g t s) = z (ix2 t s) := by
  rw [broadcastInDim_apply _ _ _ (ix4 b g t s) (ix4 (0 : Fin 1) (0 : Fin 1) t s),
    broadcastInDim_apply _ _ _ (ix4 (0 : Fin 1) (0 : Fin 1) t s) (ix2 t s)]
  · intro a
    match a with
    | ⟨0, _⟩ => rfl
    | ⟨1, _⟩ => rfl
  · intro a
    match a with
    | ⟨0, _⟩ => rfl
    | ⟨1, _⟩ => rfl
    | ⟨2, _⟩ => rfl
    | ⟨3, _⟩ => rfl

variable (x y v d : FVec Ideal SA .bf16)

/-- The precondition's test of the logits, over all heads, queries and keys. -/
def testArr : IVec SS 1 :=
  ori (broadcastInDim S2x8x4352x4352 ![0, 1, 2, 3] Facts.bcast_S1x1x4352x4352_S2x8x4352x4352_0_1_2_3
      (broadcastInDim S1x1x4352x4352 ![2, 3] Facts.bcast_S4352x4352_S1x1x4352x4352_2_3 (noti (maskArr Cert.ReferenceIdeal.Sb.side.toSide))))
    (cmpf .ole (logitArr Cert.ReferenceIdeal.Sb.side x y) (splat Cert.ReferenceIdeal.Sb.side.toSide 0x41A00000#32))

theorem small_of_test (hx : Fin' x) (hy : Fin' y) (b : Fin 2) (g : Fin 8) (t s : Fin 4352) (hok : ok t.val s.val)
    (h : testArr x y (ix4 b g t s) = 1#1) : (rowsOf x y v d b.val g.val).logit t.val s.val ≤ 20 := by
  have h1 : IntOp.ori (broadcastInDim S2x8x4352x4352 ![0, 1, 2, 3] Facts.bcast_S1x1x4352x4352_S2x8x4352x4352_0_1_2_3
      (broadcastInDim S1x1x4352x4352 ![2, 3] Facts.bcast_S4352x4352_S1x1x4352x4352_2_3 (noti (maskArr Cert.ReferenceIdeal.Sb.side.toSide))) (ix4 b g t s))
    (Ideal.cmp .ole (logitArr Cert.ReferenceIdeal.Sb.side x y (ix4 b g t s)) (splat Cert.ReferenceIdeal.Sb.side.toSide 0x41A00000#32 (ix4 b g t s))) = 1#1 := h
  rw [spread_apply, splat_apply, ofBits_twenty, logitArr_apply Cert.ReferenceIdeal.Sb.side x y v d hx hy] at h1
  have hm : maskArr Cert.ReferenceIdeal.Sb.side.toSide (ix2 t s) = 1#1 := by
    rw [maskArr_apply, ofBool_one]; exact hok
  have h2 := or_bits (maskArr Cert.ReferenceIdeal.Sb.side.toSide (ix2 t s)) _ h1 hm
  by_contra hn
  have hn' : ¬ (((rowsOf x y v d b.val g.val).logit t.val s.val : ℝ) : EReal) ≤ ((20 : ℝ) : EReal) := by exact_mod_cast hn
  simp only [Ideal.cmp, hn', decide_false] at h2
  exact absurd h2 (by decide)

/-- What the precondition says. -/
theorem decode (h : fn (F := Ideal) x y v d = fun _ => 1#1) :
    Fin' x ∧ Fin' y ∧ Fin' v ∧ Fin' d
      ∧ ∀ (b : Fin 2) (g : Fin 8) (t s : Fin 4352), ok t.val s.val → (rowsOf x y v d b.val g.val).logit t.val s.val ≤ 20 := by
  have h0 := congrFun h ix0
  unfold fn fn_part1 fn_part2 at h0
  dsimp only at h0
  obtain ⟨h23, h48⟩ := and_bits _ _ h0
  obtain ⟨h17, h22⟩ := and_bits _ _ h23
  obtain ⟨h11, h16⟩ := and_bits _ _ h17
  obtain ⟨h5, h10⟩ := and_bits _ _ h11
  obtain ⟨_, h4⟩ := and_bits _ _ h5
  have hx := real_of_all x h4
  have hy := real_of_all y h10
  refine ⟨hx, hy, real_of_all v h16, real_of_all d h22, fun b g t s hok => small_of_test x y v d hx hy b g t s hok ?_⟩
  exact Host.reduce_andi_all (testArr x y) _ _ _ _ h48 (ix4 b g t s)

end Cert.Pre_logits_below_linear.Sb

end
-- ==== Proof.Proj.Products.lean ====
/- The two matrix products of the projections, read at an index over the extended reals. -/
module

public import Idealize.ShloMosaic.Lib.ValueIdx
public import Idealize.ShloMosaic.Lib.IdealHost
public import Idealize.ShloMosaic.Lib.MatmulPlain
public import Idealize.ShloMosaic.Lib.Pipeline.Value

@[expose] public section

noncomputable section

namespace Cert.Proj

open Idealize.ShloMosaic Idealize.ShloMosaic.ValueIdx
open scoped BigOperators

variable {R M N K : ℕ}

/-- `xᵀ y` at row `i` and column `j`, into zero: the sum over the rows. -/
theorem matmul_rows_apply (w : DotDims.WF ⟨2, ![R, M]⟩ ⟨2, ![R, N]⟩ ⟨2, ![M, N]⟩ [0] [0] [1] [1] [] []) {φ₁ φ₂ : FTy}
    (x : FVec Ideal ⟨2, ![R, M]⟩ φ₁) (y : FVec Ideal ⟨2, ![R, N]⟩ φ₂) (i : Fin M) (j : Fin N) :
    matmul (⟨[0], [0], [1], [1], [], [], w⟩ : DotDims ⟨2, ![R, M]⟩ ⟨2, ![R, N]⟩ ⟨2, ![M, N]⟩) none x y (constant ⟨2, ![M, N]⟩ .f32 0x00000000#32) (ix2 i j)
      = ∑ r : Fin R, x (ix2 r i) * y (ix2 r j) := by
  show FloatOps.matmul _ none x y _ (ix2 i j) = _
  rw [Ideal.matmul_constant_zero_apply,
    ← Equiv.sum_comp (contrEquiv1 (⟨[0], [0], [1], [1], [], [], w⟩ : DotDims ⟨2, ![R, M]⟩ ⟨2, ![R, N]⟩ ⟨2, ![M, N]⟩) R rfl rfl).symm]
  refine Finset.sum_congr rfl fun r _ => ?_
  have hr := contrEquiv1_symm_val (⟨[0], [0], [1], [1], [], [], w⟩ : DotDims ⟨2, ![R, M]⟩ ⟨2, ![R, N]⟩ ⟨2, ![M, N]⟩) R rfl rfl r
  have el : (⟨[0], [0], [1], [1], [], [], w⟩ : DotDims ⟨2, ![R, M]⟩ ⟨2, ![R, N]⟩ ⟨2, ![M, N]⟩).lhsIdx (ix2 i j) ((contrEquiv1 _ R rfl rfl).symm r) = ix2 r i := by
    funext a; apply Fin.ext
    match a with
    | ⟨0, _⟩ => exact hr
    | ⟨1, _⟩ => rfl
  have er : (⟨[0], [0], [1], [1], [], [], w⟩ : DotDims ⟨2, ![R, M]⟩ ⟨2, ![R, N]⟩ ⟨2, ![M, N]⟩).rhsIdx (ix2 i j) ((contrEquiv1 _ R rfl rfl).symm r) = ix2 r j := by
    funext a; apply Fin.ext
    match a with
    | ⟨0, _⟩ => exact hr
    | ⟨1, _⟩ => rfl
  rw [el, er]

/-- The same product on the host. -/
theorem dot_rows_apply (w : DotDims.WF ⟨2, ![R, M]⟩ ⟨2, ![R, N]⟩ ⟨2, ![M, N]⟩ [0] [0] [1] [1] [] []) {φ₁ φ₂ : FTy}
    (x : FVec Ideal ⟨2, ![R, M]⟩ φ₁) (y : FVec Ideal ⟨2, ![R, N]⟩ φ₂) (i : Fin M) (j : Fin N) :
    Host.dotGeneral (⟨[0], [0], [1], [1], [], [], w⟩ : DotDims ⟨2, ![R, M]⟩ ⟨2, ![R, N]⟩ ⟨2, ![M, N]⟩) none x y (ix2 i j)
      = ∑ r : Fin R, x (ix2 r i) * y (ix2 r j) := by
  refine Eq.trans ?_ (matmul_rows_apply w x y i j)
  show FloatOps.dotGeneral _ none _ x y (ix2 i j) = FloatOps.matmul _ none x y _ (ix2 i j)
  rw [Ideal.matmul_constant_zero_apply, Ideal.dotGeneral_apply]

/-- `x y` at row `i` and column `j`, into zero: the sum over the contracted columns. -/
theorem matmul_plain_apply (w : DotDims.WF ⟨2, ![M, K]⟩ ⟨2, ![K, N]⟩ ⟨2, ![M, N]⟩ [1] [0] [0] [1] [] []) {φ₁ φ₂ : FTy}
    (x : FVec Ideal ⟨2, ![M, K]⟩ φ₁) (y : FVec Ideal ⟨2, ![K, N]⟩ φ₂) (i : Fin M) (j : Fin N) :
    matmul (⟨[1], [0], [0], [1], [], [], w⟩ : DotDims ⟨2, ![M, K]⟩ ⟨2, ![K, N]⟩ ⟨2, ![M, N]⟩) none x y (constant ⟨2, ![M, N]⟩ .f32 0x00000000#32) (ix2 i j)
      = ∑ k : Fin K, x (ix2 i k) * y (ix2 k j) := by
  refine Eq.trans ?_ ((Ideal.matmul_plain_apply none x y (constant ⟨2, ![M, N]⟩ .f32 0x00000000#32) i j).trans ?_)
  · rfl
  · rw [constant_apply, Ideal.ofBits_zero_f32, zero_add]

/-- The same product on the host. -/
theorem dot_plain_apply (w : DotDims.WF ⟨2, ![M, K]⟩ ⟨2, ![K, N]⟩ ⟨2, ![M, N]⟩ [1] [0] [0] [1] [] []) {φ₁ φ₂ : FTy}
    (x : FVec Ideal ⟨2, ![M, K]⟩ φ₁) (y : FVec Ideal ⟨2, ![K, N]⟩ φ₂) (i : Fin M) (j : Fin N) :
    Host.dotGeneral (⟨[1], [0], [0], [1], [], [], w⟩ : DotDims ⟨2, ![M, K]⟩ ⟨2, ![K, N]⟩ ⟨2, ![M, N]⟩) none x y (ix2 i j)
      = ∑ k : Fin K, x (ix2 i k) * y (ix2 k j) := by
  refine Eq.trans ?_ (matmul_plain_apply w x y i j)
  show FloatOps.dotGeneral _ none _ x y (ix2 i j) = FloatOps.matmul _ none x y _ (ix2 i j)
  rw [Ideal.matmul_constant_zero_apply, Ideal.dotGeneral_apply]

/-- `x yᵀ` at row `i` and column `j`, into zero: the sum over the columns of both. -/
theorem matmul_columns_apply (w : DotDims.WF ⟨2, ![M, K]⟩ ⟨2, ![N, K]⟩ ⟨2, ![M, N]⟩ [1] [1] [0] [0] [] []) {φ₁ φ₂ : FTy}
    (x : FVec Ideal ⟨2, ![M, K]⟩ φ₁) (y : FVec Ideal ⟨2, ![N, K]⟩ φ₂) (i : Fin M) (j : Fin N) :
    matmul (⟨[1], [1], [0], [0], [], [], w⟩ : DotDims ⟨2, ![M, K]⟩ ⟨2, ![N, K]⟩ ⟨2, ![M, N]⟩) none x y (constant ⟨2, ![M, N]⟩ .f32 0x00000000#32) (ix2 i j)
      = ∑ k : Fin K, x (ix2 i k) * y (ix2 j k) := by
  show FloatOps.matmul _ none x y _ (ix2 i j) = _
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun r _ => ?_
  have hr := contrEquiv1_symm_val (⟨[1], [1], [0], [0], [], [], w⟩ : DotDims ⟨2, ![M, K]⟩ ⟨2, ![N, K]⟩ ⟨2, ![M, N]⟩) K rfl rfl r
  have el : (⟨[1], [1], [0], [0], [], [], w⟩ : DotDims ⟨2, ![M, K]⟩ ⟨2, ![N, K]⟩ ⟨2, ![M, N]⟩).lhsIdx (ix2 i j) ((contrEquiv1 _ K rfl rfl).symm r) = ix2 i r := by
    funext a; apply Fin.ext
    match a with
    | ⟨0, _⟩ => rfl
    | ⟨1, _⟩ => exact hr
  have er : (⟨[1], [1], [0], [0], [], [], w⟩ : DotDims ⟨2, ![M, K]⟩ ⟨2, ![N, K]⟩ ⟨2, ![M, N]⟩).rhsIdx (ix2 i j) ((contrEquiv1 _ K rfl rfl).symm r) = ix2 j r := by
    funext a; apply Fin.ext
    match a with
    | ⟨0, _⟩ => rfl
    | ⟨1, _⟩ => exact hr
  rw [el, er]

/-- The same product on the host. -/
theorem dot_columns_apply (w : DotDims.WF ⟨2, ![M, K]⟩ ⟨2, ![N, K]⟩ ⟨2, ![M, N]⟩ [1] [1] [0] [0] [] []) {φ₁ φ₂ : FTy}
    (x : FVec Ideal ⟨2, ![M, K]⟩ φ₁) (y : FVec Ideal ⟨2, ![N, K]⟩ φ₂) (i : Fin M) (j : Fin N) :
    Host.dotGeneral (⟨[1], [1], [0], [0], [], [], w⟩ : DotDims ⟨2, ![M, K]⟩ ⟨2, ![N, K]⟩ ⟨2, ![M, N]⟩) none x y (ix2 i j)
      = ∑ k : Fin K, x (ix2 i k) * y (ix2 j k) := by
  refine Eq.trans ?_ (matmul_columns_apply w x y i j)
  show FloatOps.dotGeneral _ none _ x y (ix2 i j) = FloatOps.matmul _ none x y _ (ix2 i j)
  rw [Ideal.matmul_constant_zero_apply, Ideal.dotGeneral_apply]

end Cert.Proj

end
-- ==== Proof.Kernel2Ideal.Weights.lean ====
/- The gradient of a projection's weights: what the grid accumulates is the product over the rows read so far. -/
module

public import proofs.«01_k».proof.Proof.Gen.Kernel2Ideal.Value
public import proofs.«01_k».proof.Proof.Proj.Products
public import Idealize.ShloMosaic.Lib.Pipeline.ValueKit.Geometry
public import Idealize.ShloMosaic.Lib.WritesUnit

@[expose] public section

set_option maxRecDepth 16384

noncomputable section

namespace Cert.Kernel2Ideal.Wg

open Cert.Kernel2Ideal Cert.Kernel2Ideal.Gen
open Idealize.ShloMosaic Idealize.ShloMosaic.TcCoe Idealize.SL.Sem
open Idealize.ShloMosaic.ValueIdx
open scoped BigOperators
open Finset

/-- The stored sum: what was there plus the product of the two blocks. -/
theorem pay2_apply (o : Vec Ideal S1024x1024 .f32) (x y : Vec Ideal S2176x1024 .bf16) (i j : Fin 1024) :
    k0_pay2 (F := Ideal) o x y (ix2 i j) = o (ix2 i j) + ∑ r : Fin 2176, x (ix2 r i) * y (ix2 r j) := by
  show shapeCast S1024x1024 o shapeCasts_S1024x1024_S1024x1024 (ix2 i j)
    + (matmul dot_S2176x1024_S2176x1024_S1024x1024_0_0_1_1_n_n none x y (constant S1024x1024 .f32 0x00000000#32) : FVec Ideal S1024x1024 .f32) (ix2 i j) = _
  rw [shapeCast_apply o _ (ix2 i j) (ix2 i j) rfl]
  exact congrArg (o (ix2 i j) + ·) (Cert.Proj.matmul_rows_apply _ x y i j)

/-- The copy in the other format is the same number. -/
theorem pay3_apply (o : Vec Ideal S1024x1024 .f32) (i j : Fin 1024) : k0_pay3 (F := Ideal) o (ix2 i j) = o (ix2 i j) := by
  show shapeCast S1024x1024 o shapeCasts_S1024x1024_S1024x1024 (ix2 i j) = _
  rw [shapeCast_apply o _ (ix2 i j) (ix2 i j) rfl]

section cases

variable (c : Dev nD) (i : grid0.Coords) (arg1 : Memref sig .tc .vmem S2176x1024 .bf16) (harg1 : arg1.IsWhole) (arg2 : Memref sig .tc .vmem S2176x1024 .bf16) (harg2 : arg2.IsWhole) (arg3 : Memref sig .tc .vmem S1024x1024 .f32) (harg3 : arg3.IsWhole) (arg4 : Memref sig .tc .vmem S1024x1024 .bf16) (harg4 : arg4.IsWhole)
  (x0 x1 : Vec Ideal S2176x1024 .bf16) (xo2 : Vec Ideal S1024x1024 .f32) (a b : Fin 1024)

/-- A block read whole is the block. -/
theorem read_rows {e : EltTy} (v : View sig .tc .vmem S2176x1024 e) (f : v.ty.Contents (Elt Ideal)) (r : Fin 2176) (k : Fin 1024) :
    View.readAt (Elt Ideal) v (Rect.unit (s := S2176x1024) ![0, 0] S2176x1024.size inb_S2176x1024_S2176x1024_0_0).toLoadRect f (ix2 r k) = v.read (Elt Ideal) f (ix2 r k) := by
  rw [View.readAt_apply]
  congr 1
  funext a; apply Fin.ext
  match a with
  | ⟨0, _⟩ => show 0 + 1 * r.val = r.val; omega
  | ⟨1, _⟩ => show 0 + 1 * k.val = k.val; omega

/-- The sum read whole is the sum. -/
theorem read_sum {e : EltTy} (v : View sig .tc .vmem S1024x1024 e) (f : v.ty.Contents (Elt Ideal)) (r : Fin 1024) (k : Fin 1024) :
    View.readAt (Elt Ideal) v (Rect.unit (s := S1024x1024) ![0, 0] S1024x1024.size inb_S1024x1024_S1024x1024_0_0).toLoadRect f (ix2 r k) = v.read (Elt Ideal) f (ix2 r k) := by
  rw [View.readAt_apply]
  congr 1
  funext a; apply Fin.ext
  match a with
  | ⟨0, _⟩ => show 0 + 1 * r.val = r.val; omega
  | ⟨1, _⟩ => show 0 + 1 * k.val = k.val; omega

/-- A whole store is what the buffer then holds. -/
theorem read_store {e : EltTy} (v : View sig .tc .vmem S1024x1024 e) (f : v.ty.Contents (Elt Ideal)) (w : S1024x1024.Idx → Elt Ideal e)
    (L : List (View.Piece (Elt Ideal) S1024x1024 e)) (r k : Fin 1024) :
    v.read (Elt Ideal) (v.writes (Elt Ideal) f (⟨Rect.unit (s := S1024x1024) ![0, 0] S1024x1024.size inb_S1024x1024_S1024x1024_0_0, w⟩ :: L)) (ix2 r k) = w (ix2 r k) :=
  View.read_writes_cons_unit_of_mem v f _ w L (ix2 r k) (ix2 r k) rfl (fun a => by
    match a with
    | ⟨0, _⟩ => exact (Nat.zero_add _).symm
    | ⟨1, _⟩ => exact (Nat.zero_add _).symm)

/-- At the first point the sum starts from zero. -/
theorem outA (hc0 : cond0_0 i) (hc1 : ¬cond0_1 i) :
    out0_A_2 (F := Ideal) c i arg1 harg1 arg2 harg2 arg3 harg3 arg4 harg4 hc0 hc1 x0 x1 (ix2 a b) = ∑ r : Fin 2176, x0 (ix2 r a) * x1 (ix2 r b) := by
  unfold out0_A_2 kernelRun0_A
  dsimp only
  refine (read_store VO0_2 _ _ _ a b).trans ?_
  refine (pay2_apply _ _ _ a b).trans ?_
  refine (congrArg₂ (· + ·) ((read_sum arg3.view _ a b).trans ((read_store arg3.view _ _ _ a b).trans Ideal.ofBits_zero_f32)) ?_).trans (zero_add _)
  refine Finset.sum_congr rfl fun r _ => ?_
  exact congrArg₂ (· * ·) ((read_rows arg1.view _ r a).trans (congrFun (harg1.read_unread x0) _)) ((read_rows arg2.view _ r b).trans (congrFun (harg2.read_unread x1) _))

/-- At a later point it goes on from what was there. -/
theorem outB (hc0 : ¬cond0_0 i) (hc1 : ¬cond0_1 i) :
    out0_B_2 (F := Ideal) c i arg1 harg1 arg2 harg2 arg3 harg3 arg4 harg4 hc0 hc1 x0 x1 xo2 (ix2 a b) = xo2 (ix2 a b) + ∑ r : Fin 2176, x0 (ix2 r a) * x1 (ix2 r b) := by
  unfold out0_B_2 kernelRun0_B
  dsimp only
  refine (read_store VO0_2 _ _ _ a b).trans ?_
  refine (pay2_apply _ _ _ a b).trans ?_
  refine congrArg₂ (· + ·) ((read_sum arg3.view _ a b).trans (congrFun (harg3.read_unread xo2) _)) (Finset.sum_congr rfl fun r _ => ?_)
  exact congrArg₂ (· * ·) ((read_rows arg1.view _ r a).trans (congrFun (harg1.read_unread x0) _)) ((read_rows arg2.view _ r b).trans (congrFun (harg2.read_unread x1) _))

/-- So does it at the last point, … -/
theorem outC (hc0 : ¬cond0_0 i) (hc1 : cond0_1 i) :
    out0_C_2 (F := Ideal) c i arg1 harg1 arg2 harg2 arg3 harg3 arg4 harg4 hc0 hc1 x0 x1 xo2 (ix2 a b) = xo2 (ix2 a b) + ∑ r : Fin 2176, x0 (ix2 r a) * x1 (ix2 r b) := by
  unfold out0_C_2 kernelRun0_C
  dsimp only
  refine (read_store VO0_2 _ _ _ a b).trans ?_
  refine (pay2_apply _ _ _ a b).trans ?_
  refine congrArg₂ (· + ·) ((read_sum arg3.view _ a b).trans (congrFun (harg3.read_unread xo2) _)) (Finset.sum_congr rfl fun r _ => ?_)
  exact congrArg₂ (· * ·) ((read_rows arg1.view _ r a).trans (congrFun (harg1.read_unread x0) _)) ((read_rows arg2.view _ r b).trans (congrFun (harg2.read_unread x1) _))

/-- … which also stores the copy. -/
theorem outC_copy (hc0 : ¬cond0_0 i) (hc1 : cond0_1 i) :
    out0_C_3 (F := Ideal) c i arg1 harg1 arg2 harg2 arg3 harg3 arg4 harg4 hc0 hc1 x0 x1 xo2 (ix2 a b) = xo2 (ix2 a b) + ∑ r : Fin 2176, x0 (ix2 r a) * x1 (ix2 r b) := by
  unfold out0_C_3 kernelRun0_C
  dsimp only
  refine (read_store VO0_3 _ _ _ a b).trans ?_
  refine (pay3_apply _ a b).trans ?_
  refine (read_sum arg3.view _ a b).trans ((read_store arg3.view _ _ _ a b).trans ?_)
  refine (pay2_apply _ _ _ a b).trans ?_
  refine congrArg₂ (· + ·) ((read_sum arg3.view _ a b).trans (congrFun (harg3.read_unread xo2) _)) (Finset.sum_congr rfl fun r _ => ?_)
  exact congrArg₂ (· * ·) ((read_rows arg1.view _ r a).trans (congrFun (harg1.read_unread x0) _)) ((read_rows arg2.view _ r b).trans (congrFun (harg2.read_unread x1) _))

end cases

section grid

theorem ix_in0 : ∀ t : Fin cfg0.N, win0_0.index t = ![t.val, 0] :=
  (by decide +kernel : ∀ t : Fin grid0.N, win0_0.index t = ![t.val, 0])
theorem ix_in1 : ∀ t : Fin cfg0.N, win0_1.index t = ![t.val, 0] :=
  (by decide +kernel : ∀ t : Fin grid0.N, win0_1.index t = ![t.val, 0])
theorem points (t : Fin cfg0.N) : t.val < 4 := Nat.lt_of_lt_of_eq t.isLt N_0

/-- Row `r` of the block of point `t`. -/
def row (t : Fin cfg0.N) (r : Fin 2176) : Fin 8704 := ⟨t.val * 2176 + r.val, by have := points t; omega⟩

theorem at_in0 (t : Fin cfg0.N) (r : Fin 2176) (k : Fin 1024) : (win0_0.blk t).view.emb (ix2 r k) = ix2 (row t r) k := by
  have e0 : t.val * 2176 + r.val = (row t r).val := rfl
  blk_ext [ix_in0]
theorem at_in1 (t : Fin cfg0.N) (r : Fin 2176) (k : Fin 1024) : (win0_1.blk t).view.emb (ix2 r k) = ix2 (row t r) k := by
  have e0 : t.val * 2176 + r.val = (row t r).val := rfl
  blk_ext [ix_in1]

variable (m : (ℓ : Loc nD τ sig) → Buf (Elt Ideal) ℓ) (c : Dev nD)

/-- The first argument, of the rows that enter the projection. -/
def Y : S8704x1024.Idx → EReal := m ((c.tc : Thread nD τ).loc main_arg0)
/-- The second argument, of the gradients of the rows that leave it. -/
def D : S8704x1024.Idx → EReal := m ((c.tc : Thread nD τ).loc main_arg1)

theorem in0 (t : Fin cfg0.N) (r : Fin 2176) (k : Fin 1024) : (iblk m c 0 t : S2176x1024.Idx → EReal) (ix2 r k) = Y m c (ix2 (row t r) k) := by
  unfold Y
  rw [← V_main_arg0 m c, ← at_in0 t r k]; rfl
theorem in1 (t : Fin cfg0.N) (r : Fin 2176) (k : Fin 1024) : (iblk m c 1 t : S2176x1024.Idx → EReal) (ix2 r k) = D m c (ix2 (row t r) k) := by
  unfold D
  rw [← V_main_arg1 m c, ← at_in1 t r k]; rfl

/-- One row's term of the gradient, zero past the last row. -/
def term (a b : Fin 1024) (r : ℕ) : EReal := if h : r < 8704 then Y m c (ix2 ⟨r, h⟩ a) * D m c (ix2 ⟨r, h⟩ b) else 0

/-- The block of the first argument at a point, … -/
def blkY (t : Fin cfg0.N) : S2176x1024.Idx → EReal := iblk m c 0 t
/-- … and of the second. -/
def blkD (t : Fin cfg0.N) : S2176x1024.Idx → EReal := iblk m c 1 t

/-- The terms of one block of rows. -/
theorem block_sum (t : Fin cfg0.N) (a b : Fin 1024) :
    ∑ r : Fin 2176, blkY m c t (ix2 r a) * blkD m c t (ix2 r b)
      = ∑ r ∈ range 2176, term m c a b (2176 * t.val + r) := by
  rw [← Fin.sum_univ_eq_sum_range (fun r => term m c a b (2176 * t.val + r)) 2176]
  refine Finset.sum_congr rfl fun r _ => ?_
  have h : 2176 * t.val + r.val < 8704 := by have := points t; have := r.isLt; omega
  have e : (⟨2176 * t.val + r.val, h⟩ : Fin 8704) = row t r := Fin.ext (by show 2176 * t.val + r.val = t.val * 2176 + r.val; omega)
  unfold term blkY blkD
  rw [dif_pos h, e, in0, in1]

/-- After a point the sum holds the terms of the rows read so far. -/
theorem sum_after (n : ℕ) (hn : n < cfg0.N) (a b : Fin 1024) :
    (outsAt0 m c n hn).1 (ix2 a b) = ∑ r ∈ range (2176 * (n + 1)), term m c a b r := by
  induction n with
  | zero =>
    have h := congrArg Prod.fst (outsAt0_A m c ⟨0, hn⟩ rfl (show ¬(0 % 4 = 3) by decide))
    dsimp only at h
    rw [h, outA]
    refine (block_sum m c ⟨0, hn⟩ a b).trans ?_
    simp
  | succ n ih =>
    have h4 : n + 1 < 4 := points ⟨n + 1, hn⟩
    have ih := ih (Nat.lt_of_succ_lt hn)
    have h0 : ¬(n + 1) % 4 = 0 := by omega
    have goal2 : (outsAt0 m c (n + 1) hn).1 (ix2 a b) = (outsAt0 m c n (Nat.lt_of_succ_lt hn)).1 (ix2 a b) + ∑ r ∈ range 2176, term m c a b (2176 * (n + 1) + r) := by
      by_cases h1 : (n + 1) % 4 = 3
      · have h := congrArg Prod.fst (outsAt0_C m c ⟨n + 1, hn⟩ h0 h1)
        dsimp only at h
        rw [h, outC]
        exact congrArg (_ + ·) (block_sum m c ⟨n + 1, hn⟩ a b)
      · have h := congrArg Prod.fst (outsAt0_B m c ⟨n + 1, hn⟩ h0 h1)
        dsimp only at h
        rw [h, outB]
        exact congrArg (_ + ·) (block_sum m c ⟨n + 1, hn⟩ a b)
    rw [goal2, ih, ← Finset.sum_range_add]
    rfl

/-- At the last point the copy holds the same. -/
theorem copy_after (t : Fin cfg0.N) (h : t.val % 4 = 3) (a b : Fin 1024) :
    (outsAt0 m c t.val t.isLt).2 (ix2 a b) = (outsAt0 m c t.val t.isLt).1 (ix2 a b) := by
  have h0 : ¬t.val % 4 = 0 := by omega
  rw [outsAt0_C m c t h0 h]
  dsimp only
  rw [outC, outC_copy]

/-- The gradient: the product over all the rows. -/
def G (j : S1024x1024.Idx) : EReal := ∑ r : Fin 8704, Y m c (ix2 r (j 0)) * D m c (ix2 r (j 1))

theorem all_terms (a b : Fin 1024) : ∑ r ∈ range 8704, term m c a b r = G m c (ix2 a b) := by
  rw [← Fin.sum_univ_eq_sum_range (fun r => term m c a b r) 8704]
  refine Finset.sum_congr rfl fun r _ => ?_
  unfold term
  rw [dif_pos r.isLt]

theorem ix_out2 : ∀ t : Fin cfg0.N, win0_2.index t = ![0, 0] :=
  (by decide +kernel : ∀ t : Fin grid0.N, win0_2.index t = ![0, 0])
theorem ix_out3 : ∀ t : Fin cfg0.N, win0_3.index t = ![0, 0] :=
  (by decide +kernel : ∀ t : Fin grid0.N, win0_3.index t = ![0, 0])
theorem last2 : ∀ t : Fin cfg0.N, (cfg0.win 2).flush t = true → t.val % 4 = 3 :=
  (by decide +kernel : ∀ t : Fin grid0.N, (cfg0.win 2).flush t = true → t.val % 4 = 3)
theorem last3 : ∀ t : Fin cfg0.N, (cfg0.win 3).flush t = true → t.val % 4 = 3 :=
  (by decide +kernel : ∀ t : Fin grid0.N, (cfg0.win 3).flush t = true → t.val % 4 = 3)
theorem at_out2 (t : Fin cfg0.N) (a b : Fin 1024) : (win0_2.blk t).view.emb (ix2 a b) = ix2 a b := by
  blk_ext [ix_out2]
theorem at_out3 (t : Fin cfg0.N) (a b : Fin 1024) : (win0_3.blk t).view.emb (ix2 a b) = ix2 a b := by
  blk_ext [ix_out3]

theorem final_sum (t : Fin cfg0.N) (h : t.val % 4 = 3) (a b : Fin 1024) : (outsAt0 m c t.val t.isLt).1 (ix2 a b) = G m c (ix2 a b) := by
  have e : 2176 * (t.val + 1) = 8704 := by have := points t; omega
  rw [sum_after, e, all_terms]

/-- The result is the gradient, … -/
theorem final2 : (dats m 0 c).arrAt 2 cfg0.N = G m c := by
  refine (dats m 0 c).arrAt_eq_of_covers 2 (G m c) (by decide +kernel) fun t hf y => ?_
  blk_simp
  rw [after0_2]
  obtain ⟨a, b, rfl⟩ : ∃ a b : Fin 1024, y = ix2 a b := ⟨y 0, y 1, eq_ix2 y⟩
  rw [at_out2 t a b]
  exact final_sum m c t (last2 t hf) a b

/-- … and so is its copy. -/
theorem final3 : (dats m 0 c).arrAt 3 cfg0.N = G m c := by
  refine (dats m 0 c).arrAt_eq_of_covers 3 (G m c) (by decide +kernel) fun t hf y => ?_
  blk_simp
  rw [after0_3]
  obtain ⟨a, b, rfl⟩ : ∃ a b : Fin 1024, y = ix2 a b := ⟨y 0, y 1, eq_ix2 y⟩
  rw [at_out3 t a b]
  exact (copy_after m c t (last3 t hf) a b).trans (final_sum m c t (last3 t hf) a b)

end grid

end Cert.Kernel2Ideal.Wg

end
-- ==== Proof.Kernel2Ideal.Algebraic.lean ====
/- The gradient of a projection's weights: the kernel's two results are the reference's, over the reals. -/
module

public import proofs.«01_k».proof.Defs
public import proofs.«01_k».proof.Proof.Gen.Reference2Ideal
public import proofs.«01_k».proof.Proof.Gen.Reference2Ideal.Run
public import proofs.«01_k».proof.Proof.Kernel2Ideal.Weights

@[expose] public section

set_option maxRecDepth 16384

noncomputable section

namespace Cert.Reference2Ideal.Wg

open Cert.Reference2Ideal Cert.Reference2Ideal.Gen
open Idealize.ShloMosaic Idealize.ShloMosaic.TcCoe Idealize.SL.Sem
open Idealize.ShloMosaic.ValueIdx
open scoped BigOperators

/-- The reference's product, transposed: at row `i` and column `j` the sum over the rows of both arguments. -/
theorem product_apply (y d : S8704x1024.Idx → EReal) (j : S1024x1024.Idx) :
    transpose S1024x1024 [1, 0] (Host.dotGeneral (F := Ideal) (φ₁ := .f32) (φ₂ := .f32) dot_S8704x1024_S8704x1024_S1024x1024_0_0_1_1_n_n none d y)
        transposes_S1024x1024_S1024x1024_1_0 j
      = ∑ r : Fin 8704, y (ix2 r (j 0)) * d (ix2 r (j 1)) := by
  refine (transpose_apply _ _ _ j (ix2 (j 1) (j 0)) (fun b => by
    match b with
    | ⟨0, _⟩ => rfl
    | ⟨1, _⟩ => rfl)).trans ?_
  refine (Cert.Proj.dot_rows_apply (φ₁ := .f32) (φ₂ := .f32) _ d y (j 1) (j 0)).trans ?_
  exact Finset.sum_congr rfl fun r _ => mul_comm _ _

end Cert.Reference2Ideal.Wg

namespace Cert.Kernel2Ideal.Wg

open Idealize.ShloMosaic Idealize.ShloMosaic.TcCoe Idealize.SL.Sem

/-- The kernel's two results are the reference's. -/
theorem algebraic : Cert.algebraic_Kernel2Ideal_Reference2Ideal := by
  intro m g m' g' _ hin
  refine ⟨fun c => (Cert.Kernel2Ideal.Gen.dats m 0 c).arrAt 2 Cert.Kernel2Ideal.cfg0.N,
    fun c => (Cert.Kernel2Ideal.Gen.dats m 0 c).arrAt 3 Cert.Kernel2Ideal.cfg0.N,
    Cert.Kernel2Ideal.Value.run_blocks m g, ?_⟩
  refine (θ_run _ _ _).mono (fun r h c => ?_) (Cert.Reference2Ideal.Value.run m' g')
  obtain ⟨e0, e1, k⟩ := h c
  obtain ⟨a0, a1⟩ := hin c
  refine ⟨e0.trans ?_, e1.trans ?_, k⟩
  · rw [a0, a1]
    exact (funext fun j => Cert.Reference2Ideal.Wg.product_apply _ _ j).trans (final2 m c).symm
  · rw [a0, a1]
    exact (funext fun j => Cert.Reference2Ideal.Wg.product_apply _ _ j).trans (final3 m c).symm

end Cert.Kernel2Ideal.Wg

end
-- ==== Proof.Proj.Norm.lean ====
/- The normalization of a row and the four column groups of its projection, read at an index over the extended reals. -/
module

public import proofs.«01_k».proof.Proof.Proj.Products
public import Idealize.ShloMosaic.Lib.Pointwise.Reduce

@[expose] public section

noncomputable section

namespace Cert.Proj

open Idealize.ShloMosaic hiding ix1 ix2 ix3
open Idealize.ShloMosaic.ValueIdx
open scoped BigOperators

/-- One over the root of the mean square of row `r` plus the small constant. -/
def scale {R : ℕ} (x : (⟨2, ![R, 1024]⟩ : Shape).Idx → EReal) (r : Fin R) : EReal :=
  Ideal.rsqrt (Ideal.div (∑ k : Fin 1024, x (ix2 r k) * x (ix2 r k)) (Ideal.ofBits .f32 0x44800000#32) + Ideal.ofBits .f32 0x358637BD#32)

/-- Entry `d` of row `r` times the row's scale, times the gain of the column. -/
def normed {R : ℕ} (x : (⟨2, ![R, 1024]⟩ : Shape).Idx → EReal) (g : (⟨2, ![1, 1024]⟩ : Shape).Idx → EReal) (r : Fin R) (d : Fin 1024) : EReal :=
  x (ix2 r d) * scale x r * g (ix2 0 d)

/-- Column `e` of group `j` of the projection of row `r`. -/
def projected {R : ℕ} (x : (⟨2, ![R, 1024]⟩ : Shape).Idx → EReal) (g : (⟨2, ![1, 1024]⟩ : Shape).Idx → EReal)
    (w : (⟨3, ![4, 1024, 1024]⟩ : Shape).Idx → EReal) (j : Fin 4) (r : Fin R) (e : Fin 1024) : EReal :=
  ∑ d : Fin 1024, normed x g r d * w (ix3 j d e)

/-- The scale does not depend on the rows around the row. -/
theorem scale_congr {R R' : ℕ} (x : (⟨2, ![R, 1024]⟩ : Shape).Idx → EReal) (x' : (⟨2, ![R', 1024]⟩ : Shape).Idx → EReal)
    (r : Fin R) (r' : Fin R') (hx : ∀ k, x (ix2 r k) = x' (ix2 r' k)) : scale x r = scale x' r' := by
  unfold scale
  rw [Finset.sum_congr rfl fun k _ => congrArg₂ (· * ·) (hx k) (hx k)]

/-- Nor does the normalized row. -/
theorem normed_congr {R R' : ℕ} (x : (⟨2, ![R, 1024]⟩ : Shape).Idx → EReal) (x' : (⟨2, ![R', 1024]⟩ : Shape).Idx → EReal)
    (g g' : (⟨2, ![1, 1024]⟩ : Shape).Idx → EReal) (r : Fin R) (r' : Fin R') (hx : ∀ k, x (ix2 r k) = x' (ix2 r' k)) (hg : ∀ k, g (ix2 0 k) = g' (ix2 0 k))
    (d : Fin 1024) : normed x g r d = normed x' g' r' d := by
  unfold normed
  rw [hx d, hg d, scale_congr x x' r r' hx]

/-- One number for each row, spread over the columns. -/
theorem block_rows {R : ℕ} (hb : (⟨2, ![R, 1]⟩ : Shape).Broadcasts ⟨2, ![R, 1024]⟩) (hR : R ≠ 1) (y : FVec Ideal ⟨2, ![R, 1]⟩ .f32) (r : Fin R) (d : Fin 1024) :
    broadcastTo ⟨2, ![R, 1024]⟩ y hb (ix2 r d) = y (ix2 r 0) := broadcastTo_apply _ _ _ _ (fun a => by
  match a with
  | ⟨0, _⟩ => exact (if_neg hR).symm
  | ⟨1, _⟩ => rfl)

/-- One number for each column, spread over the rows. -/
theorem block_columns {R : ℕ} (hg : (⟨2, ![1, 1024]⟩ : Shape).Broadcasts ⟨2, ![R, 1024]⟩) (g : FVec Ideal ⟨2, ![1, 1024]⟩ .f32) (r : Fin R) (d : Fin 1024) :
    broadcastTo ⟨2, ![R, 1024]⟩ g hg (ix2 r d) = g (ix2 0 d) := broadcastTo_apply _ _ _ _ (fun a => by
  match a with
  | ⟨0, _⟩ => rfl
  | ⟨1, _⟩ => rfl)

/-- The sum of each row. -/
theorem block_sum {R : ℕ} (y : FVec Ideal ⟨2, ![R, 1024]⟩ .f32) (hr : (⟨2, ![R, 1024]⟩ : Shape).Reduces [1] ⟨1, ![R]⟩)
    (hc : (⟨1, ![R]⟩ : Shape).ShapeCasts ⟨2, ![R, 1]⟩) (r : Fin R) :
    shapeCast ⟨2, ![R, 1]⟩ (multiReduction .add [1] ⟨1, ![R]⟩ y 0x00000000#32 hr (.inl rfl) rfl) hc (ix2 r 0) = ∑ k : Fin 1024, y (ix2 r k) := by
  refine (shapeCast_apply _ _ _ (ix1 r) (by rw [Shape.rowMajor_val_one, Shape.rowMajor_val_two]; exact (Nat.mul_one _).symm)).trans ?_
  exact Ideal.reduceAdd_r2_a1 hr y (ix1 r)

/-- The kernel's scales of a block of rows. -/
theorem block_scale {R : ℕ} (x : FVec Ideal ⟨2, ![R, 1024]⟩ .f32) (hr : (⟨2, ![R, 1024]⟩ : Shape).Reduces [1] ⟨1, ![R]⟩)
    (hc : (⟨1, ![R]⟩ : Shape).ShapeCasts ⟨2, ![R, 1]⟩) (r : Fin R) :
    rsqrt (addf (divf (shapeCast ⟨2, ![R, 1]⟩ (multiReduction .add [1] ⟨1, ![R]⟩ (mulf x x) 0x00000000#32 hr (.inl rfl) rfl) hc)
        (broadcast ⟨2, ![R, 1]⟩ (Scalar.ofBits .f32 0x44800000#32))) (broadcast ⟨2, ![R, 1]⟩ (Scalar.ofBits .f32 0x358637BD#32))) (ix2 r 0) = scale x r :=
  congrArg (fun z => Ideal.rsqrt (Ideal.div z (Ideal.ofBits .f32 0x44800000#32) + Ideal.ofBits .f32 0x358637BD#32)) (block_sum (mulf x x) hr hc r)

/-- The kernel's normalization of a block of rows. -/
theorem block_normed {R : ℕ} (x : FVec Ideal ⟨2, ![R, 1024]⟩ .f32) (g : FVec Ideal ⟨2, ![1, 1024]⟩ .f32)
    (hr : (⟨2, ![R, 1024]⟩ : Shape).Reduces [1] ⟨1, ![R]⟩) (hc : (⟨1, ![R]⟩ : Shape).ShapeCasts ⟨2, ![R, 1]⟩)
    (hb : (⟨2, ![R, 1]⟩ : Shape).Broadcasts ⟨2, ![R, 1024]⟩) (hg : (⟨2, ![1, 1024]⟩ : Shape).Broadcasts ⟨2, ![R, 1024]⟩) (hR : R ≠ 1)
    (r : Fin R) (d : Fin 1024) :
    mulf (mulf x (broadcastTo ⟨2, ![R, 1024]⟩ (rsqrt (addf (divf (shapeCast ⟨2, ![R, 1]⟩ (multiReduction .add [1] ⟨1, ![R]⟩ (mulf x x) 0x00000000#32 hr (.inl rfl) rfl) hc)
        (broadcast ⟨2, ![R, 1]⟩ (Scalar.ofBits .f32 0x44800000#32))) (broadcast ⟨2, ![R, 1]⟩ (Scalar.ofBits .f32 0x358637BD#32)))) hb))
      (broadcastTo ⟨2, ![R, 1024]⟩ g hg) (ix2 r d) = normed x g r d :=
  congrArg₂ (· * ·) (congrArg (x (ix2 r d) * ·) ((block_rows hb hR _ r d).trans (block_scale x hr hc r))) (block_columns hg g r d)

/-- The reference's numbers for each row, spread over the columns. -/
theorem host_rows {R : ℕ} (h1 : (⟨2, ![R, 1]⟩ : Shape).BroadcastsInDim ⟨2, ![R, 1024]⟩ ![0, 1]) (hR : R ≠ 1) (y : FVec Ideal ⟨2, ![R, 1]⟩ .f32) (r : Fin R) (d : Fin 1024) :
    broadcastInDim ⟨2, ![R, 1024]⟩ ![0, 1] h1 y (ix2 r d) = y (ix2 r 0) := broadcastInDim_apply _ _ _ _ _ (fun a => by
  match a with
  | ⟨0, _⟩ => exact (if_neg hR).symm
  | ⟨1, _⟩ => rfl)

/-- The reference's numbers for each column, spread over the rows. -/
theorem host_columns {R : ℕ} (h4 : (⟨2, ![1, 1024]⟩ : Shape).BroadcastsInDim ⟨2, ![R, 1024]⟩ ![0, 1]) (g : FVec Ideal ⟨2, ![1, 1024]⟩ .f32) (r : Fin R) (d : Fin 1024) :
    broadcastInDim ⟨2, ![R, 1024]⟩ ![0, 1] h4 g (ix2 r d) = g (ix2 0 d) := broadcastInDim_apply _ _ _ _ _ (fun a => by
  match a with
  | ⟨0, _⟩ => rfl
  | ⟨1, _⟩ => rfl)

/-- The reference's sum of each row. -/
theorem host_sum {R : ℕ} (y : FVec Ideal ⟨2, ![R, 1024]⟩ .f32) (hr : (⟨2, ![R, 1024]⟩ : Shape).ReducesTo [1] ⟨1, ![R]⟩) (h0 : 0 < (⟨0, ![]⟩ : Shape).numel) (r : Fin R) :
    Host.reduceAdd y (constant ⟨0, ![]⟩ .f32 0x00000000#32) hr h0 (ix1 r) = ∑ k : Fin 1024, y (ix2 r k) := by
  refine (Ideal.hostReduceAdd_r2_a1 hr y _ (ix1 r)).trans ?_
  show Ideal.ofBits .f32 0x00000000#32 + _ = _
  rw [Ideal.ofBits_zero_f32, zero_add]
  rfl

/-- The mean squares plus the small constant, as the reference computes them. -/
theorem host_square {R : ℕ} (x : FVec Ideal ⟨2, ![R, 1024]⟩ .f32) (hr : (⟨2, ![R, 1024]⟩ : Shape).ReducesTo [1] ⟨1, ![R]⟩) (h0 : 0 < (⟨0, ![]⟩ : Shape).numel)
    (h2 : (⟨1, ![R]⟩ : Shape).BroadcastsInDim ⟨2, ![R, 1]⟩ ![0]) (h3 : (⟨0, ![]⟩ : Shape).BroadcastsInDim ⟨2, ![R, 1]⟩ ![]) (hR : R ≠ 1) (r : Fin R) :
    addf (Host.divf (broadcastInDim ⟨2, ![R, 1]⟩ ![0] h2 (Host.reduceAdd (mulf x x) (constant ⟨0, ![]⟩ .f32 0x00000000#32) hr h0))
        (broadcastInDim ⟨2, ![R, 1]⟩ ![] h3 (constant ⟨0, ![]⟩ .f32 0x44800000#32))) (broadcastInDim ⟨2, ![R, 1]⟩ ![] h3 (constant ⟨0, ![]⟩ .f32 0x358637BD#32)) (ix2 r 0)
      = Ideal.div (∑ k : Fin 1024, x (ix2 r k) * x (ix2 r k)) (Ideal.ofBits .f32 0x44800000#32) + Ideal.ofBits .f32 0x358637BD#32 := by
  have es := (broadcastInDim_apply (t := ⟨2, ![R, 1]⟩) ![0] h2 (Host.reduceAdd (mulf x x) (constant ⟨0, ![]⟩ .f32 0x00000000#32) hr h0) (ix2 r 0) (ix1 r) (fun a => by
      match a with
      | ⟨0, _⟩ => exact (if_neg hR).symm)).trans (host_sum (mulf x x) hr h0 r)
  exact congrArg₂ (· + ·) (congrArg₂ Ideal.div es (broadcastInDim_scalar_apply _ _ _)) (broadcastInDim_scalar_apply _ _ _)

/-- The reference's normalization of all rows. -/
theorem host_normed {R : ℕ} (x : FVec Ideal ⟨2, ![R, 1024]⟩ .f32) (g : FVec Ideal ⟨2, ![1, 1024]⟩ .f32)
    (hr : (⟨2, ![R, 1024]⟩ : Shape).ReducesTo [1] ⟨1, ![R]⟩) (h0 : 0 < (⟨0, ![]⟩ : Shape).numel)
    (h1 : (⟨2, ![R, 1]⟩ : Shape).BroadcastsInDim ⟨2, ![R, 1024]⟩ ![0, 1]) (h2 : (⟨1, ![R]⟩ : Shape).BroadcastsInDim ⟨2, ![R, 1]⟩ ![0])
    (h3 : (⟨0, ![]⟩ : Shape).BroadcastsInDim ⟨2, ![R, 1]⟩ ![]) (h4 : (⟨2, ![1, 1024]⟩ : Shape).BroadcastsInDim ⟨2, ![R, 1024]⟩ ![0, 1]) (hR : R ≠ 1)
    (r : Fin R) (d : Fin 1024) :
    mulf (mulf x (broadcastInDim ⟨2, ![R, 1024]⟩ ![0, 1] h1 (Host.rsqrt (addf (Host.divf
        (broadcastInDim ⟨2, ![R, 1]⟩ ![0] h2 (Host.reduceAdd (mulf x x) (constant ⟨0, ![]⟩ .f32 0x00000000#32) hr h0))
        (broadcastInDim ⟨2, ![R, 1]⟩ ![] h3 (constant ⟨0, ![]⟩ .f32 0x44800000#32))) (broadcastInDim ⟨2, ![R, 1]⟩ ![] h3 (constant ⟨0, ![]⟩ .f32 0x358637BD#32))))))
      (broadcastInDim ⟨2, ![R, 1024]⟩ ![0, 1] h4 g) (ix2 r d) = normed x g r d :=
  congrArg₂ (· * ·) (congrArg (x (ix2 r d) * ·) ((host_rows h1 hR _ r d).trans (congrArg Ideal.rsqrt (host_square x hr h0 h2 h3 hR r)))) (host_columns h4 g r d)

/-- One column group of a block of normalized rows times one group of the weights. -/
theorem block_projected {R : ℕ} (wf : DotDims.WF ⟨2, ![R, 1024]⟩ ⟨2, ![1024, 1024]⟩ ⟨2, ![R, 1024]⟩ [1] [0] [0] [1] [] [])
    (y : FVec Ideal ⟨2, ![R, 1024]⟩ .bf16) (w : FVec Ideal ⟨3, ![1, 1024, 1024]⟩ .bf16) (hc : (⟨3, ![1, 1024, 1024]⟩ : Shape).ShapeCasts ⟨2, ![1024, 1024]⟩)
    (r : Fin R) (e : Fin 1024) :
    matmul (⟨[1], [0], [0], [1], [], [], wf⟩ : DotDims ⟨2, ![R, 1024]⟩ ⟨2, ![1024, 1024]⟩ ⟨2, ![R, 1024]⟩) none y (shapeCast ⟨2, ![1024, 1024]⟩ w hc)
      (constant ⟨2, ![R, 1024]⟩ .f32 0x00000000#32) (ix2 r e) = ∑ d : Fin 1024, y (ix2 r d) * w (ix3 0 d e) := by
  refine (matmul_plain_apply wf y _ r e).trans (Finset.sum_congr rfl fun d _ => congrArg (y (ix2 r d) * ·) ?_)
  exact shapeCast_apply _ _ _ (ix3 0 d e) (by
    rw [Shape.rowMajor_val_three, Shape.rowMajor_val_two]
    show (0 * 1024 + d.val) * 1024 + e.val = d.val * 1024 + e.val
    omega)

/-- Group `j` of the columns of the reference's one product with the four groups side by side. -/
theorem host_projected {R : ℕ} (wf : DotDims.WF ⟨2, ![R, 1024]⟩ ⟨2, ![1024, 4096]⟩ ⟨2, ![R, 4096]⟩ [1] [0] [0] [1] [] [])
    (y : FVec Ideal ⟨2, ![R, 1024]⟩ .f32) (w : FVec Ideal ⟨3, ![4, 1024, 1024]⟩ .f32)
    (ht : (⟨3, ![4, 1024, 1024]⟩ : Shape).Transposes [1, 0, 2] ⟨3, ![1024, 4, 1024]⟩) (hc : (⟨3, ![1024, 4, 1024]⟩ : Shape).ShapeCasts ⟨2, ![1024, 4096]⟩)
    (j : Fin 4) (o : ℕ) (ho : o = 1024 * j.val) (hs : (⟨2, ![R, 4096]⟩ : Shape).Slices ![0, o] ⟨2, ![R, 1024]⟩) (r : Fin R) (e : Fin 1024) :
    extractStridedSlice ⟨2, ![R, 1024]⟩ ![0, o] (Host.dotGeneral (⟨[1], [0], [0], [1], [], [], wf⟩ : DotDims ⟨2, ![R, 1024]⟩ ⟨2, ![1024, 4096]⟩ ⟨2, ![R, 4096]⟩) none y
      (shapeCast ⟨2, ![1024, 4096]⟩ (transpose ⟨3, ![1024, 4, 1024]⟩ [1, 0, 2] w ht) hc)) hs (ix2 r e) = ∑ d : Fin 1024, y (ix2 r d) * w (ix3 j d e) := by
  have hlt : 1024 * j.val + e.val < 4096 := by omega
  refine (extractStridedSlice_apply _ _ _ _ (ix2 r ⟨1024 * j.val + e.val, hlt⟩) (fun a => by
    match a with
    | ⟨0, _⟩ => exact (Nat.zero_add _).symm
    | ⟨1, _⟩ => show 1024 * j.val + e.val = o + e.val; rw [ho])).trans ?_
  refine (dot_plain_apply wf y _ r _).trans (Finset.sum_congr rfl fun d _ => congrArg (y (ix2 r d) * ·) ?_)
  refine (shapeCast_apply _ _ _ (ix3 d j e) (by
    rw [Shape.rowMajor_val_three, Shape.rowMajor_val_two]
    show (d.val * 4 + j.val) * 1024 + e.val = d.val * 4096 + (1024 * j.val + e.val)
    omega)).trans ?_
  exact transpose_apply _ _ _ _ (ix3 j d e) (fun b => by
    match b with
    | ⟨0, _⟩ => rfl
    | ⟨1, _⟩ => rfl
    | ⟨2, _⟩ => rfl)

end Cert.Proj

end
-- ==== Proof.Proj.Blocks.lean ====
/- What a whole store leaves in a block, and what a whole block or one group of the weights reads as. -/
module

public import Idealize.ShloMosaic.Lib.ValueIdx
public import Idealize.ShloMosaic.Lib.Pipeline.Value
public import Idealize.ShloMosaic.Lib.Pipeline.FrameBody

@[expose] public section

noncomputable section

namespace Cert.Proj

open Idealize.ShloMosaic Idealize.ShloMosaic.ValueIdx

variable {s : Shape} {e : EltTy} {off : Fin s.rank → ℕ}

/-- The rectangle that starts at the origin and has the shape's sizes holds every index at its own place. -/
theorem whole_idx (inb : ∀ a, off a + s.size a ≤ s.size a) (y : (Rect.unit (s := s) off s.size inb).shape.Idx) :
    (Rect.unit (s := s) off s.size inb).idx y = y := by
  funext a; apply Fin.ext
  have h := inb a
  show off a + 1 * (y a).val = (y a).val
  omega

/-- A block read whole is the block. -/
theorem ld_whole (x : s.Idx → Elt Ideal e) (inb : ∀ a, off a + s.size a ≤ s.size a) :
    View.ld (Val := Elt Ideal) (e' := e) x (Rect.unit (s := s) off s.size inb) = x :=
  funext fun y => congrArg x (whole_idx inb y)

/-- One whole store is what the block then holds. -/
theorem stored_whole (inb : ∀ a, off a + s.size a ≤ s.size a) (w : (Rect.unit (s := s) off s.size inb).shape.Idx → Elt Ideal e)
    (h : ∀ y : s.Idx, ∃ p ∈ ([⟨Rect.unit (s := s) off s.size inb, w⟩] : List (View.Piece (Elt Ideal) s e)), y ∈ p.1.set) :
    View.canon ([⟨Rect.unit (s := s) off s.size inb, w⟩] : List (View.Piece (Elt Ideal) s e)) = w := by
  funext y
  refine View.canon_apply_of_pieces (Val := Elt Ideal) (S := s) (e := e) w _ ?_ y (h y)
  intro p hp z
  obtain rfl : p = ⟨Rect.unit (s := s) off s.size inb, w⟩ := List.mem_singleton.1 hp
  exact congrArg w (whole_idx inb z).symm

/-- Group `j` of the weights, read alone. -/
theorem ld_group (x : (⟨3, ![4, 1024, 1024]⟩ : Shape).Idx → Elt Ideal e) (j : Fin 4)
    (inb : ∀ a, (![j.val, 0, 0] : Fin 3 → ℕ) a + (![1, 1024, 1024] : Fin 3 → ℕ) a ≤ (![4, 1024, 1024] : Fin 3 → ℕ) a) (d k : Fin 1024) :
    View.ld (Val := Elt Ideal) (e' := e) x (Rect.unit (s := ⟨3, ![4, 1024, 1024]⟩) ![j.val, 0, 0] ![1, 1024, 1024] inb) (ix3 (0 : Fin 1) d k) = x (ix3 j d k) := by
  refine congrArg x (funext fun a => Fin.ext ?_)
  match a with
  | ⟨0, _⟩ => rfl
  | ⟨1, _⟩ => show 0 + 1 * d.val = d.val; omega
  | ⟨2, _⟩ => show 0 + 1 * k.val = k.val; omega

end Cert.Proj

end
-- ==== Proof.Kernel3Ideal.Rows.lean ====
/- The normalization and the projection: what the grid leaves in the five result arrays. -/
module

public import proofs.«01_k».proof.Proof.Gen.Kernel3Ideal.Value
public import proofs.«01_k».proof.Proof.Proj.Norm
public import proofs.«01_k».proof.Proof.Proj.Blocks
public import Idealize.ShloMosaic.Lib.Pipeline.ValueKit.Geometry

@[expose] public section

set_option maxRecDepth 16384

noncomputable section

namespace Cert.Kernel3Ideal.Np

open Cert.Kernel3Ideal Cert.Kernel3Ideal.Gen
open Idealize.ShloMosaic hiding ix1 ix2 ix3 eq_ix2
open Idealize.ShloMosaic.TcCoe Idealize.SL.Sem
open Idealize.ShloMosaic.ValueIdx
open scoped BigOperators

/-- The normalized block. -/
theorem norm_apply (x : Vec Ideal S512x1024 .f32) (g : Vec Ideal S1x1024 .f32) (r : Fin 512) (d : Fin 1024) :
    k0_pay2 (F := Ideal) x g (ix2 r d) = Cert.Proj.normed x g r d :=
  Cert.Proj.block_normed x g reduces_S512x1024_S512 shapeCasts_S512_S512x1 broadcasts_S512x1_S512x1024 broadcasts_S1x1024_S512x1024 (by decide) r d

/-- One column group of its projection. -/
theorem proj_apply (x : Vec Ideal S512x1024 .f32) (g : Vec Ideal S1x1024 .f32) (w : Vec Ideal S1x1024x1024 .bf16) (r : Fin 512) (e : Fin 1024) :
    (matmul (φ₁ := .bf16) (φ₂ := .bf16) dot_S512x1024_S1024x1024_S512x1024_1_0_0_1_n_n none (k0_pay2 (F := Ideal) x g) (shapeCast S1024x1024 w shapeCasts_S1x1024x1024_S1024x1024)
      (constant S512x1024 .f32 0x00000000#32) : FVec Ideal S512x1024 .f32) (ix2 r e) = ∑ d : Fin 1024, Cert.Proj.normed x g r d * w (ix3 0 d e) :=
  (Cert.Proj.block_projected _ (k0_pay2 (F := Ideal) x g) w _ r e).trans
    (Finset.sum_congr rfl fun d _ => congrArg (· * w (ix3 0 d e)) (norm_apply x g r d))

section blocks

variable (x0 : Vec Ideal S512x1024 .f32) (x1 : Vec Ideal S1x1024 .f32) (x2 : Vec Ideal S4x1024x1024 .bf16) (r : Fin 512) (e : Fin 1024)

theorem out_norm : out0_3 (F := Ideal) x0 x1 x2 (ix2 r e) = Cert.Proj.normed x0 x1 r e := by
  unfold out0_3
  rw [Cert.Proj.ld_whole x0, Cert.Proj.ld_whole x1]
  exact (congrFun (Cert.Proj.stored_whole inb_S512x1024_S512x1024_0_0 _ (cover0_3 _)) (ix2 r e)).trans (norm_apply x0 x1 r e)

theorem out_group0 : out0_4 (F := Ideal) x0 x1 x2 (ix2 r e) = Cert.Proj.projected x0 x1 x2 0 r e := by
  unfold out0_4
  rw [Cert.Proj.ld_whole x0, Cert.Proj.ld_whole x1]
  refine (congrFun (Cert.Proj.stored_whole inb_S512x1024_S512x1024_0_0 _ (cover0_4 _)) (ix2 r e)).trans ?_
  refine (proj_apply x0 x1 _ r e).trans (Finset.sum_congr rfl fun d _ => congrArg (Cert.Proj.normed x0 x1 r d * ·) ?_)
  exact Cert.Proj.ld_group x2 0 _ d e

theorem out_group1 : out0_5 (F := Ideal) x0 x1 x2 (ix2 r e) = Cert.Proj.projected x0 x1 x2 1 r e := by
  unfold out0_5
  rw [Cert.Proj.ld_whole x0, Cert.Proj.ld_whole x1]
  refine (congrFun (Cert.Proj.stored_whole inb_S512x1024_S512x1024_0_0 _ (cover0_5 _)) (ix2 r e)).trans ?_
  refine (proj_apply x0 x1 _ r e).trans (Finset.sum_congr rfl fun d _ => congrArg (Cert.Proj.normed x0 x1 r d * ·) ?_)
  exact Cert.Proj.ld_group x2 1 _ d e

theorem out_group2 : out0_6 (F := Ideal) x0 x1 x2 (ix2 r e) = Cert.Proj.projected x0 x1 x2 2 r e := by
  unfold out0_6
  rw [Cert.Proj.ld_whole x0, Cert.Proj.ld_whole x1]
  refine (congrFun (Cert.Proj.stored_whole inb_S512x1024_S512x1024_0_0 _ (cover0_6 _)) (ix2 r e)).trans ?_
  refine (proj_apply x0 x1 _ r e).trans (Finset.sum_congr rfl fun d _ => congrArg (Cert.Proj.normed x0 x1 r d * ·) ?_)
  exact Cert.Proj.ld_group x2 2 _ d e

theorem out_group3 : out0_7 (F := Ideal) x0 x1 x2 (ix2 r e) = Cert.Proj.projected x0 x1 x2 3 r e := by
  unfold out0_7
  rw [Cert.Proj.ld_whole x0, Cert.Proj.ld_whole x1]
  refine (congrFun (Cert.Proj.stored_whole inb_S512x1024_S512x1024_0_0 _ (cover0_7 _)) (ix2 r e)).trans ?_
  refine (proj_apply x0 x1 _ r e).trans (Finset.sum_congr rfl fun d _ => congrArg (Cert.Proj.normed x0 x1 r d * ·) ?_)
  exact Cert.Proj.ld_group x2 3 _ d e

end blocks

section grid

theorem ix_0 : ∀ t : Fin cfg0.N, win0_0.index t = ![t.val, 0] :=
  (by decide +kernel : ∀ t : Fin grid0.N, win0_0.index t = ![t.val, 0])
theorem ix_1 : ∀ t : Fin cfg0.N, win0_1.index t = ![0, 0] :=
  (by decide +kernel : ∀ t : Fin grid0.N, win0_1.index t = ![0, 0])
theorem ix_2 : ∀ t : Fin cfg0.N, win0_2.index t = ![0, 0, 0] :=
  (by decide +kernel : ∀ t : Fin grid0.N, win0_2.index t = ![0, 0, 0])
theorem ix_3 : ∀ t : Fin cfg0.N, win0_3.index t = ![t.val, 0] :=
  (by decide +kernel : ∀ t : Fin grid0.N, win0_3.index t = ![t.val, 0])
theorem ix_4 : ∀ t : Fin cfg0.N, win0_4.index t = ![t.val, 0] :=
  (by decide +kernel : ∀ t : Fin grid0.N, win0_4.index t = ![t.val, 0])
theorem ix_5 : ∀ t : Fin cfg0.N, win0_5.index t = ![t.val, 0] :=
  (by decide +kernel : ∀ t : Fin grid0.N, win0_5.index t = ![t.val, 0])
theorem ix_6 : ∀ t : Fin cfg0.N, win0_6.index t = ![t.val, 0] :=
  (by decide +kernel : ∀ t : Fin grid0.N, win0_6.index t = ![t.val, 0])
theorem ix_7 : ∀ t : Fin cfg0.N, win0_7.index t = ![t.val, 0] :=
  (by decide +kernel : ∀ t : Fin grid0.N, win0_7.index t = ![t.val, 0])
theorem points (t : Fin cfg0.N) : t.val < 17 := Nat.lt_of_lt_of_eq t.isLt N_0

/-- Row `r` of the block of point `t`. -/
def row (t : Fin cfg0.N) (r : Fin 512) : Fin 8704 := ⟨t.val * 512 + r.val, by have := points t; omega⟩

theorem at_1 (t : Fin cfg0.N) (k : Fin 1024) : (win0_1.blk t).view.emb (ix2 (0 : Fin 1) k) = ix2 (0 : Fin 1) k := by
  blk_ext [ix_1]
theorem at_2 (t : Fin cfg0.N) (j : Fin 4) (d e : Fin 1024) : (win0_2.blk t).view.emb (ix3 j d e) = ix3 j d e := by
  blk_ext [ix_2]
theorem at_0 (t : Fin cfg0.N) (r : Fin 512) (k : Fin 1024) : (win0_0.blk t).view.emb (ix2 r k) = ix2 (row t r) k := by
  have e0 : t.val * 512 + r.val = (row t r).val := rfl
  blk_ext [ix_0]
theorem at_3 (t : Fin cfg0.N) (r : Fin 512) (k : Fin 1024) : (win0_3.blk t).view.emb (ix2 r k) = ix2 (row t r) k := by
  have e0 : t.val * 512 + r.val = (row t r).val := rfl
  blk_ext [ix_3]
theorem at_4 (t : Fin cfg0.N) (r : Fin 512) (k : Fin 1024) : (win0_4.blk t).view.emb (ix2 r k) = ix2 (row t r) k := by
  have e0 : t.val * 512 + r.val = (row t r).val := rfl
  blk_ext [ix_4]
theorem at_5 (t : Fin cfg0.N) (r : Fin 512) (k : Fin 1024) : (win0_5.blk t).view.emb (ix2 r k) = ix2 (row t r) k := by
  have e0 : t.val * 512 + r.val = (row t r).val := rfl
  blk_ext [ix_5]
theorem at_6 (t : Fin cfg0.N) (r : Fin 512) (k : Fin 1024) : (win0_6.blk t).view.emb (ix2 r k) = ix2 (row t r) k := by
  have e0 : t.val * 512 + r.val = (row t r).val := rfl
  blk_ext [ix_6]
theorem at_7 (t : Fin cfg0.N) (r : Fin 512) (k : Fin 1024) : (win0_7.blk t).view.emb (ix2 r k) = ix2 (row t r) k := by
  have e0 : t.val * 512 + r.val = (row t r).val := rfl
  blk_ext [ix_7]

variable (m : (ℓ : Loc nD τ sig) → Buf (Elt Ideal) ℓ) (c : Dev nD)

/-- The first argument, of the rows of activations. -/
def X : S8704x1024.Idx → EReal := m ((c.tc : Thread nD τ).loc main_arg0)
/-- The second argument, of the columns' gains. -/
def Gn : S1x1024.Idx → EReal := m ((c.tc : Thread nD τ).loc main_arg1)
/-- The third argument, of the four groups of weights. -/
def W : S4x1024x1024.Idx → EReal := m ((c.tc : Thread nD τ).loc main_arg2)

/-- The blocks of the three at a point. -/
def blkX (t : Fin cfg0.N) : S512x1024.Idx → EReal := iblk m c 0 t
def blkG (t : Fin cfg0.N) : S1x1024.Idx → EReal := iblk m c 1 t
def blkW (t : Fin cfg0.N) : S4x1024x1024.Idx → EReal := iblk m c 2 t

theorem in0 (t : Fin cfg0.N) (r : Fin 512) (k : Fin 1024) : blkX m c t (ix2 r k) = X m c (ix2 (row t r) k) := by
  unfold X blkX
  rw [← V_main_arg0 m c, ← at_0 t r k]; rfl
theorem in1 (t : Fin cfg0.N) (k : Fin 1024) : blkG m c t (ix2 0 k) = Gn m c (ix2 0 k) := by
  unfold Gn blkG
  rw [← V_main_arg1 m c]
  exact congrArg (V m c main_arg1) (at_1 t k)
theorem in2 (t : Fin cfg0.N) (j : Fin 4) (d e : Fin 1024) : blkW m c t (ix3 j d e) = W m c (ix3 j d e) := by
  unfold W blkW
  rw [← V_main_arg2 m c]
  exact congrArg (V m c main_arg2) (at_2 t j d e)

theorem normed_block (t : Fin cfg0.N) (r : Fin 512) (d : Fin 1024) :
    Cert.Proj.normed (blkX m c t) (blkG m c t) r d = Cert.Proj.normed (X m c) (Gn m c) (row t r) d :=
  Cert.Proj.normed_congr _ _ _ _ _ _ (in0 m c t r) (in1 m c t) d

theorem projected_block (t : Fin cfg0.N) (j : Fin 4) (r : Fin 512) (e : Fin 1024) :
    Cert.Proj.projected (blkX m c t) (blkG m c t) (blkW m c t) j r e = Cert.Proj.projected (X m c) (Gn m c) (W m c) j (row t r) e :=
  Finset.sum_congr rfl fun d _ => congrArg₂ (· * ·) (normed_block m c t r d) (in2 m c t j d e)

/-- The first result holds the normalized rows, … -/
theorem final_norm : (dats m 0 c).arrAt 3 cfg0.N = fun y : S8704x1024.Idx => Cert.Proj.normed (X m c) (Gn m c) (y 0) (y 1) := by
  refine (dats m 0 c).arrAt_eq_of_covers 3 (fun y : S8704x1024.Idx => Cert.Proj.normed (X m c) (Gn m c) (y 0) (y 1)) (by decide +kernel) fun t hf y => ?_
  blk_simp
  rw [after0_3]
  obtain ⟨a, b, rfl⟩ : ∃ (a : Fin 512) (b : Fin 1024), y = ix2 a b := ⟨y 0, y 1, eq_ix2 y⟩
  rw [at_3 t a b]
  exact (out_norm _ _ _ a b).trans (normed_block m c t a b)

/-- … and result 1 group 0 of their projection. -/
theorem final_group0 : (dats m 0 c).arrAt 4 cfg0.N = fun y : S8704x1024.Idx => Cert.Proj.projected (X m c) (Gn m c) (W m c) 0 (y 0) (y 1) := by
  refine (dats m 0 c).arrAt_eq_of_covers 4 (fun y : S8704x1024.Idx => Cert.Proj.projected (X m c) (Gn m c) (W m c) 0 (y 0) (y 1)) (by decide +kernel) fun t hf y => ?_
  blk_simp
  rw [after0_4]
  obtain ⟨a, b, rfl⟩ : ∃ (a : Fin 512) (b : Fin 1024), y = ix2 a b := ⟨y 0, y 1, eq_ix2 y⟩
  rw [at_4 t a b]
  exact (out_group0 _ _ _ a b).trans (projected_block m c t 0 a b)

/-- … and result 2 group 1 of their projection. -/
theorem final_group1 : (dats m 0 c).arrAt 5 cfg0.N = fun y : S8704x1024.Idx => Cert.Proj.projected (X m c) (Gn m c) (W m c) 1 (y 0) (y 1) := by
  refine (dats m 0 c).arrAt_eq_of_covers 5 (fun y : S8704x1024.Idx => Cert.Proj.projected (X m c) (Gn m c) (W m c) 1 (y 0) (y 1)) (by decide +kernel) fun t hf y => ?_
  blk_simp
  rw [after0_5]
  obtain ⟨a, b, rfl⟩ : ∃ (a : Fin 512) (b : Fin 1024), y = ix2 a b := ⟨y 0, y 1, eq_ix2 y⟩
  rw [at_5 t a b]
  exact (out_group1 _ _ _ a b).trans (projected_block m c t 1 a b)

/-- … and result 3 group 2 of their projection. -/
theorem final_group2 : (dats m 0 c).arrAt 6 cfg0.N = fun y : S8704x1024.Idx => Cert.Proj.projected (X m c) (Gn m c) (W m c) 2 (y 0) (y 1) := by
  refine (dats m 0 c).arrAt_eq_of_covers 6 (fun y : S8704x1024.Idx => Cert.Proj.projected (X m c) (Gn m c) (W m c) 2 (y 0) (y 1)) (by decide +kernel) fun t hf y => ?_
  blk_simp
  rw [after0_6]
  obtain ⟨a, b, rfl⟩ : ∃ (a : Fin 512) (b : Fin 1024), y = ix2 a b := ⟨y 0, y 1, eq_ix2 y⟩
  rw [at_6 t a b]
  exact (out_group2 _ _ _ a b).trans (projected_block m c t 2 a b)

/-- … and result 4 group 3 of their projection. -/
theorem final_group3 : (dats m 0 c).arrAt 7 cfg0.N = fun y : S8704x1024.Idx => Cert.Proj.projected (X m c) (Gn m c) (W m c) 3 (y 0) (y 1) := by
  refine (dats m 0 c).arrAt_eq_of_covers 7 (fun y : S8704x1024.Idx => Cert.Proj.projected (X m c) (Gn m c) (W m c) 3 (y 0) (y 1)) (by decide +kernel) fun t hf y => ?_
  blk_simp
  rw [after0_7]
  obtain ⟨a, b, rfl⟩ : ∃ (a : Fin 512) (b : Fin 1024), y = ix2 a b := ⟨y 0, y 1, eq_ix2 y⟩
  rw [at_7 t a b]
  exact (out_group3 _ _ _ a b).trans (projected_block m c t 3 a b)

end grid

end Cert.Kernel3Ideal.Np

end
-- ==== Proof.Kernel3Ideal.Algebraic.lean ====
/- The normalization and the projection: the kernel's five results are the reference's, over the reals. -/
module

public import proofs.«01_k».proof.Defs
public import proofs.«01_k».proof.Proof.Gen.Reference3Ideal
public import proofs.«01_k».proof.Proof.Gen.Reference3Ideal.Run
public import proofs.«01_k».proof.Proof.Kernel3Ideal.Rows

@[expose] public section

set_option maxRecDepth 16384

noncomputable section

namespace Cert.Reference3Ideal.Np

open Cert.Reference3Ideal Cert.Reference3Ideal.Gen
open Idealize.ShloMosaic hiding ix1 ix2 ix3 eq_ix2
open Idealize.ShloMosaic.TcCoe Idealize.SL.Sem
open Idealize.ShloMosaic.ValueIdx
open scoped BigOperators

/-- The reference's normalized rows. -/
def normRows (x : FVec Ideal S8704x1024 .f32) (g : FVec Ideal S1x1024 .f32) : FVec Ideal S8704x1024 .f32 :=
  mulf (mulf x (broadcastInDim S8704x1024 ![0, 1] bcast_S8704x1_S8704x1024_0_1 (Host.rsqrt (addf (Host.divf (broadcastInDim S8704x1 ![0] bcast_S8704_S8704x1_0 (Host.reduceAdd (mulf x x) (constant S_ .f32 0x00000000#32) reducesTo_S8704x1024_S8704_d1 h_S_)) (broadcastInDim S8704x1 ![] bcast_S_S8704x1 (constant S_ .f32 0x44800000#32))) (broadcastInDim S8704x1 ![] bcast_S_S8704x1 (constant S_ .f32 0x358637BD#32)))))) (broadcastInDim S8704x1024 ![0, 1] bcast_S1x1024_S8704x1024_0_1 g)

theorem normRows_apply (x : FVec Ideal S8704x1024 .f32) (g : FVec Ideal S1x1024 .f32) (r : Fin 8704) (d : Fin 1024) :
    normRows x g (ix2 r d) = Cert.Proj.normed x g r d :=
  Cert.Proj.host_normed x g reducesTo_S8704x1024_S8704_d1 h_S_ bcast_S8704x1_S8704x1024_0_1 bcast_S8704_S8704x1_0 bcast_S_S8704x1 bcast_S1x1024_S8704x1024_0_1 (by decide) r d

/-- The reference's first result. -/
theorem norm_eq (x : FVec Ideal S8704x1024 .f32) (g : FVec Ideal S1x1024 .f32) (y : S8704x1024.Idx) :
    truncf .bf16 (normRows x g) bitsLt_bf16_f32 y = Cert.Proj.normed x g (y 0) (y 1) := by
  obtain ⟨a, b, rfl⟩ : ∃ (a : Fin 8704) (b : Fin 1024), y = ix2 a b := ⟨y 0, y 1, eq_ix2 y⟩
  exact normRows_apply x g a b

/-- Group 0 of the columns of the reference's product. -/
theorem group0_eq (x : FVec Ideal S8704x1024 .f32) (g : FVec Ideal S1x1024 .f32) (w : FVec Ideal S4x1024x1024 .bf16) (y : S8704x1024.Idx) :
    extractStridedSlice S8704x1024 ![0, 0] (Host.dotGeneral dot_S8704x1024_S1024x4096_S8704x4096_1_0_0_1_n_n none (normRows x g) (shapeCast _ (transpose S1024x4x1024 [1, 0, 2] (extf .f32 w bitsLt_bf16_f32) transposes_S4x1024x1024_S1024x4x1024_1_0_2) shapeCasts_S1024x4x1024_S1024x4096)) slices_S8704x4096_S8704x1024_0_0 y = Cert.Proj.projected x g w 0 (y 0) (y 1) := by
  obtain ⟨a, b, rfl⟩ : ∃ (a : Fin 8704) (b : Fin 1024), y = ix2 a b := ⟨y 0, y 1, eq_ix2 y⟩
  refine (Cert.Proj.host_projected _ (normRows x g) (extf .f32 w bitsLt_bf16_f32) _ _ 0 0 rfl _ a b).trans ?_
  exact Finset.sum_congr rfl fun d _ => congrArg (· * w (ix3 0 d b)) (normRows_apply x g a d)

/-- Group 1 of the columns of the reference's product. -/
theorem group1_eq (x : FVec Ideal S8704x1024 .f32) (g : FVec Ideal S1x1024 .f32) (w : FVec Ideal S4x1024x1024 .bf16) (y : S8704x1024.Idx) :
    extractStridedSlice S8704x1024 ![0, 1024] (Host.dotGeneral dot_S8704x1024_S1024x4096_S8704x4096_1_0_0_1_n_n none (normRows x g) (shapeCast _ (transpose S1024x4x1024 [1, 0, 2] (extf .f32 w bitsLt_bf16_f32) transposes_S4x1024x1024_S1024x4x1024_1_0_2) shapeCasts_S1024x4x1024_S1024x4096)) slices_S8704x4096_S8704x1024_0_1024 y = Cert.Proj.projected x g w 1 (y 0) (y 1) := by
  obtain ⟨a, b, rfl⟩ : ∃ (a : Fin 8704) (b : Fin 1024), y = ix2 a b := ⟨y 0, y 1, eq_ix2 y⟩
  refine (Cert.Proj.host_projected _ (normRows x g) (extf .f32 w bitsLt_bf16_f32) _ _ 1 1024 rfl _ a b).trans ?_
  exact Finset.sum_congr rfl fun d _ => congrArg (· * w (ix3 1 d b)) (normRows_apply x g a d)

/-- Group 2 of the columns of the reference's product. -/
theorem group2_eq (x : FVec Ideal S8704x1024 .f32) (g : FVec Ideal S1x1024 .f32) (w : FVec Ideal S4x1024x1024 .bf16) (y : S8704x1024.Idx) :
    extractStridedSlice S8704x1024 ![0, 2048] (Host.dotGeneral dot_S8704x1024_S1024x4096_S8704x4096_1_0_0_1_n_n none (normRows x g) (shapeCast _ (transpose S1024x4x1024 [1, 0, 2] (extf .f32 w bitsLt_bf16_f32) transposes_S4x1024x1024_S1024x4x1024_1_0_2) shapeCasts_S1024x4x1024_S1024x4096)) slices_S8704x4096_S8704x1024_0_2048 y = Cert.Proj.projected x g w 2 (y 0) (y 1) := by
  obtain ⟨a, b, rfl⟩ : ∃ (a : Fin 8704) (b : Fin 1024), y = ix2 a b := ⟨y 0, y 1, eq_ix2 y⟩
  refine (Cert.Proj.host_projected _ (normRows x g) (extf .f32 w bitsLt_bf16_f32) _ _ 2 2048 rfl _ a b).trans ?_
  exact Finset.sum_congr rfl fun d _ => congrArg (· * w (ix3 2 d b)) (normRows_apply x g a d)

/-- Group 3 of the columns of the reference's product. -/
theorem group3_eq (x : FVec Ideal S8704x1024 .f32) (g : FVec Ideal S1x1024 .f32) (w : FVec Ideal S4x1024x1024 .bf16) (y : S8704x1024.Idx) :
    extractStridedSlice S8704x1024 ![0, 3072] (Host.dotGeneral dot_S8704x1024_S1024x4096_S8704x4096_1_0_0_1_n_n none (normRows x g) (shapeCast _ (transpose S1024x4x1024 [1, 0, 2] (extf .f32 w bitsLt_bf16_f32) transposes_S4x1024x1024_S1024x4x1024_1_0_2) shapeCasts_S1024x4x1024_S1024x4096)) slices_S8704x4096_S8704x1024_0_3072 y = Cert.Proj.projected x g w 3 (y 0) (y 1) := by
  obtain ⟨a, b, rfl⟩ : ∃ (a : Fin 8704) (b : Fin 1024), y = ix2 a b := ⟨y 0, y 1, eq_ix2 y⟩
  refine (Cert.Proj.host_projected _ (normRows x g) (extf .f32 w bitsLt_bf16_f32) _ _ 3 3072 rfl _ a b).trans ?_
  exact Finset.sum_congr rfl fun d _ => congrArg (· * w (ix3 3 d b)) (normRows_apply x g a d)

end Cert.Reference3Ideal.Np

namespace Cert.Kernel3Ideal.Np

open Idealize.ShloMosaic Idealize.ShloMosaic.TcCoe Idealize.SL.Sem

/-- The kernel's five results are the reference's. -/
theorem algebraic : Cert.algebraic_Kernel3Ideal_Reference3Ideal := by
  intro m g m' g' _ hin
  refine ⟨fun c => (Cert.Kernel3Ideal.Gen.dats m 0 c).arrAt 3 Cert.Kernel3Ideal.cfg0.N,
    fun c => (Cert.Kernel3Ideal.Gen.dats m 0 c).arrAt 4 Cert.Kernel3Ideal.cfg0.N,
    fun c => (Cert.Kernel3Ideal.Gen.dats m 0 c).arrAt 5 Cert.Kernel3Ideal.cfg0.N,
    fun c => (Cert.Kernel3Ideal.Gen.dats m 0 c).arrAt 6 Cert.Kernel3Ideal.cfg0.N,
    fun c => (Cert.Kernel3Ideal.Gen.dats m 0 c).arrAt 7 Cert.Kernel3Ideal.cfg0.N,
    Cert.Kernel3Ideal.Value.run_blocks m g, ?_⟩
  refine (θ_run _ _ _).mono (fun r h c => ?_) (Cert.Reference3Ideal.Value.run m' g')
  obtain ⟨e0, e1, e2, e3, e4, k⟩ := h c
  obtain ⟨a0, a1, a2⟩ := hin c
  refine ⟨e0.trans ?_, e1.trans ?_, e2.trans ?_, e3.trans ?_, e4.trans ?_, k⟩
  · rw [a0, a1]
    exact (funext fun y => Cert.Reference3Ideal.Np.norm_eq (X m c) (Gn m c) y).trans (final_norm m c).symm
  · rw [a0, a1, a2]
    exact (funext fun y => Cert.Reference3Ideal.Np.group0_eq (X m c) (Gn m c) (W m c) y).trans (final_group0 m c).symm
  · rw [a0, a1, a2]
    exact (funext fun y => Cert.Reference3Ideal.Np.group1_eq (X m c) (Gn m c) (W m c) y).trans (final_group1 m c).symm
  · rw [a0, a1, a2]
    exact (funext fun y => Cert.Reference3Ideal.Np.group2_eq (X m c) (Gn m c) (W m c) y).trans (final_group2 m c).symm
  · rw [a0, a1, a2]
    exact (funext fun y => Cert.Reference3Ideal.Np.group3_eq (X m c) (Gn m c) (W m c) y).trans (final_group3 m c).symm

end Cert.Kernel3Ideal.Np

end
-- ==== Proof.Kernel4Ideal.Rows.lean ====
/- The normalization and the projection (the three of the four results in the shorter format are the same numbers): what the grid leaves in the five result arrays. -/
module

public import proofs.«01_k».proof.Proof.Gen.Kernel4Ideal.Value
public import proofs.«01_k».proof.Proof.Proj.Norm
public import proofs.«01_k».proof.Proof.Proj.Blocks
public import Idealize.ShloMosaic.Lib.Pipeline.ValueKit.Geometry

@[expose] public section

set_option maxRecDepth 16384

noncomputable section

namespace Cert.Kernel4Ideal.Np

open Cert.Kernel4Ideal Cert.Kernel4Ideal.Gen
open Idealize.ShloMosaic hiding ix1 ix2 ix3 eq_ix2
open Idealize.ShloMosaic.TcCoe Idealize.SL.Sem
open Idealize.ShloMosaic.ValueIdx
open scoped BigOperators

/-- The normalized block. -/
theorem norm_apply (x : Vec Ideal S512x1024 .f32) (g : Vec Ideal S1x1024 .f32) (r : Fin 512) (d : Fin 1024) :
    k0_pay2 (F := Ideal) x g (ix2 r d) = Cert.Proj.normed x g r d :=
  Cert.Proj.block_normed x g reduces_S512x1024_S512 shapeCasts_S512_S512x1 broadcasts_S512x1_S512x1024 broadcasts_S1x1024_S512x1024 (by decide) r d

/-- One column group of its projection. -/
theorem proj_apply (x : Vec Ideal S512x1024 .f32) (g : Vec Ideal S1x1024 .f32) (w : Vec Ideal S1x1024x1024 .bf16) (r : Fin 512) (e : Fin 1024) :
    (matmul (φ₁ := .bf16) (φ₂ := .bf16) dot_S512x1024_S1024x1024_S512x1024_1_0_0_1_n_n none (k0_pay2 (F := Ideal) x g) (shapeCast S1024x1024 w shapeCasts_S1x1024x1024_S1024x1024)
      (constant S512x1024 .f32 0x00000000#32) : FVec Ideal S512x1024 .f32) (ix2 r e) = ∑ d : Fin 1024, Cert.Proj.normed x g r d * w (ix3 0 d e) :=
  (Cert.Proj.block_projected _ (k0_pay2 (F := Ideal) x g) w _ r e).trans
    (Finset.sum_congr rfl fun d _ => congrArg (· * w (ix3 0 d e)) (norm_apply x g r d))

section blocks

variable (x0 : Vec Ideal S512x1024 .f32) (x1 : Vec Ideal S1x1024 .f32) (x2 : Vec Ideal S4x1024x1024 .bf16) (r : Fin 512) (e : Fin 1024)

theorem out_norm : out0_3 (F := Ideal) x0 x1 x2 (ix2 r e) = Cert.Proj.normed x0 x1 r e := by
  unfold out0_3
  rw [Cert.Proj.ld_whole x0, Cert.Proj.ld_whole x1]
  exact (congrFun (Cert.Proj.stored_whole inb_S512x1024_S512x1024_0_0 _ (cover0_3 _)) (ix2 r e)).trans (norm_apply x0 x1 r e)

theorem out_group0 : out0_4 (F := Ideal) x0 x1 x2 (ix2 r e) = Cert.Proj.projected x0 x1 x2 0 r e := by
  unfold out0_4
  rw [Cert.Proj.ld_whole x0, Cert.Proj.ld_whole x1]
  refine (congrFun (Cert.Proj.stored_whole inb_S512x1024_S512x1024_0_0 _ (cover0_4 _)) (ix2 r e)).trans ?_
  refine (proj_apply x0 x1 _ r e).trans (Finset.sum_congr rfl fun d _ => congrArg (Cert.Proj.normed x0 x1 r d * ·) ?_)
  exact Cert.Proj.ld_group x2 0 _ d e

theorem out_group1 : out0_5 (F := Ideal) x0 x1 x2 (ix2 r e) = Cert.Proj.projected x0 x1 x2 1 r e := by
  unfold out0_5
  rw [Cert.Proj.ld_whole x0, Cert.Proj.ld_whole x1]
  refine (congrFun (Cert.Proj.stored_whole inb_S512x1024_S512x1024_0_0 _ (cover0_5 _)) (ix2 r e)).trans ?_
  refine (proj_apply x0 x1 _ r e).trans (Finset.sum_congr rfl fun d _ => congrArg (Cert.Proj.normed x0 x1 r d * ·) ?_)
  exact Cert.Proj.ld_group x2 1 _ d e

theorem out_group2 : out0_6 (F := Ideal) x0 x1 x2 (ix2 r e) = Cert.Proj.projected x0 x1 x2 2 r e := by
  unfold out0_6
  rw [Cert.Proj.ld_whole x0, Cert.Proj.ld_whole x1]
  refine (congrFun (Cert.Proj.stored_whole inb_S512x1024_S512x1024_0_0 _ (cover0_6 _)) (ix2 r e)).trans ?_
  refine (proj_apply x0 x1 _ r e).trans (Finset.sum_congr rfl fun d _ => congrArg (Cert.Proj.normed x0 x1 r d * ·) ?_)
  exact Cert.Proj.ld_group x2 2 _ d e

theorem out_group3 : out0_7 (F := Ideal) x0 x1 x2 (ix2 r e) = Cert.Proj.projected x0 x1 x2 3 r e := by
  unfold out0_7
  rw [Cert.Proj.ld_whole x0, Cert.Proj.ld_whole x1]
  refine (congrFun (Cert.Proj.stored_whole inb_S512x1024_S512x1024_0_0 _ (cover0_7 _)) (ix2 r e)).trans ?_
  refine (proj_apply x0 x1 _ r e).trans (Finset.sum_congr rfl fun d _ => congrArg (Cert.Proj.normed x0 x1 r d * ·) ?_)
  exact Cert.Proj.ld_group x2 3 _ d e

end blocks

section grid

theorem ix_0 : ∀ t : Fin cfg0.N, win0_0.index t = ![t.val, 0] :=
  (by decide +kernel : ∀ t : Fin grid0.N, win0_0.index t = ![t.val, 0])
theorem ix_1 : ∀ t : Fin cfg0.N, win0_1.index t = ![0, 0] :=
  (by decide +kernel : ∀ t : Fin grid0.N, win0_1.index t = ![0, 0])
theorem ix_2 : ∀ t : Fin cfg0.N, win0_2.index t = ![0, 0, 0] :=
  (by decide +kernel : ∀ t : Fin grid0.N, win0_2.index t = ![0, 0, 0])
theorem ix_3 : ∀ t : Fin cfg0.N, win0_3.index t = ![t.val, 0] :=
  (by decide +kernel : ∀ t : Fin grid0.N, win0_3.index t = ![t.val, 0])
theorem ix_4 : ∀ t : Fin cfg0.N, win0_4.index t = ![t.val, 0] :=
  (by decide +kernel : ∀ t : Fin grid0.N, win0_4.index t = ![t.val, 0])
theorem ix_5 : ∀ t : Fin cfg0.N, win0_5.index t = ![t.val, 0] :=
  (by decide +kernel : ∀ t : Fin grid0.N, win0_5.index t = ![t.val, 0])
theorem ix_6 : ∀ t : Fin cfg0.N, win0_6.index t = ![t.val, 0] :=
  (by decide +kernel : ∀ t : Fin grid0.N, win0_6.index t = ![t.val, 0])
theorem ix_7 : ∀ t : Fin cfg0.N, win0_7.index t = ![t.val, 0] :=
  (by decide +kernel : ∀ t : Fin grid0.N, win0_7.index t = ![t.val, 0])
theorem points (t : Fin cfg0.N) : t.val < 17 := Nat.lt_of_lt_of_eq t.isLt N_0

/-- Row `r` of the block of point `t`. -/
def row (t : Fin cfg0.N) (r : Fin 512) : Fin 8704 := ⟨t.val * 512 + r.val, by have := points t; omega⟩

theorem at_1 (t : Fin cfg0.N) (k : Fin 1024) : (win0_1.blk t).view.emb (ix2 (0 : Fin 1) k) = ix2 (0 : Fin 1) k := by
  blk_ext [ix_1]
theorem at_2 (t : Fin cfg0.N) (j : Fin 4) (d e : Fin 1024) : (win0_2.blk t).view.emb (ix3 j d e) = ix3 j d e := by
  blk_ext [ix_2]
theorem at_0 (t : Fin cfg0.N) (r : Fin 512) (k : Fin 1024) : (win0_0.blk t).view.emb (ix2 r k) = ix2 (row t r) k := by
  have e0 : t.val * 512 + r.val = (row t r).val := rfl
  blk_ext [ix_0]
theorem at_3 (t : Fin cfg0.N) (r : Fin 512) (k : Fin 1024) : (win0_3.blk t).view.emb (ix2 r k) = ix2 (row t r) k := by
  have e0 : t.val * 512 + r.val = (row t r).val := rfl
  blk_ext [ix_3]
theorem at_4 (t : Fin cfg0.N) (r : Fin 512) (k : Fin 1024) : (win0_4.blk t).view.emb (ix2 r k) = ix2 (row t r) k := by
  have e0 : t.val * 512 + r.val = (row t r).val := rfl
  blk_ext [ix_4]
theorem at_5 (t : Fin cfg0.N) (r : Fin 512) (k : Fin 1024) : (win0_5.blk t).view.emb (ix2 r k) = ix2 (row t r) k := by
  have e0 : t.val * 512 + r.val = (row t r).val := rfl
  blk_ext [ix_5]
theorem at_6 (t : Fin cfg0.N) (r : Fin 512) (k : Fin 1024) : (win0_6.blk t).view.emb (ix2 r k) = ix2 (row t r) k := by
  have e0 : t.val * 512 + r.val = (row t r).val := rfl
  blk_ext [ix_6]
theorem at_7 (t : Fin cfg0.N) (r : Fin 512) (k : Fin 1024) : (win0_7.blk t).view.emb (ix2 r k) = ix2 (row t r) k := by
  have e0 : t.val * 512 + r.val = (row t r).val := rfl
  blk_ext [ix_7]

variable (m : (ℓ : Loc nD τ sig) → Buf (Elt Ideal) ℓ) (c : Dev nD)

/-- The first argument, of the rows of activations. -/
def X : S8704x1024.Idx → EReal := m ((c.tc : Thread nD τ).loc main_arg0)
/-- The second argument, of the columns' gains. -/
def Gn : S1x1024.Idx → EReal := m ((c.tc : Thread nD τ).loc main_arg1)
/-- The third argument, of the four groups of weights. -/
def W : S4x1024x1024.Idx → EReal := m ((c.tc : Thread nD τ).loc main_arg2)

/-- The blocks of the three at a point. -/
def blkX (t : Fin cfg0.N) : S512x1024.Idx → EReal := iblk m c 0 t
def blkG (t : Fin cfg0.N) : S1x1024.Idx → EReal := iblk m c 1 t
def blkW (t : Fin cfg0.N) : S4x1024x1024.Idx → EReal := iblk m c 2 t

theorem in0 (t : Fin cfg0.N) (r : Fin 512) (k : Fin 1024) : blkX m c t (ix2 r k) = X m c (ix2 (row t r) k) := by
  unfold X blkX
  rw [← V_main_arg0 m c, ← at_0 t r k]; rfl
theorem in1 (t : Fin cfg0.N) (k : Fin 1024) : blkG m c t (ix2 0 k) = Gn m c (ix2 0 k) := by
  unfold Gn blkG
  rw [← V_main_arg1 m c]
  exact congrArg (V m c main_arg1) (at_1 t k)
theorem in2 (t : Fin cfg0.N) (j : Fin 4) (d e : Fin 1024) : blkW m c t (ix3 j d e) = W m c (ix3 j d e) := by
  unfold W blkW
  rw [← V_main_arg2 m c]
  exact congrArg (V m c main_arg2) (at_2 t j d e)

theorem normed_block (t : Fin cfg0.N) (r : Fin 512) (d : Fin 1024) :
    Cert.Proj.normed (blkX m c t) (blkG m c t) r d = Cert.Proj.normed (X m c) (Gn m c) (row t r) d :=
  Cert.Proj.normed_congr _ _ _ _ _ _ (in0 m c t r) (in1 m c t) d

theorem projected_block (t : Fin cfg0.N) (j : Fin 4) (r : Fin 512) (e : Fin 1024) :
    Cert.Proj.projected (blkX m c t) (blkG m c t) (blkW m c t) j r e = Cert.Proj.projected (X m c) (Gn m c) (W m c) j (row t r) e :=
  Finset.sum_congr rfl fun d _ => congrArg₂ (· * ·) (normed_block m c t r d) (in2 m c t j d e)

/-- The first result holds the normalized rows, … -/
theorem final_norm : (dats m 0 c).arrAt 3 cfg0.N = fun y : S8704x1024.Idx => Cert.Proj.normed (X m c) (Gn m c) (y 0) (y 1) := by
  refine (dats m 0 c).arrAt_eq_of_covers 3 (fun y : S8704x1024.Idx => Cert.Proj.normed (X m c) (Gn m c) (y 0) (y 1)) (by decide +kernel) fun t hf y => ?_
  blk_simp
  rw [after0_3]
  obtain ⟨a, b, rfl⟩ : ∃ (a : Fin 512) (b : Fin 1024), y = ix2 a b := ⟨y 0, y 1, eq_ix2 y⟩
  rw [at_3 t a b]
  exact (out_norm _ _ _ a b).trans (normed_block m c t a b)

/-- … and result 1 group 0 of their projection. -/
theorem final_group0 : (dats m 0 c).arrAt 4 cfg0.N = fun y : S8704x1024.Idx => Cert.Proj.projected (X m c) (Gn m c) (W m c) 0 (y 0) (y 1) := by
  refine (dats m 0 c).arrAt_eq_of_covers 4 (fun y : S8704x1024.Idx => Cert.Proj.projected (X m c) (Gn m c) (W m c) 0 (y 0) (y 1)) (by decide +kernel) fun t hf y => ?_
  blk_simp
  rw [after0_4]
  obtain ⟨a, b, rfl⟩ : ∃ (a : Fin 512) (b : Fin 1024), y = ix2 a b := ⟨y 0, y 1, eq_ix2 y⟩
  rw [at_4 t a b]
  exact (out_group0 _ _ _ a b).trans (projected_block m c t 0 a b)

/-- … and result 2 group 1 of their projection. -/
theorem final_group1 : (dats m 0 c).arrAt 5 cfg0.N = fun y : S8704x1024.Idx => Cert.Proj.projected (X m c) (Gn m c) (W m c) 1 (y 0) (y 1) := by
  refine (dats m 0 c).arrAt_eq_of_covers 5 (fun y : S8704x1024.Idx => Cert.Proj.projected (X m c) (Gn m c) (W m c) 1 (y 0) (y 1)) (by decide +kernel) fun t hf y => ?_
  blk_simp
  rw [after0_5]
  obtain ⟨a, b, rfl⟩ : ∃ (a : Fin 512) (b : Fin 1024), y = ix2 a b := ⟨y 0, y 1, eq_ix2 y⟩
  rw [at_5 t a b]
  exact (out_group1 _ _ _ a b).trans (projected_block m c t 1 a b)

/-- … and result 3 group 2 of their projection. -/
theorem final_group2 : (dats m 0 c).arrAt 6 cfg0.N = fun y : S8704x1024.Idx => Cert.Proj.projected (X m c) (Gn m c) (W m c) 2 (y 0) (y 1) := by
  refine (dats m 0 c).arrAt_eq_of_covers 6 (fun y : S8704x1024.Idx => Cert.Proj.projected (X m c) (Gn m c) (W m c) 2 (y 0) (y 1)) (by decide +kernel) fun t hf y => ?_
  blk_simp
  rw [after0_6]
  obtain ⟨a, b, rfl⟩ : ∃ (a : Fin 512) (b : Fin 1024), y = ix2 a b := ⟨y 0, y 1, eq_ix2 y⟩
  rw [at_6 t a b]
  exact (out_group2 _ _ _ a b).trans (projected_block m c t 2 a b)

/-- … and result 4 group 3 of their projection. -/
theorem final_group3 : (dats m 0 c).arrAt 7 cfg0.N = fun y : S8704x1024.Idx => Cert.Proj.projected (X m c) (Gn m c) (W m c) 3 (y 0) (y 1) := by
  refine (dats m 0 c).arrAt_eq_of_covers 7 (fun y : S8704x1024.Idx => Cert.Proj.projected (X m c) (Gn m c) (W m c) 3 (y 0) (y 1)) (by decide +kernel) fun t hf y => ?_
  blk_simp
  rw [after0_7]
  obtain ⟨a, b, rfl⟩ : ∃ (a : Fin 512) (b : Fin 1024), y = ix2 a b := ⟨y 0, y 1, eq_ix2 y⟩
  rw [at_7 t a b]
  exact (out_group3 _ _ _ a b).trans (projected_block m c t 3 a b)

end grid

end Cert.Kernel4Ideal.Np

end
-- ==== Proof.Kernel4Ideal.Algebraic.lean ====
/- The normalization and the projection: the kernel's five results are the reference's, over the reals. -/
module

public import proofs.«01_k».proof.Defs
public import proofs.«01_k».proof.Proof.Gen.Reference4Ideal
public import proofs.«01_k».proof.Proof.Gen.Reference4Ideal.Run
public import proofs.«01_k».proof.Proof.Kernel4Ideal.Rows

@[expose] public section

set_option maxRecDepth 16384

noncomputable section

namespace Cert.Reference4Ideal.Np

open Cert.Reference4Ideal Cert.Reference4Ideal.Gen
open Idealize.ShloMosaic hiding ix1 ix2 ix3 eq_ix2
open Idealize.ShloMosaic.TcCoe Idealize.SL.Sem
open Idealize.ShloMosaic.ValueIdx
open scoped BigOperators

/-- The reference's normalized rows. -/
def normRows (x : FVec Ideal S8704x1024 .f32) (g : FVec Ideal S1x1024 .f32) : FVec Ideal S8704x1024 .f32 :=
  mulf (mulf x (broadcastInDim S8704x1024 ![0, 1] bcast_S8704x1_S8704x1024_0_1 (Host.rsqrt (addf (Host.divf (broadcastInDim S8704x1 ![0] bcast_S8704_S8704x1_0 (Host.reduceAdd (mulf x x) (constant S_ .f32 0x00000000#32) reducesTo_S8704x1024_S8704_d1 h_S_)) (broadcastInDim S8704x1 ![] bcast_S_S8704x1 (constant S_ .f32 0x44800000#32))) (broadcastInDim S8704x1 ![] bcast_S_S8704x1 (constant S_ .f32 0x358637BD#32)))))) (broadcastInDim S8704x1024 ![0, 1] bcast_S1x1024_S8704x1024_0_1 g)

theorem normRows_apply (x : FVec Ideal S8704x1024 .f32) (g : FVec Ideal S1x1024 .f32) (r : Fin 8704) (d : Fin 1024) :
    normRows x g (ix2 r d) = Cert.Proj.normed x g r d :=
  Cert.Proj.host_normed x g reducesTo_S8704x1024_S8704_d1 h_S_ bcast_S8704x1_S8704x1024_0_1 bcast_S8704_S8704x1_0 bcast_S_S8704x1 bcast_S1x1024_S8704x1024_0_1 (by decide) r d

/-- The reference's first result. -/
theorem norm_eq (x : FVec Ideal S8704x1024 .f32) (g : FVec Ideal S1x1024 .f32) (y : S8704x1024.Idx) :
    truncf .bf16 (normRows x g) bitsLt_bf16_f32 y = Cert.Proj.normed x g (y 0) (y 1) := by
  obtain ⟨a, b, rfl⟩ : ∃ (a : Fin 8704) (b : Fin 1024), y = ix2 a b := ⟨y 0, y 1, eq_ix2 y⟩
  exact normRows_apply x g a b

/-- Group 0 of the columns of the reference's product. -/
theorem group0_eq (x : FVec Ideal S8704x1024 .f32) (g : FVec Ideal S1x1024 .f32) (w : FVec Ideal S4x1024x1024 .bf16) (y : S8704x1024.Idx) :
    extractStridedSlice S8704x1024 ![0, 0] (Host.dotGeneral dot_S8704x1024_S1024x4096_S8704x4096_1_0_0_1_n_n none (normRows x g) (shapeCast _ (transpose S1024x4x1024 [1, 0, 2] (extf .f32 w bitsLt_bf16_f32) transposes_S4x1024x1024_S1024x4x1024_1_0_2) shapeCasts_S1024x4x1024_S1024x4096)) slices_S8704x4096_S8704x1024_0_0 y = Cert.Proj.projected x g w 0 (y 0) (y 1) := by
  obtain ⟨a, b, rfl⟩ : ∃ (a : Fin 8704) (b : Fin 1024), y = ix2 a b := ⟨y 0, y 1, eq_ix2 y⟩
  refine (Cert.Proj.host_projected _ (normRows x g) (extf .f32 w bitsLt_bf16_f32) _ _ 0 0 rfl _ a b).trans ?_
  exact Finset.sum_congr rfl fun d _ => congrArg (· * w (ix3 0 d b)) (normRows_apply x g a d)

/-- Group 1 of the columns of the reference's product. -/
theorem group1_eq (x : FVec Ideal S8704x1024 .f32) (g : FVec Ideal S1x1024 .f32) (w : FVec Ideal S4x1024x1024 .bf16) (y : S8704x1024.Idx) :
    extractStridedSlice S8704x1024 ![0, 1024] (Host.dotGeneral dot_S8704x1024_S1024x4096_S8704x4096_1_0_0_1_n_n none (normRows x g) (shapeCast _ (transpose S1024x4x1024 [1, 0, 2] (extf .f32 w bitsLt_bf16_f32) transposes_S4x1024x1024_S1024x4x1024_1_0_2) shapeCasts_S1024x4x1024_S1024x4096)) slices_S8704x4096_S8704x1024_0_1024 y = Cert.Proj.projected x g w 1 (y 0) (y 1) := by
  obtain ⟨a, b, rfl⟩ : ∃ (a : Fin 8704) (b : Fin 1024), y = ix2 a b := ⟨y 0, y 1, eq_ix2 y⟩
  refine (Cert.Proj.host_projected _ (normRows x g) (extf .f32 w bitsLt_bf16_f32) _ _ 1 1024 rfl _ a b).trans ?_
  exact Finset.sum_congr rfl fun d _ => congrArg (· * w (ix3 1 d b)) (normRows_apply x g a d)

/-- Group 2 of the columns of the reference's product. -/
theorem group2_eq (x : FVec Ideal S8704x1024 .f32) (g : FVec Ideal S1x1024 .f32) (w : FVec Ideal S4x1024x1024 .bf16) (y : S8704x1024.Idx) :
    extractStridedSlice S8704x1024 ![0, 2048] (Host.dotGeneral dot_S8704x1024_S1024x4096_S8704x4096_1_0_0_1_n_n none (normRows x g) (shapeCast _ (transpose S1024x4x1024 [1, 0, 2] (extf .f32 w bitsLt_bf16_f32) transposes_S4x1024x1024_S1024x4x1024_1_0_2) shapeCasts_S1024x4x1024_S1024x4096)) slices_S8704x4096_S8704x1024_0_2048 y = Cert.Proj.projected x g w 2 (y 0) (y 1) := by
  obtain ⟨a, b, rfl⟩ : ∃ (a : Fin 8704) (b : Fin 1024), y = ix2 a b := ⟨y 0, y 1, eq_ix2 y⟩
  refine (Cert.Proj.host_projected _ (normRows x g) (extf .f32 w bitsLt_bf16_f32) _ _ 2 2048 rfl _ a b).trans ?_
  exact Finset.sum_congr rfl fun d _ => congrArg (· * w (ix3 2 d b)) (normRows_apply x g a d)

/-- Group 3 of the columns of the reference's product. -/
theorem group3_eq (x : FVec Ideal S8704x1024 .f32) (g : FVec Ideal S1x1024 .f32) (w : FVec Ideal S4x1024x1024 .bf16) (y : S8704x1024.Idx) :
    extractStridedSlice S8704x1024 ![0, 3072] (Host.dotGeneral dot_S8704x1024_S1024x4096_S8704x4096_1_0_0_1_n_n none (normRows x g) (shapeCast _ (transpose S1024x4x1024 [1, 0, 2] (extf .f32 w bitsLt_bf16_f32) transposes_S4x1024x1024_S1024x4x1024_1_0_2) shapeCasts_S1024x4x1024_S1024x4096)) slices_S8704x4096_S8704x1024_0_3072 y = Cert.Proj.projected x g w 3 (y 0) (y 1) := by
  obtain ⟨a, b, rfl⟩ : ∃ (a : Fin 8704) (b : Fin 1024), y = ix2 a b := ⟨y 0, y 1, eq_ix2 y⟩
  refine (Cert.Proj.host_projected _ (normRows x g) (extf .f32 w bitsLt_bf16_f32) _ _ 3 3072 rfl _ a b).trans ?_
  exact Finset.sum_congr rfl fun d _ => congrArg (· * w (ix3 3 d b)) (normRows_apply x g a d)

end Cert.Reference4Ideal.Np

namespace Cert.Kernel4Ideal.Np

open Idealize.ShloMosaic Idealize.ShloMosaic.TcCoe Idealize.SL.Sem

/-- The kernel's five results are the reference's. -/
theorem algebraic : Cert.algebraic_Kernel4Ideal_Reference4Ideal := by
  intro m g m' g' _ hin
  refine ⟨fun c => (Cert.Kernel4Ideal.Gen.dats m 0 c).arrAt 3 Cert.Kernel4Ideal.cfg0.N,
    fun c => (Cert.Kernel4Ideal.Gen.dats m 0 c).arrAt 4 Cert.Kernel4Ideal.cfg0.N,
    fun c => (Cert.Kernel4Ideal.Gen.dats m 0 c).arrAt 5 Cert.Kernel4Ideal.cfg0.N,
    fun c => (Cert.Kernel4Ideal.Gen.dats m 0 c).arrAt 6 Cert.Kernel4Ideal.cfg0.N,
    fun c => (Cert.Kernel4Ideal.Gen.dats m 0 c).arrAt 7 Cert.Kernel4Ideal.cfg0.N,
    Cert.Kernel4Ideal.Value.run_blocks m g, ?_⟩
  refine (θ_run _ _ _).mono (fun r h c => ?_) (Cert.Reference4Ideal.Value.run m' g')
  obtain ⟨e0, e1, e2, e3, e4, k⟩ := h c
  obtain ⟨a0, a1, a2⟩ := hin c
  refine ⟨e0.trans ?_, e1.trans ?_, e2.trans ?_, e3.trans ?_, e4.trans ?_, k⟩
  · rw [a0, a1]
    exact (funext fun y => Cert.Reference4Ideal.Np.norm_eq (X m c) (Gn m c) y).trans (final_norm m c).symm
  · rw [a0, a1, a2]
    exact (funext fun y => Cert.Reference4Ideal.Np.group0_eq (X m c) (Gn m c) (W m c) y).trans (final_group0 m c).symm
  · rw [a0, a1, a2]
    exact (funext fun y => Cert.Reference4Ideal.Np.group1_eq (X m c) (Gn m c) (W m c) y).trans (final_group1 m c).symm
  · rw [a0, a1, a2]
    exact (funext fun y => Cert.Reference4Ideal.Np.group2_eq (X m c) (Gn m c) (W m c) y).trans (final_group2 m c).symm
  · rw [a0, a1, a2]
    exact (funext fun y => Cert.Reference4Ideal.Np.group3_eq (X m c) (Gn m c) (W m c) y).trans (final_group3 m c).symm

end Cert.Kernel4Ideal.Np

end
-- ==== Proof.Proj.Pull.lean ====
/- The derivative of the normalization of a row: the kernel's form and the reference's are the same extended real. -/
module

public import proofs.«01_k».proof.Proof.Proj.Norm

@[expose] public section

noncomputable section

namespace Cert.Proj

open Idealize.ShloMosaic hiding ix1 ix2 ix3
open Idealize.ShloMosaic.ValueIdx
open scoped BigOperators

/-- The number of columns. -/
theorem width : Ideal.ofBits .f32 0x44800000#32 = ((1024 : ℝ) : EReal) := by
  simp [Ideal.ofBits, Ideal.ieee, -EReal.coe_mul]
  norm_num

/-- Minus one half. -/
theorem minus_half : Ideal.ofBits .f32 0xBF000000#32 = ((-(1 / 2) : ℝ) : EReal) := by
  simp [Ideal.ofBits, Ideal.ieee, -EReal.coe_mul]
  norm_num

/-- The small constant is positive. -/
theorem small_pos : 0 < Ideal.ofBits .f32 0x358637BD#32 := by
  simp [Ideal.ofBits, Ideal.ieee, -EReal.coe_mul]

/-- Over a positive number the inverse root is a real number, not negative, and its quotient by the number is its cube. -/
theorem inverse_root (s : EReal) (hs : 0 < s) :
    ∃ ρ : ℝ, 0 ≤ ρ ∧ Ideal.rsqrt s = (ρ : EReal) ∧ Ideal.div (Ideal.rsqrt s) s = ((ρ * ρ * ρ : ℝ) : EReal) := by
  induction s with
  | bot => exact absurd hs (by simp)
  | top =>
    refine ⟨0, le_rfl, rfl, ?_⟩
    show (if (⊤ : EReal) = 0 then _ else (0 : EReal) * _) = _
    rw [if_neg (by simp), zero_mul]
    simp
  | coe a =>
    have ha : 0 < a := EReal.coe_pos.1 hs
    have hq : Ideal.rsqrt (a : EReal) = (((Real.sqrt a)⁻¹ : ℝ) : EReal) := by
      show (if a < 0 then _ else if a = 0 then _ else _) = _
      rw [if_neg ha.not_gt, if_neg ha.ne']
    refine ⟨(Real.sqrt a)⁻¹, inv_nonneg.2 (Real.sqrt_nonneg a), hq, ?_⟩
    rw [hq, Ideal.div, if_neg (by simpa using ha.ne'), ← EReal.coe_inv, ← EReal.coe_mul]
    congr 1
    have h := Real.mul_self_sqrt ha.le
    rw [mul_assoc (Real.sqrt a)⁻¹ (Real.sqrt a)⁻¹, ← mul_inv (Real.sqrt a) (Real.sqrt a), h]

/-- A real factor that is not negative comes out of a sum. -/
theorem sum_scale {n : ℕ} (f : Fin n → EReal) (ρ : ℝ) (hρ : 0 ≤ ρ) : ∑ k, f k * (ρ : EReal) = (∑ k, f k) * (ρ : EReal) := by
  have h : ∀ S : Finset (Fin n), ∑ k ∈ S, f k * (ρ : EReal) = (∑ k ∈ S, f k) * (ρ : EReal) := fun S => by
    induction S using Finset.induction_on with
    | empty => simp
    | insert a S ha ih =>
      rw [Finset.sum_insert ha, Finset.sum_insert ha, ih,
        EReal.right_distrib_of_nonneg_of_ne_top (EReal.coe_nonneg.2 hρ) (EReal.coe_ne_top ρ)]
  exact h Finset.univ

/-- A quotient by the number of columns. -/
theorem div_width (a : EReal) : Ideal.div a (Ideal.ofBits .f32 0x44800000#32) = a * ((1 / 1024 : ℝ) : EReal) := by
  have h : ((1024 : ℝ) : EReal) ≠ 0 := by norm_num
  rw [width, Ideal.div, if_neg h, ← EReal.coe_inv, one_div]

/-- The two forms of the derivative at one entry: `s` is the mean square plus the small constant, `A` the sum of the row's
    entries times what arrives at the normalized row. -/
theorem pull_eq (s x z A u : EReal) (hs : 0 < s) :
    u + Ideal.rsqrt s * (z - x * Ideal.rsqrt s * Ideal.div (A * Ideal.rsqrt s) (Ideal.ofBits .f32 0x44800000#32))
      = ((u + z * Ideal.rsqrt s)
          + x * Ideal.div (A * (Ideal.ofBits .f32 0xBF000000#32 * Ideal.div (Ideal.rsqrt s) s)) (Ideal.ofBits .f32 0x44800000#32))
        + Ideal.div (A * (Ideal.ofBits .f32 0xBF000000#32 * Ideal.div (Ideal.rsqrt s) s)) (Ideal.ofBits .f32 0x44800000#32) * x := by
  obtain ⟨ρ, hρ, h1, h2⟩ := inverse_root s hs
  rw [h2, h1, div_width, div_width, minus_half, ← EReal.coe_mul, mul_assoc A, ← EReal.coe_mul, mul_assoc A, ← EReal.coe_mul]
  have hκ : 0 ≤ ρ * ρ * ρ * (1 / 1024) / 2 := by positivity
  have e1 : (ρ : EReal) * (x * ρ * (A * ((ρ * (1 / 1024) : ℝ) : EReal))) = x * A * ((ρ * ρ * ρ * (1 / 1024) : ℝ) : EReal) := by
    have : ((ρ * ρ * ρ * (1 / 1024) : ℝ) : EReal) = (ρ : EReal) * (ρ : EReal) * ((ρ * (1 / 1024) : ℝ) : EReal) := by
      rw [← EReal.coe_mul, ← EReal.coe_mul]; congr 1; ring
    rw [this]
    ac_rfl
  have e2 : A * ((-(1 / 2) * (ρ * ρ * ρ) * (1 / 1024) : ℝ) : EReal) = -(A * ((ρ * ρ * ρ * (1 / 1024) / 2 : ℝ) : EReal)) := by
    rw [← mul_neg, ← EReal.coe_neg]; congr 2; ring
  rw [e2, sub_eq_add_neg, EReal.left_distrib_of_nonneg_of_ne_top (EReal.coe_nonneg.2 hρ) (EReal.coe_ne_top ρ), mul_neg, e1]
  have e3 : -(x * A * ((ρ * ρ * ρ * (1 / 1024) : ℝ) : EReal))
      = x * -(A * ((ρ * ρ * ρ * (1 / 1024) / 2 : ℝ) : EReal)) + -(A * ((ρ * ρ * ρ * (1 / 1024) / 2 : ℝ) : EReal)) * x := by
    have h : x * -(A * ((ρ * ρ * ρ * (1 / 1024) / 2 : ℝ) : EReal)) = -(x * A) * ((ρ * ρ * ρ * (1 / 1024) / 2 : ℝ) : EReal) := by
      rw [mul_neg, neg_mul, mul_assoc x]
    rw [mul_comm (-(A * _)) x, h, ← EReal.left_distrib_of_nonneg (EReal.coe_nonneg.2 hκ) (EReal.coe_nonneg.2 hκ), ← EReal.coe_add, neg_mul]
    congr 3; ring
  rw [e3, mul_comm z, add_assoc, add_assoc]

/-- The mean square plus the small constant is positive. -/
theorem square_pos {n : ℕ} (f : Fin n → EReal) :
    0 < Ideal.div (∑ k, f k * f k) (Ideal.ofBits .f32 0x44800000#32) + Ideal.ofBits .f32 0x358637BD#32 := by
  rw [div_width]
  have h : ∀ a : EReal, 0 ≤ a * a := fun a => by
    rcases le_total 0 a with ha | ha
    · exact mul_nonneg ha ha
    · rw [← neg_mul_neg]
      exact mul_nonneg (EReal.neg_nonneg.2 ha) (EReal.neg_nonneg.2 ha)
  exact lt_of_lt_of_le small_pos (le_add_of_nonneg_left (mul_nonneg (Finset.sum_nonneg fun k _ => h _) (EReal.coe_nonneg.2 (by norm_num))))

variable {R : ℕ}

/-- What arrives at column `k` of row `r` of the normalized rows: the four groups' gradients times their weights. -/
def spread (d : Fin 4 → (⟨2, ![R, 1024]⟩ : Shape).Idx → EReal) (w : (⟨3, ![4, 1024, 1024]⟩ : Shape).Idx → EReal) (r : Fin R) (k : Fin 1024) : EReal :=
  ∑ j : Fin 4, ∑ e : Fin 1024, d j (ix2 r e) * w (ix3 j k e)

/-- What arrives at column `k` of row `r`, through the normalization. -/
def pulled (x : (⟨2, ![R, 1024]⟩ : Shape).Idx → EReal) (g : (⟨2, ![1, 1024]⟩ : Shape).Idx → EReal) (y : Fin R → Fin 1024 → EReal) (r : Fin R) (k : Fin 1024) : EReal :=
  scale x r * (y r k * g (ix2 0 k)
    - x (ix2 r k) * scale x r * Ideal.div (∑ i : Fin 1024, y r i * g (ix2 0 i) * (x (ix2 r i) * scale x r)) (Ideal.ofBits .f32 0x44800000#32))

/-- One row's term of the gradient of the gain of column `k`. -/
def gainTerm (x : (⟨2, ![R, 1024]⟩ : Shape).Idx → EReal) (y : Fin R → Fin 1024 → EReal) (r : Fin R) (k : Fin 1024) : EReal :=
  y r k * (x (ix2 r k) * scale x r)

/-- Neither depends on the rows around the row. -/
theorem pulled_congr {R' : ℕ} (x : (⟨2, ![R, 1024]⟩ : Shape).Idx → EReal) (x' : (⟨2, ![R', 1024]⟩ : Shape).Idx → EReal)
    (g g' : (⟨2, ![1, 1024]⟩ : Shape).Idx → EReal) (y : Fin R → Fin 1024 → EReal) (y' : Fin R' → Fin 1024 → EReal) (r : Fin R) (r' : Fin R')
    (hx : ∀ k, x (ix2 r k) = x' (ix2 r' k)) (hg : ∀ k, g (ix2 0 k) = g' (ix2 0 k)) (hy : ∀ k, y r k = y' r' k) (k : Fin 1024) :
    pulled x g y r k = pulled x' g' y' r' k := by
  unfold pulled
  rw [scale_congr x x' r r' hx, hx, hy, hg, Finset.sum_congr rfl fun i _ => by rw [hx i, hy i, hg i]]

theorem gainTerm_congr {R' : ℕ} (x : (⟨2, ![R, 1024]⟩ : Shape).Idx → EReal) (x' : (⟨2, ![R', 1024]⟩ : Shape).Idx → EReal)
    (y : Fin R → Fin 1024 → EReal) (y' : Fin R' → Fin 1024 → EReal) (r : Fin R) (r' : Fin R')
    (hx : ∀ k, x (ix2 r k) = x' (ix2 r' k)) (hy : ∀ k, y r k = y' r' k) (k : Fin 1024) : gainTerm x y r k = gainTerm x' y' r' k := by
  unfold gainTerm
  rw [scale_congr x x' r r' hx, hx, hy]

section block

variable (hr : (⟨2, ![R, 1024]⟩ : Shape).Reduces [1] ⟨1, ![R]⟩) (hc : (⟨1, ![R]⟩ : Shape).ShapeCasts ⟨2, ![R, 1]⟩)
  (hb : (⟨2, ![R, 1]⟩ : Shape).Broadcasts ⟨2, ![R, 1024]⟩) (hg : (⟨2, ![1, 1024]⟩ : Shape).Broadcasts ⟨2, ![R, 1024]⟩) (hR : R ≠ 1)
  (x : FVec Ideal ⟨2, ![R, 1024]⟩ .f32) (g : FVec Ideal ⟨2, ![1, 1024]⟩ .f32) (y u : FVec Ideal ⟨2, ![R, 1024]⟩ .f32)
  (q : FVec Ideal ⟨2, ![R, 1]⟩ .f32) (hq : ∀ r, q (ix2 r 0) = scale x r) (r : Fin R) (k : Fin 1024)

include hR hq in
/-- The kernel's derivative of the normalization of a block of rows. -/
theorem block_pulled :
    mulf (broadcastTo ⟨2, ![R, 1024]⟩ q hb) (subf (mulf y (broadcastTo ⟨2, ![R, 1024]⟩ g hg))
      (mulf (mulf x (broadcastTo ⟨2, ![R, 1024]⟩ q hb)) (broadcastTo ⟨2, ![R, 1024]⟩ (divf
        (shapeCast ⟨2, ![R, 1]⟩ (multiReduction .add [1] ⟨1, ![R]⟩ (mulf (mulf y (broadcastTo ⟨2, ![R, 1024]⟩ g hg)) (mulf x (broadcastTo ⟨2, ![R, 1024]⟩ q hb)))
          0x00000000#32 hr (.inl rfl) rfl) hc) (broadcast ⟨2, ![R, 1]⟩ (Scalar.ofBits .f32 0x44800000#32))) hb))) (ix2 r k)
      = pulled x g (fun r k => y (ix2 r k)) r k := by
  have eq : broadcastTo ⟨2, ![R, 1024]⟩ q hb (ix2 r k) = scale x r := (block_rows hb hR q r k).trans (hq r)
  refine congrArg₂ (· * ·) eq (congrArg₂ (· - ·) (congrArg (y (ix2 r k) * ·) (block_columns hg g r k))
    (congrArg₂ (· * ·) (congrArg (x (ix2 r k) * ·) eq) ((block_rows hb hR _ r k).trans ?_)))
  refine congrArg (fun z => Ideal.div z (Ideal.ofBits .f32 0x44800000#32)) ((block_sum _ hr hc r).trans (Finset.sum_congr rfl fun i _ => ?_))
  exact congrArg₂ (· * ·) (congrArg (y (ix2 r i) * ·) (block_columns hg g r i)) (congrArg (x (ix2 r i) * ·) ((block_rows hb hR q r i).trans (hq r)))

include hR hq in
/-- The kernel's sum of a block's terms of the gradient of the gain. -/
theorem block_gain (h0 : (⟨2, ![R, 1024]⟩ : Shape).Reduces [0] ⟨1, ![1024]⟩) (hs : (⟨1, ![1024]⟩ : Shape).ShapeCasts ⟨2, ![1, 1024]⟩) :
    shapeCast ⟨2, ![1, 1024]⟩ (multiReduction .add [0] ⟨1, ![1024]⟩ (mulf y (mulf x (broadcastTo ⟨2, ![R, 1024]⟩ q hb))) 0x00000000#32 h0 (.inl rfl) rfl) hs (ix2 0 k)
      = ∑ r : Fin R, gainTerm x (fun r k => y (ix2 r k)) r k := by
  refine (shapeCast_apply _ _ _ (ix1 k) (by rw [Shape.rowMajor_val_one, Shape.rowMajor_val_two]; exact (Nat.zero_add _).symm)).trans ?_
  refine (Ideal.reduceAdd_r2_a0 h0 _ (ix1 k)).trans (Finset.sum_congr rfl fun r _ => ?_)
  exact congrArg (y (ix2 r k) * ·) (congrArg (x (ix2 r k) * ·) ((block_rows hb hR q r k).trans (hq r)))

end block

section host

variable (hr : (⟨2, ![R, 1024]⟩ : Shape).ReducesTo [1] ⟨1, ![R]⟩) (hr1 : (⟨2, ![R, 1]⟩ : Shape).ReducesTo [1] ⟨1, ![R]⟩) (h0 : 0 < (⟨0, ![]⟩ : Shape).numel)
  (hc : (⟨1, ![R]⟩ : Shape).ShapeCasts ⟨2, ![R, 1]⟩)
  (h1 : (⟨2, ![R, 1]⟩ : Shape).BroadcastsInDim ⟨2, ![R, 1024]⟩ ![0, 1]) (h3 : (⟨0, ![]⟩ : Shape).BroadcastsInDim ⟨2, ![R, 1]⟩ ![])
  (h4 : (⟨2, ![1, 1024]⟩ : Shape).BroadcastsInDim ⟨2, ![R, 1024]⟩ ![0, 1]) (h5 : (⟨1, ![R]⟩ : Shape).BroadcastsInDim ⟨2, ![R, 1024]⟩ ![0]) (hR : R ≠ 1)
  (x : FVec Ideal ⟨2, ![R, 1024]⟩ .f32) (g : FVec Ideal ⟨2, ![1, 1024]⟩ .f32) (y u : FVec Ideal ⟨2, ![R, 1024]⟩ .f32)
  (s : FVec Ideal ⟨2, ![R, 1]⟩ .f32)
  (hs : ∀ r, s (ix2 r 0) = Ideal.div (∑ k : Fin 1024, x (ix2 r k) * x (ix2 r k)) (Ideal.ofBits .f32 0x44800000#32) + Ideal.ofBits .f32 0x358637BD#32)
  (r : Fin R) (k : Fin 1024)

/-- The part of the reference's derivative that comes through the mean square, one number for each row. -/
def meanPart : FVec Ideal ⟨1, ![R]⟩ .f32 :=
  Host.reduceAdd (Host.divf (mulf (shapeCast ⟨2, ![R, 1]⟩ (Host.reduceAdd (mulf x (mulf y (broadcastInDim ⟨2, ![R, 1024]⟩ ![0, 1] h4 g)))
      (constant ⟨0, ![]⟩ .f32 0x00000000#32) hr h0) hc)
      (mulf (broadcastInDim ⟨2, ![R, 1]⟩ ![] h3 (constant ⟨0, ![]⟩ .f32 0xBF000000#32)) (Host.divf (Host.rsqrt s) s)))
    (broadcastInDim ⟨2, ![R, 1]⟩ ![] h3 (constant ⟨0, ![]⟩ .f32 0x44800000#32))) (constant ⟨0, ![]⟩ .f32 0x00000000#32) hr1 h0

theorem meanPart_apply : meanPart hr hr1 h0 hc h3 h4 x g y s (ix1 r)
    = Ideal.div ((∑ i : Fin 1024, x (ix2 r i) * (y (ix2 r i) * g (ix2 0 i)))
        * (Ideal.ofBits .f32 0xBF000000#32 * Ideal.div (Ideal.rsqrt (s (ix2 r 0))) (s (ix2 r 0)))) (Ideal.ofBits .f32 0x44800000#32) := by
  refine (Ideal.hostReduceAdd_r2_a1 hr1 _ _ (ix1 r)).trans ?_
  show Ideal.ofBits .f32 0x00000000#32 + _ = _
  rw [Ideal.ofBits_zero_f32, zero_add, Fin.sum_univ_one]
  refine congrArg₂ Ideal.div (congrArg₂ (· * ·) ?_ (congrArg (· * Ideal.div (Ideal.rsqrt (s (ix2 r 0))) (s (ix2 r 0))) (broadcastInDim_scalar_apply _ _ _)))
    (broadcastInDim_scalar_apply _ _ _)
  refine (shapeCast_apply _ _ _ (ix1 r) (by rw [Shape.rowMajor_val_one, Shape.rowMajor_val_two]; exact (Nat.mul_one _).symm)).trans ?_
  refine (host_sum _ hr h0 r).trans (Finset.sum_congr rfl fun i _ => ?_)
  exact congrArg (x (ix2 r i) * ·) (congrArg (y (ix2 r i) * ·) (host_columns h4 g r i))

include hR hs in
/-- The reference's derivative is the kernel's. -/
theorem host_pulled :
    addf (addf (addf u (mulf (mulf y (broadcastInDim ⟨2, ![R, 1024]⟩ ![0, 1] h4 g)) (broadcastInDim ⟨2, ![R, 1024]⟩ ![0, 1] h1 (Host.rsqrt s))))
        (mulf x (broadcastInDim ⟨2, ![R, 1024]⟩ ![0] h5 (meanPart hr hr1 h0 hc h3 h4 x g y s))))
      (mulf (broadcastInDim ⟨2, ![R, 1024]⟩ ![0] h5 (meanPart hr hr1 h0 hc h3 h4 x g y s)) x) (ix2 r k)
      = u (ix2 r k) + pulled x g (fun r k => y (ix2 r k)) r k := by
  have em : broadcastInDim ⟨2, ![R, 1024]⟩ ![0] h5 (meanPart hr hr1 h0 hc h3 h4 x g y s) (ix2 r k) = meanPart hr hr1 h0 hc h3 h4 x g y s (ix1 r) :=
    broadcastInDim_apply _ _ _ _ _ (fun a => by
      match a with
      | ⟨0, _⟩ => exact (if_neg hR).symm)
  have em := em.trans (meanPart_apply hr hr1 h0 hc h3 h4 x g y s r)
  have ez : mulf y (broadcastInDim ⟨2, ![R, 1024]⟩ ![0, 1] h4 g) (ix2 r k) = y (ix2 r k) * g (ix2 0 k) := congrArg (y (ix2 r k) * ·) (host_columns h4 g r k)
  have eq : broadcastInDim ⟨2, ![R, 1024]⟩ ![0, 1] h1 (Host.rsqrt s) (ix2 r k) = Ideal.rsqrt (s (ix2 r 0)) := host_rows h1 hR _ r k
  refine (congrArg₂ (· + ·) (congrArg₂ (· + ·) (congrArg (u (ix2 r k) + ·) (congrArg₂ (· * ·) ez eq)) (congrArg (x (ix2 r k) * ·) em))
    (congrArg (· * x (ix2 r k)) em)).trans ?_
  have hpos : 0 < s (ix2 r 0) := by rw [hs]; exact square_pos _
  refine (pull_eq (s (ix2 r 0)) (x (ix2 r k)) (y (ix2 r k) * g (ix2 0 k)) (∑ i : Fin 1024, x (ix2 r i) * (y (ix2 r i) * g (ix2 0 i))) (u (ix2 r k)) hpos).symm.trans ?_
  have e1 : Ideal.rsqrt (s (ix2 r 0)) = scale x r := by rw [hs]; rfl
  have e2 : (∑ i : Fin 1024, x (ix2 r i) * (y (ix2 r i) * g (ix2 0 i))) * scale x r = ∑ i : Fin 1024, y (ix2 r i) * g (ix2 0 i) * (x (ix2 r i) * scale x r) := by
    obtain ⟨ρ, hρ, h, _⟩ := inverse_root (s (ix2 r 0)) hpos
    rw [← e1, h, ← sum_scale _ ρ hρ]
    exact Finset.sum_congr rfl fun i _ => by ac_rfl
  rw [e1, e2]
  rfl

include hR hs in
/-- The reference's gradient of the gain. -/
theorem host_gain (hr0 : (⟨2, ![R, 1024]⟩ : Shape).ReducesTo [0] ⟨1, ![1024]⟩) (hcg : (⟨1, ![1024]⟩ : Shape).ShapeCasts ⟨2, ![1, 1024]⟩) :
    shapeCast ⟨2, ![1, 1024]⟩ (Host.reduceAdd (mulf (mulf x (broadcastInDim ⟨2, ![R, 1024]⟩ ![0, 1] h1 (Host.rsqrt s))) y) (constant ⟨0, ![]⟩ .f32 0x00000000#32) hr0 h0) hcg (ix2 0 k)
      = ∑ r : Fin R, gainTerm x (fun r k => y (ix2 r k)) r k := by
  refine (shapeCast_apply _ _ _ (ix1 k) (by rw [Shape.rowMajor_val_one, Shape.rowMajor_val_two]; exact (Nat.zero_add _).symm)).trans ?_
  refine (Ideal.hostReduceAdd_r2_a0 hr0 _ _ (ix1 k)).trans ?_
  show Ideal.ofBits .f32 0x00000000#32 + _ = _
  rw [Ideal.ofBits_zero_f32, zero_add]
  refine Finset.sum_congr rfl fun r _ => ?_
  have e1 : Ideal.rsqrt (s (ix2 r 0)) = scale x r := by rw [hs]; rfl
  refine Eq.trans (congrArg (· * y (ix2 r k)) (congrArg (x (ix2 r k) * ·) ((host_rows h1 hR _ r k).trans e1))) ?_
  exact mul_comm _ _

end host

/-- One group's gradients times its weights, of a block of rows. -/
theorem block_group (wf : DotDims.WF ⟨2, ![R, 1024]⟩ ⟨2, ![1024, 1024]⟩ ⟨2, ![R, 1024]⟩ [1] [1] [0] [0] [] [])
    (d : FVec Ideal ⟨2, ![R, 1024]⟩ .bf16) (w : FVec Ideal ⟨3, ![1, 1024, 1024]⟩ .bf16) (hc : (⟨3, ![1, 1024, 1024]⟩ : Shape).ShapeCasts ⟨2, ![1024, 1024]⟩)
    (r : Fin R) (k : Fin 1024) :
    matmul (⟨[1], [1], [0], [0], [], [], wf⟩ : DotDims ⟨2, ![R, 1024]⟩ ⟨2, ![1024, 1024]⟩ ⟨2, ![R, 1024]⟩) none d (shapeCast ⟨2, ![1024, 1024]⟩ w hc)
      (constant ⟨2, ![R, 1024]⟩ .f32 0x00000000#32) (ix2 r k) = ∑ e : Fin 1024, d (ix2 r e) * w (ix3 0 k e) := by
  refine (matmul_columns_apply wf d _ r k).trans (Finset.sum_congr rfl fun e _ => congrArg (d (ix2 r e) * ·) ?_)
  exact shapeCast_apply _ _ _ (ix3 0 k e) (by
    rw [Shape.rowMajor_val_three, Shape.rowMajor_val_two]
    show (0 * 1024 + k.val) * 1024 + e.val = k.val * 1024 + e.val
    omega)

/-- The reference's one product of the four groups' gradients, side by side, with the weights, side by side. -/
theorem host_spread (wf : DotDims.WF ⟨2, ![R, 4096]⟩ ⟨2, ![1024, 4096]⟩ ⟨2, ![R, 1024]⟩ [1] [1] [0] [0] [] [])
    (d0 d1 d2 d3 : FVec Ideal ⟨2, ![R, 1024]⟩ .f32) (w : FVec Ideal ⟨3, ![4, 1024, 1024]⟩ .f32)
    (hd : Shape.Concatenates [⟨2, ![R, 1024]⟩, ⟨2, ![R, 1024]⟩, ⟨2, ![R, 1024]⟩, ⟨2, ![R, 1024]⟩] ⟨2, ![R, 4096]⟩ 1)
    (ht : (⟨3, ![4, 1024, 1024]⟩ : Shape).Transposes [1, 0, 2] ⟨3, ![1024, 4, 1024]⟩) (hc : (⟨3, ![1024, 4, 1024]⟩ : Shape).ShapeCasts ⟨2, ![1024, 4096]⟩)
    (r : Fin R) (k : Fin 1024) :
    Host.dotGeneral (F := Ideal) (φ₁ := .f32) (φ₂ := .f32) (⟨[1], [1], [0], [0], [], [], wf⟩ : DotDims ⟨2, ![R, 4096]⟩ ⟨2, ![1024, 4096]⟩ ⟨2, ![R, 1024]⟩) none
      (concatenate ⟨2, ![R, 4096]⟩ 1 [⟨⟨2, ![R, 1024]⟩, d0⟩, ⟨⟨2, ![R, 1024]⟩, d1⟩, ⟨⟨2, ![R, 1024]⟩, d2⟩, ⟨⟨2, ![R, 1024]⟩, d3⟩] hd)
      (shapeCast ⟨2, ![1024, 4096]⟩ (transpose ⟨3, ![1024, 4, 1024]⟩ [1, 0, 2] w ht) hc) (ix2 r k) = spread ![d0, d1, d2, d3] w r k := by
  refine (dot_columns_apply (φ₁ := .f32) (φ₂ := .f32) wf _ _ r k).trans ?_
  refine (Equiv.sum_comp (finProdFinEquiv (m := 4) (n := 1024)) _).symm.trans ((Fintype.sum_prod_type _).trans ?_)
  refine Finset.sum_congr rfl fun j _ => Finset.sum_congr rfl fun e _ => ?_
  refine congrArg₂ (· * ·) ?_ ?_
  · refine concatenate_ofFn_apply (t := ⟨2, ![R, 4096]⟩) (s₁ := ⟨2, ![R, 1024]⟩) 1 (N := 4) (![d0, d1, d2, d3] : Fin 4 → FVec Ideal ⟨2, ![R, 1024]⟩ .f32) hd rfl 1024 rfl _ j ?_ (ix2 r e) ?_ ?_
    · show (e.val + 1024 * j.val) / 1024 = j.val
      omega
    · show e.val = (e.val + 1024 * j.val) % 1024
      omega
    · intro b hb
      match b with
      | ⟨0, _⟩ => rfl
      | ⟨1, _⟩ => exact absurd rfl hb
  · refine (shapeCast_apply _ _ _ (ix3 k j e) (by
      rw [Shape.rowMajor_val_three, Shape.rowMajor_val_two]
      show (k.val * 4 + j.val) * 1024 + e.val = k.val * 4096 + (e.val + 1024 * j.val)
      omega)).trans ?_
    exact transpose_apply _ _ _ _ (ix3 j k e) (fun b => by
      match b with
      | ⟨0, _⟩ => rfl
      | ⟨1, _⟩ => rfl
      | ⟨2, _⟩ => rfl)

end Cert.Proj

end
-- ==== Proof.Proj.Loads.lean ====
/- What a block read whole reads as, and what a whole store leaves. -/
module

public import proofs.«01_k».proof.Proof.Proj.Blocks
public import Idealize.ShloMosaic.Lib.WritesUnit

@[expose] public section

noncomputable section

namespace Cert.Proj

open Idealize.ShloMosaic Idealize.ShloMosaic.ValueIdx

variable {sig : RefSig} {s : Shape} {e : EltTy} {off : Fin s.rank → ℕ}

/-- A block read whole is what it holds, … -/
theorem read_whole (v : View sig .tc .vmem s e) (f : v.ty.Contents (Elt Ideal)) (inb : ∀ a, off a + s.size a ≤ s.size a) :
    View.readAt (Elt Ideal) v (Rect.unit (s := s) off s.size inb).toLoadRect f = v.read (Elt Ideal) f := by
  funext y
  rw [View.readAt_apply]
  exact congrArg (v.read (Elt Ideal) f) (whole_idx inb y)

/-- … where it holds a given value, that value. -/
theorem read_held (a : Memref sig .tc .vmem s e) (ha : a.IsWhole) (x : Vec Ideal s e) (inb : ∀ a, off a + s.size a ≤ s.size a) :
    View.readAt (Elt Ideal) a.view (Rect.unit (s := s) off s.size inb).toLoadRect (ha.unread x) = x :=
  (read_whole a.view _ _).trans (ha.read_unread x)

/-- A whole store is what the block then holds. -/
theorem read_store (v : View sig .tc .vmem s e) (f : v.ty.Contents (Elt Ideal)) (inb : ∀ a, off a + s.size a ≤ s.size a) (w : s.Idx → Elt Ideal e)
    (L : List (View.Piece (Elt Ideal) s e)) : v.read (Elt Ideal) (v.writes (Elt Ideal) f (⟨Rect.unit (s := s) off s.size inb, w⟩ :: L)) = w :=
  funext fun y => View.read_writes_cons_unit_of_mem v f _ w L y y rfl (fun a => by have := inb a; omega)

end Cert.Proj

end
-- ==== Proof.Kernel5Ideal.Rows.lean ====
/- The gradient of the normalization and the projection: what the grid leaves in the two result arrays. -/
module

public import proofs.«01_k».proof.Proof.Gen.Kernel5Ideal.Value
public import proofs.«01_k».proof.Proof.Proj.Pull
public import proofs.«01_k».proof.Proof.Proj.Blocks
public import proofs.«01_k».proof.Proof.Proj.Loads
public import Idealize.ShloMosaic.Lib.Pipeline.ValueKit.Geometry
public import Idealize.ShloMosaic.Lib.WritesUnit

@[expose] public section

set_option maxRecDepth 16384

noncomputable section

namespace Cert.Kernel5Ideal.Pb

open Cert.Kernel5Ideal Cert.Kernel5Ideal.Gen
open Idealize.ShloMosaic hiding ix1 ix2 ix3 eq_ix2
open Idealize.ShloMosaic.TcCoe Idealize.SL.Sem
open Idealize.ShloMosaic.ValueIdx
open scoped BigOperators
open Finset
open Cert.Proj (read_whole read_store)

section loads

variable {s : Shape} {e : EltTy} {off : Fin s.rank → ℕ}

/-- One group of the weights, read alone. -/
theorem read_group (v : View sig .tc .vmem S4x1024x1024 e) (f : v.ty.Contents (Elt Ideal)) (j : Fin 4)
    (inb : ∀ a, (![j.val, 0, 0] : Fin 3 → ℕ) a + S1x1024x1024.size a ≤ S4x1024x1024.size a) (d k : Fin 1024) :
    View.readAt (Elt Ideal) v (Rect.unit (s := S4x1024x1024) ![j.val, 0, 0] S1x1024x1024.size inb).toLoadRect f (ix3 (0 : Fin 1) d k) = v.read (Elt Ideal) f (ix3 j d k) := by
  rw [View.readAt_apply]
  exact Cert.Proj.ld_group (e := e) (v.read (Elt Ideal) f) j inb d k

end loads

section payloads

variable (d0 d1 d2 d3 : Vec Ideal S512x1024 .bf16) (w0 w1 w2 w3 : Vec Ideal S1x1024x1024 .bf16) (w : Vec Ideal S4x1024x1024 .bf16)
  (y x u : Vec Ideal S512x1024 .f32) (g o : Vec Ideal S1x1024 .f32) (r : Fin 512) (k : Fin 1024)

/-- The four products, added up. -/
theorem spread_apply (h0 : ∀ d e, w0 (ix3 0 d e) = w (ix3 0 d e)) (h1 : ∀ d e, w1 (ix3 0 d e) = w (ix3 1 d e))
    (h2 : ∀ d e, w2 (ix3 0 d e) = w (ix3 2 d e)) (h3 : ∀ d e, w3 (ix3 0 d e) = w (ix3 3 d e)) :
    k0_pay6 (F := Ideal) d0 w0 d1 w1 d2 w2 d3 w3 (ix2 r k) = Cert.Proj.spread ![d0, d1, d2, d3] w r k := by
  have P (d : Vec Ideal S512x1024 .bf16) (w' : Vec Ideal S1x1024x1024 .bf16) (j : Fin 4) (h : ∀ d e, w' (ix3 0 d e) = w (ix3 j d e)) :
      (matmul (φ₁ := .bf16) (φ₂ := .bf16) dot_S512x1024_S1024x1024_S512x1024_1_1_0_0_n_n none d (shapeCast S1024x1024 w' shapeCasts_S1x1024x1024_S1024x1024)
        (constant S512x1024 .f32 0x00000000#32) : FVec Ideal S512x1024 .f32) (ix2 r k) = ∑ e : Fin 1024, d (ix2 r e) * w (ix3 j k e) :=
    (Cert.Proj.block_group _ d w' _ r k).trans (Finset.sum_congr rfl fun e _ => congrArg (d (ix2 r e) * ·) (h k e))
  refine (congrArg₂ (· + ·) (congrArg₂ (· + ·) (congrArg₂ (· + ·) (congrArg₂ (· + ·) Ideal.ofBits_zero_f32 (P d0 w0 0 h0)) (P d1 w1 1 h1)) (P d2 w2 2 h2)) (P d3 w3 3 h3)).trans ?_
  refine Eq.trans ?_ (Fin.sum_univ_four _).symm
  exact congrArg (· + _ + _ + _) (zero_add _)

theorem scale_apply (r : Fin 512) : k0_pay1 (F := Ideal) (k0_pay7 (F := Ideal) x) (ix2 r 0) = Cert.Proj.scale x r :=
  Cert.Proj.block_scale x reduces_S512x1024_S512 shapeCasts_S512_S512x1 r

/-- What is stored for the rows. -/
theorem pulled_apply : k0_pay4 (F := Ideal) y x (k0_pay7 (F := Ideal) x) g u (ix2 r k) = u (ix2 r k) + Cert.Proj.pulled x g (fun r k => y (ix2 r k)) r k :=
  congrArg (u (ix2 r k) + ·) (Cert.Proj.block_pulled reduces_S512x1024_S512 shapeCasts_S512_S512x1 broadcasts_S512x1_S512x1024 broadcasts_S1x1024_S512x1024 (by decide)
    x g y (k0_pay1 (F := Ideal) (k0_pay7 (F := Ideal) x)) (scale_apply x) r k)

/-- What is stored for the gain. -/
theorem gain_apply : k0_pay3 (F := Ideal) y x (k0_pay7 (F := Ideal) x) o (ix2 0 k) = o (ix2 0 k) + ∑ r : Fin 512, Cert.Proj.gainTerm x (fun r k => y (ix2 r k)) r k :=
  congrArg₂ (· + ·) (shapeCast_apply o _ (ix2 0 k) (ix2 0 k) rfl)
    (Cert.Proj.block_gain broadcasts_S512x1_S512x1024 (by decide) x y (k0_pay1 (F := Ideal) (k0_pay7 (F := Ideal) x)) (scale_apply x) k reduces_S512x1024_S1024 shapeCasts_S1024_S1x1024)

end payloads

section cases

variable (c : Dev nD) (i : grid0.Coords) (arg1 : Memref sig .tc .vmem S512x1024 .bf16) (harg1 : arg1.IsWhole) (arg2 : Memref sig .tc .vmem S512x1024 .bf16) (harg2 : arg2.IsWhole)
  (arg3 : Memref sig .tc .vmem S512x1024 .bf16) (harg3 : arg3.IsWhole) (arg4 : Memref sig .tc .vmem S512x1024 .bf16) (harg4 : arg4.IsWhole)
  (arg5 : Memref sig .tc .vmem S4x1024x1024 .bf16) (harg5 : arg5.IsWhole) (arg6 : Memref sig .tc .vmem S512x1024 .f32) (harg6 : arg6.IsWhole)
  (arg7 : Memref sig .tc .vmem S1x1024 .f32) (harg7 : arg7.IsWhole) (arg8 : Memref sig .tc .vmem S512x1024 .f32) (harg8 : arg8.IsWhole)
  (arg9 : Memref sig .tc .vmem S512x1024 .f32) (harg9 : arg9.IsWhole) (arg10 : Memref sig .tc .vmem S1x1024 .f32) (harg10 : arg10.IsWhole)
  (x0 x1 x2 x3 : Vec Ideal S512x1024 .bf16) (x4 : Vec Ideal S4x1024x1024 .bf16) (x5 : Vec Ideal S512x1024 .f32) (x6 : Vec Ideal S1x1024 .f32) (x7 : Vec Ideal S512x1024 .f32)
  (xo9 : Vec Ideal S1x1024 .f32) (r : Fin 512) (k : Fin 1024)

/-- A block of rows read whole, … -/
theorem read_rows {e : EltTy} (a : Memref sig .tc .vmem S512x1024 e) (ha : a.IsWhole) (x : Vec Ideal S512x1024 e) :
    View.readAt (Elt Ideal) a.view (Rect.unit (s := S512x1024) ![0, 0] S512x1024.size inb_S512x1024_S512x1024_0_0).toLoadRect (ha.unread x) = x :=
  (read_whole a.view _ _).trans (ha.read_unread x)

/-- … and the gain. -/
theorem read_gain (a : Memref sig .tc .vmem S1x1024 .f32) (ha : a.IsWhole) (x : Vec Ideal S1x1024 .f32) :
    View.readAt (Elt Ideal) a.view (Rect.unit (s := S1x1024) ![0, 0] S1x1024.size inb_S1x1024_S1x1024_0_0).toLoadRect (ha.unread x) = x :=
  (read_whole a.view _ _).trans (ha.read_unread x)

/-- The four products, from what the blocks hold. -/
def products : FVec Ideal S512x1024 .f32 :=
  k0_pay6 (F := Ideal)
    (View.readAt (Elt Ideal) arg1.view (Rect.unit (s := S512x1024) ![0, 0] S512x1024.size inb_S512x1024_S512x1024_0_0).toLoadRect (harg1.unread x0))
    (View.readAt (Elt Ideal) arg5.view (Rect.unit (s := S4x1024x1024) ![0, 0, 0] S1x1024x1024.size inb_S4x1024x1024_S1x1024x1024_0_0_0).toLoadRect (harg5.unread x4))
    (View.readAt (Elt Ideal) arg2.view (Rect.unit (s := S512x1024) ![0, 0] S512x1024.size inb_S512x1024_S512x1024_0_0).toLoadRect (harg2.unread x1))
    (View.readAt (Elt Ideal) arg5.view (Rect.unit (s := S4x1024x1024) ![1, 0, 0] S1x1024x1024.size inb_S4x1024x1024_S1x1024x1024_1_0_0).toLoadRect (harg5.unread x4))
    (View.readAt (Elt Ideal) arg3.view (Rect.unit (s := S512x1024) ![0, 0] S512x1024.size inb_S512x1024_S512x1024_0_0).toLoadRect (harg3.unread x2))
    (View.readAt (Elt Ideal) arg5.view (Rect.unit (s := S4x1024x1024) ![2, 0, 0] S1x1024x1024.size inb_S4x1024x1024_S1x1024x1024_2_0_0).toLoadRect (harg5.unread x4))
    (View.readAt (Elt Ideal) arg4.view (Rect.unit (s := S512x1024) ![0, 0] S512x1024.size inb_S512x1024_S512x1024_0_0).toLoadRect (harg4.unread x3))
    (View.readAt (Elt Ideal) arg5.view (Rect.unit (s := S4x1024x1024) ![3, 0, 0] S1x1024x1024.size inb_S4x1024x1024_S1x1024x1024_3_0_0).toLoadRect (harg5.unread x4))

theorem products_apply : products arg1 harg1 arg2 harg2 arg3 harg3 arg4 harg4 arg5 harg5 x0 x1 x2 x3 x4 (ix2 r k) = Cert.Proj.spread ![x0, x1, x2, x3] x4 r k := by
  have G (j : Fin 4) (inb : ∀ a, (![j.val, 0, 0] : Fin 3 → ℕ) a + S1x1024x1024.size a ≤ S4x1024x1024.size a) (d e : Fin 1024) :=
    (read_group arg5.view (harg5.unread x4) j inb d e).trans (congrFun (harg5.read_unread x4) _)
  unfold products
  rw [read_rows arg1 harg1 x0, read_rows arg2 harg2 x1, read_rows arg3 harg3 x2, read_rows arg4 harg4 x3]
  exact spread_apply x0 x1 x2 x3 _ _ _ _ x4 r k (G 0 _) (G 1 _) (G 2 _) (G 3 _)

/-- What is stored for the rows, from what the blocks hold. -/
theorem rows_loads :
    k0_pay4 (F := Ideal) (products arg1 harg1 arg2 harg2 arg3 harg3 arg4 harg4 arg5 harg5 x0 x1 x2 x3 x4)
      (View.readAt (Elt Ideal) arg6.view (Rect.unit (s := S512x1024) ![0, 0] S512x1024.size inb_S512x1024_S512x1024_0_0).toLoadRect (harg6.unread x5))
      (k0_pay7 (F := Ideal) (View.readAt (Elt Ideal) arg6.view (Rect.unit (s := S512x1024) ![0, 0] S512x1024.size inb_S512x1024_S512x1024_0_0).toLoadRect (harg6.unread x5)))
      (View.readAt (Elt Ideal) arg7.view (Rect.unit (s := S1x1024) ![0, 0] S1x1024.size inb_S1x1024_S1x1024_0_0).toLoadRect (harg7.unread x6))
      (View.readAt (Elt Ideal) arg8.view (Rect.unit (s := S512x1024) ![0, 0] S512x1024.size inb_S512x1024_S512x1024_0_0).toLoadRect (harg8.unread x7)) (ix2 r k)
      = x7 (ix2 r k) + Cert.Proj.pulled x5 x6 (Cert.Proj.spread ![x0, x1, x2, x3] x4) r k := by
  rw [read_rows arg6 harg6 x5, read_gain arg7 harg7 x6, read_rows arg8 harg8 x7]
  refine (pulled_apply _ x5 x7 x6 r k).trans (congrArg (x7 (ix2 r k) + ·) ?_)
  exact Cert.Proj.pulled_congr _ _ _ _ _ _ r r (fun _ => rfl) (fun _ => rfl)
    (fun k => products_apply arg1 harg1 arg2 harg2 arg3 harg3 arg4 harg4 arg5 harg5 x0 x1 x2 x3 x4 r k) k

/-- What is stored for the gain, from what the blocks hold and from what was there. -/
theorem gain_loads (o : Vec Ideal S1x1024 .f32) :
    k0_pay3 (F := Ideal) (products arg1 harg1 arg2 harg2 arg3 harg3 arg4 harg4 arg5 harg5 x0 x1 x2 x3 x4)
      (View.readAt (Elt Ideal) arg6.view (Rect.unit (s := S512x1024) ![0, 0] S512x1024.size inb_S512x1024_S512x1024_0_0).toLoadRect (harg6.unread x5))
      (k0_pay7 (F := Ideal) (View.readAt (Elt Ideal) arg6.view (Rect.unit (s := S512x1024) ![0, 0] S512x1024.size inb_S512x1024_S512x1024_0_0).toLoadRect (harg6.unread x5)))
      o (ix2 0 k)
      = o (ix2 0 k) + ∑ r : Fin 512, Cert.Proj.gainTerm x5 (Cert.Proj.spread ![x0, x1, x2, x3] x4) r k := by
  rw [read_rows arg6 harg6 x5]
  refine (gain_apply _ x5 o k).trans (congrArg (o (ix2 0 k) + ·) (Finset.sum_congr rfl fun r _ => ?_))
  exact Cert.Proj.gainTerm_congr _ _ _ _ r r (fun _ => rfl)
    (fun k => products_apply arg1 harg1 arg2 harg2 arg3 harg3 arg4 harg4 arg5 harg5 x0 x1 x2 x3 x4 r k) k

theorem rowsA (hc0 : cond0_0 i) :
    out0_A_8 (F := Ideal) c i arg1 harg1 arg2 harg2 arg3 harg3 arg4 harg4 arg5 harg5 arg6 harg6 arg7 harg7 arg8 harg8 arg9 harg9 arg10 harg10 hc0 x0 x1 x2 x3 x4 x5 x6 x7 (ix2 r k)
      = x7 (ix2 r k) + Cert.Proj.pulled x5 x6 (Cert.Proj.spread ![x0, x1, x2, x3] x4) r k := by
  unfold out0_A_8 kernelRun0_A
  dsimp only
  refine (congrFun (read_store VO0_8 _ _ _ _) (ix2 r k)).trans ?_
  exact rows_loads arg1 harg1 arg2 harg2 arg3 harg3 arg4 harg4 arg5 harg5 arg6 harg6 arg7 harg7 arg8 harg8 x0 x1 x2 x3 x4 x5 x6 x7 r k

theorem rowsB (hc0 : ¬cond0_0 i) :
    out0_B_8 (F := Ideal) c i arg1 harg1 arg2 harg2 arg3 harg3 arg4 harg4 arg5 harg5 arg6 harg6 arg7 harg7 arg8 harg8 arg9 harg9 arg10 harg10 hc0 x0 x1 x2 x3 x4 x5 x6 x7 xo9 (ix2 r k)
      = x7 (ix2 r k) + Cert.Proj.pulled x5 x6 (Cert.Proj.spread ![x0, x1, x2, x3] x4) r k := by
  unfold out0_B_8 kernelRun0_B
  dsimp only
  refine (congrFun (read_store VO0_8 _ _ _ _) (ix2 r k)).trans ?_
  exact rows_loads arg1 harg1 arg2 harg2 arg3 harg3 arg4 harg4 arg5 harg5 arg6 harg6 arg7 harg7 arg8 harg8 x0 x1 x2 x3 x4 x5 x6 x7 r k

/-- At the first point the gradient of the gain starts from zero. -/
theorem gainA (hc0 : cond0_0 i) :
    out0_A_9 (F := Ideal) c i arg1 harg1 arg2 harg2 arg3 harg3 arg4 harg4 arg5 harg5 arg6 harg6 arg7 harg7 arg8 harg8 arg9 harg9 arg10 harg10 hc0 x0 x1 x2 x3 x4 x5 x6 x7 (ix2 0 k)
      = ∑ r : Fin 512, Cert.Proj.gainTerm x5 (Cert.Proj.spread ![x0, x1, x2, x3] x4) r k := by
  unfold out0_A_9 kernelRun0_A
  dsimp only
  refine (congrFun (read_store VO0_9 _ _ _ _) (ix2 0 k)).trans ?_
  refine (gain_loads arg1 harg1 arg2 harg2 arg3 harg3 arg4 harg4 arg5 harg5 arg6 harg6 x0 x1 x2 x3 x4 x5 k _).trans ?_
  refine (congrArg (· + _) ?_).trans (zero_add _)
  exact (congrFun ((read_whole arg10.view _ _).trans (read_store arg10.view _ _ _ _)) (ix2 0 k)).trans Ideal.ofBits_zero_f32

/-- At a later point it goes on from what was there. -/
theorem gainB (hc0 : ¬cond0_0 i) :
    out0_B_9 (F := Ideal) c i arg1 harg1 arg2 harg2 arg3 harg3 arg4 harg4 arg5 harg5 arg6 harg6 arg7 harg7 arg8 harg8 arg9 harg9 arg10 harg10 hc0 x0 x1 x2 x3 x4 x5 x6 x7 xo9 (ix2 0 k)
      = xo9 (ix2 0 k) + ∑ r : Fin 512, Cert.Proj.gainTerm x5 (Cert.Proj.spread ![x0, x1, x2, x3] x4) r k := by
  unfold out0_B_9 kernelRun0_B
  dsimp only
  refine (congrFun (read_store VO0_9 _ _ _ _) (ix2 0 k)).trans ?_
  refine (gain_loads arg1 harg1 arg2 harg2 arg3 harg3 arg4 harg4 arg5 harg5 arg6 harg6 x0 x1 x2 x3 x4 x5 k _).trans ?_
  exact congrArg (· + _) (congrFun (read_gain arg10 harg10 xo9) (ix2 0 k))

end cases

section grid

theorem ix_0 : ∀ t : Fin cfg0.N, win0_0.index t = ![t.val, 0] :=
  (by decide +kernel : ∀ t : Fin grid0.N, win0_0.index t = ![t.val, 0])
theorem ix_1 : ∀ t : Fin cfg0.N, win0_1.index t = ![t.val, 0] :=
  (by decide +kernel : ∀ t : Fin grid0.N, win0_1.index t = ![t.val, 0])
theorem ix_2 : ∀ t : Fin cfg0.N, win0_2.index t = ![t.val, 0] :=
  (by decide +kernel : ∀ t : Fin grid0.N, win0_2.index t = ![t.val, 0])
theorem ix_3 : ∀ t : Fin cfg0.N, win0_3.index t = ![t.val, 0] :=
  (by decide +kernel : ∀ t : Fin grid0.N, win0_3.index t = ![t.val, 0])
theorem ix_4 : ∀ t : Fin cfg0.N, win0_4.index t = ![0, 0, 0] :=
  (by decide +kernel : ∀ t : Fin grid0.N, win0_4.index t = ![0, 0, 0])
theorem ix_5 : ∀ t : Fin cfg0.N, win0_5.index t = ![t.val, 0] :=
  (by decide +kernel : ∀ t : Fin grid0.N, win0_5.index t = ![t.val, 0])
theorem ix_6 : ∀ t : Fin cfg0.N, win0_6.index t = ![0, 0] :=
  (by decide +kernel : ∀ t : Fin grid0.N, win0_6.index t = ![0, 0])
theorem ix_7 : ∀ t : Fin cfg0.N, win0_7.index t = ![t.val, 0] :=
  (by decide +kernel : ∀ t : Fin grid0.N, win0_7.index t = ![t.val, 0])
theorem ix_8 : ∀ t : Fin cfg0.N, win0_8.index t = ![t.val, 0] :=
  (by decide +kernel : ∀ t : Fin grid0.N, win0_8.index t = ![t.val, 0])
theorem ix_9 : ∀ t : Fin cfg0.N, win0_9.index t = ![0, 0] :=
  (by decide +kernel : ∀ t : Fin grid0.N, win0_9.index t = ![0, 0])

theorem points (t : Fin cfg0.N) : t.val < 17 := Nat.lt_of_lt_of_eq t.isLt N_0

/-- Row `r` of the block of point `t`. -/
def row (t : Fin cfg0.N) (r : Fin 512) : Fin 8704 := ⟨t.val * 512 + r.val, by have := points t; omega⟩

theorem at_0 (t : Fin cfg0.N) (r : Fin 512) (k : Fin 1024) : (win0_0.blk t).view.emb (ix2 r k) = ix2 (row t r) k := by
  have e0 : t.val * 512 + r.val = (row t r).val := rfl
  blk_ext [ix_0]
theorem at_1 (t : Fin cfg0.N) (r : Fin 512) (k : Fin 1024) : (win0_1.blk t).view.emb (ix2 r k) = ix2 (row t r) k := by
  have e0 : t.val * 512 + r.val = (row t r).val := rfl
  blk_ext [ix_1]
theorem at_2 (t : Fin cfg0.N) (r : Fin 512) (k : Fin 1024) : (win0_2.blk t).view.emb (ix2 r k) = ix2 (row t r) k := by
  have e0 : t.val * 512 + r.val = (row t r).val := rfl
  blk_ext [ix_2]
theorem at_3 (t : Fin cfg0.N) (r : Fin 512) (k : Fin 1024) : (win0_3.blk t).view.emb (ix2 r k) = ix2 (row t r) k := by
  have e0 : t.val * 512 + r.val = (row t r).val := rfl
  blk_ext [ix_3]
theorem at_4 (t : Fin cfg0.N) (j : Fin 4) (d e : Fin 1024) : (win0_4.blk t).view.emb (ix3 j d e) = ix3 j d e := by
  blk_ext [ix_4]
theorem at_5 (t : Fin cfg0.N) (r : Fin 512) (k : Fin 1024) : (win0_5.blk t).view.emb (ix2 r k) = ix2 (row t r) k := by
  have e0 : t.val * 512 + r.val = (row t r).val := rfl
  blk_ext [ix_5]
theorem at_6 (t : Fin cfg0.N) (k : Fin 1024) : (win0_6.blk t).view.emb (ix2 0 k) = ix2 0 k := by
  blk_ext [ix_6]
theorem at_7 (t : Fin cfg0.N) (r : Fin 512) (k : Fin 1024) : (win0_7.blk t).view.emb (ix2 r k) = ix2 (row t r) k := by
  have e0 : t.val * 512 + r.val = (row t r).val := rfl
  blk_ext [ix_7]
theorem at_8 (t : Fin cfg0.N) (r : Fin 512) (k : Fin 1024) : (win0_8.blk t).view.emb (ix2 r k) = ix2 (row t r) k := by
  have e0 : t.val * 512 + r.val = (row t r).val := rfl
  blk_ext [ix_8]
theorem at_9 (t : Fin cfg0.N) (k : Fin 1024) : (win0_9.blk t).view.emb (ix2 0 k) = ix2 0 k := by
  blk_ext [ix_9]

variable (m : (ℓ : Loc nD τ sig) → Buf (Elt Ideal) ℓ) (c : Dev nD)

/-- The gradients of the four groups of columns of the projection, … -/
def D (j : Fin 4) : S8704x1024.Idx → EReal :=
  (![m ((c.tc : Thread nD τ).loc main_arg0), m ((c.tc : Thread nD τ).loc main_arg1), m ((c.tc : Thread nD τ).loc main_arg2), m ((c.tc : Thread nD τ).loc main_arg3)] :
    Fin 4 → S8704x1024.Idx → EReal) j
/-- … the weights, … -/
def W : S4x1024x1024.Idx → EReal := m ((c.tc : Thread nD τ).loc main_arg4)
/-- … the rows, … -/
def X : S8704x1024.Idx → EReal := m ((c.tc : Thread nD τ).loc main_arg5)
/-- … the gain … -/
def Gn : S1x1024.Idx → EReal := m ((c.tc : Thread nD τ).loc main_arg6)
/-- … and the gradient that reaches the rows by another way. -/
def U : S8704x1024.Idx → EReal := m ((c.tc : Thread nD τ).loc main_arg7)

/-- The same of one block. -/
def blkD (t : Fin cfg0.N) : Fin 4 → S512x1024.Idx → EReal := ![iblk m c 0 t, iblk m c 1 t, iblk m c 2 t, iblk m c 3 t]
def blkW (t : Fin cfg0.N) : S4x1024x1024.Idx → EReal := iblk m c 4 t
def blkX (t : Fin cfg0.N) : S512x1024.Idx → EReal := iblk m c 5 t
def blkG (t : Fin cfg0.N) : S1x1024.Idx → EReal := iblk m c 6 t
def blkU (t : Fin cfg0.N) : S512x1024.Idx → EReal := iblk m c 7 t

theorem inD (t : Fin cfg0.N) (j : Fin 4) (r : Fin 512) (k : Fin 1024) : blkD m c t j (ix2 r k) = D m c j (ix2 (row t r) k) := by
  unfold D blkD
  match j with
  | ⟨0, _⟩ =>
    show (iblk m c 0 t : S512x1024.Idx → EReal) (ix2 r k) = (m ((c.tc : Thread nD τ).loc main_arg0) : S8704x1024.Idx → EReal) _
    rw [← V_main_arg0 m c, ← at_0 t r k]; rfl
  | ⟨1, _⟩ =>
    show (iblk m c 1 t : S512x1024.Idx → EReal) (ix2 r k) = (m ((c.tc : Thread nD τ).loc main_arg1) : S8704x1024.Idx → EReal) _
    rw [← V_main_arg1 m c, ← at_1 t r k]; rfl
  | ⟨2, _⟩ =>
    show (iblk m c 2 t : S512x1024.Idx → EReal) (ix2 r k) = (m ((c.tc : Thread nD τ).loc main_arg2) : S8704x1024.Idx → EReal) _
    rw [← V_main_arg2 m c, ← at_2 t r k]; rfl
  | ⟨3, _⟩ =>
    show (iblk m c 3 t : S512x1024.Idx → EReal) (ix2 r k) = (m ((c.tc : Thread nD τ).loc main_arg3) : S8704x1024.Idx → EReal) _
    rw [← V_main_arg3 m c, ← at_3 t r k]; rfl
theorem inW (t : Fin cfg0.N) (j : Fin 4) (d e : Fin 1024) : blkW m c t (ix3 j d e) = W m c (ix3 j d e) := by
  unfold W blkW
  rw [← V_main_arg4 m c]
  exact congrArg (V m c main_arg4) (at_4 t j d e)
theorem inX (t : Fin cfg0.N) (r : Fin 512) (k : Fin 1024) : blkX m c t (ix2 r k) = X m c (ix2 (row t r) k) := by
  unfold X blkX
  rw [← V_main_arg5 m c, ← at_5 t r k]; rfl
theorem inG (t : Fin cfg0.N) (k : Fin 1024) : blkG m c t (ix2 0 k) = Gn m c (ix2 0 k) := by
  unfold Gn blkG
  rw [← V_main_arg6 m c]
  exact congrArg (V m c main_arg6) (at_6 t k)
theorem inU (t : Fin cfg0.N) (r : Fin 512) (k : Fin 1024) : blkU m c t (ix2 r k) = U m c (ix2 (row t r) k) := by
  unfold U blkU
  rw [← V_main_arg7 m c, ← at_7 t r k]; rfl

/-- What arrives at the normalized rows. -/
def Y : Fin 8704 → Fin 1024 → EReal := Cert.Proj.spread (D m c) (W m c)

theorem spread_block (t : Fin cfg0.N) (r : Fin 512) (k : Fin 1024) : Cert.Proj.spread (blkD m c t) (blkW m c t) r k = Y m c (row t r) k :=
  Finset.sum_congr rfl fun j _ => Finset.sum_congr rfl fun e _ => congrArg₂ (· * ·) (inD m c t j r e) (inW m c t j k e)

/-- The gradient of the rows. -/
def dX (y : S8704x1024.Idx) : EReal := U m c y + Cert.Proj.pulled (X m c) (Gn m c) (Y m c) (y 0) (y 1)

/-- The gradient of the gain. -/
def dG (y : S1x1024.Idx) : EReal := ∑ r : Fin 8704, Cert.Proj.gainTerm (X m c) (Y m c) r (y 1)

/-- After a point the first result's block holds the gradient of its rows. -/
theorem rows_after (t : Fin cfg0.N) (r : Fin 512) (k : Fin 1024) : (outsAt0 m c t.val t.isLt).1 (ix2 r k) = dX m c (ix2 (row t r) k) := by
  have h : (outsAt0 m c t.val t.isLt).1 (ix2 r k)
      = blkU m c t (ix2 r k) + Cert.Proj.pulled (blkX m c t) (blkG m c t) (Cert.Proj.spread (blkD m c t) (blkW m c t)) r k := by
    by_cases h0 : t.val % 17 = 0
    · have h := congrArg Prod.fst (outsAt0_A m c t h0)
      dsimp only at h
      rw [h, rowsA]
      rfl
    · have h := congrArg Prod.fst (outsAt0_B m c t h0)
      dsimp only at h
      rw [h, rowsB]
      rfl
  exact h.trans (congrArg₂ (· + ·) (inU m c t r k)
    (Cert.Proj.pulled_congr _ _ _ _ _ _ r (row t r) (inX m c t r) (inG m c t) (spread_block m c t r) k))

/-- One row's term of the gradient of the gain, zero past the last row. -/
def term (k : Fin 1024) (r : ℕ) : EReal := if h : r < 8704 then Cert.Proj.gainTerm (X m c) (Y m c) ⟨r, h⟩ k else 0

/-- The terms of one block of rows. -/
theorem block_terms (t : Fin cfg0.N) (k : Fin 1024) :
    ∑ r : Fin 512, Cert.Proj.gainTerm (blkX m c t) (Cert.Proj.spread (blkD m c t) (blkW m c t)) r k = ∑ r ∈ range 512, term m c k (512 * t.val + r) := by
  rw [← Fin.sum_univ_eq_sum_range (fun r => term m c k (512 * t.val + r)) 512]
  refine Finset.sum_congr rfl fun r _ => ?_
  have h : 512 * t.val + r.val < 8704 := by have := points t; have := r.isLt; omega
  have e : (⟨512 * t.val + r.val, h⟩ : Fin 8704) = row t r := Fin.ext (by show 512 * t.val + r.val = t.val * 512 + r.val; omega)
  unfold term
  rw [dif_pos h, e]
  exact Cert.Proj.gainTerm_congr _ _ _ _ r (row t r) (inX m c t r) (spread_block m c t r) k

/-- After a point the second result holds the terms of the rows read so far. -/
theorem gain_after (n : ℕ) (hn : n < cfg0.N) (k : Fin 1024) : (outsAt0 m c n hn).2 (ix2 0 k) = ∑ r ∈ range (512 * (n + 1)), term m c k r := by
  induction n with
  | zero =>
    have h := congrArg Prod.snd (outsAt0_A m c ⟨0, hn⟩ rfl)
    dsimp only at h
    rw [h]
    refine (gainA c _ _ _ _ _ _ _ _ _ _ _ _ _ _ _ _ _ _ _ _ _ _ _ _ _ _ _ _ _ k _).trans ((block_terms m c ⟨0, hn⟩ k).trans ?_)
    simp
  | succ n ih =>
    have h17 : n + 1 < 17 := points ⟨n + 1, hn⟩
    have ih := ih (Nat.lt_of_succ_lt hn)
    have h0 : ¬(n + 1) % 17 = 0 := by omega
    have h := congrArg Prod.snd (outsAt0_B m c ⟨n + 1, hn⟩ h0)
    dsimp only at h
    rw [h]
    refine (gainB c _ _ _ _ _ _ _ _ _ _ _ _ _ _ _ _ _ _ _ _ _ _ _ _ _ _ _ _ _ _ k _).trans ((congrArg₂ (· + ·) ih (block_terms m c ⟨n + 1, hn⟩ k)).trans ?_)
    exact (Finset.sum_range_add _ _ _).symm

theorem all_terms (k : Fin 1024) : ∑ r ∈ range 8704, term m c k r = dG m c (ix2 0 k) := by
  rw [← Fin.sum_univ_eq_sum_range (fun r => term m c k r) 8704]
  refine Finset.sum_congr rfl fun r _ => ?_
  unfold term
  rw [dif_pos r.isLt]

theorem last9 : ∀ t : Fin cfg0.N, (cfg0.win 9).flush t = true → t.val = 16 :=
  (by decide +kernel : ∀ t : Fin grid0.N, (cfg0.win 9).flush t = true → t.val = 16)

/-- The first result is the gradient of the rows, … -/
theorem final_rows : (dats m 0 c).arrAt 8 cfg0.N = dX m c := by
  refine (dats m 0 c).arrAt_eq_of_covers 8 (dX m c) (by decide +kernel) fun t hf y => ?_
  blk_simp
  rw [after0_8]
  obtain ⟨a, b, rfl⟩ : ∃ (a : Fin 512) (b : Fin 1024), y = ix2 a b := ⟨y 0, y 1, eq_ix2 y⟩
  rw [at_8 t a b]
  exact rows_after m c t a b

/-- … and the second the gradient of the gain. -/
theorem final_gain : (dats m 0 c).arrAt 9 cfg0.N = dG m c := by
  refine (dats m 0 c).arrAt_eq_of_covers 9 (dG m c) (by decide +kernel) fun t hf y => ?_
  blk_simp
  rw [after0_9]
  obtain ⟨a, b, rfl⟩ : ∃ (a : Fin 1) (b : Fin 1024), y = ix2 a b := ⟨y 0, y 1, eq_ix2 y⟩
  obtain rfl : a = 0 := Subsingleton.elim _ _
  rw [at_9 t b]
  have e : 512 * (t.val + 1) = 8704 := by rw [last9 t hf]
  exact (gain_after m c t.val t.isLt b).trans ((congrArg (fun n => ∑ r ∈ range n, term m c b r) e).trans (all_terms m c b))

end grid

end Cert.Kernel5Ideal.Pb

end
-- ==== Proof.Kernel5Ideal.Algebraic.lean ====
/- The gradient of the normalization and the projection: the kernel's two results are the reference's, over the reals. -/
module

public import proofs.«01_k».proof.Defs
public import proofs.«01_k».proof.Proof.Gen.Reference5Ideal
public import proofs.«01_k».proof.Proof.Gen.Reference5Ideal.Run
public import proofs.«01_k».proof.Proof.Kernel5Ideal.Rows

@[expose] public section

set_option maxRecDepth 16384

noncomputable section

namespace Cert.Reference5Ideal.Pb

open Cert.Reference5Ideal Cert.Reference5Ideal.Gen
open Idealize.ShloMosaic hiding ix1 ix2 ix3 eq_ix2
open Idealize.ShloMosaic.TcCoe Idealize.SL.Sem
open Idealize.ShloMosaic.ValueIdx
open scoped BigOperators

section terms

variable (d0 d1 d2 d3 : FVec Ideal S8704x1024 .bf16) (w : FVec Ideal S4x1024x1024 .bf16) (x u : FVec Ideal S8704x1024 .f32) (g : FVec Ideal S1x1024 .f32)

/-- What the reference has arrive at the normalized rows, … -/
def arrived : FVec Ideal S8704x1024 .f32 :=
  Host.dotGeneral (φ₁ := .f32) (φ₂ := .f32) dot_S8704x4096_S1024x4096_S8704x1024_1_1_0_0_n_n none
    (concatenate S8704x4096 1 [⟨S8704x1024, (extf .f32 d0 bitsLt_bf16_f32 : FVec Ideal S8704x1024 .f32)⟩, ⟨S8704x1024, (extf .f32 d1 bitsLt_bf16_f32 : FVec Ideal S8704x1024 .f32)⟩,
      ⟨S8704x1024, (extf .f32 d2 bitsLt_bf16_f32 : FVec Ideal S8704x1024 .f32)⟩, ⟨S8704x1024, (extf .f32 d3 bitsLt_bf16_f32 : FVec Ideal S8704x1024 .f32)⟩]
      concatenates_S8704x1024_S8704x1024_S8704x1024_S8704x1024_S8704x4096_d1)
    (shapeCast S1024x4096 (transpose S1024x4x1024 [1, 0, 2] (extf .f32 w bitsLt_bf16_f32) transposes_S4x1024x1024_S1024x4x1024_1_0_2) shapeCasts_S1024x4x1024_S1024x4096)

/-- … its mean square plus the small constant, … -/
def square : FVec Ideal S8704x1 .f32 :=
  addf (Host.divf (broadcastInDim S8704x1 ![0] bcast_S8704_S8704x1_0 (Host.reduceAdd (mulf x x) (constant S_ .f32 0x00000000#32) reducesTo_S8704x1024_S8704_d1 h_S_))
    (broadcastInDim S8704x1 ![] bcast_S_S8704x1 (constant S_ .f32 0x44800000#32))) (broadcastInDim S8704x1 ![] bcast_S_S8704x1 (constant S_ .f32 0x358637BD#32))

/-- … its gradient of the rows … -/
def rows : FVec Ideal S8704x1024 .f32 :=
  addf (addf (addf u (mulf (mulf (arrived d0 d1 d2 d3 w) (broadcastInDim S8704x1024 ![0, 1] bcast_S1x1024_S8704x1024_0_1 g))
      (broadcastInDim S8704x1024 ![0, 1] bcast_S8704x1_S8704x1024_0_1 (Host.rsqrt (square x)))))
    (mulf x (broadcastInDim S8704x1024 ![0] bcast_S8704_S8704x1024_0
      (Cert.Proj.meanPart reducesTo_S8704x1024_S8704_d1 reducesTo_S8704x1_S8704_d1 h_S_ shapeCasts_S8704_S8704x1 bcast_S_S8704x1 bcast_S1x1024_S8704x1024_0_1 x g (arrived d0 d1 d2 d3 w) (square x)))))
  (mulf (broadcastInDim S8704x1024 ![0] bcast_S8704_S8704x1024_0
      (Cert.Proj.meanPart reducesTo_S8704x1024_S8704_d1 reducesTo_S8704x1_S8704_d1 h_S_ shapeCasts_S8704_S8704x1 bcast_S_S8704x1 bcast_S1x1024_S8704x1024_0_1 x g (arrived d0 d1 d2 d3 w) (square x))) x)

/-- … and its gradient of the gain. -/
def gain : FVec Ideal S1x1024 .f32 :=
  shapeCast S1x1024 (Host.reduceAdd (mulf (mulf x (broadcastInDim S8704x1024 ![0, 1] bcast_S8704x1_S8704x1024_0_1 (Host.rsqrt (square x)))) (arrived d0 d1 d2 d3 w))
    (constant S_ .f32 0x00000000#32) reducesTo_S8704x1024_S1024_d0 h_S_) shapeCasts_S1024_S1x1024

theorem arrived_apply (r : Fin 8704) (k : Fin 1024) : arrived d0 d1 d2 d3 w (ix2 r k) = Cert.Proj.spread ![d0, d1, d2, d3] w r k :=
  Cert.Proj.host_spread _ (extf .f32 d0 bitsLt_bf16_f32) (extf .f32 d1 bitsLt_bf16_f32) (extf .f32 d2 bitsLt_bf16_f32) (extf .f32 d3 bitsLt_bf16_f32)
    (extf .f32 w bitsLt_bf16_f32) _ _ _ r k

theorem square_apply (r : Fin 8704) : square x (ix2 r 0)
    = Ideal.div (∑ k : Fin 1024, x (ix2 r k) * x (ix2 r k)) (Ideal.ofBits .f32 0x44800000#32) + Ideal.ofBits .f32 0x358637BD#32 :=
  Cert.Proj.host_square x reducesTo_S8704x1024_S8704_d1 h_S_ bcast_S8704_S8704x1_0 bcast_S_S8704x1 (by decide) r

theorem rows_eq (y : S8704x1024.Idx) :
    rows d0 d1 d2 d3 w x u g y = u y + Cert.Proj.pulled x g (Cert.Proj.spread ![d0, d1, d2, d3] w) (y 0) (y 1) := by
  obtain ⟨a, b, rfl⟩ : ∃ (a : Fin 8704) (b : Fin 1024), y = ix2 a b := ⟨y 0, y 1, eq_ix2 y⟩
  refine (Cert.Proj.host_pulled reducesTo_S8704x1024_S8704_d1 reducesTo_S8704x1_S8704_d1 h_S_ shapeCasts_S8704_S8704x1 bcast_S8704x1_S8704x1024_0_1 bcast_S_S8704x1
    bcast_S1x1024_S8704x1024_0_1 bcast_S8704_S8704x1024_0 (by decide) x g (arrived d0 d1 d2 d3 w) u (square x) (square_apply x) a b).trans (congrArg (u (ix2 a b) + ·) ?_)
  exact Cert.Proj.pulled_congr _ _ _ _ _ _ a a (fun _ => rfl) (fun _ => rfl) (fun k => arrived_apply d0 d1 d2 d3 w a k) b

theorem gain_eq (y : S1x1024.Idx) :
    gain d0 d1 d2 d3 w x y = ∑ r : Fin 8704, Cert.Proj.gainTerm x (Cert.Proj.spread ![d0, d1, d2, d3] w) r (y 1) := by
  obtain ⟨a, b, rfl⟩ : ∃ (a : Fin 1) (b : Fin 1024), y = ix2 a b := ⟨y 0, y 1, eq_ix2 y⟩
  obtain rfl : a = 0 := Subsingleton.elim _ _
  refine (Cert.Proj.host_gain h_S_ bcast_S8704x1_S8704x1024_0_1 (by decide) x (arrived d0 d1 d2 d3 w) (square x) (square_apply x) b
    reducesTo_S8704x1024_S1024_d0 shapeCasts_S1024_S1x1024).trans (Finset.sum_congr rfl fun r _ => ?_)
  exact Cert.Proj.gainTerm_congr _ _ _ _ r r (fun _ => rfl) (fun k => arrived_apply d0 d1 d2 d3 w r k) b

end terms

end Cert.Reference5Ideal.Pb

namespace Cert.Kernel5Ideal.Pb

open Idealize.ShloMosaic Idealize.ShloMosaic.TcCoe Idealize.SL.Sem

/-- The kernel's two results are the reference's. -/
theorem algebraic : Cert.algebraic_Kernel5Ideal_Reference5Ideal := by
  intro m g m' g' _ hin
  refine ⟨fun c => (Cert.Kernel5Ideal.Gen.dats m 0 c).arrAt 8 Cert.Kernel5Ideal.cfg0.N,
    fun c => (Cert.Kernel5Ideal.Gen.dats m 0 c).arrAt 9 Cert.Kernel5Ideal.cfg0.N,
    Cert.Kernel5Ideal.Value.run_blocks m g, ?_⟩
  refine (θ_run _ _ _).mono (fun r h c => ?_) (Cert.Reference5Ideal.Value.run m' g')
  obtain ⟨e0, e1, k⟩ := h c
  obtain ⟨a0, a1, a2, a3, a4, a5, a6, a7⟩ := hin c
  refine ⟨e0.trans ?_, e1.trans ?_, k⟩
  · unfold Cert.Reference5Ideal.Value.res_main_v48
    rw [a0, a1, a2, a3, a4, a5, a6, a7]
    exact (funext fun y => Cert.Reference5Ideal.Pb.rows_eq _ _ _ _ _ (X m c) (U m c) (Gn m c) y).trans (final_rows m c).symm
  · rw [a0, a1, a2, a3, a4, a5]
    exact (funext fun y => Cert.Reference5Ideal.Pb.gain_eq _ _ _ _ _ (X m c) y).trans (final_gain m c).symm

end Cert.Kernel5Ideal.Pb

end
-- ==== Proof.Proj.Gate.lean ====
/- The gradient of the gated out projection: its terms, the two forms of the gate's derivative, and what stays a real number. -/
module

public import proofs.«01_k».proof.Proof.Proj.Pull

@[expose] public section

noncomputable section

namespace Cert.Proj

open Idealize.ShloMosaic hiding ix1 ix2 ix3 eq_ix2
open Idealize.ShloMosaic.ValueIdx
open scoped BigOperators

/-- Being a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.sum {n : ℕ} {f : Fin n → EReal} (h : ∀ i, IsReal (f i)) : IsReal (∑ i, f i) :=
  Finset.sum_induction f IsReal (fun _ _ => IsReal.add) ⟨0, EReal.coe_zero.symm⟩ (fun i _ => h i)

theorem IsReal.width {x : EReal} (hx : IsReal x) : IsReal (Ideal.div x (Ideal.ofBits .f32 0x44800000#32)) := by
  rw [div_width]
  exact hx.mul ⟨_, rfl⟩

theorem IsReal.logistic {x : EReal} (hx : IsReal x) : IsReal (Ideal.logistic x) := by
  obtain ⟨a, rfl⟩ := hx
  exact ⟨_, Ideal.logistic_coe a⟩

/-- One. -/
theorem one : Ideal.ofBits .f32 0x3F800000#32 = (1 : EReal) := by
  have h : Ideal.ofBits .f32 0x3F800000#32 = ((1 : ℝ) : EReal) := by
    simp [Ideal.ofBits, Ideal.ieee, -EReal.coe_mul]
    norm_num
  exact h.trans EReal.coe_one

/-- The derivative of the gate in the kernel's form and in the reference's, of real numbers. -/
theorem gate_eq {d o g : EReal} (hd : IsReal d) (ho : IsReal o) (hg : IsReal g) :
    d * o * (Ideal.logistic g * (1 + g * (1 - Ideal.logistic g)))
      = o * d * Ideal.logistic g + g * (o * d) * (Ideal.logistic g * (1 - Ideal.logistic g)) := by
  obtain ⟨s, hs⟩ := hg.logistic
  obtain ⟨d, rfl⟩ := hd; obtain ⟨o, rfl⟩ := ho; obtain ⟨g, rfl⟩ := hg
  rw [hs, ← EReal.coe_one]
  simp only [← EReal.coe_sub, ← EReal.coe_mul, ← EReal.coe_add]
  congr 1
  ring

variable {R R' : ℕ}

/-- An entry times its gate. -/
def gated (o g : (⟨2, ![R, 1024]⟩ : Shape).Idx → EReal) (r : Fin R) (k : Fin 1024) : EReal :=
  o (ix2 r k) * (g (ix2 r k) * Ideal.logistic (g (ix2 r k)))

/-- The out projection of the gated rows. -/
def projectedOut (o g : (⟨2, ![R, 1024]⟩ : Shape).Idx → EReal) (w : (⟨2, ![1024, 1024]⟩ : Shape).Idx → EReal) (y : (⟨2, ![R, 1024]⟩ : Shape).Idx) : EReal :=
  ∑ e : Fin 1024, gated o g (y 0) e * w (ix2 e (y 1))

/-- What arrives at the gated rows, through the weights. -/
def through (y : Fin R → Fin 1024 → EReal) (w : (⟨2, ![1024, 1024]⟩ : Shape).Idx → EReal) (r : Fin R) (k : Fin 1024) : EReal :=
  ∑ e : Fin 1024, y r e * w (ix2 k e)

/-- The gradient of an entry, … -/
def toEntry (y : Fin R → Fin 1024 → EReal) (w : (⟨2, ![1024, 1024]⟩ : Shape).Idx → EReal) (g : (⟨2, ![R, 1024]⟩ : Shape).Idx → EReal) (r : Fin R) (k : Fin 1024) : EReal :=
  through y w r k * (g (ix2 r k) * Ideal.logistic (g (ix2 r k)))

/-- … of its gate, … -/
def toGate (y : Fin R → Fin 1024 → EReal) (w : (⟨2, ![1024, 1024]⟩ : Shape).Idx → EReal) (o g : (⟨2, ![R, 1024]⟩ : Shape).Idx → EReal) (r : Fin R) (k : Fin 1024) : EReal :=
  through y w r k * o (ix2 r k) * (Ideal.logistic (g (ix2 r k)) * (1 + g (ix2 r k) * (1 - Ideal.logistic (g (ix2 r k)))))

/-- … and a row's term of the gradient of a weight. -/
def weightTerm (y : Fin R → Fin 1024 → EReal) (o g : (⟨2, ![R, 1024]⟩ : Shape).Idx → EReal) (a b : Fin 1024) (r : Fin R) : EReal :=
  gated o g r a * y r b

section congr

variable (y : Fin R → Fin 1024 → EReal) (y' : Fin R' → Fin 1024 → EReal) (w w' : (⟨2, ![1024, 1024]⟩ : Shape).Idx → EReal)
  (o g : (⟨2, ![R, 1024]⟩ : Shape).Idx → EReal) (o' g' : (⟨2, ![R', 1024]⟩ : Shape).Idx → EReal) (r : Fin R) (r' : Fin R')
  (hy : ∀ k, y r k = y' r' k) (hw : ∀ d e, w (ix2 d e) = w' (ix2 d e)) (ho : ∀ k, o (ix2 r k) = o' (ix2 r' k)) (hg : ∀ k, g (ix2 r k) = g' (ix2 r' k))

include hy hw in
theorem through_congr (k : Fin 1024) : through y w r k = through y' w' r' k :=
  Finset.sum_congr rfl fun e _ => by rw [hy, hw]

include hy hw hg in
theorem toEntry_congr (k : Fin 1024) : toEntry y w g r k = toEntry y' w' g' r' k := by
  unfold toEntry
  rw [through_congr y y' w w' r r' hy hw, hg]

include hy hw ho hg in
theorem toGate_congr (k : Fin 1024) : toGate y w o g r k = toGate y' w' o' g' r' k := by
  unfold toGate
  rw [through_congr y y' w w' r r' hy hw, hg, ho]

include hy ho hg in
theorem weightTerm_congr (a b : Fin 1024) : weightTerm y o g a b r = weightTerm y' o' g' a b r' := by
  unfold weightTerm gated
  rw [hy, hg, ho]

end congr

section real

variable (x : (⟨2, ![R, 1024]⟩ : Shape).Idx → EReal) (gain : (⟨2, ![1, 1024]⟩ : Shape).Idx → EReal) (y : Fin R → Fin 1024 → EReal)
  (w : (⟨2, ![1024, 1024]⟩ : Shape).Idx → EReal) (o g : (⟨2, ![R, 1024]⟩ : Shape).Idx → EReal)

theorem real_scale (r : Fin R) : IsReal (scale x r) := by
  obtain ⟨ρ, _, h, _⟩ := inverse_root _ (square_pos fun k => x (ix2 r k))
  exact ⟨ρ, h⟩

theorem real_pulled (hx : ∀ i, IsReal (x i)) (hgain : ∀ i, IsReal (gain i)) (hy : ∀ r k, IsReal (y r k)) (r : Fin R) (k : Fin 1024) : IsReal (pulled x gain y r k) :=
  (real_scale x r).mul (((hy r k).mul (hgain _)).sub (((hx _).mul (real_scale x r)).mul
    (IsReal.sum fun i => ((hy r i).mul (hgain _)).mul ((hx _).mul (real_scale x r))).width))

theorem real_projectedOut (ho : ∀ i, IsReal (o i)) (hg : ∀ i, IsReal (g i)) (hw : ∀ i, IsReal (w i)) (i) : IsReal (projectedOut o g w i) :=
  IsReal.sum fun e => ((ho _).mul ((hg _).mul (hg _).logistic)).mul (hw _)

theorem real_through (hy : ∀ r k, IsReal (y r k)) (hw : ∀ i, IsReal (w i)) (r : Fin R) (k : Fin 1024) : IsReal (through y w r k) :=
  IsReal.sum fun e => (hy r e).mul (hw _)

end real

/-- The host's form of the logistic function. -/
theorem host_logistic (h : (⟨0, ![]⟩ : Shape).BroadcastsInDim ⟨2, ![R, 1024]⟩ ![]) (g : FVec Ideal ⟨2, ![R, 1024]⟩ .f32) (i : (⟨2, ![R, 1024]⟩ : Shape).Idx) :
    Host.divf (broadcastInDim ⟨2, ![R, 1024]⟩ ![] h (constant ⟨0, ![]⟩ .f32 0x3F800000#32))
      (addf (broadcastInDim ⟨2, ![R, 1024]⟩ ![] h (constant ⟨0, ![]⟩ .f32 0x3F800000#32)) (Host.exp (Host.negf g))) i = Ideal.logistic (g i) := by
  have e : broadcastInDim ⟨2, ![R, 1024]⟩ ![] h (constant (F := Ideal) ⟨0, ![]⟩ .f32 0x3F800000#32) i = (1 : EReal) := (broadcastInDim_scalar_apply _ _ _).trans one
  exact congrArg₂ (fun a b : EReal => Ideal.div a (b + Ideal.exp (-(g i)))) e e

/-- The host's out projection of the gated rows. -/
theorem host_projectedOut (h : (⟨0, ![]⟩ : Shape).BroadcastsInDim ⟨2, ![R, 1024]⟩ ![])
    (wf : DotDims.WF ⟨2, ![R, 1024]⟩ ⟨2, ![1024, 1024]⟩ ⟨2, ![R, 1024]⟩ [1] [0] [0] [1] [] []) (o g : FVec Ideal ⟨2, ![R, 1024]⟩ .f32) (w : FVec Ideal ⟨2, ![1024, 1024]⟩ .f32) :
    Host.dotGeneral (⟨[1], [0], [0], [1], [], [], wf⟩ : DotDims ⟨2, ![R, 1024]⟩ ⟨2, ![1024, 1024]⟩ ⟨2, ![R, 1024]⟩) none
      (mulf o (mulf g (Host.divf (broadcastInDim ⟨2, ![R, 1024]⟩ ![] h (constant ⟨0, ![]⟩ .f32 0x3F800000#32))
        (addf (broadcastInDim ⟨2, ![R, 1024]⟩ ![] h (constant ⟨0, ![]⟩ .f32 0x3F800000#32)) (Host.exp (Host.negf g)))))) w = projectedOut o g w := by
  funext y
  obtain ⟨a, b, rfl⟩ : ∃ (a : Fin R) (b : Fin 1024), y = ix2 a b := ⟨y 0, y 1, eq_ix2 y⟩
  refine (dot_plain_apply (φ₁ := .f32) (φ₂ := .f32) wf _ w a b).trans (Finset.sum_congr rfl fun e _ => congrArg (· * w (ix2 e b)) ?_)
  exact congrArg (fun s => o (ix2 a e) * (g (ix2 a e) * s)) (host_logistic h g _)

/-- Sums over seventeen blocks of 512 rows, one after another, are the sum over all the rows. -/
theorem sum_blocks (f : Fin 8704 → EReal) (s : (n : ℕ) → n < 17 → EReal) (row : (n : ℕ) → n < 17 → Fin 512 → Fin 8704) (hrow : ∀ n hn r, (row n hn r).val = n * 512 + r.val)
    (h0 : s 0 (by omega) = ∑ r, f (row 0 (by omega) r)) (hs : ∀ n (hn : n + 1 < 17), s (n + 1) hn = s n (by omega) + ∑ r, f (row (n + 1) hn r)) :
    s 16 (by omega) = ∑ r, f r := by
  let t : ℕ → EReal := fun r => if h : r < 8704 then f ⟨r, h⟩ else 0
  have hb (n : ℕ) (hn : n < 17) : ∑ r, f (row n hn r) = ∑ r ∈ Finset.range 512, t (512 * n + r) := by
    rw [← Fin.sum_univ_eq_sum_range (fun r => t (512 * n + r)) 512]
    refine Finset.sum_congr rfl fun r _ => ?_
    have h : 512 * n + r.val < 8704 := by have := r.isLt; omega
    refine Eq.trans ?_ (dif_pos h).symm
    exact congrArg f (Fin.ext (by rw [hrow]; show n * 512 + r.val = 512 * n + r.val; omega))
  have ha (n : ℕ) (hn : n < 17) : s n hn = ∑ r ∈ Finset.range (512 * (n + 1)), t r := by
    induction n with
    | zero => rw [h0, hb]; simp
    | succ n ih => rw [hs, ih, hb]; exact (Finset.sum_range_add _ _ _).symm
  rw [ha, ← Fin.sum_univ_eq_sum_range t 8704]
  exact Finset.sum_congr rfl fun r _ => dif_pos r.isLt

end Cert.Proj

end
-- ==== Proof.Kernel6Ideal.Rows.lean ====
/- The gradient of the gated out projection: what each point of the grid leaves in the five results. -/
module

public import proofs.«01_k».proof.Proof.Gen.Kernel6Ideal.Value
public import proofs.«01_k».proof.Proof.Proj.Gate
public import proofs.«01_k».proof.Proof.Proj.Loads

@[expose] public section

set_option maxRecDepth 16384

noncomputable section

namespace Cert.Kernel6Ideal.Ob

open Cert.Kernel6Ideal Cert.Kernel6Ideal.Gen
open Idealize.ShloMosaic hiding ix1 ix2 ix3 eq_ix2
open Idealize.ShloMosaic.TcCoe Idealize.SL.Sem
open Idealize.ShloMosaic.ValueIdx
open scoped BigOperators

/-- The gradient of a block of rows before the normalization. -/
def grad (y x : S512x1024.Idx → EReal) (n : S1x1024.Idx → EReal) : Fin 512 → Fin 1024 → EReal :=
  Cert.Proj.pulled x n (fun r k => y (ix2 r k))

section payloads

variable (y x o g : Vec Ideal S512x1024 .f32) (w : Vec Ideal S1024x1024 .bf16) (n p : Vec Ideal S1x1024 .f32) (q : Vec Ideal S1024x1024 .f32) (r : Fin 512) (k : Fin 1024)

theorem cast_rows : k0_pay5 (F := Ideal) x = x := funext fun i => shapeCast_apply x _ i i rfl

theorem scale_apply (r : Fin 512) : k0_pay6 (F := Ideal) x (ix2 r 0) = Cert.Proj.scale (k0_pay5 (F := Ideal) x) r :=
  Cert.Proj.block_scale (k0_pay5 (F := Ideal) x) reduces_S512x1024_S512 shapeCasts_S512_S512x1 r

theorem grad_apply : k0_pay11 (F := Ideal) (k0_pay6 x) (k0_pay9 y n) (k0_pay10 y x n) (ix2 r k) = grad y x n r k := by
  refine (Cert.Proj.block_pulled reduces_S512x1024_S512 shapeCasts_S512_S512x1 broadcasts_S512x1_S512x1024 broadcasts_S1x1024_S512x1024 (by decide)
    (k0_pay5 (F := Ideal) x) n y (k0_pay6 (F := Ideal) x) (scale_apply x) r k).trans ?_
  rw [cast_rows]
  rfl

theorem logistic_apply (i : S512x1024.Idx) : k0_pay14 (F := Ideal) g i = Ideal.logistic (g i) := by
  show Ideal.div (Ideal.ofBits .f32 0x3F800000#32) (Ideal.ofBits .f32 0x3F800000#32 + Ideal.exp (Ideal.ofBits .f32 0x00000000#32 - g i)) = _
  rw [Cert.Proj.one, Ideal.ofBits_zero_f32, sub_eq_add_neg, zero_add]
  rfl

theorem through_apply : k0_pay13 (F := Ideal) (k0_pay6 x) (k0_pay9 y n) (k0_pay10 y x n) w (ix2 r k) = Cert.Proj.through (grad y x n) w r k :=
  (Cert.Proj.matmul_columns_apply _ (k0_pay11 (F := Ideal) (k0_pay6 x) (k0_pay9 y n) (k0_pay10 y x n)) w r k).trans
    (Finset.sum_congr rfl fun e _ => congrArg (· * w (ix2 k e)) (grad_apply y x n r e))

variable {y x o g w n p q} {y' x' o' g' : Vec Ideal S512x1024 .f32} {w' : Vec Ideal S1024x1024 .bf16} {n' p' : Vec Ideal S1x1024 .f32} {q' : Vec Ideal S1024x1024 .f32}
  (hy : y' = y) (hx : x' = x) (ho : o' = o) (hg : g' = g) (hw : w' = w) (hn : n' = n) (hp : p' = p) (hq : q' = q)

include hy hx hg hw hn in
/-- What is stored for the entries, … -/
theorem entry_stored : k0_pay1 (F := Ideal) (k0_pay16 g' (k0_pay6 x') (k0_pay9 y' n') (k0_pay10 y' x' n') w') (ix2 r k)
    = Cert.Proj.toEntry (grad y x n) w g r k := by
  subst hy hx hg hw hn
  exact congrArg₂ (fun a b : EReal => a * (g' (ix2 r k) * b)) (through_apply y' x' w' n' r k) (logistic_apply g' (ix2 r k))

include hy hx ho hg hw hn in
/-- … for their gates, … -/
theorem gate_stored : k0_pay15 (F := Ideal) o' g' (k0_pay6 x') (k0_pay9 y' n') (k0_pay10 y' x' n') w' (ix2 r k)
    = Cert.Proj.toGate (grad y x n) w o g r k := by
  subst hy hx ho hg hw hn
  have h := Cert.Proj.one
  refine (congrArg₂ (fun a b : EReal => a * o' (ix2 r k) * (b * (Ideal.ofBits .f32 0x3F800000#32 + g' (ix2 r k) * (Ideal.ofBits .f32 0x3F800000#32 - b))))
    (through_apply y' x' w' n' r k) (logistic_apply g' (ix2 r k))).trans ?_
  rw [h]
  rfl

include hy hx ho hg hn hq in
/-- … for the weights … -/
theorem weight_stored (a b : Fin 1024) : k0_pay12 (F := Ideal) o' g' (k0_pay6 x') (k0_pay9 y' n') (k0_pay10 y' x' n') q' (ix2 a b)
    = q (ix2 a b) + ∑ r : Fin 512, Cert.Proj.weightTerm (grad y x n) o g a b r := by
  subst hy hx ho hg hn hq
  refine congrArg₂ (· + ·) (shapeCast_apply q' _ (ix2 a b) (ix2 a b) rfl) ((Cert.Proj.matmul_rows_apply _ (truncf .bf16 (mulf o' (mulf g' (k0_pay14 g'))) bitsLt_bf16_f32)
    (k0_pay11 (F := Ideal) (k0_pay6 x') (k0_pay9 y' n') (k0_pay10 y' x' n')) a b).trans (Finset.sum_congr rfl fun r _ => ?_))
  exact congrArg₂ (fun s d : EReal => o' (ix2 r a) * (g' (ix2 r a) * s) * d) (logistic_apply g' (ix2 r a)) (grad_apply y' x' n' r b)

include hy hx hp in
/-- … and for the gain. -/
theorem gain_stored : k0_pay8 (F := Ideal) y' x' p' (ix2 0 k) = p (ix2 0 k) + ∑ r : Fin 512, Cert.Proj.gainTerm x (fun r k => y (ix2 r k)) r k := by
  subst hy hx hp
  refine congrArg₂ (· + ·) (shapeCast_apply p' _ (ix2 0 k) (ix2 0 k) rfl) ((Cert.Proj.block_gain broadcasts_S512x1_S512x1024 (by decide) (k0_pay5 (F := Ideal) x') y'
    (k0_pay6 (F := Ideal) x') (scale_apply x') k reduces_S512x1024_S1024 shapeCasts_S1024_S1x1024).trans ?_)
  rw [cast_rows]

include hq in
/-- The copy in the other format is the same number. -/
theorem copy_stored (a b : Fin 1024) : k0_pay2 (F := Ideal) q' (ix2 a b) = q (ix2 a b) := by
  subst hq
  exact shapeCast_apply q' _ (ix2 a b) (ix2 a b) rfl

end payloads

section cases

open Cert.Proj (read_held read_store read_whole)

variable (c : Dev nD) (i : grid0.Coords) (arg1 : Memref sig .tc .vmem S512x1024 .f32) (harg1 : arg1.IsWhole) (arg2 : Memref sig .tc .vmem S512x1024 .f32) (harg2 : arg2.IsWhole)
  (arg3 : Memref sig .tc .vmem S512x1024 .f32) (harg3 : arg3.IsWhole) (arg4 : Memref sig .tc .vmem S512x1024 .f32) (harg4 : arg4.IsWhole)
  (arg5 : Memref sig .tc .vmem S1024x1024 .bf16) (harg5 : arg5.IsWhole) (arg6 : Memref sig .tc .vmem S1x1024 .f32) (harg6 : arg6.IsWhole)
  (arg7 : Memref sig .tc .vmem S512x1024 .bf16) (harg7 : arg7.IsWhole) (arg8 : Memref sig .tc .vmem S512x1024 .bf16) (harg8 : arg8.IsWhole)
  (arg9 : Memref sig .tc .vmem S1024x1024 .f32) (harg9 : arg9.IsWhole) (arg10 : Memref sig .tc .vmem S1024x1024 .bf16) (harg10 : arg10.IsWhole)
  (arg11 : Memref sig .tc .vmem S1x1024 .f32) (harg11 : arg11.IsWhole)
  (x0 x1 x2 x3 : Vec Ideal S512x1024 .f32) (x4 : Vec Ideal S1024x1024 .bf16) (x5 : Vec Ideal S1x1024 .f32) (xo8 : Vec Ideal S1024x1024 .f32) (xo10 : Vec Ideal S1x1024 .f32)
  (r : Fin 512) (k a b : Fin 1024)

theorem entryA (hc0 : cond0_0 i) (hc1 : ¬cond0_1 i) :
    out0_A_6 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 (ix2 r k)
      = Cert.Proj.toEntry (grad x0 x1 x5) x4 x3 r k := by
  unfold out0_A_6 kernelRun0_A
  dsimp only
  refine (congrFun (read_store VO0_6 _ _ _ _) (ix2 r k)).trans ?_
  exact entry_stored r k (read_held arg1 harg1 x0 _) (read_held arg2 harg2 x1 _) (read_held arg4 harg4 x3 _) (read_held arg5 harg5 x4 _) (read_held arg6 harg6 x5 _)

theorem entryB (hc0 : ¬cond0_0 i) (hc1 : ¬cond0_1 i) :
    out0_B_6 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xo8 xo10 (ix2 r k)
      = Cert.Proj.toEntry (grad x0 x1 x5) x4 x3 r k := by
  unfold out0_B_6 kernelRun0_B
  dsimp only
  refine (congrFun (read_store VO0_6 _ _ _ _) (ix2 r k)).trans ?_
  exact entry_stored r k (read_held arg1 harg1 x0 _) (read_held arg2 harg2 x1 _) (read_held arg4 harg4 x3 _) (read_held arg5 harg5 x4 _) (read_held arg6 harg6 x5 _)

theorem entryC (hc0 : ¬cond0_0 i) (hc1 : cond0_1 i) :
    out0_C_6 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xo8 xo10 (ix2 r k)
      = Cert.Proj.toEntry (grad x0 x1 x5) x4 x3 r k := by
  unfold out0_C_6 kernelRun0_C
  dsimp only
  refine (congrFun (read_store VO0_6 _ _ _ _) (ix2 r k)).trans ?_
  exact entry_stored r k (read_held arg1 harg1 x0 _) (read_held arg2 harg2 x1 _) (read_held arg4 harg4 x3 _) (read_held arg5 harg5 x4 _) (read_held arg6 harg6 x5 _)

theorem gateA (hc0 : cond0_0 i) (hc1 : ¬cond0_1 i) :
    out0_A_7 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 (ix2 r k)
      = Cert.Proj.toGate (grad x0 x1 x5) x4 x2 x3 r k := by
  unfold out0_A_7 kernelRun0_A
  dsimp only
  refine (congrFun (read_store VO0_7 _ _ _ _) (ix2 r k)).trans ?_
  exact gate_stored r k (read_held arg1 harg1 x0 _) (read_held arg2 harg2 x1 _) (read_held arg3 harg3 x2 _) (read_held arg4 harg4 x3 _) (read_held arg5 harg5 x4 _) (read_held arg6 harg6 x5 _)

theorem gateB (hc0 : ¬cond0_0 i) (hc1 : ¬cond0_1 i) :
    out0_B_7 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xo8 xo10 (ix2 r k)
      = Cert.Proj.toGate (grad x0 x1 x5) x4 x2 x3 r k := by
  unfold out0_B_7 kernelRun0_B
  dsimp only
  refine (congrFun (read_store VO0_7 _ _ _ _) (ix2 r k)).trans ?_
  exact gate_stored r k (read_held arg1 harg1 x0 _) (read_held arg2 harg2 x1 _) (read_held arg3 harg3 x2 _) (read_held arg4 harg4 x3 _) (read_held arg5 harg5 x4 _) (read_held arg6 harg6 x5 _)

theorem gateC (hc0 : ¬cond0_0 i) (hc1 : cond0_1 i) :
    out0_C_7 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xo8 xo10 (ix2 r k)
      = Cert.Proj.toGate (grad x0 x1 x5) x4 x2 x3 r k := by
  unfold out0_C_7 kernelRun0_C
  dsimp only
  refine (congrFun (read_store VO0_7 _ _ _ _) (ix2 r k)).trans ?_
  exact gate_stored r k (read_held arg1 harg1 x0 _) (read_held arg2 harg2 x1 _) (read_held arg3 harg3 x2 _) (read_held arg4 harg4 x3 _) (read_held arg5 harg5 x4 _) (read_held arg6 harg6 x5 _)

/-- At the first point the gradient of the weights starts from zero. -/
theorem weightA (hc0 : cond0_0 i) (hc1 : ¬cond0_1 i) :
    out0_A_8 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 (ix2 a b)
      = ∑ r : Fin 512, Cert.Proj.weightTerm (grad x0 x1 x5) x2 x3 a b r := by
  unfold out0_A_8 kernelRun0_A
  dsimp only
  refine (congrFun (read_store VO0_8 _ _ _ _) (ix2 a b)).trans ?_
  refine (weight_stored (read_held arg1 harg1 x0 _) (read_held arg2 harg2 x1 _) (read_held arg3 harg3 x2 _) (read_held arg4 harg4 x3 _) (read_held arg6 harg6 x5 _)
    ((read_whole arg9.view _ _).trans (read_store arg9.view _ _ _ _)) a b).trans ?_
  exact (congrArg (· + _) Ideal.ofBits_zero_f32).trans (zero_add _)

/-- At a later point it goes on from what was there. -/
theorem weightB (hc0 : ¬cond0_0 i) (hc1 : ¬cond0_1 i) :
    out0_B_8 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xo8 xo10 (ix2 a b)
      = xo8 (ix2 a b) + ∑ r : Fin 512, Cert.Proj.weightTerm (grad x0 x1 x5) x2 x3 a b r := by
  unfold out0_B_8 kernelRun0_B
  dsimp only
  refine (congrFun (read_store VO0_8 _ _ _ _) (ix2 a b)).trans ?_
  exact weight_stored (read_held arg1 harg1 x0 _) (read_held arg2 harg2 x1 _) (read_held arg3 harg3 x2 _) (read_held arg4 harg4 x3 _) (read_held arg6 harg6 x5 _)
    (read_held arg9 harg9 xo8 _) a b

theorem weightC (hc0 : ¬cond0_0 i) (hc1 : cond0_1 i) :
    out0_C_8 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xo8 xo10 (ix2 a b)
      = xo8 (ix2 a b) + ∑ r : Fin 512, Cert.Proj.weightTerm (grad x0 x1 x5) x2 x3 a b r := by
  unfold out0_C_8 kernelRun0_C
  dsimp only
  refine (congrFun (read_store VO0_8 _ _ _ _) (ix2 a b)).trans ?_
  exact weight_stored (read_held arg1 harg1 x0 _) (read_held arg2 harg2 x1 _) (read_held arg3 harg3 x2 _) (read_held arg4 harg4 x3 _) (read_held arg6 harg6 x5 _)
    (read_held arg9 harg9 xo8 _) a b

/-- The last point also stores the copy. -/
theorem copyC (hc0 : ¬cond0_0 i) (hc1 : cond0_1 i) :
    out0_C_9 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xo8 xo10 (ix2 a b)
      = xo8 (ix2 a b) + ∑ r : Fin 512, Cert.Proj.weightTerm (grad x0 x1 x5) x2 x3 a b r := by
  unfold out0_C_9 kernelRun0_C
  dsimp only
  refine (congrFun (read_store VO0_9 _ _ _ _) (ix2 a b)).trans ?_
  refine (copy_stored ((read_whole arg9.view _ _).trans (read_store arg9.view _ _ _ _)) a b).trans ?_
  exact weight_stored (read_held arg1 harg1 x0 _) (read_held arg2 harg2 x1 _) (read_held arg3 harg3 x2 _) (read_held arg4 harg4 x3 _) (read_held arg6 harg6 x5 _)
    (read_held arg9 harg9 xo8 _) a b

/-- The same of the gain. -/
theorem gainA (hc0 : cond0_0 i) (hc1 : ¬cond0_1 i) :
    out0_A_10 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 (ix2 0 k)
      = ∑ r : Fin 512, Cert.Proj.gainTerm x1 (fun r k => x0 (ix2 r k)) r k := by
  unfold out0_A_10 kernelRun0_A
  dsimp only
  refine (congrFun (read_store VO0_10 _ _ _ _) (ix2 0 k)).trans ?_
  refine (gain_stored k (read_held arg1 harg1 x0 _) (read_held arg2 harg2 x1 _) ((read_whole arg11.view _ _).trans (read_store arg11.view _ _ _ _))).trans ?_
  exact (congrArg (· + _) Ideal.ofBits_zero_f32).trans (zero_add _)

theorem gainB (hc0 : ¬cond0_0 i) (hc1 : ¬cond0_1 i) :
    out0_B_10 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xo8 xo10 (ix2 0 k)
      = xo10 (ix2 0 k) + ∑ r : Fin 512, Cert.Proj.gainTerm x1 (fun r k => x0 (ix2 r k)) r k := by
  unfold out0_B_10 kernelRun0_B
  dsimp only
  refine (congrFun (read_store VO0_10 _ _ _ _) (ix2 0 k)).trans ?_
  exact gain_stored k (read_held arg1 harg1 x0 _) (read_held arg2 harg2 x1 _) (read_held arg11 harg11 xo10 _)

theorem gainC (hc0 : ¬cond0_0 i) (hc1 : cond0_1 i) :
    out0_C_10 (F := Ideal) c i arg1 harg1 arg2 harg2 arg3 harg3 arg4 harg4 arg5 harg5 arg6 harg6 arg7 harg7 arg8 harg8 arg9 harg9 arg10 harg10 arg11 harg11 hc0 hc1 x0 x1 x2 x3 x4 x5 xo8 xo10 (ix2 0 k)
      = xo10 (ix2 0 k) + ∑ r : Fin 512, Cert.Proj.gainTerm x1 (fun r k => x0 (ix2 r k)) r k := by
  unfold out0_C_10 kernelRun0_C
  dsimp only
  refine (congrFun (read_store VO0_10 _ _ _ _) (ix2 0 k)).trans ?_
  exact gain_stored k (read_held arg1 harg1 x0 _) (read_held arg2 harg2 x1 _) (read_held arg11 harg11 xo10 _)

end cases

end Cert.Kernel6Ideal.Ob

end
-- ==== Proof.Kernel6Ideal.Grid.lean ====
/- The gradient of the gated out projection: what the grid leaves in the five result arrays. -/
module

public import proofs.«01_k».proof.Proof.Kernel6Ideal.Rows
public import Idealize.ShloMosaic.Lib.Pipeline.ValueKit.Geometry

@[expose] public section

set_option maxRecDepth 16384

noncomputable section

namespace Cert.Kernel6Ideal.Ob

open Cert.Kernel6Ideal Cert.Kernel6Ideal.Gen
open Idealize.ShloMosaic hiding ix1 ix2 ix3 eq_ix2
open Idealize.ShloMosaic.TcCoe Idealize.SL.Sem
open Idealize.ShloMosaic.ValueIdx
open scoped BigOperators

theorem ix_0 : ∀ t : Fin cfg0.N, win0_0.index t = ![t.val, 0] :=
  (by decide +kernel : ∀ t : Fin grid0.N, win0_0.index t = ![t.val, 0])
theorem ix_1 : ∀ t : Fin cfg0.N, win0_1.index t = ![t.val, 0] :=
  (by decide +kernel : ∀ t : Fin grid0.N, win0_1.index t = ![t.val, 0])
theorem ix_2 : ∀ t : Fin cfg0.N, win0_2.index t = ![t.val, 0] :=
  (by decide +kernel : ∀ t : Fin grid0.N, win0_2.index t = ![t.val, 0])
theorem ix_3 : ∀ t : Fin cfg0.N, win0_3.index t = ![t.val, 0] :=
  (by decide +kernel : ∀ t : Fin grid0.N, win0_3.index t = ![t.val, 0])
theorem ix_4 : ∀ t : Fin cfg0.N, win0_4.index t = ![0, 0] :=
  (by decide +kernel : ∀ t : Fin grid0.N, win0_4.index t = ![0, 0])
theorem ix_5 : ∀ t : Fin cfg0.N, win0_5.index t = ![0, 0] :=
  (by decide +kernel : ∀ t : Fin grid0.N, win0_5.index t = ![0, 0])
theorem ix_6 : ∀ t : Fin cfg0.N, win0_6.index t = ![t.val, 0] :=
  (by decide +kernel : ∀ t : Fin grid0.N, win0_6.index t = ![t.val, 0])
theorem ix_7 : ∀ t : Fin cfg0.N, win0_7.index t = ![t.val, 0] :=
  (by decide +kernel : ∀ t : Fin grid0.N, win0_7.index t = ![t.val, 0])
theorem ix_8 : ∀ t : Fin cfg0.N, win0_8.index t = ![0, 0] :=
  (by decide +kernel : ∀ t : Fin grid0.N, win0_8.index t = ![0, 0])
theorem ix_9 : ∀ t : Fin cfg0.N, win0_9.index t = ![0, 0] :=
  (by decide +kernel : ∀ t : Fin grid0.N, win0_9.index t = ![0, 0])
theorem ix_10 : ∀ t : Fin cfg0.N, win0_10.index t = ![0, 0] :=
  (by decide +kernel : ∀ t : Fin grid0.N, win0_10.index t = ![0, 0])

theorem points (t : Fin cfg0.N) : t.val < 17 := Nat.lt_of_lt_of_eq t.isLt N_0

/-- Row `r` of the block of point `t`. -/
def row (t : Fin cfg0.N) (r : Fin 512) : Fin 8704 := ⟨t.val * 512 + r.val, by have := points t; omega⟩

theorem at_0 (t : Fin cfg0.N) (r : Fin 512) (k : Fin 1024) : (win0_0.blk t).view.emb (ix2 r k) = ix2 (row t r) k := by
  have e0 : t.val * 512 + r.val = (row t r).val := rfl
  blk_ext [ix_0]
theorem at_1 (t : Fin cfg0.N) (r : Fin 512) (k : Fin 1024) : (win0_1.blk t).view.emb (ix2 r k) = ix2 (row t r) k := by
  have e0 : t.val * 512 + r.val = (row t r).val := rfl
  blk_ext [ix_1]
theorem at_2 (t : Fin cfg0.N) (r : Fin 512) (k : Fin 1024) : (win0_2.blk t).view.emb (ix2 r k) = ix2 (row t r) k := by
  have e0 : t.val * 512 + r.val = (row t r).val := rfl
  blk_ext [ix_2]
theorem at_3 (t : Fin cfg0.N) (r : Fin 512) (k : Fin 1024) : (win0_3.blk t).view.emb (ix2 r k) = ix2 (row t r) k := by
  have e0 : t.val * 512 + r.val = (row t r).val := rfl
  blk_ext [ix_3]
theorem at_4 (t : Fin cfg0.N) (a b : Fin 1024) : (win0_4.blk t).view.emb (ix2 a b) = ix2 a b := by
  blk_ext [ix_4]
theorem at_5 (t : Fin cfg0.N) (k : Fin 1024) : (win0_5.blk t).view.emb (ix2 0 k) = ix2 0 k := by
  blk_ext [ix_5]
theorem at_6 (t : Fin cfg0.N) (r : Fin 512) (k : Fin 1024) : (win0_6.blk t).view.emb (ix2 r k) = ix2 (row t r) k := by
  have e0 : t.val * 512 + r.val = (row t r).val := rfl
  blk_ext [ix_6]
theorem at_7 (t : Fin cfg0.N) (r : Fin 512) (k : Fin 1024) : (win0_7.blk t).view.emb (ix2 r k) = ix2 (row t r) k := by
  have e0 : t.val * 512 + r.val = (row t r).val := rfl
  blk_ext [ix_7]
theorem at_8 (t : Fin cfg0.N) (a b : Fin 1024) : (win0_8.blk t).view.emb (ix2 a b) = ix2 a b := by
  blk_ext [ix_8]
theorem at_9 (t : Fin cfg0.N) (a b : Fin 1024) : (win0_9.blk t).view.emb (ix2 a b) = ix2 a b := by
  blk_ext [ix_9]
theorem at_10 (t : Fin cfg0.N) (k : Fin 1024) : (win0_10.blk t).view.emb (ix2 0 k) = ix2 0 k := by
  blk_ext [ix_10]

variable (m : (ℓ : Loc nD τ sig) → Buf (Elt Ideal) ℓ) (c : Dev nD)

/-- What arrives at the normalized rows, … -/
def Y : S8704x1024.Idx → EReal := m ((c.tc : Thread nD τ).loc main_arg0)
/-- … the entries, … -/
def O : S8704x1024.Idx → EReal := m ((c.tc : Thread nD τ).loc main_arg1)
/-- … their gates, … -/
def G : S8704x1024.Idx → EReal := m ((c.tc : Thread nD τ).loc main_arg2)
/-- … the weights, … -/
def W : S1024x1024.Idx → EReal := m ((c.tc : Thread nD τ).loc main_arg3)
/-- … the gain … -/
def Gn : S1x1024.Idx → EReal := m ((c.tc : Thread nD τ).loc main_arg4)
/-- … and the rows before the normalization. -/
def X : S8704x1024.Idx → EReal := Cert.Proj.projectedOut (O m c) (G m c) (W m c)

/-- The second window reads the host's projection. -/
theorem V_X : V m c main_v3 = X m c := by
  have h := Cert.Proj.host_projectedOut bcast_S_S8704x1024 dot_S8704x1024_S1024x1024_S8704x1024_1_0_0_1_n_n.wf (O m c) (G m c)
    (extf .f32 (m ((c.tc : Thread nD τ).loc main_arg3)) bitsLt_bf16_f32)
  refine Eq.trans ?_ h
  simp only [V, hostOps0, hostOps0_1, List.flatten_cons, List.flatten_nil, List.append_nil, List.cons_append,
    List.nil_append, StableHlo.TRef.binary, StableHlo.TRef.nullary, StableHlo.TRef.unary, StableHlo.TRef.toBuf, StableHlo.TRef.ofBuf, cast_eq]
  after_results_simp <;> rfl

/-- The same of one block. -/
def blkY (t : Fin cfg0.N) : S512x1024.Idx → EReal := iblk m c 0 t
def blkX (t : Fin cfg0.N) : S512x1024.Idx → EReal := iblk m c 1 t
def blkO (t : Fin cfg0.N) : S512x1024.Idx → EReal := iblk m c 2 t
def blkG (t : Fin cfg0.N) : S512x1024.Idx → EReal := iblk m c 3 t
def blkW (t : Fin cfg0.N) : S1024x1024.Idx → EReal := iblk m c 4 t
def blkN (t : Fin cfg0.N) : S1x1024.Idx → EReal := iblk m c 5 t

theorem inY (t : Fin cfg0.N) (r : Fin 512) (k : Fin 1024) : blkY m c t (ix2 r k) = Y m c (ix2 (row t r) k) := by
  unfold Y blkY
  rw [← V_main_arg0 m c, ← at_0 t r k]; rfl
theorem inX (t : Fin cfg0.N) (r : Fin 512) (k : Fin 1024) : blkX m c t (ix2 r k) = X m c (ix2 (row t r) k) := by
  unfold blkX
  rw [← V_X m c, ← at_1 t r k]; rfl
theorem inO (t : Fin cfg0.N) (r : Fin 512) (k : Fin 1024) : blkO m c t (ix2 r k) = O m c (ix2 (row t r) k) := by
  unfold O blkO
  rw [← V_main_arg1 m c, ← at_2 t r k]; rfl
theorem inG (t : Fin cfg0.N) (r : Fin 512) (k : Fin 1024) : blkG m c t (ix2 r k) = G m c (ix2 (row t r) k) := by
  unfold G blkG
  rw [← V_main_arg2 m c, ← at_3 t r k]; rfl
theorem inW (t : Fin cfg0.N) (a b : Fin 1024) : blkW m c t (ix2 a b) = W m c (ix2 a b) := by
  unfold W blkW
  rw [← V_main_arg3 m c]
  exact congrArg (V m c main_arg3) (at_4 t a b)
theorem inN (t : Fin cfg0.N) (k : Fin 1024) : blkN m c t (ix2 0 k) = Gn m c (ix2 0 k) := by
  unfold Gn blkN
  rw [← V_main_arg4 m c]
  exact congrArg (V m c main_arg4) (at_5 t k)

/-- The gradient of the rows before the normalization. -/
def D : Fin 8704 → Fin 1024 → EReal := Cert.Proj.pulled (X m c) (Gn m c) (fun r k => Y m c (ix2 r k))

theorem grad_block (t : Fin cfg0.N) (r : Fin 512) (k : Fin 1024) : grad (blkY m c t) (blkX m c t) (blkN m c t) r k = D m c (row t r) k :=
  Cert.Proj.pulled_congr _ _ _ _ _ _ r (row t r) (inX m c t r) (inN m c t) (inY m c t r) k

/-- The gradient of the entries, … -/
def dO (y : S8704x1024.Idx) : EReal := Cert.Proj.toEntry (D m c) (W m c) (G m c) (y 0) (y 1)
/-- … of their gates, … -/
def dGate (y : S8704x1024.Idx) : EReal := Cert.Proj.toGate (D m c) (W m c) (O m c) (G m c) (y 0) (y 1)
/-- … of the weights … -/
def dW (y : S1024x1024.Idx) : EReal := ∑ r : Fin 8704, Cert.Proj.weightTerm (D m c) (O m c) (G m c) (y 0) (y 1) r
/-- … and of the gain. -/
def dN (y : S1x1024.Idx) : EReal := ∑ r : Fin 8704, Cert.Proj.gainTerm (X m c) (fun r k => Y m c (ix2 r k)) r (y 1)

theorem entry_after (t : Fin cfg0.N) (r : Fin 512) (k : Fin 1024) : (outsAt0 m c t.val t.isLt).1 (ix2 r k) = dO m c (ix2 (row t r) k) := by
  have h : (outsAt0 m c t.val t.isLt).1 (ix2 r k) = Cert.Proj.toEntry (grad (blkY m c t) (blkX m c t) (blkN m c t)) (blkW m c t) (blkG m c t) r k := by
    by_cases h0 : t.val % 17 = 0
    · have h := congrArg Prod.fst (outsAt0_A m c t h0 (by omega))
      dsimp only at h
      rw [h, entryA]
      rfl
    · by_cases h1 : t.val % 17 = 16
      · have h := congrArg Prod.fst (outsAt0_C m c t h0 h1)
        dsimp only at h
        rw [h, entryC]
        rfl
      · have h := congrArg Prod.fst (outsAt0_B m c t h0 h1)
        dsimp only at h
        rw [h, entryB]
        rfl
  exact h.trans (Cert.Proj.toEntry_congr _ _ _ _ _ _ r (row t r) (grad_block m c t r) (inW m c t) (inG m c t r) k)

theorem gate_after (t : Fin cfg0.N) (r : Fin 512) (k : Fin 1024) : (outsAt0 m c t.val t.isLt).2.1 (ix2 r k) = dGate m c (ix2 (row t r) k) := by
  have h : (outsAt0 m c t.val t.isLt).2.1 (ix2 r k) = Cert.Proj.toGate (grad (blkY m c t) (blkX m c t) (blkN m c t)) (blkW m c t) (blkO m c t) (blkG m c t) r k := by
    by_cases h0 : t.val % 17 = 0
    · have h := congrArg (fun p => p.2.1) (outsAt0_A m c t h0 (by omega))
      dsimp only at h
      rw [h, gateA]
      rfl
    · by_cases h1 : t.val % 17 = 16
      · have h := congrArg (fun p => p.2.1) (outsAt0_C m c t h0 h1)
        dsimp only at h
        rw [h, gateC]
        rfl
      · have h := congrArg (fun p => p.2.1) (outsAt0_B m c t h0 h1)
        dsimp only at h
        rw [h, gateB]
        rfl
  exact h.trans (Cert.Proj.toGate_congr _ _ _ _ _ _ _ _ r (row t r) (grad_block m c t r) (inW m c t) (inO m c t r) (inG m c t r) k)

/-- The terms of one block of rows. -/
theorem weight_block (t : Fin cfg0.N) (a b : Fin 1024) :
    ∑ r : Fin 512, Cert.Proj.weightTerm (grad (blkY m c t) (blkX m c t) (blkN m c t)) (blkO m c t) (blkG m c t) a b r
      = ∑ r : Fin 512, Cert.Proj.weightTerm (D m c) (O m c) (G m c) a b (row t r) :=
  Finset.sum_congr rfl fun r _ => Cert.Proj.weightTerm_congr _ _ _ _ _ _ r (row t r) (grad_block m c t r) (inO m c t r) (inG m c t r) a b

theorem gain_block (t : Fin cfg0.N) (k : Fin 1024) : ∑ r : Fin 512, Cert.Proj.gainTerm (blkX m c t) (fun r k => blkY m c t (ix2 r k)) r k
      = ∑ r : Fin 512, Cert.Proj.gainTerm (X m c) (fun r k => Y m c (ix2 r k)) (row t r) k :=
  Finset.sum_congr rfl fun r _ => Cert.Proj.gainTerm_congr _ _ _ _ r (row t r) (inX m c t r) (inY m c t r) k

theorem weight_first (t : Fin cfg0.N) (h0 : t.val % 17 = 0) (a b : Fin 1024) :
    (outsAt0 m c t.val t.isLt).2.2.1 (ix2 a b) = ∑ r : Fin 512, Cert.Proj.weightTerm (D m c) (O m c) (G m c) a b (row t r) := by
  have h := congrArg (fun p => p.2.2.1) (outsAt0_A m c t h0 (by omega))
  dsimp only at h
  rw [h, weightA]
  exact weight_block m c t a b

theorem gain_first (t : Fin cfg0.N) (h0 : t.val % 17 = 0) (k : Fin 1024) :
    (outsAt0 m c t.val t.isLt).2.2.2.2 (ix2 0 k) = ∑ r : Fin 512, Cert.Proj.gainTerm (X m c) (fun r k => Y m c (ix2 r k)) (row t r) k := by
  have h := congrArg (fun p => p.2.2.2.2) (outsAt0_A m c t h0 (by omega))
  dsimp only at h
  rw [h, gainA]
  exact gain_block m c t k

theorem weight_next (n : ℕ) (hn : n + 1 < cfg0.N) (a b : Fin 1024) : (outsAt0 m c (n + 1) hn).2.2.1 (ix2 a b)
    = (outsAt0 m c n (Nat.lt_of_succ_lt hn)).2.2.1 (ix2 a b) + ∑ r : Fin 512, Cert.Proj.weightTerm (D m c) (O m c) (G m c) a b (row ⟨n + 1, hn⟩ r) := by
  have hp : n + 1 < 17 := points ⟨n + 1, hn⟩
  have h0 : ¬(n + 1) % 17 = 0 := by omega
  by_cases h1 : (n + 1) % 17 = 16
  · have h := congrArg (fun p => p.2.2.1) (outsAt0_C m c ⟨n + 1, hn⟩ h0 h1)
    dsimp only at h
    rw [h, weightC]
    exact congrArg (_ + ·) (weight_block m c ⟨n + 1, hn⟩ a b)
  · have h := congrArg (fun p => p.2.2.1) (outsAt0_B m c ⟨n + 1, hn⟩ h0 h1)
    dsimp only at h
    rw [h, weightB]
    exact congrArg (_ + ·) (weight_block m c ⟨n + 1, hn⟩ a b)

theorem gain_next (n : ℕ) (hn : n + 1 < cfg0.N) (k : Fin 1024) : (outsAt0 m c (n + 1) hn).2.2.2.2 (ix2 0 k)
    = (outsAt0 m c n (Nat.lt_of_succ_lt hn)).2.2.2.2 (ix2 0 k) + ∑ r : Fin 512, Cert.Proj.gainTerm (X m c) (fun r k => Y m c (ix2 r k)) (row ⟨n + 1, hn⟩ r) k := by
  have hp : n + 1 < 17 := points ⟨n + 1, hn⟩
  have h0 : ¬(n + 1) % 17 = 0 := by omega
  by_cases h1 : (n + 1) % 17 = 16
  · have h := congrArg (fun p => p.2.2.2.2) (outsAt0_C m c ⟨n + 1, hn⟩ h0 h1)
    dsimp only at h
    rw [h, gainC]
    exact congrArg (_ + ·) (gain_block m c ⟨n + 1, hn⟩ k)
  · have h := congrArg (fun p => p.2.2.2.2) (outsAt0_B m c ⟨n + 1, hn⟩ h0 h1)
    dsimp only at h
    rw [h, gainB]
    exact congrArg (_ + ·) (gain_block m c ⟨n + 1, hn⟩ k)

theorem inside {n : ℕ} (hn : n < 17) : n < cfg0.N := Nat.lt_of_lt_of_eq hn N_0.symm

/-- After the last point the third result's block holds the gradient of the weights, … -/
theorem weight_last (a b : Fin 1024) : (outsAt0 m c 16 (inside (by omega))).2.2.1 (ix2 a b) = dW m c (ix2 a b) :=
  Cert.Proj.sum_blocks (fun r => Cert.Proj.weightTerm (D m c) (O m c) (G m c) a b r) (fun n hn => (outsAt0 m c n (inside hn)).2.2.1 (ix2 a b))
    (fun n hn => row ⟨n, inside hn⟩) (fun _ _ _ => rfl) (weight_first m c ⟨0, inside (by omega)⟩ rfl a b) (fun n hn => weight_next m c n (inside hn) a b)

/-- … the fifth the gradient of the gain, … -/
theorem gain_last (k : Fin 1024) : (outsAt0 m c 16 (inside (by omega))).2.2.2.2 (ix2 0 k) = dN m c (ix2 0 k) :=
  Cert.Proj.sum_blocks (fun r => Cert.Proj.gainTerm (X m c) (fun r k => Y m c (ix2 r k)) r k) (fun n hn => (outsAt0 m c n (inside hn)).2.2.2.2 (ix2 0 k))
    (fun n hn => row ⟨n, inside hn⟩) (fun _ _ _ => rfl) (gain_first m c ⟨0, inside (by omega)⟩ rfl k) (fun n hn => gain_next m c n (inside hn) k)

/-- … and the fourth the copy. -/
theorem copy_last (a b : Fin 1024) : (outsAt0 m c 16 (inside (by omega))).2.2.2.1 (ix2 a b) = dW m c (ix2 a b) := by
  refine Eq.trans ?_ (weight_last m c a b)
  have h := congrArg (fun p => p.2.2.2.1) (outsAt0_C m c ⟨16, inside (by omega)⟩ (show ¬(16 % 17 = 0) by decide) rfl)
  have h' := congrArg (fun p => p.2.2.1) (outsAt0_C m c ⟨16, inside (by omega)⟩ (show ¬(16 % 17 = 0) by decide) rfl)
  dsimp only at h h'
  rw [h, h', copyC, weightC]

theorem last8 : ∀ t : Fin cfg0.N, (cfg0.win 8).flush t = true → t.val = 16 :=
  (by decide +kernel : ∀ t : Fin grid0.N, (cfg0.win 8).flush t = true → t.val = 16)
theorem last9 : ∀ t : Fin cfg0.N, (cfg0.win 9).flush t = true → t.val = 16 :=
  (by decide +kernel : ∀ t : Fin grid0.N, (cfg0.win 9).flush t = true → t.val = 16)
theorem last10 : ∀ t : Fin cfg0.N, (cfg0.win 10).flush t = true → t.val = 16 :=
  (by decide +kernel : ∀ t : Fin grid0.N, (cfg0.win 10).flush t = true → t.val = 16)

/-- The first result is the gradient of the entries, … -/
theorem final_entry : (dats m 0 c).arrAt 6 cfg0.N = dO m c := by
  refine (dats m 0 c).arrAt_eq_of_covers 6 (dO m c) (by decide +kernel) fun t hf y => ?_
  blk_simp
  rw [after0_6]
  obtain ⟨a, b, rfl⟩ : ∃ (a : Fin 512) (b : Fin 1024), y = ix2 a b := ⟨y 0, y 1, eq_ix2 y⟩
  rw [at_6 t a b]
  exact entry_after m c t a b

/-- … the second of their gates, … -/
theorem final_gate : (dats m 0 c).arrAt 7 cfg0.N = dGate m c := by
  refine (dats m 0 c).arrAt_eq_of_covers 7 (dGate m c) (by decide +kernel) fun t hf y => ?_
  blk_simp
  rw [after0_7]
  obtain ⟨a, b, rfl⟩ : ∃ (a : Fin 512) (b : Fin 1024), y = ix2 a b := ⟨y 0, y 1, eq_ix2 y⟩
  rw [at_7 t a b]
  exact gate_after m c t a b

/-- … the third of the weights, … -/
theorem final_weight : (dats m 0 c).arrAt 8 cfg0.N = dW m c := by
  refine (dats m 0 c).arrAt_eq_of_covers 8 (dW m c) (by decide +kernel) fun t hf y => ?_
  blk_simp
  rw [after0_8]
  obtain ⟨a, b, rfl⟩ : ∃ (a b : Fin 1024), y = ix2 a b := ⟨y 0, y 1, eq_ix2 y⟩
  rw [at_8 t a b]
  obtain rfl : t = ⟨16, inside (by omega)⟩ := Fin.ext (last8 t hf)
  exact weight_last m c a b

/-- … the fourth the same in the other format … -/
theorem final_copy : (dats m 0 c).arrAt 9 cfg0.N = dW m c := by
  refine (dats m 0 c).arrAt_eq_of_covers 9 (dW m c) (by decide +kernel) fun t hf y => ?_
  blk_simp
  rw [after0_9]
  obtain ⟨a, b, rfl⟩ : ∃ (a b : Fin 1024), y = ix2 a b := ⟨y 0, y 1, eq_ix2 y⟩
  rw [at_9 t a b]
  obtain rfl : t = ⟨16, inside (by omega)⟩ := Fin.ext (last9 t hf)
  exact copy_last m c a b

/-- … and the fifth of the gain. -/
theorem final_gain : (dats m 0 c).arrAt 10 cfg0.N = dN m c := by
  refine (dats m 0 c).arrAt_eq_of_covers 10 (dN m c) (by decide +kernel) fun t hf y => ?_
  blk_simp
  rw [after0_10]
  obtain ⟨a, b, rfl⟩ : ∃ (a : Fin 1) (b : Fin 1024), y = ix2 a b := ⟨y 0, y 1, eq_ix2 y⟩
  obtain rfl : a = 0 := Subsingleton.elim _ _
  rw [at_10 t b]
  obtain rfl : t = ⟨16, inside (by omega)⟩ := Fin.ext (last10 t hf)
  exact gain_last m c b

end Cert.Kernel6Ideal.Ob

end
-- ==== Proof.Pre.Finite.lean ====
/- What the precondition of the gated out projection says: every entry of its five arguments is a real number. -/
module

public import proofs.«01_k».proof.Proof.Gen.Pre_finite_entries
public import proofs.«01_k».proof.Proof.Pre.Decode
public import proofs.«01_k».proof.Proof.Proj.Gate

@[expose] public section

set_option maxRecDepth 16384

noncomputable section

namespace Cert.Pre_finite_entries.Ob

open Cert.Pre_finite_entries Cert.Pre_finite_entries.Gen
open Idealize.ShloMosaic hiding ix0 ix1 ix2 ix3 eq_ix2
open Idealize.ShloMosaic.ValueIdx
open Cert.Pre_logits_below_linear.Sb (and_bits real_of_abs)

instance : Subsingleton S_.Idx := ⟨fun a b => funext fun i => i.elim0⟩

/-- An array whose absolute values are all below infinity has real entries. -/
theorem real_entries {s : Shape} {axes : List (Fin s.rank)} (x : FVec Ideal s .f32) (hb : S_.BroadcastsInDim s ![]) (hr : s.ReducesTo axes S_)
    (h : Host.reduce IntOp.andi (cmpf .olt (Host.absf x) (broadcastInDim s ![] hb (constant (F := Ideal) S_ .f32 0x7F800000#32))) (constantI S_ 1 1#1) hr Facts.h_S_ ix0 = 1#1)
    (i : s.Idx) : Cert.Proj.IsReal (x i) := by
  have h1 : Ideal.cmp .olt (max (x i) (-(x i))) (broadcastInDim s ![] hb (constant (F := Ideal) S_ .f32 0x7F800000#32) i) = 1#1 := Host.reduce_andi_all _ _ _ _ _ h i
  rw [broadcastInDim_scalar_apply] at h1
  exact real_of_abs _ h1

/-- What the precondition says. -/
theorem decode (y o g : FVec Ideal S8704x1024 .f32) (w : FVec Ideal S1024x1024 .bf16) (n : FVec Ideal S1x1024 .f32) (h : fn (F := Ideal) y o g w n = fun _ => 1#1) :
    (∀ i, Cert.Proj.IsReal (y i)) ∧ (∀ i, Cert.Proj.IsReal (o i)) ∧ (∀ i, Cert.Proj.IsReal (g i)) ∧ (∀ i, Cert.Proj.IsReal (w i)) ∧ ∀ i, Cert.Proj.IsReal (n i) := by
  have h0 := congrFun h ix0
  unfold fn fn_part1 at h0
  dsimp only at h0
  obtain ⟨h20, h24⟩ := and_bits _ _ h0
  obtain ⟨h14, h19⟩ := and_bits _ _ h20
  obtain ⟨h9, h13⟩ := and_bits _ _ h14
  obtain ⟨h4, h8⟩ := and_bits _ _ h9
  obtain ⟨_, h3⟩ := and_bits _ _ h4
  exact ⟨real_entries y _ _ h3, real_entries o _ _ h8, real_entries g _ _ h13, real_entries (extf .f32 w Facts.bitsLt_bf16_f32) _ _ h19, real_entries n _ _ h24⟩

end Cert.Pre_finite_entries.Ob

end
-- ==== Proof.Kernel6Ideal.Algebraic.lean ====
/- The gradient of the gated out projection: the kernel's five results are the reference's, over the reals. -/
module

public import proofs.«01_k».proof.Defs
public import proofs.«01_k».proof.Proof.Gen.Reference6Ideal
public import proofs.«01_k».proof.Proof.Gen.Reference6Ideal.Run
public import proofs.«01_k».proof.Proof.Kernel6Ideal.Grid
public import proofs.«01_k».proof.Proof.Pre.Finite

@[expose] public section

set_option maxRecDepth 16384

noncomputable section

namespace Cert.Reference6Ideal.Ob

open Cert.Reference6Ideal Cert.Reference6Ideal.Gen
open Idealize.ShloMosaic hiding ix1 ix2 ix3 eq_ix2
open Idealize.ShloMosaic.TcCoe Idealize.SL.Sem
open Idealize.ShloMosaic.ValueIdx
open scoped BigOperators

section terms

variable (y o g : FVec Ideal S8704x1024 .f32) (w : FVec Ideal S1024x1024 .bf16) (n : FVec Ideal S1x1024 .f32) (x : FVec Ideal S8704x1024 .f32)

/-- The logistic function of the gates, as the reference writes it, … -/
def logistics : FVec Ideal S8704x1024 .f32 :=
  Host.divf (broadcastInDim S8704x1024 ![] bcast_S_S8704x1024 (constant S_ .f32 0x3F800000#32))
    (addf (broadcastInDim S8704x1024 ![] bcast_S_S8704x1024 (constant S_ .f32 0x3F800000#32)) (Host.exp (Host.negf g)))

/-- … the rows before the normalization, … -/
def rows : FVec Ideal S8704x1024 .f32 :=
  Host.dotGeneral dot_S8704x1024_S1024x1024_S8704x1024_1_0_0_1_n_n none (mulf o (mulf g (logistics g))) (extf .f32 w bitsLt_bf16_f32)

/-- … their mean square plus the small constant, … -/
def square : FVec Ideal S8704x1 .f32 :=
  addf (Host.divf (broadcastInDim S8704x1 ![0] bcast_S8704_S8704x1_0 (Host.reduceAdd (mulf x x) (constant S_ .f32 0x00000000#32) reducesTo_S8704x1024_S8704_d1 h_S_))
    (broadcastInDim S8704x1 ![] bcast_S_S8704x1 (constant S_ .f32 0x44800000#32))) (broadcastInDim S8704x1 ![] bcast_S_S8704x1 (constant S_ .f32 0x358637BD#32))

/-- … the gradient of the rows, … -/
def grads : FVec Ideal S8704x1024 .f32 :=
  addf (addf (mulf (mulf y (broadcastInDim S8704x1024 ![0, 1] bcast_S1x1024_S8704x1024_0_1 n)) (broadcastInDim S8704x1024 ![0, 1] bcast_S8704x1_S8704x1024_0_1 (Host.rsqrt (square x))))
    (mulf x (broadcastInDim S8704x1024 ![0] bcast_S8704_S8704x1024_0
      (Cert.Proj.meanPart reducesTo_S8704x1024_S8704_d1 reducesTo_S8704x1_S8704_d1 h_S_ shapeCasts_S8704_S8704x1 bcast_S_S8704x1 bcast_S1x1024_S8704x1024_0_1 x n y (square x)))))
  (mulf (broadcastInDim S8704x1024 ![0] bcast_S8704_S8704x1024_0
      (Cert.Proj.meanPart reducesTo_S8704x1024_S8704_d1 reducesTo_S8704x1_S8704_d1 h_S_ shapeCasts_S8704_S8704x1 bcast_S_S8704x1 bcast_S1x1024_S8704x1024_0_1 x n y (square x))) x)

/-- … what arrives at the gated rows, … -/
def throughs : FVec Ideal S8704x1024 .f32 :=
  Host.dotGeneral dot_S8704x1024_S1024x1024_S8704x1024_1_1_0_0_n_n none (grads y n x) (extf .f32 w bitsLt_bf16_f32)

/-- … and the gradients of the entries, … -/
def entries : FVec Ideal S8704x1024 .bf16 := truncf .bf16 (mulf (throughs y w n x) (mulf g (logistics g))) bitsLt_bf16_f32

/-- … of their gates, … -/
def gates : FVec Ideal S8704x1024 .bf16 :=
  truncf .bf16 (addf (mulf (mulf o (throughs y w n x)) (logistics g))
    (mulf (mulf g (mulf o (throughs y w n x))) (mulf (logistics g) (subf (broadcastInDim S8704x1024 ![] bcast_S_S8704x1024 (constant S_ .f32 0x3F800000#32)) (logistics g))))) bitsLt_bf16_f32

/-- … of the weights … -/
def weights : FVec Ideal S1024x1024 .f32 :=
  transpose S1024x1024 [1, 0] (Host.dotGeneral dot_S8704x1024_S8704x1024_S1024x1024_0_0_1_1_n_n none (grads y n x) (mulf o (mulf g (logistics g)))) transposes_S1024x1024_S1024x1024_1_0

/-- … and of the gain. -/
def gain : FVec Ideal S1x1024 .f32 :=
  shapeCast S1x1024 (Host.reduceAdd (mulf (mulf x (broadcastInDim S8704x1024 ![0, 1] bcast_S8704x1_S8704x1024_0_1 (Host.rsqrt (square x)))) y)
    (constant S_ .f32 0x00000000#32) reducesTo_S8704x1024_S1024_d0 h_S_) shapeCasts_S1024_S1x1024

theorem logistics_apply (i : S8704x1024.Idx) : logistics g i = Ideal.logistic (g i) := Cert.Proj.host_logistic bcast_S_S8704x1024 g i

theorem rows_eq : rows o g w = Cert.Proj.projectedOut o g w :=
  Cert.Proj.host_projectedOut bcast_S_S8704x1024 dot_S8704x1024_S1024x1024_S8704x1024_1_0_0_1_n_n.wf o g (extf .f32 w bitsLt_bf16_f32)

theorem square_apply (r : Fin 8704) : square x (ix2 r 0)
    = Ideal.div (∑ k : Fin 1024, x (ix2 r k) * x (ix2 r k)) (Ideal.ofBits .f32 0x44800000#32) + Ideal.ofBits .f32 0x358637BD#32 :=
  Cert.Proj.host_square x reducesTo_S8704x1024_S8704_d1 h_S_ bcast_S8704_S8704x1_0 bcast_S_S8704x1 (by decide) r

/-- The gradient of the rows before the normalization. -/
def D : Fin 8704 → Fin 1024 → EReal := Cert.Proj.pulled x n (fun r k => y (ix2 r k))

theorem grads_apply (r : Fin 8704) (k : Fin 1024) : grads y n x (ix2 r k) = D y n x r k := by
  have h := Cert.Proj.host_pulled reducesTo_S8704x1024_S8704_d1 reducesTo_S8704x1_S8704_d1 h_S_ shapeCasts_S8704_S8704x1 bcast_S8704x1_S8704x1024_0_1 bcast_S_S8704x1
    bcast_S1x1024_S8704x1024_0_1 bcast_S8704_S8704x1024_0 (by decide) x n y (fun _ => (0 : EReal)) (square x) (square_apply x) r k
  refine Eq.trans ?_ (h.trans (zero_add _))
  exact congrArg₂ (· + ·) (congrArg₂ (· + ·) (zero_add _).symm rfl) rfl

theorem throughs_apply (r : Fin 8704) (k : Fin 1024) : throughs y w n x (ix2 r k) = Cert.Proj.through (D y n x) w r k :=
  (Cert.Proj.dot_columns_apply _ (grads y n x) (extf .f32 w bitsLt_bf16_f32) r k).trans
    (Finset.sum_congr rfl fun e _ => congrArg (· * w (ix2 k e)) (grads_apply y n x r e))

theorem entries_eq (i : S8704x1024.Idx) : entries y g w n x i = Cert.Proj.toEntry (D y n x) w g (i 0) (i 1) := by
  obtain ⟨r, k, rfl⟩ : ∃ (r : Fin 8704) (k : Fin 1024), i = ix2 r k := ⟨i 0, i 1, eq_ix2 i⟩
  exact congrArg₂ (fun a b : EReal => a * (g (ix2 r k) * b)) (throughs_apply y w n x r k) (logistics_apply g (ix2 r k))

theorem gates_eq (hy : ∀ i, Cert.Proj.IsReal (y i)) (ho : ∀ i, Cert.Proj.IsReal (o i)) (hg : ∀ i, Cert.Proj.IsReal (g i)) (hw : ∀ i, Cert.Proj.IsReal (w i))
    (hn : ∀ i, Cert.Proj.IsReal (n i)) (hx : ∀ i, Cert.Proj.IsReal (x i)) (i : S8704x1024.Idx) :
    gates y o g w n x i = Cert.Proj.toGate (D y n x) w o g (i 0) (i 1) := by
  obtain ⟨r, k, rfl⟩ : ∃ (r : Fin 8704) (k : Fin 1024), i = ix2 r k := ⟨i 0, i 1, eq_ix2 i⟩
  have e : broadcastInDim S8704x1024 ![] bcast_S_S8704x1024 (constant (F := Ideal) S_ .f32 0x3F800000#32) (ix2 r k) = (1 : EReal) :=
    (broadcastInDim_scalar_apply _ _ _).trans Cert.Proj.one
  have hd : Cert.Proj.IsReal (Cert.Proj.through (D y n x) w r k) :=
    Cert.Proj.real_through _ _ (Cert.Proj.real_pulled x n _ hx hn (fun r k => hy _)) hw r k
  refine Eq.trans ?_ (Cert.Proj.gate_eq hd (ho (ix2 r k)) (hg (ix2 r k))).symm
  refine (congrArg₂ (fun a b : EReal => o (ix2 r k) * a * b + g (ix2 r k) * (o (ix2 r k) * a)
    * (b * (broadcastInDim S8704x1024 ![] bcast_S_S8704x1024 (constant (F := Ideal) S_ .f32 0x3F800000#32) (ix2 r k) - b))) (throughs_apply y w n x r k) (logistics_apply g (ix2 r k))).trans ?_
  rw [e]

theorem weights_eq (i : S1024x1024.Idx) : weights y o g n x i = ∑ r : Fin 8704, Cert.Proj.weightTerm (D y n x) o g (i 0) (i 1) r := by
  obtain ⟨a, b, rfl⟩ : ∃ (a b : Fin 1024), i = ix2 a b := ⟨i 0, i 1, eq_ix2 i⟩
  refine (transpose_apply _ _ _ _ (ix2 b a) (fun d => by
    match d with
    | ⟨0, _⟩ => rfl
    | ⟨1, _⟩ => rfl)).trans ?_
  refine (Cert.Proj.dot_rows_apply _ (grads y n x) (mulf o (mulf g (logistics g))) b a).trans (Finset.sum_congr rfl fun r _ => ?_)
  refine (mul_comm _ _).trans ?_
  exact congrArg₂ (fun s d : EReal => o (ix2 r a) * (g (ix2 r a) * s) * d) (logistics_apply g (ix2 r a)) (grads_apply y n x r b)

theorem gain_eq (i : S1x1024.Idx) : gain y x i = ∑ r : Fin 8704, Cert.Proj.gainTerm x (fun r k => y (ix2 r k)) r (i 1) := by
  obtain ⟨a, b, rfl⟩ : ∃ (a : Fin 1) (b : Fin 1024), i = ix2 a b := ⟨i 0, i 1, eq_ix2 i⟩
  obtain rfl : a = 0 := Subsingleton.elim _ _
  exact Cert.Proj.host_gain h_S_ bcast_S8704x1_S8704x1024_0_1 (by decide) x y (square x) (square_apply x) b reducesTo_S8704x1024_S1024_d0 shapeCasts_S1024_S1x1024

end terms

variable (m : (ℓ : Loc nD τ sig) → Buf (Elt Ideal) ℓ) (c : Dev nD) (y o g : FVec Ideal S8704x1024 .f32) (w : FVec Ideal S1024x1024 .bf16) (n : FVec Ideal S1x1024 .f32)
  (hy : m ((c.tc : Thread nD τ).loc main_arg0) = y) (ho : m ((c.tc : Thread nD τ).loc main_arg1) = o) (hg : m ((c.tc : Thread nD τ).loc main_arg2) = g)
  (hw : m ((c.tc : Thread nD τ).loc main_arg3) = w) (hn : m ((c.tc : Thread nD τ).loc main_arg4) = n)

include hy ho hg hw hn

theorem res_entries : Value.res_main_v44 m c = entries y g w n (rows o g w) := by
  subst hy ho hg hw hn
  rfl

theorem res_gates : Value.res_main_v45 m c = gates y o g w n (rows o g w) := by
  subst hy ho hg hw hn
  rfl

theorem res_weights : Value.res_main_v39 m c = weights y o g n (rows o g w) := by
  subst hy ho hg hw hn
  rfl

theorem res_copy : Value.res_main_v46 m c = weights y o g n (rows o g w) := by
  subst hy ho hg hw hn
  rfl

end Cert.Reference6Ideal.Ob

namespace Cert.Kernel6Ideal.Ob

open Idealize.ShloMosaic Idealize.ShloMosaic.TcCoe Idealize.SL.Sem

/-- The kernel's five results are the reference's. -/
theorem algebraic : Cert.algebraic_Kernel6Ideal_Reference6Ideal_pre_finite_entries := by
  intro m g m' g' hpre hin
  refine ⟨fun c => (Cert.Kernel6Ideal.Gen.dats m 0 c).arrAt 6 Cert.Kernel6Ideal.cfg0.N,
    fun c => (Cert.Kernel6Ideal.Gen.dats m 0 c).arrAt 7 Cert.Kernel6Ideal.cfg0.N,
    fun c => (Cert.Kernel6Ideal.Gen.dats m 0 c).arrAt 8 Cert.Kernel6Ideal.cfg0.N,
    fun c => (Cert.Kernel6Ideal.Gen.dats m 0 c).arrAt 9 Cert.Kernel6Ideal.cfg0.N,
    fun c => (Cert.Kernel6Ideal.Gen.dats m 0 c).arrAt 10 Cert.Kernel6Ideal.cfg0.N,
    Cert.Kernel6Ideal.Value.run_blocks m g, ?_⟩
  refine (θ_run _ _ _).mono (fun r h c => ?_) (Cert.Reference6Ideal.Value.run m' g')
  obtain ⟨e0, e1, e2, e3, e4, k⟩ := h c
  obtain ⟨a0, a1, a2, a3, a4⟩ := hin c
  obtain ⟨hy, ho, hg, hw, hn⟩ := Cert.Pre_finite_entries.Ob.decode _ _ _ _ _ (hpre c)
  have ex : Cert.Reference6Ideal.Ob.rows (O m c) (G m c) (W m c) = X m c := Cert.Reference6Ideal.Ob.rows_eq _ _ _
  have hx : ∀ i, Cert.Proj.IsReal (X m c i) := Cert.Proj.real_projectedOut _ _ _ ho hg hw
  refine ⟨e0.trans ((Cert.Reference6Ideal.Ob.res_entries m' c (Y m c) (O m c) (G m c) (W m c) (Gn m c) a0 a1 a2 a3 a4).trans ?_),
    e1.trans ((Cert.Reference6Ideal.Ob.res_gates m' c (Y m c) (O m c) (G m c) (W m c) (Gn m c) a0 a1 a2 a3 a4).trans ?_),
    e2.trans ((Cert.Reference6Ideal.Ob.res_weights m' c (Y m c) (O m c) (G m c) (W m c) (Gn m c) a0 a1 a2 a3 a4).trans ?_),
    e3.trans ((Cert.Reference6Ideal.Ob.res_copy m' c (Y m c) (O m c) (G m c) (W m c) (Gn m c) a0 a1 a2 a3 a4).trans ?_),
    e4.trans ?_, k⟩
  · rw [ex]
    exact (funext fun i => Cert.Reference6Ideal.Ob.entries_eq _ _ _ _ _ i).trans (final_entry m c).symm
  · rw [ex]
    exact (funext fun i => Cert.Reference6Ideal.Ob.gates_eq _ _ _ _ _ _ hy ho hg hw hn hx i).trans (final_gate m c).symm
  · rw [ex]
    exact (funext fun i => Cert.Reference6Ideal.Ob.weights_eq _ _ _ _ _ i).trans (final_weight m c).symm
  · rw [ex]
    exact (funext fun i => Cert.Reference6Ideal.Ob.weights_eq _ _ _ _ _ i).trans (final_copy m c).symm
  · rw [a0, a1, a2, a3]
    refine Eq.trans (?_ : _ = Cert.Reference6Ideal.Ob.gain (Y m c) (Cert.Reference6Ideal.Ob.rows (O m c) (G m c) (W m c))) ?_
    · rfl
    · rw [ex]
      exact (funext fun i => Cert.Reference6Ideal.Ob.gain_eq _ _ i).trans (final_gain m c).symm

end Cert.Kernel6Ideal.Ob

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_logits_below_linear
public import proofs.«01_k».proof.Proof.Gen.Pre_finite_entries
public import proofs.«01_k».proof.Proof.Kernel.Frame
public import proofs.«01_k».proof.Proof.KernelIdeal.Frame
public import proofs.«01_k».proof.Proof.KernelIdeal.ArrVal
public import proofs.«01_k».proof.Proof.ReferenceIdeal.Res
public import proofs.«01_k».proof.Proof.Pre.Decode
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Kernel2Ideal.Algebraic
public import proofs.«01_k».proof.Proof.Kernel3Ideal.Algebraic
public import proofs.«01_k».proof.Proof.Kernel4Ideal.Algebraic
public import proofs.«01_k».proof.Proof.Kernel5Ideal.Algebraic
public import proofs.«01_k».proof.Proof.Kernel6Ideal.Algebraic
public import Idealize.ShloMosaic.Adequacy
public import Idealize.ShloMosaic.Init

@[expose] public section

noncomputable section

namespace Cert.Proof

open Idealize.ShloMosaic Idealize.SL.Sem Cert.Kernel

open Cert.ReferenceIdeal Cert.ReferenceIdeal.Gen Idealize.ShloMosaic in
/-- The reference's frame: its run leaves the arguments as they were, and it has no semaphores. -/
theorem frame_ReferenceIdeal : Cert.quiescent_ReferenceIdeal := fun m ρ _ =>
  (θ_run _ _ _).mono
    (fun r h => ⟨fun c => (h c).2.2.2, sem_eq_zero_of_no_sems (by decide) r.2⟩) (Cert.ReferenceIdeal.Value.run m ρ)

open Cert.Stick Idealize.ShloMosaic.ValueIdx in
set_option backward.isDefEq.respectTransparency.types false in
/-- The kernel's three results are the reference's, over the reals. -/
theorem algebraic : Cert.algebraic_KernelIdeal_ReferenceIdeal_pre_logits_below_linear := by
  intro m g m' g' hpre hin
  have facts := fun c => Cert.Pre_logits_below_linear.Sb.decode _ _ _ _ (hpre c)
  have HB : ∀ c, Cert.KernelIdeal.Sb.BlocksOk m c (Cert.KernelIdeal.Sb.probRows m c) := fun c =>
    Cert.KernelIdeal.Sb.blocks_ok m c (facts c).1 (facts c).2.1 (facts c).2.2.1 (facts c).2.2.2.1 (facts c).2.2.2.2
  refine ⟨fun c => (Cert.KernelIdeal.Sb.dats m 0 c).arrAt 6 Cert.KernelIdeal.cfg0.N,
    fun c => (Cert.KernelIdeal.Sb.dats m 0 c).arrAt 7 Cert.KernelIdeal.cfg0.N,
    fun c => (Cert.KernelIdeal.Sb.dats m 0 c).arrAt 8 Cert.KernelIdeal.cfg0.N,
    Cert.KernelIdeal.Sb.run_results m g, ?_⟩
  refine (θ_run _ _ _).mono (fun r h c => ?_) (Cert.ReferenceIdeal.Value.run m' g')
  obtain ⟨e0, e1, e2, k⟩ := h c
  obtain ⟨a0, a1, a2, a3⟩ := hin c
  obtain ⟨hx, hy, hv, hd, _⟩ := facts c
  refine ⟨e0.trans ((Cert.ReferenceIdeal.Sb.res_dq m' c).trans ?_), e1.trans ((Cert.ReferenceIdeal.Sb.res_dk m' c).trans ?_),
    e2.trans ((Cert.ReferenceIdeal.Sb.res_dv m' c).trans ?_), k⟩
  · rw [a0, a1, a2, a3]
    exact (Cert.KernelIdeal.Sb.final_dq m c _ (HB c) _ (fun b g t e => gDq_apply _ _ _ _ _ hx hy hv hd b g t e)).symm
  · rw [a0, a1, a2, a3]
    exact (Cert.KernelIdeal.Sb.final_dk m c _ (HB c) _ (fun b g s e => gDk_apply _ _ _ _ _ hx hy hv hd b g s e)).symm
  · rw [a0, a1, a3]
    exact (Cert.KernelIdeal.Sb.final_dv m c _ (HB c) _ (fun b g s e => gDv_apply _ _ _ _ _ hx hy hd b g s e)).symm

theorem frame_Reference2Ideal : Cert.quiescent_Reference2Ideal := fun m ρ _ =>
  (θ_run _ _ _).mono
    (fun r h => ⟨fun c => (h c).2.2, sem_eq_zero_of_no_sems (by decide) r.2⟩) (Cert.Reference2Ideal.Value.run m ρ)

theorem frame_Reference3Ideal : Cert.quiescent_Reference3Ideal := fun m ρ _ =>
  (θ_run _ _ _).mono
    (fun r h => ⟨fun c => (h c).2.2.2.2.2, sem_eq_zero_of_no_sems (by decide) r.2⟩) (Cert.Reference3Ideal.Value.run m ρ)

theorem frame_Reference4Ideal : Cert.quiescent_Reference4Ideal := fun m ρ _ =>
  (θ_run _ _ _).mono
    (fun r h => ⟨fun c => (h c).2.2.2.2.2, sem_eq_zero_of_no_sems (by decide) r.2⟩) (Cert.Reference4Ideal.Value.run m ρ)

theorem frame_Reference5Ideal : Cert.quiescent_Reference5Ideal := fun m ρ _ =>
  (θ_run _ _ _).mono
    (fun r h => ⟨fun c => (h c).2.2, sem_eq_zero_of_no_sems (by decide) r.2⟩) (Cert.Reference5Ideal.Value.run m ρ)

theorem frame_Reference6Ideal : Cert.quiescent_Reference6Ideal := fun m ρ _ =>
  (θ_run _ _ _).mono
    (fun r h => ⟨fun c => (h c).2.2.2.2.2, sem_eq_zero_of_no_sems (by decide) r.2⟩) (Cert.Reference6Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  Cert.Pre_logits_below_linear.Gen.facts, Cert.Pre_finite_entries.Gen.facts,
  fun m ρ _ => Cert.Kernel.Sb.frame m ρ, fun m ρ _ => Cert.KernelIdeal.Sb.frame m ρ, fun m ρ _ => Cert.KernelIdeal.Sb.frame m ρ,
  frame_ReferenceIdeal, fun m ρ _ => frame_ReferenceIdeal m ρ trivial,
  fun m ρ _ => Cert.Kernel2.Gen.frame m ρ, fun m ρ _ => Cert.Kernel2Ideal.Gen.frame m ρ, frame_Reference2Ideal,
  fun m ρ _ => Cert.Kernel3.Gen.frame m ρ, fun m ρ _ => Cert.Kernel3Ideal.Gen.frame m ρ, frame_Reference3Ideal,
  fun m ρ _ => Cert.Kernel4.Gen.frame m ρ, fun m ρ _ => Cert.Kernel4Ideal.Gen.frame m ρ, frame_Reference4Ideal,
  fun m ρ _ => Cert.Kernel5.Gen.frame m ρ, fun m ρ _ => Cert.Kernel5Ideal.Gen.frame m ρ, frame_Reference5Ideal,
  fun m ρ _ => Cert.Kernel6.Gen.frame m ρ, fun m ρ _ => Cert.Kernel6Ideal.Gen.frame m ρ, fun m ρ _ => Cert.Kernel6Ideal.Gen.frame m ρ,
  frame_Reference6Ideal, fun m ρ _ => frame_Reference6Ideal m ρ trivial,
  Idealize.ShloMosaic.IdealRules.named_const.statement Cert.KernelIdeal.κ "mask" .f32 0xF149F2CA#32 ⊥ rfl, algebraic,
  trivial, Cert.Kernel2Ideal.Wg.algebraic,
  trivial, Cert.Kernel3Ideal.Np.algebraic,
  trivial, Cert.Kernel4Ideal.Np.algebraic,
  trivial, Cert.Kernel5Ideal.Pb.algebraic,
  trivial, Cert.Kernel6Ideal.Ob.algebraic⟩

end Cert.Proof

end
